-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_group0_scores_finite [hPre_group0_scores_finite : Cert.Pre_group0_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_group0_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_group0_scores_finite [hPre_group0_scores_finite : Cert.Pre_group0_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_group0_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_MixFfn (m : (ℓ : Loc Cert.MixFfn.nD Cert.MixFfn.τ Cert.MixFfn.sig) → Buf (Elt Bits) ℓ) : Prop :=
  True

def Pre_MixFfnIdeal (m : (ℓ : Loc Cert.MixFfnIdeal.nD Cert.MixFfnIdeal.τ Cert.MixFfnIdeal.sig) → Buf (Elt Ideal) ℓ) : Prop :=
  True

def Pre_MixFfnReferenceIdeal (m : (ℓ : Loc Cert.MixFfnReferenceIdeal.nD Cert.MixFfnReferenceIdeal.τ Cert.MixFfnReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalReferenceIdeal (m : (ℓ : Loc Cert.FfnFinalReferenceIdeal.nD Cert.FfnFinalReferenceIdeal.τ Cert.FfnFinalReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_S5Params (m : (ℓ : Loc Cert.S5Params.nD Cert.S5Params.τ Cert.S5Params.sig) → Buf (Elt Bits) ℓ) : Prop :=
  True

def Pre_S5ParamsIdeal (m : (ℓ : Loc Cert.S5ParamsIdeal.nD Cert.S5ParamsIdeal.τ Cert.S5ParamsIdeal.sig) → Buf (Elt Ideal) ℓ) : Prop :=
  True

def Pre_S5ParamsReferenceIdeal (m : (ℓ : Loc Cert.S5ParamsReferenceIdeal.nD Cert.S5ParamsReferenceIdeal.τ Cert.S5ParamsReferenceIdeal.sig) → Buf (Elt Ideal) ℓ) : Prop :=
  True

def Pre_S5Sample (m : (ℓ : Loc Cert.S5Sample.nD Cert.S5Sample.τ Cert.S5Sample.sig) → Buf (Elt Bits) ℓ) : Prop :=
  True

def Pre_S5SampleIdeal (m : (ℓ : Loc Cert.S5SampleIdeal.nD Cert.S5SampleIdeal.τ Cert.S5SampleIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_group0_scores_finite [hKernelIdeal : Cert.KernelIdeal.Facts] [hPre_group0_scores_finite : Cert.Pre_group0_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_group0_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_group0_scores_finite [hReferenceIdeal : Cert.ReferenceIdeal.Facts] [hPre_group0_scores_finite : Cert.Pre_group0_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_group0_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_MixFfn [hMixFfn : Cert.MixFfn.Facts] : Prop :=
  ∀ (m : (ℓ : Loc Cert.MixFfn.nD Cert.MixFfn.τ Cert.MixFfn.sig) → Buf (Elt Bits) ℓ) (g : Dev Cert.MixFfn.nD → PrngReg), Pre_MixFfn m →
    θ_run (Cert.MixFfn.defs (F := Bits)) (onTc (τ := Cert.MixFfn.τ) (Cert.MixFfn.main (F := Bits))) ⟨m, fun _ => 0, g⟩ (fun r => (∀ c : Dev Cert.MixFfn.nD,
      r.2.mem ((c.tc : Thread Cert.MixFfn.nD Cert.MixFfn.τ).loc Cert.MixFfn.main_arg0) = m ((c.tc : Thread Cert.MixFfn.nD Cert.MixFfn.τ).loc Cert.MixFfn.main_arg0)
      ∧ r.2.mem ((c.tc : Thread Cert.MixFfn.nD Cert.MixFfn.τ).loc Cert.MixFfn.main_arg1) = m ((c.tc : Thread Cert.MixFfn.nD Cert.MixFfn.τ).loc Cert.MixFfn.main_arg1)
      ∧ r.2.mem ((c.tc : Thread Cert.MixFfn.nD Cert.MixFfn.τ).loc Cert.MixFfn.main_arg2) = m ((c.tc : Thread Cert.MixFfn.nD Cert.MixFfn.τ).loc Cert.MixFfn.main_arg2)
      ∧ r.2.mem ((c.tc : Thread Cert.MixFfn.nD Cert.MixFfn.τ).loc Cert.MixFfn.main_arg3) = m ((c.tc : Thread Cert.MixFfn.nD Cert.MixFfn.τ).loc Cert.MixFfn.main_arg3)
      ∧ r.2.mem ((c.tc : Thread Cert.MixFfn.nD Cert.MixFfn.τ).loc Cert.MixFfn.main_arg4) = m ((c.tc : Thread Cert.MixFfn.nD Cert.MixFfn.τ).loc Cert.MixFfn.main_arg4)
      ∧ r.2.mem ((c.tc : Thread Cert.MixFfn.nD Cert.MixFfn.τ).loc Cert.MixFfn.main_arg5) = m ((c.tc : Thread Cert.MixFfn.nD Cert.MixFfn.τ).loc Cert.MixFfn.main_arg5)
      ∧ r.2.mem ((c.tc : Thread Cert.MixFfn.nD Cert.MixFfn.τ).loc Cert.MixFfn.main_arg6) = m ((c.tc : Thread Cert.MixFfn.nD Cert.MixFfn.τ).loc Cert.MixFfn.main_arg6)
      ∧ r.2.mem ((c.tc : Thread Cert.MixFfn.nD Cert.MixFfn.τ).loc Cert.MixFfn.main_arg7) = m ((c.tc : Thread Cert.MixFfn.nD Cert.MixFfn.τ).loc Cert.MixFfn.main_arg7)
      ∧ r.2.mem ((c.tc : Thread Cert.MixFfn.nD Cert.MixFfn.τ).loc Cert.MixFfn.main_arg8) = m ((c.tc : Thread Cert.MixFfn.nD Cert.MixFfn.τ).loc Cert.MixFfn.main_arg8)
      ∧ r.2.mem ((c.tc : Thread Cert.MixFfn.nD Cert.MixFfn.τ).loc Cert.MixFfn.main_arg9) = m ((c.tc : Thread Cert.MixFfn.nD Cert.MixFfn.τ).loc Cert.MixFfn.main_arg9))
      ∧ r.2.sem = fun _ => 0)

def quiescent_MixFfnIdeal [hMixFfnIdeal : Cert.MixFfnIdeal.Facts] : Prop :=
  ∀ (m : (ℓ : Loc Cert.MixFfnIdeal.nD Cert.MixFfnIdeal.τ Cert.MixFfnIdeal.sig) → Buf (Elt Ideal) ℓ) (g : Dev Cert.MixFfnIdeal.nD → PrngReg), Pre_MixFfnIdeal m →
    θ_run (Cert.MixFfnIdeal.defs (F := Ideal)) (onTc (τ := Cert.MixFfnIdeal.τ) (Cert.MixFfnIdeal.main (F := Ideal))) ⟨m, fun _ => 0, g⟩ (fun r => (∀ c : Dev Cert.MixFfnIdeal.nD,
      r.2.mem ((c.tc : Thread Cert.MixFfnIdeal.nD Cert.MixFfnIdeal.τ).loc Cert.MixFfnIdeal.main_arg0) = m ((c.tc : Thread Cert.MixFfnIdeal.nD Cert.MixFfnIdeal.τ).loc Cert.MixFfnIdeal.main_arg0)
      ∧ r.2.mem ((c.tc : Thread Cert.MixFfnIdeal.nD Cert.MixFfnIdeal.τ).loc Cert.MixFfnIdeal.main_arg1) = m ((c.tc : Thread Cert.MixFfnIdeal.nD Cert.MixFfnIdeal.τ).loc Cert.MixFfnIdeal.main_arg1)
      ∧ r.2.mem ((c.tc : Thread Cert.MixFfnIdeal.nD Cert.MixFfnIdeal.τ).loc Cert.MixFfnIdeal.main_arg2) = m ((c.tc : Thread Cert.MixFfnIdeal.nD Cert.MixFfnIdeal.τ).loc Cert.MixFfnIdeal.main_arg2)
      ∧ r.2.mem ((c.tc : Thread Cert.MixFfnIdeal.nD Cert.MixFfnIdeal.τ).loc Cert.MixFfnIdeal.main_arg3) = m ((c.tc : Thread Cert.MixFfnIdeal.nD Cert.MixFfnIdeal.τ).loc Cert.MixFfnIdeal.main_arg3)
      ∧ r.2.mem ((c.tc : Thread Cert.MixFfnIdeal.nD Cert.MixFfnIdeal.τ).loc Cert.MixFfnIdeal.main_arg4) = m ((c.tc : Thread Cert.MixFfnIdeal.nD Cert.MixFfnIdeal.τ).loc Cert.MixFfnIdeal.main_arg4)
      ∧ r.2.mem ((c.tc : Thread Cert.MixFfnIdeal.nD Cert.MixFfnIdeal.τ).loc Cert.MixFfnIdeal.main_arg5) = m ((c.tc : Thread Cert.MixFfnIdeal.nD Cert.MixFfnIdeal.τ).loc Cert.MixFfnIdeal.main_arg5)
      ∧ r.2.mem ((c.tc : Thread Cert.MixFfnIdeal.nD Cert.MixFfnIdeal.τ).loc Cert.MixFfnIdeal.main_arg6) = m ((c.tc : Thread Cert.MixFfnIdeal.nD Cert.MixFfnIdeal.τ).loc Cert.MixFfnIdeal.main_arg6)
      ∧ r.2.mem ((c.tc : Thread Cert.MixFfnIdeal.nD Cert.MixFfnIdeal.τ).loc Cert.MixFfnIdeal.main_arg7) = m ((c.tc : Thread Cert.MixFfnIdeal.nD Cert.MixFfnIdeal.τ).loc Cert.MixFfnIdeal.main_arg7)
      ∧ r.2.mem ((c.tc : Thread Cert.MixFfnIdeal.nD Cert.MixFfnIdeal.τ).loc Cert.MixFfnIdeal.main_arg8) = m ((c.tc : Thread Cert.MixFfnIdeal.nD Cert.MixFfnIdeal.τ).loc Cert.MixFfnIdeal.main_arg8)
      ∧ r.2.mem ((c.tc : Thread Cert.MixFfnIdeal.nD Cert.MixFfnIdeal.τ).loc Cert.MixFfnIdeal.main_arg9) = m ((c.tc : Thread Cert.MixFfnIdeal.nD Cert.MixFfnIdeal.τ).loc Cert.MixFfnIdeal.main_arg9))
      ∧ r.2.sem = fun _ => 0)

def quiescent_MixFfnReferenceIdeal [hMixFfnReferenceIdeal : Cert.MixFfnReferenceIdeal.Facts] : Prop :=
  ∀ (m : (ℓ : Loc Cert.MixFfnReferenceIdeal.nD Cert.MixFfnReferenceIdeal.τ Cert.MixFfnReferenceIdeal.sig) → Buf (Elt Ideal) ℓ) (g : Dev Cert.MixFfnReferenceIdeal.nD → PrngReg), Pre_MixFfnReferenceIdeal m →
    θ_run (Cert.MixFfnReferenceIdeal.defs (F := Ideal)) (onTc (τ := Cert.MixFfnReferenceIdeal.τ) (Cert.MixFfnReferenceIdeal.main (F := Ideal))) ⟨m, fun _ => 0, g⟩ (fun r => (∀ c : Dev Cert.MixFfnReferenceIdeal.nD,
      r.2.mem ((c.tc : Thread Cert.MixFfnReferenceIdeal.nD Cert.MixFfnReferenceIdeal.τ).loc Cert.MixFfnReferenceIdeal.main_arg0) = m ((c.tc : Thread Cert.MixFfnReferenceIdeal.nD Cert.MixFfnReferenceIdeal.τ).loc Cert.MixFfnReferenceIdeal.main_arg0)
      ∧ r.2.mem ((c.tc : Thread Cert.MixFfnReferenceIdeal.nD Cert.MixFfnReferenceIdeal.τ).loc Cert.MixFfnReferenceIdeal.main_arg1) = m ((c.tc : Thread Cert.MixFfnReferenceIdeal.nD Cert.MixFfnReferenceIdeal.τ).loc Cert.MixFfnReferenceIdeal.main_arg1)
      ∧ r.2.mem ((c.tc : Thread Cert.MixFfnReferenceIdeal.nD Cert.MixFfnReferenceIdeal.τ).loc Cert.MixFfnReferenceIdeal.main_arg2) = m ((c.tc : Thread Cert.MixFfnReferenceIdeal.nD Cert.MixFfnReferenceIdeal.τ).loc Cert.MixFfnReferenceIdeal.main_arg2)
      ∧ r.2.mem ((c.tc : Thread Cert.MixFfnReferenceIdeal.nD Cert.MixFfnReferenceIdeal.τ).loc Cert.MixFfnReferenceIdeal.main_arg3) = m ((c.tc : Thread Cert.MixFfnReferenceIdeal.nD Cert.MixFfnReferenceIdeal.τ).loc Cert.MixFfnReferenceIdeal.main_arg3)
      ∧ r.2.mem ((c.tc : Thread Cert.MixFfnReferenceIdeal.nD Cert.MixFfnReferenceIdeal.τ).loc Cert.MixFfnReferenceIdeal.main_arg4) = m ((c.tc : Thread Cert.MixFfnReferenceIdeal.nD Cert.MixFfnReferenceIdeal.τ).loc Cert.MixFfnReferenceIdeal.main_arg4)
      ∧ r.2.mem ((c.tc : Thread Cert.MixFfnReferenceIdeal.nD Cert.MixFfnReferenceIdeal.τ).loc Cert.MixFfnReferenceIdeal.main_arg5) = m ((c.tc : Thread Cert.MixFfnReferenceIdeal.nD Cert.MixFfnReferenceIdeal.τ).loc Cert.MixFfnReferenceIdeal.main_arg5)
      ∧ r.2.mem ((c.tc : Thread Cert.MixFfnReferenceIdeal.nD Cert.MixFfnReferenceIdeal.τ).loc Cert.MixFfnReferenceIdeal.main_arg6) = m ((c.tc : Thread Cert.MixFfnReferenceIdeal.nD Cert.MixFfnReferenceIdeal.τ).loc Cert.MixFfnReferenceIdeal.main_arg6)
      ∧ r.2.mem ((c.tc : Thread Cert.MixFfnReferenceIdeal.nD Cert.MixFfnReferenceIdeal.τ).loc Cert.MixFfnReferenceIdeal.main_arg7) = m ((c.tc : Thread Cert.MixFfnReferenceIdeal.nD Cert.MixFfnReferenceIdeal.τ).loc Cert.MixFfnReferenceIdeal.main_arg7)
      ∧ r.2.mem ((c.tc : Thread Cert.MixFfnReferenceIdeal.nD Cert.MixFfnReferenceIdeal.τ).loc Cert.MixFfnReferenceIdeal.main_arg8) = m ((c.tc : Thread Cert.MixFfnReferenceIdeal.nD Cert.MixFfnReferenceIdeal.τ).loc Cert.MixFfnReferenceIdeal.main_arg8)
      ∧ r.2.mem ((c.tc : Thread Cert.MixFfnReferenceIdeal.nD Cert.MixFfnReferenceIdeal.τ).loc Cert.MixFfnReferenceIdeal.main_arg9) = m ((c.tc : Thread Cert.MixFfnReferenceIdeal.nD Cert.MixFfnReferenceIdeal.τ).loc Cert.MixFfnReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5)
      ∧ r.2.mem ((c.tc : Thread Cert.FfnFinal.nD Cert.FfnFinal.τ).loc Cert.FfnFinal.main_arg6) = m ((c.tc : Thread Cert.FfnFinal.nD Cert.FfnFinal.τ).loc Cert.FfnFinal.main_arg6))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5)
      ∧ r.2.mem ((c.tc : Thread Cert.FfnFinalIdeal.nD Cert.FfnFinalIdeal.τ).loc Cert.FfnFinalIdeal.main_arg6) = m ((c.tc : Thread Cert.FfnFinalIdeal.nD Cert.FfnFinalIdeal.τ).loc Cert.FfnFinalIdeal.main_arg6))
      ∧ r.2.sem = fun _ => 0)

def quiescent_FfnFinalReferenceIdeal [hFfnFinalReferenceIdeal : Cert.FfnFinalReferenceIdeal.Facts] : Prop :=
  ∀ (m : (ℓ : Loc Cert.FfnFinalReferenceIdeal.nD Cert.FfnFinalReferenceIdeal.τ Cert.FfnFinalReferenceIdeal.sig) → Buf (Elt Ideal) ℓ) (g : Dev Cert.FfnFinalReferenceIdeal.nD → PrngReg), Pre_FfnFinalReferenceIdeal m →
    θ_run (Cert.FfnFinalReferenceIdeal.defs (F := Ideal)) (onTc (τ := Cert.FfnFinalReferenceIdeal.τ) (Cert.FfnFinalReferenceIdeal.main (F := Ideal))) ⟨m, fun _ => 0, g⟩ (fun r => (∀ c : Dev Cert.FfnFinalReferenceIdeal.nD,
      r.2.mem ((c.tc : Thread Cert.FfnFinalReferenceIdeal.nD Cert.FfnFinalReferenceIdeal.τ).loc Cert.FfnFinalReferenceIdeal.main_arg0) = m ((c.tc : Thread Cert.FfnFinalReferenceIdeal.nD Cert.FfnFinalReferenceIdeal.τ).loc Cert.FfnFinalReferenceIdeal.main_arg0)
      ∧ r.2.mem ((c.tc : Thread Cert.FfnFinalReferenceIdeal.nD Cert.FfnFinalReferenceIdeal.τ).loc Cert.FfnFinalReferenceIdeal.main_arg1) = m ((c.tc : Thread Cert.FfnFinalReferenceIdeal.nD Cert.FfnFinalReferenceIdeal.τ).loc Cert.FfnFinalReferenceIdeal.main_arg1)
      ∧ r.2.mem ((c.tc : Thread Cert.FfnFinalReferenceIdeal.nD Cert.FfnFinalReferenceIdeal.τ).loc Cert.FfnFinalReferenceIdeal.main_arg2) = m ((c.tc : Thread Cert.FfnFinalReferenceIdeal.nD Cert.FfnFinalReferenceIdeal.τ).loc Cert.FfnFinalReferenceIdeal.main_arg2)
      ∧ r.2.mem ((c.tc : Thread Cert.FfnFinalReferenceIdeal.nD Cert.FfnFinalReferenceIdeal.τ).loc Cert.FfnFinalReferenceIdeal.main_arg3) = m ((c.tc : Thread Cert.FfnFinalReferenceIdeal.nD Cert.FfnFinalReferenceIdeal.τ).loc Cert.FfnFinalReferenceIdeal.main_arg3)
      ∧ r.2.mem ((c.tc : Thread Cert.FfnFinalReferenceIdeal.nD Cert.FfnFinalReferenceIdeal.τ).loc Cert.FfnFinalReferenceIdeal.main_arg4) = m ((c.tc : Thread Cert.FfnFinalReferenceIdeal.nD Cert.FfnFinalReferenceIdeal.τ).loc Cert.FfnFinalReferenceIdeal.main_arg4)
      ∧ r.2.mem ((c.tc : Thread Cert.FfnFinalReferenceIdeal.nD Cert.FfnFinalReferenceIdeal.τ).loc Cert.FfnFinalReferenceIdeal.main_arg5) = m ((c.tc : Thread Cert.FfnFinalReferenceIdeal.nD Cert.FfnFinalReferenceIdeal.τ).loc Cert.FfnFinalReferenceIdeal.main_arg5)
      ∧ r.2.mem ((c.tc : Thread Cert.FfnFinalReferenceIdeal.nD Cert.FfnFinalReferenceIdeal.τ).loc Cert.FfnFinalReferenceIdeal.main_arg6) = m ((c.tc : Thread Cert.FfnFinalReferenceIdeal.nD Cert.FfnFinalReferenceIdeal.τ).loc Cert.FfnFinalReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5)
      ∧ r.2.mem ((c.tc : Thread Cert.FfnSampleReferenceIdeal.nD Cert.FfnSampleReferenceIdeal.τ).loc Cert.FfnSampleReferenceIdeal.main_arg6) = m ((c.tc : Thread Cert.FfnSampleReferenceIdeal.nD Cert.FfnSampleReferenceIdeal.τ).loc Cert.FfnSampleReferenceIdeal.main_arg6))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5))
      ∧ r.2.sem = fun _ => 0)

def quiescent_S5Params [hS5Params : Cert.S5Params.Facts] : Prop :=
  ∀ (m : (ℓ : Loc Cert.S5Params.nD Cert.S5Params.τ Cert.S5Params.sig) → Buf (Elt Bits) ℓ) (g : Dev Cert.S5Params.nD → PrngReg), Pre_S5Params m →
    θ_run (Cert.S5Params.defs (F := Bits)) (onTc (τ := Cert.S5Params.τ) (Cert.S5Params.main (F := Bits))) ⟨m, fun _ => 0, g⟩ (fun r => (∀ c : Dev Cert.S5Params.nD,
      r.2.mem ((c.tc : Thread Cert.S5Params.nD Cert.S5Params.τ).loc Cert.S5Params.main_arg0) = m ((c.tc : Thread Cert.S5Params.nD Cert.S5Params.τ).loc Cert.S5Params.main_arg0)
      ∧ r.2.mem ((c.tc : Thread Cert.S5Params.nD Cert.S5Params.τ).loc Cert.S5Params.main_arg1) = m ((c.tc : Thread Cert.S5Params.nD Cert.S5Params.τ).loc Cert.S5Params.main_arg1)
      ∧ r.2.mem ((c.tc : Thread Cert.S5Params.nD Cert.S5Params.τ).loc Cert.S5Params.main_arg2) = m ((c.tc : Thread Cert.S5Params.nD Cert.S5Params.τ).loc Cert.S5Params.main_arg2)
      ∧ r.2.mem ((c.tc : Thread Cert.S5Params.nD Cert.S5Params.τ).loc Cert.S5Params.main_arg3) = m ((c.tc : Thread Cert.S5Params.nD Cert.S5Params.τ).loc Cert.S5Params.main_arg3)
      ∧ r.2.mem ((c.tc : Thread Cert.S5Params.nD Cert.S5Params.τ).loc Cert.S5Params.main_arg4) = m ((c.tc : Thread Cert.S5Params.nD Cert.S5Params.τ).loc Cert.S5Params.main_arg4))
      ∧ r.2.sem = fun _ => 0)

def quiescent_S5ParamsIdeal [hS5ParamsIdeal : Cert.S5ParamsIdeal.Facts] : Prop :=
  ∀ (m : (ℓ : Loc Cert.S5ParamsIdeal.nD Cert.S5ParamsIdeal.τ Cert.S5ParamsIdeal.sig) → Buf (Elt Ideal) ℓ) (g : Dev Cert.S5ParamsIdeal.nD → PrngReg), Pre_S5ParamsIdeal m →
    θ_run (Cert.S5ParamsIdeal.defs (F := Ideal)) (onTc (τ := Cert.S5ParamsIdeal.τ) (Cert.S5ParamsIdeal.main (F := Ideal))) ⟨m, fun _ => 0, g⟩ (fun r => (∀ c : Dev Cert.S5ParamsIdeal.nD,
      r.2.mem ((c.tc : Thread Cert.S5ParamsIdeal.nD Cert.S5ParamsIdeal.τ).loc Cert.S5ParamsIdeal.main_arg0) = m ((c.tc : Thread Cert.S5ParamsIdeal.nD Cert.S5ParamsIdeal.τ).loc Cert.S5ParamsIdeal.main_arg0)
      ∧ r.2.mem ((c.tc : Thread Cert.S5ParamsIdeal.nD Cert.S5ParamsIdeal.τ).loc Cert.S5ParamsIdeal.main_arg1) = m ((c.tc : Thread Cert.S5ParamsIdeal.nD Cert.S5ParamsIdeal.τ).loc Cert.S5ParamsIdeal.main_arg1)
      ∧ r.2.mem ((c.tc : Thread Cert.S5ParamsIdeal.nD Cert.S5ParamsIdeal.τ).loc Cert.S5ParamsIdeal.main_arg2) = m ((c.tc : Thread Cert.S5ParamsIdeal.nD Cert.S5ParamsIdeal.τ).loc Cert.S5ParamsIdeal.main_arg2)
      ∧ r.2.mem ((c.tc : Thread Cert.S5ParamsIdeal.nD Cert.S5ParamsIdeal.τ).loc Cert.S5ParamsIdeal.main_arg3) = m ((c.tc : Thread Cert.S5ParamsIdeal.nD Cert.S5ParamsIdeal.τ).loc Cert.S5ParamsIdeal.main_arg3)
      ∧ r.2.mem ((c.tc : Thread Cert.S5ParamsIdeal.nD Cert.S5ParamsIdeal.τ).loc Cert.S5ParamsIdeal.main_arg4) = m ((c.tc : Thread Cert.S5ParamsIdeal.nD Cert.S5ParamsIdeal.τ).loc Cert.S5ParamsIdeal.main_arg4))
      ∧ r.2.sem = fun _ => 0)

def quiescent_S5ParamsReferenceIdeal [hS5ParamsReferenceIdeal : Cert.S5ParamsReferenceIdeal.Facts] : Prop :=
  ∀ (m : (ℓ : Loc Cert.S5ParamsReferenceIdeal.nD Cert.S5ParamsReferenceIdeal.τ Cert.S5ParamsReferenceIdeal.sig) → Buf (Elt Ideal) ℓ) (g : Dev Cert.S5ParamsReferenceIdeal.nD → PrngReg), Pre_S5ParamsReferenceIdeal m →
    θ_run (Cert.S5ParamsReferenceIdeal.defs (F := Ideal)) (onTc (τ := Cert.S5ParamsReferenceIdeal.τ) (Cert.S5ParamsReferenceIdeal.main (F := Ideal))) ⟨m, fun _ => 0, g⟩ (fun r => (∀ c : Dev Cert.S5ParamsReferenceIdeal.nD,
      r.2.mem ((c.tc : Thread Cert.S5ParamsReferenceIdeal.nD Cert.S5ParamsReferenceIdeal.τ).loc Cert.S5ParamsReferenceIdeal.main_arg0) = m ((c.tc : Thread Cert.S5ParamsReferenceIdeal.nD Cert.S5ParamsReferenceIdeal.τ).loc Cert.S5ParamsReferenceIdeal.main_arg0)
      ∧ r.2.mem ((c.tc : Thread Cert.S5ParamsReferenceIdeal.nD Cert.S5ParamsReferenceIdeal.τ).loc Cert.S5ParamsReferenceIdeal.main_arg1) = m ((c.tc : Thread Cert.S5ParamsReferenceIdeal.nD Cert.S5ParamsReferenceIdeal.τ).loc Cert.S5ParamsReferenceIdeal.main_arg1)
      ∧ r.2.mem ((c.tc : Thread Cert.S5ParamsReferenceIdeal.nD Cert.S5ParamsReferenceIdeal.τ).loc Cert.S5ParamsReferenceIdeal.main_arg2) = m ((c.tc : Thread Cert.S5ParamsReferenceIdeal.nD Cert.S5ParamsReferenceIdeal.τ).loc Cert.S5ParamsReferenceIdeal.main_arg2)
      ∧ r.2.mem ((c.tc : Thread Cert.S5ParamsReferenceIdeal.nD Cert.S5ParamsReferenceIdeal.τ).loc Cert.S5ParamsReferenceIdeal.main_arg3) = m ((c.tc : Thread Cert.S5ParamsReferenceIdeal.nD Cert.S5ParamsReferenceIdeal.τ).loc Cert.S5ParamsReferenceIdeal.main_arg3)
      ∧ r.2.mem ((c.tc : Thread Cert.S5ParamsReferenceIdeal.nD Cert.S5ParamsReferenceIdeal.τ).loc Cert.S5ParamsReferenceIdeal.main_arg4) = m ((c.tc : Thread Cert.S5ParamsReferenceIdeal.nD Cert.S5ParamsReferenceIdeal.τ).loc Cert.S5ParamsReferenceIdeal.main_arg4))
      ∧ r.2.sem = fun _ => 0)

def quiescent_S5Sample [hS5Sample : Cert.S5Sample.Facts] : Prop :=
  ∀ (m : (ℓ : Loc Cert.S5Sample.nD Cert.S5Sample.τ Cert.S5Sample.sig) → Buf (Elt Bits) ℓ) (g : Dev Cert.S5Sample.nD → PrngReg), Pre_S5Sample m →
    θ_run (Cert.S5Sample.defs (F := Bits)) (onTc (τ := Cert.S5Sample.τ) (Cert.S5Sample.main (F := Bits))) ⟨m, fun _ => 0, g⟩ (fun r => (∀ c : Dev Cert.S5Sample.nD,
      r.2.mem ((c.tc : Thread Cert.S5Sample.nD Cert.S5Sample.τ).loc Cert.S5Sample.main_arg0) = m ((c.tc : Thread Cert.S5Sample.nD Cert.S5Sample.τ).loc Cert.S5Sample.main_arg0)
      ∧ r.2.mem ((c.tc : Thread Cert.S5Sample.nD Cert.S5Sample.τ).loc Cert.S5Sample.main_arg1) = m ((c.tc : Thread Cert.S5Sample.nD Cert.S5Sample.τ).loc Cert.S5Sample.main_arg1)
      ∧ r.2.mem ((c.tc : Thread Cert.S5Sample.nD Cert.S5Sample.τ).loc Cert.S5Sample.main_arg2) = m ((c.tc : Thread Cert.S5Sample.nD Cert.S5Sample.τ).loc Cert.S5Sample.main_arg2)
      ∧ r.2.mem ((c.tc : Thread Cert.S5Sample.nD Cert.S5Sample.τ).loc Cert.S5Sample.main_arg3) = m ((c.tc : Thread Cert.S5Sample.nD Cert.S5Sample.τ).loc Cert.S5Sample.main_arg3)
      ∧ r.2.mem ((c.tc : Thread Cert.S5Sample.nD Cert.S5Sample.τ).loc Cert.S5Sample.main_arg4) = m ((c.tc : Thread Cert.S5Sample.nD Cert.S5Sample.τ).loc Cert.S5Sample.main_arg4)
      ∧ r.2.mem ((c.tc : Thread Cert.S5Sample.nD Cert.S5Sample.τ).loc Cert.S5Sample.main_arg5) = m ((c.tc : Thread Cert.S5Sample.nD Cert.S5Sample.τ).loc Cert.S5Sample.main_arg5)
      ∧ r.2.mem ((c.tc : Thread Cert.S5Sample.nD Cert.S5Sample.τ).loc Cert.S5Sample.main_arg6) = m ((c.tc : Thread Cert.S5Sample.nD Cert.S5Sample.τ).loc Cert.S5Sample.main_arg6)
      ∧ r.2.mem ((c.tc : Thread Cert.S5Sample.nD Cert.S5Sample.τ).loc Cert.S5Sample.main_arg7) = m ((c.tc : Thread Cert.S5Sample.nD Cert.S5Sample.τ).loc Cert.S5Sample.main_arg7)
      ∧ r.2.mem ((c.tc : Thread Cert.S5Sample.nD Cert.S5Sample.τ).loc Cert.S5Sample.main_arg8) = m ((c.tc : Thread Cert.S5Sample.nD Cert.S5Sample.τ).loc Cert.S5Sample.main_arg8)
      ∧ r.2.mem ((c.tc : Thread Cert.S5Sample.nD Cert.S5Sample.τ).loc Cert.S5Sample.main_arg9) = m ((c.tc : Thread Cert.S5Sample.nD Cert.S5Sample.τ).loc Cert.S5Sample.main_arg9)
      ∧ r.2.mem ((c.tc : Thread Cert.S5Sample.nD Cert.S5Sample.τ).loc Cert.S5Sample.main_arg10) = m ((c.tc : Thread Cert.S5Sample.nD Cert.S5Sample.τ).loc Cert.S5Sample.main_arg10)
      ∧ r.2.mem ((c.tc : Thread Cert.S5Sample.nD Cert.S5Sample.τ).loc Cert.S5Sample.main_arg11) = m ((c.tc : Thread Cert.S5Sample.nD Cert.S5Sample.τ).loc Cert.S5Sample.main_arg11)
      ∧ r.2.mem ((c.tc : Thread Cert.S5Sample.nD Cert.S5Sample.τ).loc Cert.S5Sample.main_arg12) = m ((c.tc : Thread Cert.S5Sample.nD Cert.S5Sample.τ).loc Cert.S5Sample.main_arg12))
      ∧ r.2.sem = fun _ => 0)

def quiescent_S5SampleIdeal [hS5SampleIdeal : Cert.S5SampleIdeal.Facts] : Prop :=
  ∀ (m : (ℓ : Loc Cert.S5SampleIdeal.nD Cert.S5SampleIdeal.τ Cert.S5SampleIdeal.sig) → Buf (Elt Ideal) ℓ) (g : Dev Cert.S5SampleIdeal.nD → PrngReg), Pre_S5SampleIdeal m →
    θ_run (Cert.S5SampleIdeal.defs (F := Ideal)) (onTc (τ := Cert.S5SampleIdeal.τ) (Cert.S5SampleIdeal.main (F := Ideal))) ⟨m, fun _ => 0, g⟩ (fun r => (∀ c : Dev Cert.S5SampleIdeal.nD,
      r.2.mem ((c.tc : Thread Cert.S5SampleIdeal.nD Cert.S5SampleIdeal.τ).loc Cert.S5SampleIdeal.main_arg0) = m ((c.tc : Thread Cert.S5SampleIdeal.nD Cert.S5SampleIdeal.τ).loc Cert.S5SampleIdeal.main_arg0)
      ∧ r.2.mem ((c.tc : Thread Cert.S5SampleIdeal.nD Cert.S5SampleIdeal.τ).loc Cert.S5SampleIdeal.main_arg1) = m ((c.tc : Thread Cert.S5SampleIdeal.nD Cert.S5SampleIdeal.τ).loc Cert.S5SampleIdeal.main_arg1)
      ∧ r.2.mem ((c.tc : Thread Cert.S5SampleIdeal.nD Cert.S5SampleIdeal.τ).loc Cert.S5SampleIdeal.main_arg2) = m ((c.tc : Thread Cert.S5SampleIdeal.nD Cert.S5SampleIdeal.τ).loc Cert.S5SampleIdeal.main_arg2)
      ∧ r.2.mem ((c.tc : Thread Cert.S5SampleIdeal.nD Cert.S5SampleIdeal.τ).loc Cert.S5SampleIdeal.main_arg3) = m ((c.tc : Thread Cert.S5SampleIdeal.nD Cert.S5SampleIdeal.τ).loc Cert.S5SampleIdeal.main_arg3)
      ∧ r.2.mem ((c.tc : Thread Cert.S5SampleIdeal.nD Cert.S5SampleIdeal.τ).loc Cert.S5SampleIdeal.main_arg4) = m ((c.tc : Thread Cert.S5SampleIdeal.nD Cert.S5SampleIdeal.τ).loc Cert.S5SampleIdeal.main_arg4)
      ∧ r.2.mem ((c.tc : Thread Cert.S5SampleIdeal.nD Cert.S5SampleIdeal.τ).loc Cert.S5SampleIdeal.main_arg5) = m ((c.tc : Thread Cert.S5SampleIdeal.nD Cert.S5SampleIdeal.τ).loc Cert.S5SampleIdeal.main_arg5)
      ∧ r.2.mem ((c.tc : Thread Cert.S5SampleIdeal.nD Cert.S5SampleIdeal.τ).loc Cert.S5SampleIdeal.main_arg6) = m ((c.tc : Thread Cert.S5SampleIdeal.nD Cert.S5SampleIdeal.τ).loc Cert.S5SampleIdeal.main_arg6)
      ∧ r.2.mem ((c.tc : Thread Cert.S5SampleIdeal.nD Cert.S5SampleIdeal.τ).loc Cert.S5SampleIdeal.main_arg7) = m ((c.tc : Thread Cert.S5SampleIdeal.nD Cert.S5SampleIdeal.τ).loc Cert.S5SampleIdeal.main_arg7)
      ∧ r.2.mem ((c.tc : Thread Cert.S5SampleIdeal.nD Cert.S5SampleIdeal.τ).loc Cert.S5SampleIdeal.main_arg8) = m ((c.tc : Thread Cert.S5SampleIdeal.nD Cert.S5SampleIdeal.τ).loc Cert.S5SampleIdeal.main_arg8)
      ∧ r.2.mem ((c.tc : Thread Cert.S5SampleIdeal.nD Cert.S5SampleIdeal.τ).loc Cert.S5SampleIdeal.main_arg9) = m ((c.tc : Thread Cert.S5SampleIdeal.nD Cert.S5SampleIdeal.τ).loc Cert.S5SampleIdeal.main_arg9)
      ∧ r.2.mem ((c.tc : Thread Cert.S5SampleIdeal.nD Cert.S5SampleIdeal.τ).loc Cert.S5SampleIdeal.main_arg10) = m ((c.tc : Thread Cert.S5SampleIdeal.nD Cert.S5SampleIdeal.τ).loc Cert.S5SampleIdeal.main_arg10)
      ∧ r.2.mem ((c.tc : Thread Cert.S5SampleIdeal.nD Cert.S5SampleIdeal.τ).loc Cert.S5SampleIdeal.main_arg11) = m ((c.tc : Thread Cert.S5SampleIdeal.nD Cert.S5SampleIdeal.τ).loc Cert.S5SampleIdeal.main_arg11)
      ∧ r.2.mem ((c.tc : Thread Cert.S5SampleIdeal.nD Cert.S5SampleIdeal.τ).loc Cert.S5SampleIdeal.main_arg12) = m ((c.tc : Thread Cert.S5SampleIdeal.nD Cert.S5SampleIdeal.τ).loc Cert.S5SampleIdeal.main_arg12))
      ∧ r.2.sem = fun _ => 0)

def preserves_Kernel_KernelIdeal : Prop :=
  True

def algebraic_KernelIdeal_ReferenceIdeal_pre_group0_scores_finite [hKernelIdeal : Cert.KernelIdeal.Facts] [hReferenceIdeal : Cert.ReferenceIdeal.Facts] [hPre_group0_scores_finite : Cert.Pre_group0_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_group0_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_MixFfn_MixFfnIdeal : Prop :=
  True

def algebraic_MixFfnIdeal_MixFfnReferenceIdeal [hMixFfnIdeal : Cert.MixFfnIdeal.Facts] [hMixFfnReferenceIdeal : Cert.MixFfnReferenceIdeal.Facts] : Prop :=
  ∀ (m : (ℓ : Loc Cert.MixFfnIdeal.nD Cert.MixFfnIdeal.τ Cert.MixFfnIdeal.sig) → Buf (Elt Ideal) ℓ) (g : Dev Cert.MixFfnIdeal.nD → PrngReg)
    (m' : (ℓ : Loc Cert.MixFfnReferenceIdeal.nD Cert.MixFfnReferenceIdeal.τ Cert.MixFfnReferenceIdeal.sig) → Buf (Elt Ideal) ℓ) (g' : Dev Cert.MixFfnReferenceIdeal.nD → PrngReg), Pre_MixFfnIdeal m →
    (∀ c : Dev Cert.MixFfnIdeal.nD,
      m' ((c.tc : Thread Cert.MixFfnReferenceIdeal.nD Cert.MixFfnReferenceIdeal.τ).loc Cert.MixFfnReferenceIdeal.main_arg0) = m ((c.tc : Thread Cert.MixFfnIdeal.nD Cert.MixFfnIdeal.τ).loc Cert.MixFfnIdeal.main_arg0)
      ∧ m' ((c.tc : Thread Cert.MixFfnReferenceIdeal.nD Cert.MixFfnReferenceIdeal.τ).loc Cert.MixFfnReferenceIdeal.main_arg1) = m ((c.tc : Thread Cert.MixFfnIdeal.nD Cert.MixFfnIdeal.τ).loc Cert.MixFfnIdeal.main_arg1)
      ∧ m' ((c.tc : Thread Cert.MixFfnReferenceIdeal.nD Cert.MixFfnReferenceIdeal.τ).loc Cert.MixFfnReferenceIdeal.main_arg2) = m ((c.tc : Thread Cert.MixFfnIdeal.nD Cert.MixFfnIdeal.τ).loc Cert.MixFfnIdeal.main_arg2)
      ∧ m' ((c.tc : Thread Cert.MixFfnReferenceIdeal.nD Cert.MixFfnReferenceIdeal.τ).loc Cert.MixFfnReferenceIdeal.main_arg3) = m ((c.tc : Thread Cert.MixFfnIdeal.nD Cert.MixFfnIdeal.τ).loc Cert.MixFfnIdeal.main_arg3)
      ∧ m' ((c.tc : Thread Cert.MixFfnReferenceIdeal.nD Cert.MixFfnReferenceIdeal.τ).loc Cert.MixFfnReferenceIdeal.main_arg4) = m ((c.tc : Thread Cert.MixFfnIdeal.nD Cert.MixFfnIdeal.τ).loc Cert.MixFfnIdeal.main_arg4)
      ∧ m' ((c.tc : Thread Cert.MixFfnReferenceIdeal.nD Cert.MixFfnReferenceIdeal.τ).loc Cert.MixFfnReferenceIdeal.main_arg5) = m ((c.tc : Thread Cert.MixFfnIdeal.nD Cert.MixFfnIdeal.τ).loc Cert.MixFfnIdeal.main_arg5)
      ∧ m' ((c.tc : Thread Cert.MixFfnReferenceIdeal.nD Cert.MixFfnReferenceIdeal.τ).loc Cert.MixFfnReferenceIdeal.main_arg6) = m ((c.tc : Thread Cert.MixFfnIdeal.nD Cert.MixFfnIdeal.τ).loc Cert.MixFfnIdeal.main_arg6)
      ∧ m' ((c.tc : Thread Cert.MixFfnReferenceIdeal.nD Cert.MixFfnReferenceIdeal.τ).loc Cert.MixFfnReferenceIdeal.main_arg7) = m ((c.tc : Thread Cert.MixFfnIdeal.nD Cert.MixFfnIdeal.τ).loc Cert.MixFfnIdeal.main_arg7)
      ∧ m' ((c.tc : Thread Cert.MixFfnReferenceIdeal.nD Cert.MixFfnReferenceIdeal.τ).loc Cert.MixFfnReferenceIdeal.main_arg8) = m ((c.tc : Thread Cert.MixFfnIdeal.nD Cert.MixFfnIdeal.τ).loc Cert.MixFfnIdeal.main_arg8)
      ∧ m' ((c.tc : Thread Cert.MixFfnReferenceIdeal.nD Cert.MixFfnReferenceIdeal.τ).loc Cert.MixFfnReferenceIdeal.main_arg9) = m ((c.tc : Thread Cert.MixFfnIdeal.nD Cert.MixFfnIdeal.τ).loc Cert.MixFfnIdeal.main_arg9)) →
    ∃ (v0 : (c : Dev Cert.MixFfnIdeal.nD) → Buf (Elt Ideal) ((c.tc : Thread Cert.MixFfnIdeal.nD Cert.MixFfnIdeal.τ).loc Cert.MixFfnIdeal.main_v10)),
      θ_run (Cert.MixFfnIdeal.defs (F := Ideal)) (onTc (τ := Cert.MixFfnIdeal.τ) (Cert.MixFfnIdeal.main (F := Ideal))) ⟨m, fun _ => 0, g⟩ (fun r => ∀ c : Dev Cert.MixFfnIdeal.nD,
          r.2.mem ((c.tc : Thread Cert.MixFfnIdeal.nD Cert.MixFfnIdeal.τ).loc Cert.MixFfnIdeal.main_v10) = v0 c
          ∧ r.2.mem ((c.tc : Thread Cert.MixFfnIdeal.nD Cert.MixFfnIdeal.τ).loc Cert.MixFfnIdeal.main_arg0) = m ((c.tc : Thread Cert.MixFfnIdeal.nD Cert.MixFfnIdeal.τ).loc Cert.MixFfnIdeal.main_arg0)
          ∧ r.2.mem ((c.tc : Thread Cert.MixFfnIdeal.nD Cert.MixFfnIdeal.τ).loc Cert.MixFfnIdeal.main_arg1) = m ((c.tc : Thread Cert.MixFfnIdeal.nD Cert.MixFfnIdeal.τ).loc Cert.MixFfnIdeal.main_arg1)
          ∧ r.2.mem ((c.tc : Thread Cert.MixFfnIdeal.nD Cert.MixFfnIdeal.τ).loc Cert.MixFfnIdeal.main_arg2) = m ((c.tc : Thread Cert.MixFfnIdeal.nD Cert.MixFfnIdeal.τ).loc Cert.MixFfnIdeal.main_arg2)
          ∧ r.2.mem ((c.tc : Thread Cert.MixFfnIdeal.nD Cert.MixFfnIdeal.τ).loc Cert.MixFfnIdeal.main_arg3) = m ((c.tc : Thread Cert.MixFfnIdeal.nD Cert.MixFfnIdeal.τ).loc Cert.MixFfnIdeal.main_arg3)
          ∧ r.2.mem ((c.tc : Thread Cert.MixFfnIdeal.nD Cert.MixFfnIdeal.τ).loc Cert.MixFfnIdeal.main_arg4) = m ((c.tc : Thread Cert.MixFfnIdeal.nD Cert.MixFfnIdeal.τ).loc Cert.MixFfnIdeal.main_arg4)
          ∧ r.2.mem ((c.tc : Thread Cert.MixFfnIdeal.nD Cert.MixFfnIdeal.τ).loc Cert.MixFfnIdeal.main_arg5) = m ((c.tc : Thread Cert.MixFfnIdeal.nD Cert.MixFfnIdeal.τ).loc Cert.MixFfnIdeal.main_arg5)
          ∧ r.2.mem ((c.tc : Thread Cert.MixFfnIdeal.nD Cert.MixFfnIdeal.τ).loc Cert.MixFfnIdeal.main_arg6) = m ((c.tc : Thread Cert.MixFfnIdeal.nD Cert.MixFfnIdeal.τ).loc Cert.MixFfnIdeal.main_arg6)
          ∧ r.2.mem ((c.tc : Thread Cert.MixFfnIdeal.nD Cert.MixFfnIdeal.τ).loc Cert.MixFfnIdeal.main_arg7) = m ((c.tc : Thread Cert.MixFfnIdeal.nD Cert.MixFfnIdeal.τ).loc Cert.MixFfnIdeal.main_arg7)
          ∧ r.2.mem ((c.tc : Thread Cert.MixFfnIdeal.nD Cert.MixFfnIdeal.τ).loc Cert.MixFfnIdeal.main_arg8) = m ((c.tc : Thread Cert.MixFfnIdeal.nD Cert.MixFfnIdeal.τ).loc Cert.MixFfnIdeal.main_arg8)
          ∧ r.2.mem ((c.tc : Thread Cert.MixFfnIdeal.nD Cert.MixFfnIdeal.τ).loc Cert.MixFfnIdeal.main_arg9) = m ((c.tc : Thread Cert.MixFfnIdeal.nD Cert.MixFfnIdeal.τ).loc Cert.MixFfnIdeal.main_arg9))
      ∧ θ_run (Cert.MixFfnReferenceIdeal.defs (F := Ideal)) (onTc (τ := Cert.MixFfnReferenceIdeal.τ) (Cert.MixFfnReferenceIdeal.main (F := Ideal))) ⟨m', fun _ => 0, g'⟩ (fun r => ∀ c : Dev Cert.MixFfnReferenceIdeal.nD,
          r.2.mem ((c.tc : Thread Cert.MixFfnReferenceIdeal.nD Cert.MixFfnReferenceIdeal.τ).loc Cert.MixFfnReferenceIdeal.main_v50) = v0 c
          ∧ r.2.mem ((c.tc : Thread Cert.MixFfnReferenceIdeal.nD Cert.MixFfnReferenceIdeal.τ).loc Cert.MixFfnReferenceIdeal.main_arg0) = m' ((c.tc : Thread Cert.MixFfnReferenceIdeal.nD Cert.MixFfnReferenceIdeal.τ).loc Cert.MixFfnReferenceIdeal.main_arg0)
          ∧ r.2.mem ((c.tc : Thread Cert.MixFfnReferenceIdeal.nD Cert.MixFfnReferenceIdeal.τ).loc Cert.MixFfnReferenceIdeal.main_arg1) = m' ((c.tc : Thread Cert.MixFfnReferenceIdeal.nD Cert.MixFfnReferenceIdeal.τ).loc Cert.MixFfnReferenceIdeal.main_arg1)
          ∧ r.2.mem ((c.tc : Thread Cert.MixFfnReferenceIdeal.nD Cert.MixFfnReferenceIdeal.τ).loc Cert.MixFfnReferenceIdeal.main_arg2) = m' ((c.tc : Thread Cert.MixFfnReferenceIdeal.nD Cert.MixFfnReferenceIdeal.τ).loc Cert.MixFfnReferenceIdeal.main_arg2)
          ∧ r.2.mem ((c.tc : Thread Cert.MixFfnReferenceIdeal.nD Cert.MixFfnReferenceIdeal.τ).loc Cert.MixFfnReferenceIdeal.main_arg3) = m' ((c.tc : Thread Cert.MixFfnReferenceIdeal.nD Cert.MixFfnReferenceIdeal.τ).loc Cert.MixFfnReferenceIdeal.main_arg3)
          ∧ r.2.mem ((c.tc : Thread Cert.MixFfnReferenceIdeal.nD Cert.MixFfnReferenceIdeal.τ).loc Cert.MixFfnReferenceIdeal.main_arg4) = m' ((c.tc : Thread Cert.MixFfnReferenceIdeal.nD Cert.MixFfnReferenceIdeal.τ).loc Cert.MixFfnReferenceIdeal.main_arg4)
          ∧ r.2.mem ((c.tc : Thread Cert.MixFfnReferenceIdeal.nD Cert.MixFfnReferenceIdeal.τ).loc Cert.MixFfnReferenceIdeal.main_arg5) = m' ((c.tc : Thread Cert.MixFfnReferenceIdeal.nD Cert.MixFfnReferenceIdeal.τ).loc Cert.MixFfnReferenceIdeal.main_arg5)
          ∧ r.2.mem ((c.tc : Thread Cert.MixFfnReferenceIdeal.nD Cert.MixFfnReferenceIdeal.τ).loc Cert.MixFfnReferenceIdeal.main_arg6) = m' ((c.tc : Thread Cert.MixFfnReferenceIdeal.nD Cert.MixFfnReferenceIdeal.τ).loc Cert.MixFfnReferenceIdeal.main_arg6)
          ∧ r.2.mem ((c.tc : Thread Cert.MixFfnReferenceIdeal.nD Cert.MixFfnReferenceIdeal.τ).loc Cert.MixFfnReferenceIdeal.main_arg7) = m' ((c.tc : Thread Cert.MixFfnReferenceIdeal.nD Cert.MixFfnReferenceIdeal.τ).loc Cert.MixFfnReferenceIdeal.main_arg7)
          ∧ r.2.mem ((c.tc : Thread Cert.MixFfnReferenceIdeal.nD Cert.MixFfnReferenceIdeal.τ).loc Cert.MixFfnReferenceIdeal.main_arg8) = m' ((c.tc : Thread Cert.MixFfnReferenceIdeal.nD Cert.MixFfnReferenceIdeal.τ).loc Cert.MixFfnReferenceIdeal.main_arg8)
          ∧ r.2.mem ((c.tc : Thread Cert.MixFfnReferenceIdeal.nD Cert.MixFfnReferenceIdeal.τ).loc Cert.MixFfnReferenceIdeal.main_arg9) = m' ((c.tc : Thread Cert.MixFfnReferenceIdeal.nD Cert.MixFfnReferenceIdeal.τ).loc Cert.MixFfnReferenceIdeal.main_arg9))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v43) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_FfnFinal_FfnFinalIdeal : Prop :=
  True

def algebraic_FfnFinalIdeal_FfnFinalReferenceIdeal [hFfnFinalIdeal : Cert.FfnFinalIdeal.Facts] [hFfnFinalReferenceIdeal : Cert.FfnFinalReferenceIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalReferenceIdeal.nD Cert.FfnFinalReferenceIdeal.τ Cert.FfnFinalReferenceIdeal.sig) → Buf (Elt Ideal) ℓ) (g' : Dev Cert.FfnFinalReferenceIdeal.nD → PrngReg), Pre_FfnFinalIdeal m →
    (∀ c : Dev Cert.FfnFinalIdeal.nD,
      m' ((c.tc : Thread Cert.FfnFinalReferenceIdeal.nD Cert.FfnFinalReferenceIdeal.τ).loc Cert.FfnFinalReferenceIdeal.main_arg0) = m ((c.tc : Thread Cert.FfnFinalIdeal.nD Cert.FfnFinalIdeal.τ).loc Cert.FfnFinalIdeal.main_arg0)
      ∧ m' ((c.tc : Thread Cert.FfnFinalReferenceIdeal.nD Cert.FfnFinalReferenceIdeal.τ).loc Cert.FfnFinalReferenceIdeal.main_arg1) = m ((c.tc : Thread Cert.FfnFinalIdeal.nD Cert.FfnFinalIdeal.τ).loc Cert.FfnFinalIdeal.main_arg1)
      ∧ m' ((c.tc : Thread Cert.FfnFinalReferenceIdeal.nD Cert.FfnFinalReferenceIdeal.τ).loc Cert.FfnFinalReferenceIdeal.main_arg2) = m ((c.tc : Thread Cert.FfnFinalIdeal.nD Cert.FfnFinalIdeal.τ).loc Cert.FfnFinalIdeal.main_arg2)
      ∧ m' ((c.tc : Thread Cert.FfnFinalReferenceIdeal.nD Cert.FfnFinalReferenceIdeal.τ).loc Cert.FfnFinalReferenceIdeal.main_arg3) = m ((c.tc : Thread Cert.FfnFinalIdeal.nD Cert.FfnFinalIdeal.τ).loc Cert.FfnFinalIdeal.main_arg3)
      ∧ m' ((c.tc : Thread Cert.FfnFinalReferenceIdeal.nD Cert.FfnFinalReferenceIdeal.τ).loc Cert.FfnFinalReferenceIdeal.main_arg4) = m ((c.tc : Thread Cert.FfnFinalIdeal.nD Cert.FfnFinalIdeal.τ).loc Cert.FfnFinalIdeal.main_arg4)
      ∧ m' ((c.tc : Thread Cert.FfnFinalReferenceIdeal.nD Cert.FfnFinalReferenceIdeal.τ).loc Cert.FfnFinalReferenceIdeal.main_arg5) = m ((c.tc : Thread Cert.FfnFinalIdeal.nD Cert.FfnFinalIdeal.τ).loc Cert.FfnFinalIdeal.main_arg5)
      ∧ m' ((c.tc : Thread Cert.FfnFinalReferenceIdeal.nD Cert.FfnFinalReferenceIdeal.τ).loc Cert.FfnFinalReferenceIdeal.main_arg6) = m ((c.tc : Thread Cert.FfnFinalIdeal.nD Cert.FfnFinalIdeal.τ).loc Cert.FfnFinalIdeal.main_arg6)) →
    ∃ (v0 : (c : Dev Cert.FfnFinalIdeal.nD) → Buf (Elt Ideal) ((c.tc : Thread Cert.FfnFinalIdeal.nD Cert.FfnFinalIdeal.τ).loc Cert.FfnFinalIdeal.main_v6)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v6) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5)
          ∧ r.2.mem ((c.tc : Thread Cert.FfnFinalIdeal.nD Cert.FfnFinalIdeal.τ).loc Cert.FfnFinalIdeal.main_arg6) = m ((c.tc : Thread Cert.FfnFinalIdeal.nD Cert.FfnFinalIdeal.τ).loc Cert.FfnFinalIdeal.main_arg6))
      ∧ θ_run (Cert.FfnFinalReferenceIdeal.defs (F := Ideal)) (onTc (τ := Cert.FfnFinalReferenceIdeal.τ) (Cert.FfnFinalReferenceIdeal.main (F := Ideal))) ⟨m', fun _ => 0, g'⟩ (fun r => ∀ c : Dev Cert.FfnFinalReferenceIdeal.nD,
          r.2.mem ((c.tc : Thread Cert.FfnFinalReferenceIdeal.nD Cert.FfnFinalReferenceIdeal.τ).loc Cert.FfnFinalReferenceIdeal.main_v56) = v0 c
          ∧ r.2.mem ((c.tc : Thread Cert.FfnFinalReferenceIdeal.nD Cert.FfnFinalReferenceIdeal.τ).loc Cert.FfnFinalReferenceIdeal.main_arg0) = m' ((c.tc : Thread Cert.FfnFinalReferenceIdeal.nD Cert.FfnFinalReferenceIdeal.τ).loc Cert.FfnFinalReferenceIdeal.main_arg0)
          ∧ r.2.mem ((c.tc : Thread Cert.FfnFinalReferenceIdeal.nD Cert.FfnFinalReferenceIdeal.τ).loc Cert.FfnFinalReferenceIdeal.main_arg1) = m' ((c.tc : Thread Cert.FfnFinalReferenceIdeal.nD Cert.FfnFinalReferenceIdeal.τ).loc Cert.FfnFinalReferenceIdeal.main_arg1)
          ∧ r.2.mem ((c.tc : Thread Cert.FfnFinalReferenceIdeal.nD Cert.FfnFinalReferenceIdeal.τ).loc Cert.FfnFinalReferenceIdeal.main_arg2) = m' ((c.tc : Thread Cert.FfnFinalReferenceIdeal.nD Cert.FfnFinalReferenceIdeal.τ).loc Cert.FfnFinalReferenceIdeal.main_arg2)
          ∧ r.2.mem ((c.tc : Thread Cert.FfnFinalReferenceIdeal.nD Cert.FfnFinalReferenceIdeal.τ).loc Cert.FfnFinalReferenceIdeal.main_arg3) = m' ((c.tc : Thread Cert.FfnFinalReferenceIdeal.nD Cert.FfnFinalReferenceIdeal.τ).loc Cert.FfnFinalReferenceIdeal.main_arg3)
          ∧ r.2.mem ((c.tc : Thread Cert.FfnFinalReferenceIdeal.nD Cert.FfnFinalReferenceIdeal.τ).loc Cert.FfnFinalReferenceIdeal.main_arg4) = m' ((c.tc : Thread Cert.FfnFinalReferenceIdeal.nD Cert.FfnFinalReferenceIdeal.τ).loc Cert.FfnFinalReferenceIdeal.main_arg4)
          ∧ r.2.mem ((c.tc : Thread Cert.FfnFinalReferenceIdeal.nD Cert.FfnFinalReferenceIdeal.τ).loc Cert.FfnFinalReferenceIdeal.main_arg5) = m' ((c.tc : Thread Cert.FfnFinalReferenceIdeal.nD Cert.FfnFinalReferenceIdeal.τ).loc Cert.FfnFinalReferenceIdeal.main_arg5)
          ∧ r.2.mem ((c.tc : Thread Cert.FfnFinalReferenceIdeal.nD Cert.FfnFinalReferenceIdeal.τ).loc Cert.FfnFinalReferenceIdeal.main_arg6) = m' ((c.tc : Thread Cert.FfnFinalReferenceIdeal.nD Cert.FfnFinalReferenceIdeal.τ).loc Cert.FfnFinalReferenceIdeal.main_arg6))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v38_0)) (v1 : (c : Dev Cert.InProjIdeal.nD) → Buf (Elt Ideal) ((c.tc : Thread Cert.InProjIdeal.nD Cert.InProjIdeal.τ).loc Cert.InProjIdeal.main_v38_1)) (v2 : (c : Dev Cert.InProjIdeal.nD) → Buf (Elt Ideal) ((c.tc : Thread Cert.InProjIdeal.nD Cert.InProjIdeal.τ).loc Cert.InProjIdeal.main_v38_2)) (v3 : (c : Dev Cert.InProjIdeal.nD) → Buf (Elt Ideal) ((c.tc : Thread Cert.InProjIdeal.nD Cert.InProjIdeal.τ).loc Cert.InProjIdeal.main_v38_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v38_0) = v0 c
          ∧ r.2.mem ((c.tc : Thread Cert.InProjIdeal.nD Cert.InProjIdeal.τ).loc Cert.InProjIdeal.main_v38_1) = v1 c
          ∧ r.2.mem ((c.tc : Thread Cert.InProjIdeal.nD Cert.InProjIdeal.τ).loc Cert.InProjIdeal.main_v38_2) = v2 c
          ∧ r.2.mem ((c.tc : Thread Cert.InProjIdeal.nD Cert.InProjIdeal.τ).loc Cert.InProjIdeal.main_v38_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v46) = v0 c
          ∧ r.2.mem ((c.tc : Thread Cert.InProjReferenceIdeal.nD Cert.InProjReferenceIdeal.τ).loc Cert.InProjReferenceIdeal.main_v117) = v1 c
          ∧ r.2.mem ((c.tc : Thread Cert.InProjReferenceIdeal.nD Cert.InProjReferenceIdeal.τ).loc Cert.InProjReferenceIdeal.main_v118) = v2 c
          ∧ r.2.mem ((c.tc : Thread Cert.InProjReferenceIdeal.nD Cert.InProjReferenceIdeal.τ).loc Cert.InProjReferenceIdeal.main_v119) = v3 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_FfnSample_FfnSampleIdeal : Prop :=
  True

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)
      ∧ m' ((c.tc : Thread Cert.FfnSampleReferenceIdeal.nD Cert.FfnSampleReferenceIdeal.τ).loc Cert.FfnSampleReferenceIdeal.main_arg6) = m ((c.tc : Thread Cert.FfnSampleIdeal.nD Cert.FfnSampleIdeal.τ).loc Cert.FfnSampleIdeal.main_arg6)) →
    ∃ (v0 : (c : Dev Cert.FfnSampleIdeal.nD) → Buf (Elt Ideal) ((c.tc : Thread Cert.FfnSampleIdeal.nD Cert.FfnSampleIdeal.τ).loc Cert.FfnSampleIdeal.main_v6)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v6) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v56) = v0 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5)
          ∧ r.2.mem ((c.tc : Thread Cert.FfnSampleReferenceIdeal.nD Cert.FfnSampleReferenceIdeal.τ).loc Cert.FfnSampleReferenceIdeal.main_arg6) = m' ((c.tc : Thread Cert.FfnSampleReferenceIdeal.nD Cert.FfnSampleReferenceIdeal.τ).loc Cert.FfnSampleReferenceIdeal.main_arg6))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)
      ∧ m' ((c.tc : Thread Cert.ModReferenceIdeal.nD Cert.ModReferenceIdeal.τ).loc Cert.ModReferenceIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v3)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v42) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v15)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v15) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v55) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5))

def preserves_S5Params_S5ParamsIdeal : Prop :=
  True

def algebraic_S5ParamsIdeal_S5ParamsReferenceIdeal [hS5ParamsIdeal : Cert.S5ParamsIdeal.Facts] [hS5ParamsReferenceIdeal : Cert.S5ParamsReferenceIdeal.Facts] : Prop :=
  ∀ (m : (ℓ : Loc Cert.S5ParamsIdeal.nD Cert.S5ParamsIdeal.τ Cert.S5ParamsIdeal.sig) → Buf (Elt Ideal) ℓ) (g : Dev Cert.S5ParamsIdeal.nD → PrngReg)
    (m' : (ℓ : Loc Cert.S5ParamsReferenceIdeal.nD Cert.S5ParamsReferenceIdeal.τ Cert.S5ParamsReferenceIdeal.sig) → Buf (Elt Ideal) ℓ) (g' : Dev Cert.S5ParamsReferenceIdeal.nD → PrngReg), Pre_S5ParamsIdeal m →
    (∀ c : Dev Cert.S5ParamsIdeal.nD,
      m' ((c.tc : Thread Cert.S5ParamsReferenceIdeal.nD Cert.S5ParamsReferenceIdeal.τ).loc Cert.S5ParamsReferenceIdeal.main_arg0) = m ((c.tc : Thread Cert.S5ParamsIdeal.nD Cert.S5ParamsIdeal.τ).loc Cert.S5ParamsIdeal.main_arg0)
      ∧ m' ((c.tc : Thread Cert.S5ParamsReferenceIdeal.nD Cert.S5ParamsReferenceIdeal.τ).loc Cert.S5ParamsReferenceIdeal.main_arg1) = m ((c.tc : Thread Cert.S5ParamsIdeal.nD Cert.S5ParamsIdeal.τ).loc Cert.S5ParamsIdeal.main_arg1)
      ∧ m' ((c.tc : Thread Cert.S5ParamsReferenceIdeal.nD Cert.S5ParamsReferenceIdeal.τ).loc Cert.S5ParamsReferenceIdeal.main_arg2) = m ((c.tc : Thread Cert.S5ParamsIdeal.nD Cert.S5ParamsIdeal.τ).loc Cert.S5ParamsIdeal.main_arg2)
      ∧ m' ((c.tc : Thread Cert.S5ParamsReferenceIdeal.nD Cert.S5ParamsReferenceIdeal.τ).loc Cert.S5ParamsReferenceIdeal.main_arg3) = m ((c.tc : Thread Cert.S5ParamsIdeal.nD Cert.S5ParamsIdeal.τ).loc Cert.S5ParamsIdeal.main_arg3)
      ∧ m' ((c.tc : Thread Cert.S5ParamsReferenceIdeal.nD Cert.S5ParamsReferenceIdeal.τ).loc Cert.S5ParamsReferenceIdeal.main_arg4) = m ((c.tc : Thread Cert.S5ParamsIdeal.nD Cert.S5ParamsIdeal.τ).loc Cert.S5ParamsIdeal.main_arg4)) →
    ∃ (v0 : (c : Dev Cert.S5ParamsIdeal.nD) → Buf (Elt Ideal) ((c.tc : Thread Cert.S5ParamsIdeal.nD Cert.S5ParamsIdeal.τ).loc Cert.S5ParamsIdeal.main_v3_0)) (v1 : (c : Dev Cert.S5ParamsIdeal.nD) → Buf (Elt Ideal) ((c.tc : Thread Cert.S5ParamsIdeal.nD Cert.S5ParamsIdeal.τ).loc Cert.S5ParamsIdeal.main_v3_1)) (v2 : (c : Dev Cert.S5ParamsIdeal.nD) → Buf (Elt Ideal) ((c.tc : Thread Cert.S5ParamsIdeal.nD Cert.S5ParamsIdeal.τ).loc Cert.S5ParamsIdeal.main_v3_2)) (v3 : (c : Dev Cert.S5ParamsIdeal.nD) → Buf (Elt Ideal) ((c.tc : Thread Cert.S5ParamsIdeal.nD Cert.S5ParamsIdeal.τ).loc Cert.S5ParamsIdeal.main_v3_3)) (v4 : (c : Dev Cert.S5ParamsIdeal.nD) → Buf (Elt Ideal) ((c.tc : Thread Cert.S5ParamsIdeal.nD Cert.S5ParamsIdeal.τ).loc Cert.S5ParamsIdeal.main_v3_4)) (v5 : (c : Dev Cert.S5ParamsIdeal.nD) → Buf (Elt Ideal) ((c.tc : Thread Cert.S5ParamsIdeal.nD Cert.S5ParamsIdeal.τ).loc Cert.S5ParamsIdeal.main_v3_5)),
      θ_run (Cert.S5ParamsIdeal.defs (F := Ideal)) (onTc (τ := Cert.S5ParamsIdeal.τ) (Cert.S5ParamsIdeal.main (F := Ideal))) ⟨m, fun _ => 0, g⟩ (fun r => ∀ c : Dev Cert.S5ParamsIdeal.nD,
          r.2.mem ((c.tc : Thread Cert.S5ParamsIdeal.nD Cert.S5ParamsIdeal.τ).loc Cert.S5ParamsIdeal.main_v3_0) = v0 c
          ∧ r.2.mem ((c.tc : Thread Cert.S5ParamsIdeal.nD Cert.S5ParamsIdeal.τ).loc Cert.S5ParamsIdeal.main_v3_1) = v1 c
          ∧ r.2.mem ((c.tc : Thread Cert.S5ParamsIdeal.nD Cert.S5ParamsIdeal.τ).loc Cert.S5ParamsIdeal.main_v3_2) = v2 c
          ∧ r.2.mem ((c.tc : Thread Cert.S5ParamsIdeal.nD Cert.S5ParamsIdeal.τ).loc Cert.S5ParamsIdeal.main_v3_3) = v3 c
          ∧ r.2.mem ((c.tc : Thread Cert.S5ParamsIdeal.nD Cert.S5ParamsIdeal.τ).loc Cert.S5ParamsIdeal.main_v3_4) = v4 c
          ∧ r.2.mem ((c.tc : Thread Cert.S5ParamsIdeal.nD Cert.S5ParamsIdeal.τ).loc Cert.S5ParamsIdeal.main_v3_5) = v5 c
          ∧ r.2.mem ((c.tc : Thread Cert.S5ParamsIdeal.nD Cert.S5ParamsIdeal.τ).loc Cert.S5ParamsIdeal.main_arg0) = m ((c.tc : Thread Cert.S5ParamsIdeal.nD Cert.S5ParamsIdeal.τ).loc Cert.S5ParamsIdeal.main_arg0)
          ∧ r.2.mem ((c.tc : Thread Cert.S5ParamsIdeal.nD Cert.S5ParamsIdeal.τ).loc Cert.S5ParamsIdeal.main_arg1) = m ((c.tc : Thread Cert.S5ParamsIdeal.nD Cert.S5ParamsIdeal.τ).loc Cert.S5ParamsIdeal.main_arg1)
          ∧ r.2.mem ((c.tc : Thread Cert.S5ParamsIdeal.nD Cert.S5ParamsIdeal.τ).loc Cert.S5ParamsIdeal.main_arg2) = m ((c.tc : Thread Cert.S5ParamsIdeal.nD Cert.S5ParamsIdeal.τ).loc Cert.S5ParamsIdeal.main_arg2)
          ∧ r.2.mem ((c.tc : Thread Cert.S5ParamsIdeal.nD Cert.S5ParamsIdeal.τ).loc Cert.S5ParamsIdeal.main_arg3) = m ((c.tc : Thread Cert.S5ParamsIdeal.nD Cert.S5ParamsIdeal.τ).loc Cert.S5ParamsIdeal.main_arg3)
          ∧ r.2.mem ((c.tc : Thread Cert.S5ParamsIdeal.nD Cert.S5ParamsIdeal.τ).loc Cert.S5ParamsIdeal.main_arg4) = m ((c.tc : Thread Cert.S5ParamsIdeal.nD Cert.S5ParamsIdeal.τ).loc Cert.S5ParamsIdeal.main_arg4))
      ∧ θ_run (Cert.S5ParamsReferenceIdeal.defs (F := Ideal)) (onTc (τ := Cert.S5ParamsReferenceIdeal.τ) (Cert.S5ParamsReferenceIdeal.main (F := Ideal))) ⟨m', fun _ => 0, g'⟩ (fun r => ∀ c : Dev Cert.S5ParamsReferenceIdeal.nD,
          r.2.mem ((c.tc : Thread Cert.S5ParamsReferenceIdeal.nD Cert.S5ParamsReferenceIdeal.τ).loc Cert.S5ParamsReferenceIdeal.main_v8) = v0 c
          ∧ r.2.mem ((c.tc : Thread Cert.S5ParamsReferenceIdeal.nD Cert.S5ParamsReferenceIdeal.τ).loc Cert.S5ParamsReferenceIdeal.main_v10) = v1 c
          ∧ r.2.mem ((c.tc : Thread Cert.S5ParamsReferenceIdeal.nD Cert.S5ParamsReferenceIdeal.τ).loc Cert.S5ParamsReferenceIdeal.main_v52) = v2 c
          ∧ r.2.mem ((c.tc : Thread Cert.S5ParamsReferenceIdeal.nD Cert.S5ParamsReferenceIdeal.τ).loc Cert.S5ParamsReferenceIdeal.main_v53) = v3 c
          ∧ r.2.mem ((c.tc : Thread Cert.S5ParamsReferenceIdeal.nD Cert.S5ParamsReferenceIdeal.τ).loc Cert.S5ParamsReferenceIdeal.main_v54) = v4 c
          ∧ r.2.mem ((c.tc : Thread Cert.S5ParamsReferenceIdeal.nD Cert.S5ParamsReferenceIdeal.τ).loc Cert.S5ParamsReferenceIdeal.main_v55) = v5 c
          ∧ r.2.mem ((c.tc : Thread Cert.S5ParamsReferenceIdeal.nD Cert.S5ParamsReferenceIdeal.τ).loc Cert.S5ParamsReferenceIdeal.main_arg0) = m' ((c.tc : Thread Cert.S5ParamsReferenceIdeal.nD Cert.S5ParamsReferenceIdeal.τ).loc Cert.S5ParamsReferenceIdeal.main_arg0)
          ∧ r.2.mem ((c.tc : Thread Cert.S5ParamsReferenceIdeal.nD Cert.S5ParamsReferenceIdeal.τ).loc Cert.S5ParamsReferenceIdeal.main_arg1) = m' ((c.tc : Thread Cert.S5ParamsReferenceIdeal.nD Cert.S5ParamsReferenceIdeal.τ).loc Cert.S5ParamsReferenceIdeal.main_arg1)
          ∧ r.2.mem ((c.tc : Thread Cert.S5ParamsReferenceIdeal.nD Cert.S5ParamsReferenceIdeal.τ).loc Cert.S5ParamsReferenceIdeal.main_arg2) = m' ((c.tc : Thread Cert.S5ParamsReferenceIdeal.nD Cert.S5ParamsReferenceIdeal.τ).loc Cert.S5ParamsReferenceIdeal.main_arg2)
          ∧ r.2.mem ((c.tc : Thread Cert.S5ParamsReferenceIdeal.nD Cert.S5ParamsReferenceIdeal.τ).loc Cert.S5ParamsReferenceIdeal.main_arg3) = m' ((c.tc : Thread Cert.S5ParamsReferenceIdeal.nD Cert.S5ParamsReferenceIdeal.τ).loc Cert.S5ParamsReferenceIdeal.main_arg3)
          ∧ r.2.mem ((c.tc : Thread Cert.S5ParamsReferenceIdeal.nD Cert.S5ParamsReferenceIdeal.τ).loc Cert.S5ParamsReferenceIdeal.main_arg4) = m' ((c.tc : Thread Cert.S5ParamsReferenceIdeal.nD Cert.S5ParamsReferenceIdeal.τ).loc Cert.S5ParamsReferenceIdeal.main_arg4))

def preserves_S5Sample_S5SampleIdeal : Prop :=
  True

def Claim : Prop :=
  ∃ (hKernel : Cert.Kernel.Facts) (hKernelIdeal : Cert.KernelIdeal.Facts) (hReferenceIdeal : Cert.ReferenceIdeal.Facts) (hMixFfn : Cert.MixFfn.Facts) (hMixFfnIdeal : Cert.MixFfnIdeal.Facts) (hMixFfnReferenceIdeal : Cert.MixFfnReferenceIdeal.Facts) (hFfn : Cert.Ffn.Facts) (hFfnIdeal : Cert.FfnIdeal.Facts) (hFfnReferenceIdeal : Cert.FfnReferenceIdeal.Facts) (hFfnFinal : Cert.FfnFinal.Facts) (hFfnFinalIdeal : Cert.FfnFinalIdeal.Facts) (hFfnFinalReferenceIdeal : Cert.FfnFinalReferenceIdeal.Facts) (hInProj : Cert.InProj.Facts) (hInProjIdeal : Cert.InProjIdeal.Facts) (hInProjReferenceIdeal : Cert.InProjReferenceIdeal.Facts) (hFfnSample : Cert.FfnSample.Facts) (hFfnSampleIdeal : Cert.FfnSampleIdeal.Facts) (hFfnSampleReferenceIdeal : Cert.FfnSampleReferenceIdeal.Facts) (hMod : Cert.Mod.Facts) (hModIdeal : Cert.ModIdeal.Facts) (hModReferenceIdeal : Cert.ModReferenceIdeal.Facts) (hConv : Cert.Conv.Facts) (hConvIdeal : Cert.ConvIdeal.Facts) (hConvReferenceIdeal : Cert.ConvReferenceIdeal.Facts) (hS5Params : Cert.S5Params.Facts) (hS5ParamsIdeal : Cert.S5ParamsIdeal.Facts) (hS5ParamsReferenceIdeal : Cert.S5ParamsReferenceIdeal.Facts) (hS5Sample : Cert.S5Sample.Facts) (hS5SampleIdeal : Cert.S5SampleIdeal.Facts) (hPre_group0_scores_finite : Cert.Pre_group0_scores_finite.Facts),
    quiescent_Kernel (hKernel := hKernel)
    ∧ quiescent_KernelIdeal (hKernelIdeal := hKernelIdeal)
    ∧ quiescent_KernelIdeal_pre_group0_scores_finite (hKernelIdeal := hKernelIdeal) (hPre_group0_scores_finite := hPre_group0_scores_finite)
    ∧ quiescent_ReferenceIdeal (hReferenceIdeal := hReferenceIdeal)
    ∧ quiescent_ReferenceIdeal_pre_group0_scores_finite (hReferenceIdeal := hReferenceIdeal) (hPre_group0_scores_finite := hPre_group0_scores_finite)
    ∧ quiescent_MixFfn (hMixFfn := hMixFfn)
    ∧ quiescent_MixFfnIdeal (hMixFfnIdeal := hMixFfnIdeal)
    ∧ quiescent_MixFfnReferenceIdeal (hMixFfnReferenceIdeal := hMixFfnReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnFinal (hFfnFinal := hFfnFinal)
    ∧ quiescent_FfnFinalIdeal (hFfnFinalIdeal := hFfnFinalIdeal)
    ∧ quiescent_FfnFinalReferenceIdeal (hFfnFinalReferenceIdeal := hFfnFinalReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ quiescent_Mod (hMod := hMod)
    ∧ quiescent_ModIdeal (hModIdeal := hModIdeal)
    ∧ quiescent_ModReferenceIdeal (hModReferenceIdeal := hModReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_S5Params (hS5Params := hS5Params)
    ∧ quiescent_S5ParamsIdeal (hS5ParamsIdeal := hS5ParamsIdeal)
    ∧ quiescent_S5ParamsReferenceIdeal (hS5ParamsReferenceIdeal := hS5ParamsReferenceIdeal)
    ∧ quiescent_S5Sample (hS5Sample := hS5Sample)
    ∧ quiescent_S5SampleIdeal (hS5SampleIdeal := hS5SampleIdeal)
    ∧ preserves_Kernel_KernelIdeal
    ∧ algebraic_KernelIdeal_ReferenceIdeal_pre_group0_scores_finite (hKernelIdeal := hKernelIdeal) (hReferenceIdeal := hReferenceIdeal) (hPre_group0_scores_finite := hPre_group0_scores_finite)
    ∧ preserves_MixFfn_MixFfnIdeal
    ∧ algebraic_MixFfnIdeal_MixFfnReferenceIdeal (hMixFfnIdeal := hMixFfnIdeal) (hMixFfnReferenceIdeal := hMixFfnReferenceIdeal)
    ∧ preserves_Ffn_FfnIdeal
    ∧ algebraic_FfnIdeal_FfnReferenceIdeal (hFfnIdeal := hFfnIdeal) (hFfnReferenceIdeal := hFfnReferenceIdeal)
    ∧ preserves_FfnFinal_FfnFinalIdeal
    ∧ algebraic_FfnFinalIdeal_FfnFinalReferenceIdeal (hFfnFinalIdeal := hFfnFinalIdeal) (hFfnFinalReferenceIdeal := hFfnFinalReferenceIdeal)
    ∧ preserves_InProj_InProjIdeal
    ∧ algebraic_InProjIdeal_InProjReferenceIdeal (hInProjIdeal := hInProjIdeal) (hInProjReferenceIdeal := hInProjReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
    ∧ preserves_Mod_ModIdeal
    ∧ algebraic_ModIdeal_ModReferenceIdeal (hModIdeal := hModIdeal) (hModReferenceIdeal := hModReferenceIdeal)
    ∧ preserves_Conv_ConvIdeal
    ∧ algebraic_ConvIdeal_ConvReferenceIdeal (hConvIdeal := hConvIdeal) (hConvReferenceIdeal := hConvReferenceIdeal)
    ∧ preserves_S5Params_S5ParamsIdeal
    ∧ algebraic_S5ParamsIdeal_S5ParamsReferenceIdeal (hS5ParamsIdeal := hS5ParamsIdeal) (hS5ParamsReferenceIdeal := hS5ParamsReferenceIdeal)
    ∧ preserves_S5Sample_S5SampleIdeal
-- ==== Pre_group0_scores_finite.lean ====
abbrev S128x8x3x4x64 : Shape := ⟨5, ![128, 8, 3, 4, 64]⟩
abbrev S2x128x128x2x4x64 : Shape := ⟨6, ![2, 128, 128, 2, 4, 64]⟩
abbrev S2x128x512x2x4x64 : Shape := ⟨6, ![2, 128, 512, 2, 4, 64]⟩
abbrev S2x128x2048x2x4x64 : Shape := ⟨6, ![2, 128, 2048, 2, 4, 64]⟩
abbrev S128x8x1x4x64 : Shape := ⟨5, ![128, 8, 1, 4, 64]⟩
abbrev S128x8x4x64 : Shape := ⟨4, ![128, 8, 4, 64]⟩
abbrev S_ : Shape := ⟨0, ![]⟩
abbrev S1x128x128x1x4x64 : Shape := ⟨6, ![1, 128, 128, 1, 4, 64]⟩
abbrev S128x128x4x64 : Shape := ⟨4, ![128, 128, 4, 64]⟩

class Facts : Prop where
  slices_S128x8x3x4x64_S128x8x1x4x64_0_0_0_0_0 : S128x8x3x4x64.Slices ![0, 0, 0, 0, 0] S128x8x1x4x64
  shapeCasts_S128x8x1x4x64_S128x8x4x64 : S128x8x1x4x64.ShapeCasts S128x8x4x64
  bcast_S_S128x8x4x64 : S_.BroadcastsInDim S128x8x4x64 (![] : Fin 0 → Fin S128x8x4x64.rank)
  reducesTo_S128x8x4x64_S_d0_1_2_3 : S128x8x4x64.ReducesTo [0, 1, 2, 3] S_
  h_S_ : 0 < S_.numel
  slices_S2x128x128x2x4x64_S1x128x128x1x4x64_0_0_0_0_0_0 : S2x128x128x2x4x64.Slices ![0, 0, 0, 0, 0, 0] S1x128x128x1x4x64
  shapeCasts_S1x128x128x1x4x64_S128x128x4x64 : S1x128x128x1x4x64.ShapeCasts S128x128x4x64
  bcast_S_S128x128x4x64 : S_.BroadcastsInDim S128x128x4x64 (![] : Fin 0 → Fin S128x128x4x64.rank)
  reducesTo_S128x128x4x64_S_d0_1_2_3 : S128x128x4x64.ReducesTo [0, 1, 2, 3] S_

variable [Facts]

def fn_part1 {F : FTy → Type} [FloatOps F] (main_v12 : IVec S_ 1) (main_v17 : IVec S128x128x4x64 1) (main_c_3 : IVec S_ 1) : IVec S_ 1 :=
  let main_v18 : IVec S_ 1 := (fun x v => Host.reduce IntOp.andi x v reducesTo_S128x128x4x64_S_d0_1_2_3 h_S_) main_v17 main_c_3
  let main_v19 : IVec S_ 1 := andi main_v12 main_v18
  main_v19

def fn {F : FTy → Type} [FloatOps F] (main_arg0 : FVec F S128x8x3x4x64 .f32) (main_arg1 : FVec F S128x8x3x4x64 .f32) (main_arg2 : FVec F S128x8x3x4x64 .f32) (main_arg3 : FVec F S2x128x128x2x4x64 .f32) (main_arg4 : FVec F S2x128x512x2x4x64 .f32) (main_arg5 : FVec F S2x128x2048x2x4x64 .f32) : IVec S_ 1 :=
  let main_v0 : FVec F S128x8x1x4x64 .f32 := (extractStridedSlice S128x8x1x4x64 ![0, 0, 0, 0, 0] · slices_S128x8x3x4x64_S128x8x1x4x64_0_0_0_0_0) main_arg0
  let main_v1 : FVec F S128x8x4x64 .f32 := shapeCast S128x8x4x64 main_v0 shapeCasts_S128x8x1x4x64_S128x8x4x64
  let main_v2 : FVec F S128x8x4x64 .f32 := Host.absf main_v1
  let main_cst : FVec F S_ .f32 := constant S_ .f32 0x7F800000#32
  let main_v3 : FVec F S128x8x4x64 .f32 := broadcastInDim S128x8x4x64 ![] bcast_S_S128x8x4x64 main_cst
  let main_v4 : IVec S128x8x4x64 1 := cmpf .olt main_v2 main_v3
  let main_c : IVec S_ 1 := constantI S_ 1 1#1
  let main_v5 : IVec S_ 1 := (fun x v => Host.reduce IntOp.andi x v reducesTo_S128x8x4x64_S_d0_1_2_3 h_S_) main_v4 main_c
  let main_v6 : FVec F S128x8x1x4x64 .f32 := (extractStridedSlice S128x8x1x4x64 ![0, 0, 0, 0, 0] · slices_S128x8x3x4x64_S128x8x1x4x64_0_0_0_0_0) main_arg1
  let main_v7 : FVec F S128x8x4x64 .f32 := shapeCast S128x8x4x64 main_v6 shapeCasts_S128x8x1x4x64_S128x8x4x64
  let main_v8 : FVec F S128x8x4x64 .f32 := Host.absf main_v7
  let main_cst_0 : FVec F S_ .f32 := constant S_ .f32 0x7F800000#32
  let main_v9 : FVec F S128x8x4x64 .f32 := broadcastInDim S128x8x4x64 ![] bcast_S_S128x8x4x64 main_cst_0
  let main_v10 : IVec S128x8x4x64 1 := cmpf .olt main_v8 main_v9
  let main_c_1 : IVec S_ 1 := constantI S_ 1 1#1
  let main_v11 : IVec S_ 1 := (fun x v => Host.reduce IntOp.andi x v reducesTo_S128x8x4x64_S_d0_1_2_3 h_S_) main_v10 main_c_1
  let main_v12 : IVec S_ 1 := andi main_v5 main_v11
  let main_v13 : FVec F S1x128x128x1x4x64 .f32 := (extractStridedSlice S1x128x128x1x4x64 ![0, 0, 0, 0, 0, 0] · slices_S2x128x128x2x4x64_S1x128x128x1x4x64_0_0_0_0_0_0) main_arg3
  let main_v14 : FVec F S128x128x4x64 .f32 := shapeCast S128x128x4x64 main_v13 shapeCasts_S1x128x128x1x4x64_S128x128x4x64
  let main_v15 : FVec F S128x128x4x64 .f32 := Host.absf main_v14
  let main_cst_2 : FVec F S_ .f32 := constant S_ .f32 0x7F800000#32
  let main_v16 : FVec F S128x128x4x64 .f32 := broadcastInDim S128x128x4x64 ![] bcast_S_S128x128x4x64 main_cst_2
  let main_v17 : IVec S128x128x4x64 1 := cmpf .olt main_v15 main_v16
  let main_c_3 : IVec S_ 1 := constantI S_ 1 1#1
  fn_part1 (F := F) main_v12 main_v17 main_c_3
-- ==== Kernel.lean ====
abbrev S128x8x3x4x64 : Shape := ⟨5, ![128, 8, 3, 4, 64]⟩
abbrev S2x128x128x2x4x64 : Shape := ⟨6, ![2, 128, 128, 2, 4, 64]⟩
abbrev S2x128x512x2x4x64 : Shape := ⟨6, ![2, 128, 512, 2, 4, 64]⟩
abbrev S2x128x2048x2x4x64 : Shape := ⟨6, ![2, 128, 2048, 2, 4, 64]⟩
abbrev S2x128x2x4x64x128 : Shape := ⟨6, ![2, 128, 2, 4, 64, 128]⟩
abbrev S2x128x2x256x128 : Shape := ⟨5, ![2, 128, 2, 256, 128]⟩
abbrev S2x128x2x4x64x512 : Shape := ⟨6, ![2, 128, 2, 4, 64, 512]⟩
abbrev S2x128x2x256x512 : Shape := ⟨5, ![2, 128, 2, 256, 512]⟩
abbrev S2x128x2x4x64x2048 : Shape := ⟨6, ![2, 128, 2, 4, 64, 2048]⟩
abbrev S2x128x2x256x2048 : Shape := ⟨5, ![2, 128, 2, 256, 2048]⟩
abbrev S128x8x768 : Shape := ⟨3, ![128, 8, 768]⟩
abbrev S128x8x256 : Shape := ⟨3, ![128, 8, 256]⟩
abbrev S2x8x768 : Shape := ⟨3, ![2, 8, 768]⟩
abbrev S1x2x2x256x128 : Shape := ⟨5, ![1, 2, 2, 256, 128]⟩
abbrev S1x2x2x256x512 : Shape := ⟨5, ![1, 2, 2, 256, 512]⟩
abbrev S1x2x2x256x2048 : Shape := ⟨5, ![1, 2, 2, 256, 2048]⟩
abbrev S2x8x256 : Shape := ⟨3, ![2, 8, 256]⟩
abbrev S32x256 : Shape := ⟨2, ![32, 256]⟩
abbrev S32x128 : Shape := ⟨2, ![32, 128]⟩
abbrev S32x8 : Shape := ⟨2, ![32, 8]⟩
abbrev S32x512 : Shape := ⟨2, ![32, 512]⟩
abbrev S32x2048 : Shape := ⟨2, ![32, 2048]⟩
abbrev S1x8x256 : Shape := ⟨3, ![1, 8, 256]⟩
abbrev S8x256 : Shape := ⟨2, ![8, 256]⟩
abbrev S1x1x1x256x128 : Shape := ⟨5, ![1, 1, 1, 256, 128]⟩
abbrev S256x128 : Shape := ⟨2, ![256, 128]⟩
abbrev S32 : Shape := ⟨1, ![32]⟩
abbrev S32x1 : Shape := ⟨2, ![32, 1]⟩
abbrev S1x1x1x256x512 : Shape := ⟨5, ![1, 1, 1, 256, 512]⟩
abbrev S256x512 : Shape := ⟨2, ![256, 512]⟩
abbrev S1x1x1x256x2048 : Shape := ⟨5, ![1, 1, 1, 256, 2048]⟩
abbrev S256x2048 : Shape := ⟨2, ![256, 2048]⟩

abbrev nBuf : Space → Nat
  | .hbm => 16
  | .vmem => 14
  | .smem => 0
  | _ => 0

abbrev bufTy : (tb : Table) → Fin (tcTables nBuf tb) → BufTy
  | .hbm, ⟨0, _⟩ => ⟨S128x8x3x4x64, .f32⟩
  | .hbm, ⟨1, _⟩ => ⟨S128x8x3x4x64, .f32⟩
  | .hbm, ⟨2, _⟩ => ⟨S128x8x3x4x64, .f32⟩
  | .hbm, ⟨3, _⟩ => ⟨S2x128x128x2x4x64, .f32⟩
  | .hbm, ⟨4, _⟩ => ⟨S2x128x512x2x4x64, .f32⟩
  | .hbm, ⟨5, _⟩ => ⟨S2x128x2048x2x4x64, .f32⟩
  | .hbm, ⟨6, _⟩ => ⟨S2x128x2x4x64x128, .f32⟩
  | .hbm, ⟨7, _⟩ => ⟨S2x128x2x256x128, .f32⟩
  | .hbm, ⟨8, _⟩ => ⟨S2x128x2x4x64x512, .f32⟩
  | .hbm, ⟨9, _⟩ => ⟨S2x128x2x256x512, .f32⟩
  | .hbm, ⟨10, _⟩ => ⟨S2x128x2x4x64x2048, .f32⟩
  | .hbm, ⟨11, _⟩ => ⟨S2x128x2x256x2048, .f32⟩
  | .hbm, ⟨12, _⟩ => ⟨S128x8x768, .f32⟩
  | .hbm, ⟨13, _⟩ => ⟨S128x8x768, .f32⟩
  | .hbm, ⟨14, _⟩ => ⟨S128x8x768, .f32⟩
  | .hbm, ⟨15, _⟩ => ⟨S128x8x256, .f32⟩
  | .local _ .vmem, ⟨0, _⟩ => ⟨S2x8x768, .f32⟩
  | .local _ .vmem, ⟨1, _⟩ => ⟨S2x8x768, .f32⟩
  | .local _ .vmem, ⟨2, _⟩ => ⟨S2x8x768, .f32⟩
  | .local _ .vmem, ⟨3, _⟩ => ⟨S2x8x768, .f32⟩
  | .local _ .vmem, ⟨4, _⟩ => ⟨S2x8x768, .f32⟩
  | .local _ .vmem, ⟨5, _⟩ => ⟨S2x8x768, .f32⟩
  | .local _ .vmem, ⟨6, _⟩ => ⟨S1x2x2x256x128, .f32⟩
  | .local _ .vmem, ⟨7, _⟩ => ⟨S1x2x2x256x128, .f32⟩
  | .local _ .vmem, ⟨8, _⟩ => ⟨S1x2x2x256x512, .f32⟩
  | .local _ .vmem, ⟨9, _⟩ => ⟨S1x2x2x256x512, .f32⟩
  | .local _ .vmem, ⟨10, _⟩ => ⟨S1x2x2x256x2048, .f32⟩
  | .local _ .vmem, ⟨11, _⟩ => ⟨S1x2x2x256x2048, .f32⟩
  | .local _ .vmem, ⟨12, _⟩ => ⟨S2x8x256, .f32⟩
  | .local _ .vmem, ⟨13, _⟩ => ⟨S2x8x256, .f32⟩
  | _, _ => ⟨S128x8x3x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x2x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x2x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x2x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S128x8x3x4x64 : Shape := ⟨5, ![128, 8, 3, 4, 64]⟩
abbrev S2x128x128x2x4x64 : Shape := ⟨6, ![2, 128, 128, 2, 4, 64]⟩
abbrev S2x128x512x2x4x64 : Shape := ⟨6, ![2, 128, 512, 2, 4, 64]⟩
abbrev S2x128x2048x2x4x64 : Shape := ⟨6, ![2, 128, 2048, 2, 4, 64]⟩
abbrev S128x8x1x4x64 : Shape := ⟨5, ![128, 8, 1, 4, 64]⟩
abbrev S128x8x4x64 : Shape := ⟨4, ![128, 8, 4, 64]⟩
abbrev S1x128x128x2x4x64 : Shape := ⟨6, ![1, 128, 128, 2, 4, 64]⟩
abbrev S128x128x2x4x64 : Shape := ⟨5, ![128, 128, 2, 4, 64]⟩
abbrev S128x128x1x4x64 : Shape := ⟨5, ![128, 128, 1, 4, 64]⟩
abbrev S128x128x4x64 : Shape := ⟨4, ![128, 128, 4, 64]⟩
abbrev S128x136x4x64 : Shape := ⟨4, ![128, 136, 4, 64]⟩
abbrev S8 : Shape := ⟨1, ![8]⟩
abbrev S8x1 : Shape := ⟨2, ![8, 1]⟩
abbrev S_ : Shape := ⟨0, ![]⟩
abbrev S129 : Shape := ⟨1, ![129]⟩
abbrev S1x129 : Shape := ⟨2, ![1, 129]⟩
abbrev S8x129 : Shape := ⟨2, ![8, 129]⟩
abbrev S8x129x1 : Shape := ⟨3, ![8, 129, 1]⟩
abbrev S128x8x129x4x64 : Shape := ⟨5, ![128, 8, 129, 4, 64]⟩
abbrev S128x8x4x129 : Shape := ⟨4, ![128, 8, 4, 129]⟩
abbrev S1x8x1x129 : Shape := ⟨4, ![1, 8, 1, 129]⟩
abbrev S128x8x4 : Shape := ⟨3, ![128, 8, 4]⟩
abbrev S128x8x4x1 : Shape := ⟨4, ![128, 8, 4, 1]⟩
abbrev S1x128x512x2x4x64 : Shape := ⟨6, ![1, 128, 512, 2, 4, 64]⟩
abbrev S128x512x2x4x64 : Shape := ⟨5, ![128, 512, 2, 4, 64]⟩
abbrev S128x512x1x4x64 : Shape := ⟨5, ![128, 512, 1, 4, 64]⟩
abbrev S128x512x4x64 : Shape := ⟨4, ![128, 512, 4, 64]⟩
abbrev S128x520x4x64 : Shape := ⟨4, ![128, 520, 4, 64]⟩
abbrev S1x128x2048x2x4x64 : Shape := ⟨6, ![1, 128, 2048, 2, 4, 64]⟩
abbrev S128x2048x2x4x64 : Shape := ⟨5, ![128, 2048, 2, 4, 64]⟩
abbrev S128x2048x1x4x64 : Shape := ⟨5, ![128, 2048, 1, 4, 64]⟩
abbrev S128x2048x4x64 : Shape := ⟨4, ![128, 2048, 4, 64]⟩
abbrev S128x2056x4x64 : Shape := ⟨4, ![128, 2056, 4, 64]⟩
abbrev S1x128x8x4 : Shape := ⟨4, ![1, 128, 8, 4]⟩
abbrev S3x128x8x4 : Shape := ⟨4, ![3, 128, 8, 4]⟩
abbrev S3x128x8x4x1 : Shape := ⟨5, ![3, 128, 8, 4, 1]⟩
abbrev S1x128x8x4x64 : Shape := ⟨5, ![1, 128, 8, 4, 64]⟩
abbrev S3x128x8x4x64 : Shape := ⟨5, ![3, 128, 8, 4, 64]⟩
abbrev S128x8x256 : Shape := ⟨3, ![128, 8, 256]⟩

abbrev nBuf : Space → Nat
  | .hbm => 253
  | .vmem => 0
  | .smem => 0
  | _ => 0

abbrev hbmTy0_0 (i : Nat) : BufTy := match i % 128 with
  | 0 => ⟨S128x8x3x4x64, .f32⟩
  | 1 => ⟨S128x8x3x4x64, .f32⟩
  | 2 => ⟨S128x8x3x4x64, .f32⟩
  | 3 => ⟨S2x128x128x2x4x64, .f32⟩
  | 4 => ⟨S2x128x512x2x4x64, .f32⟩
  | 5 => ⟨S2x128x2048x2x4x64, .f32⟩
  | 6 => ⟨S128x8x1x4x64, .f32⟩
  | 7 => ⟨S128x8x4x64, .f32⟩
  | 8 => ⟨S128x8x1x4x64, .f32⟩
  | 9 => ⟨S128x8x4x64, .f32⟩
  | 10 => ⟨S128x8x1x4x64, .f32⟩
  | 11 => ⟨S128x8x4x64, .f32⟩
  | 12 => ⟨S1x128x128x2x4x64, .f32⟩
  | 13 => ⟨S128x128x2x4x64, .f32⟩
  | 14 => ⟨S128x128x1x4x64, .f32⟩
  | 15 => ⟨S128x128x4x64, .f32⟩
  | 16 => ⟨S128x136x4x64, .f32⟩
  | 17 => ⟨S128x128x1x4x64, .f32⟩
  | 18 => ⟨S128x128x4x64, .f32⟩
  | 19 => ⟨S128x136x4x64, .f32⟩
  | 20 => ⟨S8, .i32⟩
  | 21 => ⟨S8x1, .i32⟩
  | 22 => ⟨S_, .i32⟩
  | 23 => ⟨S8x1, .i32⟩
  | 24 => ⟨S8x1, .i32⟩
  | 25 => ⟨S129, .i32⟩
  | 26 => ⟨S1x129, .i32⟩
  | 27 => ⟨S_, .i32⟩
  | 28 => ⟨S1x129, .i32⟩
  | 29 => ⟨S1x129, .i32⟩
  | 30 => ⟨S8x129, .i32⟩
  | 31 => ⟨S8x129, .i32⟩
  | 32 => ⟨S8x129, .i32⟩
  | 33 => ⟨S_, .i32⟩
  | 34 => ⟨S8x129, .i32⟩
  | 35 => ⟨S8x129, .i1⟩
  | 36 => ⟨S_, .i32⟩
  | 37 => ⟨S8x129, .i32⟩
  | 38 => ⟨S8x129, .i32⟩
  | 39 => ⟨S_, .i32⟩
  | 40 => ⟨S8x129, .i32⟩
  | 41 => ⟨S8x129, .i1⟩
  | 42 => ⟨S_, .i32⟩
  | 43 => ⟨S8x129, .i32⟩
  | 44 => ⟨S8x129, .i32⟩
  | 45 => ⟨S8x129, .i32⟩
  | 46 => ⟨S8x129x1, .i32⟩
  | 47 => ⟨S128x8x129x4x64, .f32⟩
  | 48 => ⟨S_, .i32⟩
  | 49 => ⟨S8x129, .i32⟩
  | 50 => ⟨S8x129, .i1⟩
  | 51 => ⟨S_, .i32⟩
  | 52 => ⟨S8x129, .i32⟩
  | 53 => ⟨S8x129, .i32⟩
  | 54 => ⟨S8x129, .i32⟩
  | 55 => ⟨S8x129x1, .i32⟩
  | 56 => ⟨S128x8x129x4x64, .f32⟩
  | 57 => ⟨S128x8x4x129, .f32⟩
  | 58 => ⟨S1x8x1x129, .i1⟩
  | 59 => ⟨S_, .f32⟩
  | 60 => ⟨S_, .f32⟩
  | 61 => ⟨S128x8x4x129, .i1⟩
  | 62 => ⟨S128x8x4x129, .f32⟩
  | 63 => ⟨S128x8x4x129, .f32⟩
  | 64 => ⟨S_, .f32⟩
  | 65 => ⟨S128x8x4, .f32⟩
  | 66 => ⟨S128x8x4x1, .f32⟩
  | 67 => ⟨S128x8x4x129, .f32⟩
  | 68 => ⟨S128x8x4x129, .f32⟩
  | 69 => ⟨S128x8x4x129, .f32⟩
  | 70 => ⟨S_, .f32⟩
  | 71 => ⟨S128x8x4, .f32⟩
  | 72 => ⟨S128x8x4x1, .f32⟩
  | 73 => ⟨S128x8x4x129, .f32⟩
  | 74 => ⟨S128x8x4x129, .f32⟩
  | 75 => ⟨S128x8x4x64, .f32⟩
  | 76 => ⟨S128x8x4x1, .f32⟩
  | 77 => ⟨S128x8x4x1, .f32⟩
  | 78 => ⟨S128x8x4, .f32⟩
  | 79 => ⟨S128x8x1x4x64, .f32⟩
  | 80 => ⟨S128x8x4x64, .f32⟩
  | 81 => ⟨S128x8x1x4x64, .f32⟩
  | 82 => ⟨S128x8x4x64, .f32⟩
  | 83 => ⟨S128x8x1x4x64, .f32⟩
  | 84 => ⟨S128x8x4x64, .f32⟩
  | 85 => ⟨S1x128x512x2x4x64, .f32⟩
  | 86 => ⟨S128x512x2x4x64, .f32⟩
  | 87 => ⟨S128x512x1x4x64, .f32⟩
  | 88 => ⟨S128x512x4x64, .f32⟩
  | 89 => ⟨S128x520x4x64, .f32⟩
  | 90 => ⟨S128x512x1x4x64, .f32⟩
  | 91 => ⟨S128x512x4x64, .f32⟩
  | 92 => ⟨S128x520x4x64, .f32⟩
  | 93 => ⟨S8, .i32⟩
  | 94 => ⟨S8x1, .i32⟩
  | 95 => ⟨S_, .i32⟩
  | 96 => ⟨S8x1, .i32⟩
  | 97 => ⟨S8x1, .i32⟩
  | 98 => ⟨S129, .i32⟩
  | 99 => ⟨S1x129, .i32⟩
  | 100 => ⟨S_, .i32⟩
  | 101 => ⟨S1x129, .i32⟩
  | 102 => ⟨S1x129, .i32⟩
  | 103 => ⟨S8x129, .i32⟩
  | 104 => ⟨S8x129, .i32⟩
  | 105 => ⟨S8x129, .i32⟩
  | 106 => ⟨S_, .i32⟩
  | 107 => ⟨S8x129, .i32⟩
  | 108 => ⟨S8x129, .i1⟩
  | 109 => ⟨S_, .i32⟩
  | 110 => ⟨S8x129, .i32⟩
  | 111 => ⟨S8x129, .i32⟩
  | 112 => ⟨S_, .i32⟩
  | 113 => ⟨S8x129, .i32⟩
  | 114 => ⟨S8x129, .i1⟩
  | 115 => ⟨S_, .i32⟩
  | 116 => ⟨S8x129, .i32⟩
  | 117 => ⟨S8x129, .i32⟩
  | 118 => ⟨S8x129, .i32⟩
  | 119 => ⟨S8x129x1, .i32⟩
  | 120 => ⟨S128x8x129x4x64, .f32⟩
  | 121 => ⟨S_, .i32⟩
  | 122 => ⟨S8x129, .i32⟩
  | 123 => ⟨S8x129, .i1⟩
  | 124 => ⟨S_, .i32⟩
  | 125 => ⟨S8x129, .i32⟩
  | 126 => ⟨S8x129, .i32⟩
  | 127 => ⟨S8x129, .i32⟩
  | _ => ⟨S128x8x3x4x64, .f32⟩

abbrev hbmTy0_1 (i : Nat) : BufTy := match i % 128 with
  | 0 => ⟨S8x129x1, .i32⟩
  | 1 => ⟨S128x8x129x4x64, .f32⟩
  | 2 => ⟨S128x8x4x129, .f32⟩
  | 3 => ⟨S1x8x1x129, .i1⟩
  | 4 => ⟨S_, .f32⟩
  | 5 => ⟨S_, .f32⟩
  | 6 => ⟨S128x8x4x129, .i1⟩
  | 7 => ⟨S128x8x4x129, .f32⟩
  | 8 => ⟨S128x8x4x129, .f32⟩
  | 9 => ⟨S_, .f32⟩
  | 10 => ⟨S128x8x4, .f32⟩
  | 11 => ⟨S128x8x4x1, .f32⟩
  | 12 => ⟨S128x8x4x129, .f32⟩
  | 13 => ⟨S128x8x4x129, .f32⟩
  | 14 => ⟨S128x8x4x129, .f32⟩
  | 15 => ⟨S_, .f32⟩
  | 16 => ⟨S128x8x4, .f32⟩
  | 17 => ⟨S128x8x4x1, .f32⟩
  | 18 => ⟨S128x8x4x129, .f32⟩
  | 19 => ⟨S128x8x4x129, .f32⟩
  | 20 => ⟨S128x8x4x64, .f32⟩
  | 21 => ⟨S128x8x4x1, .f32⟩
  | 22 => ⟨S128x8x4x1, .f32⟩
  | 23 => ⟨S128x8x4, .f32⟩
  | 24 => ⟨S128x8x1x4x64, .f32⟩
  | 25 => ⟨S128x8x4x64, .f32⟩
  | 26 => ⟨S128x8x1x4x64, .f32⟩
  | 27 => ⟨S128x8x4x64, .f32⟩
  | 28 => ⟨S128x8x1x4x64, .f32⟩
  | 29 => ⟨S128x8x4x64, .f32⟩
  | 30 => ⟨S1x128x2048x2x4x64, .f32⟩
  | 31 => ⟨S128x2048x2x4x64, .f32⟩
  | 32 => ⟨S128x2048x1x4x64, .f32⟩
  | 33 => ⟨S128x2048x4x64, .f32⟩
  | 34 => ⟨S128x2056x4x64, .f32⟩
  | 35 => ⟨S128x2048x1x4x64, .f32⟩
  | 36 => ⟨S128x2048x4x64, .f32⟩
  | 37 => ⟨S128x2056x4x64, .f32⟩
  | 38 => ⟨S8, .i32⟩
  | 39 => ⟨S8x1, .i32⟩
  | 40 => ⟨S_, .i32⟩
  | 41 => ⟨S8x1, .i32⟩
  | 42 => ⟨S8x1, .i32⟩
  | 43 => ⟨S129, .i32⟩
  | 44 => ⟨S1x129, .i32⟩
  | 45 => ⟨S_, .i32⟩
  | 46 => ⟨S1x129, .i32⟩
  | 47 => ⟨S1x129, .i32⟩
  | 48 => ⟨S8x129, .i32⟩
  | 49 => ⟨S8x129, .i32⟩
  | 50 => ⟨S8x129, .i32⟩
  | 51 => ⟨S_, .i32⟩
  | 52 => ⟨S8x129, .i32⟩
  | 53 => ⟨S8x129, .i1⟩
  | 54 => ⟨S_, .i32⟩
  | 55 => ⟨S8x129, .i32⟩
  | 56 => ⟨S8x129, .i32⟩
  | 57 => ⟨S_, .i32⟩
  | 58 => ⟨S8x129, .i32⟩
  | 59 => ⟨S8x129, .i1⟩
  | 60 => ⟨S_, .i32⟩
  | 61 => ⟨S8x129, .i32⟩
  | 62 => ⟨S8x129, .i32⟩
  | 63 => ⟨S8x129, .i32⟩
  | 64 => ⟨S8x129x1, .i32⟩
  | 65 => ⟨S128x8x129x4x64, .f32⟩
  | 66 => ⟨S_, .i32⟩
  | 67 => ⟨S8x129, .i32⟩
  | 68 => ⟨S8x129, .i1⟩
  | 69 => ⟨S_, .i32⟩
  | 70 => ⟨S8x129, .i32⟩
  | 71 => ⟨S8x129, .i32⟩
  | 72 => ⟨S8x129, .i32⟩
  | 73 => ⟨S8x129x1, .i32⟩
  | 74 => ⟨S128x8x129x4x64, .f32⟩
  | 75 => ⟨S128x8x4x129, .f32⟩
  | 76 => ⟨S1x8x1x129, .i1⟩
  | 77 => ⟨S_, .f32⟩
  | 78 => ⟨S_, .f32⟩
  | 79 => ⟨S128x8x4x129, .i1⟩
  | 80 => ⟨S128x8x4x129, .f32⟩
  | 81 => ⟨S128x8x4x129, .f32⟩
  | 82 => ⟨S_, .f32⟩
  | 83 => ⟨S128x8x4, .f32⟩
  | 84 => ⟨S128x8x4x1, .f32⟩
  | 85 => ⟨S128x8x4x129, .f32⟩
  | 86 => ⟨S128x8x4x129, .f32⟩
  | 87 => ⟨S128x8x4x129, .f32⟩
  | 88 => ⟨S_, .f32⟩
  | 89 => ⟨S128x8x4, .f32⟩
  | 90 => ⟨S128x8x4x1, .f32⟩
  | 91 => ⟨S128x8x4x129, .f32⟩
  | 92 => ⟨S128x8x4x129, .f32⟩
  | 93 => ⟨S128x8x4x64, .f32⟩
  | 94 => ⟨S128x8x4x1, .f32⟩
  | 95 => ⟨S128x8x4x1, .f32⟩
  | 96 => ⟨S128x8x4, .f32⟩
  | 97 => ⟨S1x128x8x4, .f32⟩
  | 98 => ⟨S1x128x8x4, .f32⟩
  | 99 => ⟨S1x128x8x4, .f32⟩
  | 100 => ⟨S3x128x8x4, .f32⟩
  | 101 => ⟨S_, .f32⟩
  | 102 => ⟨S128x8x4, .f32⟩
  | 103 => ⟨S_, .f32⟩
  | 104 => ⟨S128x8x4, .f32⟩
  | 105 => ⟨S128x8x4, .f32⟩
  | 106 => ⟨S1x128x8x4, .f32⟩
  | 107 => ⟨S3x128x8x4, .f32⟩
  | 108 => ⟨S3x128x8x4, .f32⟩
  | 109 => ⟨S3x128x8x4, .f32⟩
  | 110 => ⟨S_, .f32⟩
  | 111 => ⟨S128x8x4, .f32⟩
  | 112 => ⟨S1x128x8x4, .f32⟩
  | 113 => ⟨S3x128x8x4, .f32⟩
  | 114 => ⟨S3x128x8x4, .f32⟩
  | 115 => ⟨S3x128x8x4x1, .f32⟩
  | 116 => ⟨S1x128x8x4x64, .f32⟩
  | 117 => ⟨S1x128x8x4x64, .f32⟩
  | 118 => ⟨S1x128x8x4x64, .f32⟩
  | 119 => ⟨S3x128x8x4x64, .f32⟩
  | 120 => ⟨S3x128x8x4x64, .f32⟩
  | 121 => ⟨S3x128x8x4x64, .f32⟩
  | 122 => ⟨S_, .f32⟩
  | 123 => ⟨S128x8x4x64, .f32⟩
  | 124 => ⟨S128x8x256, .f32⟩
  | _ => ⟨S128x8x3x4x64, .f32⟩

abbrev hbmTy (i : Nat) : BufTy := match i / 128 with
  | 0 => hbmTy0_0 i
  | 1 => hbmTy0_1 i
  | _ => ⟨S128x8x3x4x64, .f32⟩

abbrev bufTy : (tb : Table) → Fin (tcTables nBuf tb) → BufTy
  | .hbm, ⟨i, _⟩ => hbmTy i
  | _, _ => ⟨S128x8x3x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c_9 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_10 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_c_11 : Ref sig .tc := ⟨.hbm, 106, rfl⟩
abbrev main_v84 : Ref sig .tc := ⟨.hbm, 107, rfl⟩
abbrev main_v85 : Ref sig .tc := ⟨.hbm, 108, rfl⟩
abbrev main_c_12 : Ref sig .tc := ⟨.hbm, 109, rfl⟩
abbrev main_v86 : Ref sig .tc := ⟨.hbm, 110, rfl⟩
abbrev main_v87 : Ref sig .tc := ⟨.hbm, 111, rfl⟩
abbrev main_c_13 : Ref sig .tc := ⟨.hbm, 112, rfl⟩
abbrev main_v88 : Ref sig .tc := ⟨.hbm, 113, rfl⟩
abbrev main_v89 : Ref sig .tc := ⟨.hbm, 114, rfl⟩
abbrev main_c_14 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_c_15 : Ref sig .tc := ⟨.hbm, 121, rfl⟩
abbrev main_v95 : Ref sig .tc := ⟨.hbm, 122, rfl⟩
abbrev main_v96 : Ref sig .tc := ⟨.hbm, 123, rfl⟩
abbrev main_c_16 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_17 : Ref sig .tc := ⟨.hbm, 132, rfl⟩
abbrev main_call1_v0 : Ref sig .tc := ⟨.hbm, 133, rfl⟩
abbrev main_call1_v1 : Ref sig .tc := ⟨.hbm, 134, rfl⟩
abbrev main_call1_v2 : Ref sig .tc := ⟨.hbm, 135, rfl⟩
abbrev main_v104 : Ref sig .tc := ⟨.hbm, 136, rfl⟩
abbrev main_cst_18 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_19 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_c_20 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_c_21 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_c_22 : Ref sig .tc := ⟨.hbm, 179, rfl⟩
abbrev main_v143 : Ref sig .tc := ⟨.hbm, 180, rfl⟩
abbrev main_v144 : Ref sig .tc := ⟨.hbm, 181, rfl⟩
abbrev main_c_23 : Ref sig .tc := ⟨.hbm, 182, rfl⟩
abbrev main_v145 : Ref sig .tc := ⟨.hbm, 183, rfl⟩
abbrev main_v146 : Ref sig .tc := ⟨.hbm, 184, rfl⟩
abbrev main_c_24 : Ref sig .tc := ⟨.hbm, 185, rfl⟩
abbrev main_v147 : Ref sig .tc := ⟨.hbm, 186, rfl⟩
abbrev main_v148 : Ref sig .tc := ⟨.hbm, 187, rfl⟩
abbrev main_c_25 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_c_26 : Ref sig .tc := ⟨.hbm, 194, rfl⟩
abbrev main_v154 : Ref sig .tc := ⟨.hbm, 195, rfl⟩
abbrev main_v155 : Ref sig .tc := ⟨.hbm, 196, rfl⟩
abbrev main_c_27 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_cst_28 : Ref sig .tc := ⟨.hbm, 205, rfl⟩
abbrev main_call2_v0 : Ref sig .tc := ⟨.hbm, 206, rfl⟩
abbrev main_call2_v1 : Ref sig .tc := ⟨.hbm, 207, rfl⟩
abbrev main_call2_v2 : Ref sig .tc := ⟨.hbm, 208, rfl⟩
abbrev main_v163 : Ref sig .tc := ⟨.hbm, 209, rfl⟩
abbrev main_cst_29 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_30 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_cst_31 : Ref sig .tc := ⟨.hbm, 229, rfl⟩
abbrev main_v181 : Ref sig .tc := ⟨.hbm, 230, rfl⟩
abbrev main_cst_32 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_cst_33 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_cst_34 : Ref sig .tc := ⟨.hbm, 250, rfl⟩
abbrev main_v199 : Ref sig .tc := ⟨.hbm, 251, rfl⟩
abbrev main_v200 : Ref sig .tc := ⟨.hbm, 252, rfl⟩

abbrev nD : Nat := 1
abbrev τ : Topo := Topo.v7x

variable {F : FTy → Type} [FloatOps F]
-- ==== MixFfn.lean ====
abbrev S4x4096x1024 : Shape := ⟨3, ![4, 4096, 1024]⟩
abbrev S4x136x6144 : Shape := ⟨3, ![4, 136, 6144]⟩
abbrev S4x2x1024 : Shape := ⟨3, ![4, 2, 1024]⟩
abbrev S4x1024x2816 : Shape := ⟨3, ![4, 1024, 2816]⟩
abbrev S4x2816x1024 : Shape := ⟨3, ![4, 2816, 1024]⟩
abbrev S1024 : Shape := ⟨1, ![1024]⟩
abbrev S4x4096x512 : Shape := ⟨3, ![4, 4096, 512]⟩
abbrev S4x4096x256 : Shape := ⟨3, ![4, 4096, 256]⟩
abbrev S2x768x1024 : Shape := ⟨3, ![2, 768, 1024]⟩
abbrev S4x136x1x6144 : Shape := ⟨4, ![4, 136, 1, 6144]⟩
abbrev S4x2x1x1024 : Shape := ⟨4, ![4, 2, 1, 1024]⟩
abbrev S2x512x1024 : Shape := ⟨3, ![2, 512, 1024]⟩
abbrev S2x256x1024 : Shape := ⟨3, ![2, 256, 1024]⟩
abbrev S1x1024 : Shape := ⟨2, ![1, 1024]⟩
abbrev S1x512x1024 : Shape := ⟨3, ![1, 512, 1024]⟩
abbrev S1x1x1x1024 : Shape := ⟨4, ![1, 1, 1, 1024]⟩
abbrev S1x1024x2816 : Shape := ⟨3, ![1, 1024, 2816]⟩
abbrev S1x2816x1024 : Shape := ⟨3, ![1, 2816, 1024]⟩
abbrev S1x512x512 : Shape := ⟨3, ![1, 512, 512]⟩
abbrev S1x512x256 : Shape := ⟨3, ![1, 512, 256]⟩
abbrev S1x256x1024 : Shape := ⟨3, ![1, 256, 1024]⟩
abbrev S512x512 : Shape := ⟨2, ![512, 512]⟩
abbrev S512x1024 : Shape := ⟨2, ![512, 1024]⟩
abbrev S512x256 : Shape := ⟨2, ![512, 256]⟩
abbrev S256x1024 : Shape := ⟨2, ![256, 1024]⟩
abbrev S1x1x1024 : Shape := ⟨3, ![1, 1, 1024]⟩
abbrev S1x512 : Shape := ⟨2, ![1, 512]⟩
abbrev S1x512x1 : Shape := ⟨3, ![1, 512, 1]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 21
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S4x136x6144, .f32⟩
  | .hbm, ⟨2, _⟩ => ⟨S4x2x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S1024, .f32⟩
  | .hbm, ⟨7, _⟩ => ⟨S4x4096x512, .f32⟩
  | .hbm, ⟨8, _⟩ => ⟨S4x4096x256, .f32⟩
  | .hbm, ⟨9, _⟩ => ⟨S2x768x1024, .f32⟩
  | .hbm, ⟨10, _⟩ => ⟨S4x136x1x6144, .f32⟩
  | .hbm, ⟨11, _⟩ => ⟨S4x2x1x1024, .f32⟩
  | .hbm, ⟨12, _⟩ => ⟨S4x1024x2816, .bf16⟩
  | .hbm, ⟨13, _⟩ => ⟨S4x1024x2816, .bf16⟩
  | .hbm, ⟨14, _⟩ => ⟨S4x2816x1024, .bf16⟩
  | .hbm, ⟨15, _⟩ => ⟨S2x512x1024, .f32⟩
  | .hbm, ⟨16, _⟩ => ⟨S2x512x1024, .bf16⟩
  | .hbm, ⟨17, _⟩ => ⟨S2x256x1024, .f32⟩
  | .hbm, ⟨18, _⟩ => ⟨S2x256x1024, .bf16⟩
  | .hbm, ⟨19, _⟩ => ⟨S1x1024, .f32⟩
  | .hbm, ⟨20, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1024x2816, .bf16⟩
  | .local _ .vmem, ⟨10, _⟩ => ⟨S1x1024x2816, .bf16⟩
  | .local _ .vmem, ⟨11, _⟩ => ⟨S1x2816x1024, .bf16⟩
  | .local _ .vmem, ⟨12, _⟩ => ⟨S1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x512x512, .f32⟩
  | .local _ .vmem, ⟨16, _⟩ => ⟨S1x512x512, .f32⟩
  | .local _ .vmem, ⟨17, _⟩ => ⟨S1x512x256, .f32⟩
  | .local _ .vmem, ⟨18, _⟩ => ⟨S1x512x256, .f32⟩
  | .local _ .vmem, ⟨19, _⟩ => ⟨S1x512x1024, .bf16⟩
  | .local _ .vmem, ⟨20, _⟩ => ⟨S1x256x1024, .bf16⟩
  | .local _ .vmem, ⟨21, _⟩ => ⟨S1x512x1024, .f32⟩
  | .local _ .vmem, ⟨22, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  let c3_i32 : BitVec 32 := 3#32
  let c0_i32_1 : BitVec 32 := 0#32
  ![c0_i32.toNat, v0.toNat, c0_i32_0.toNat, c3_i32.toNat]

def cc0_transform_2 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  let c4_i32 : BitVec 32 := 4#32
  let c0_i32_1 : BitVec 32 := 0#32
  ![c0_i32.toNat, v0.toNat, c0_i32_0.toNat, c4_i32.toNat]

def cc0_transform_3 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  let c5_i32 : BitVec 32 := 5#32
  let c0_i32_1 : BitVec 32 := 0#32
  ![c0_i32.toNat, v0.toNat, c0_i32_0.toNat, c5_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  let c2_i32 : BitVec 32 := 2#32
  let c0_i32_1 : BitVec 32 := 0#32
  ![c0_i32.toNat, v0.toNat, c0_i32_0.toNat, c2_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MixFfnReferenceIdeal.lean ====
abbrev S4x4096x1024 : Shape := ⟨3, ![4, 4096, 1024]⟩
abbrev S4x136x6144 : Shape := ⟨3, ![4, 136, 6144]⟩
abbrev S4x2x1024 : Shape := ⟨3, ![4, 2, 1024]⟩
abbrev S4x1024x2816 : Shape := ⟨3, ![4, 1024, 2816]⟩
abbrev S4x2816x1024 : Shape := ⟨3, ![4, 2816, 1024]⟩
abbrev S1024 : Shape := ⟨1, ![1024]⟩
abbrev S4x4096x512 : Shape := ⟨3, ![4, 4096, 512]⟩
abbrev S4x4096x256 : Shape := ⟨3, ![4, 4096, 256]⟩
abbrev S2x768x1024 : Shape := ⟨3, ![2, 768, 1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S4x4096x768 : Shape := ⟨3, ![4, 4096, 768]⟩
abbrev S1x768x1024 : Shape := ⟨3, ![1, 768, 1024]⟩
abbrev S768x1024 : Shape := ⟨2, ![768, 1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x4096x2816 : Shape := ⟨3, ![4, 4096, 2816]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x136x6144, .f32⟩
  | .hbm, ⟨2, _⟩ => ⟨S4x2x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S1024, .f32⟩
  | .hbm, ⟨7, _⟩ => ⟨S4x4096x512, .f32⟩
  | .hbm, ⟨8, _⟩ => ⟨S4x4096x256, .f32⟩
  | .hbm, ⟨9, _⟩ => ⟨S2x768x1024, .f32⟩
  | .hbm, ⟨10, _⟩ => ⟨S1x4x6144, .f32⟩
  | .hbm, ⟨11, _⟩ => ⟨S4x6144, .f32⟩
  | .hbm, ⟨12, _⟩ => ⟨S4x1x6144, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x4096x768, .f32⟩
  | .hbm, ⟨20, _⟩ => ⟨S1x768x1024, .f32⟩
  | .hbm, ⟨21, _⟩ => ⟨S768x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S1024, .f32⟩
  | .hbm, ⟨28, _⟩ => ⟨S4x4096x1024, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x1, .f32⟩
  | .hbm, ⟨39, _⟩ => ⟨S4x4096x1024, .f32⟩
  | .hbm, ⟨40, _⟩ => ⟨S4x4096x1024, .f32⟩
  | .hbm, ⟨41, _⟩ => ⟨S1x1x1024, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S4x1x1024, .f32⟩
  | .hbm, ⟨46, _⟩ => ⟨S4x1x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S1x1024x2816, .f32⟩
  | .hbm, ⟨52, _⟩ => ⟨S1024x2816, .f32⟩
  | .hbm, ⟨53, _⟩ => ⟨S1x1024x2816, .f32⟩
  | .hbm, ⟨54, _⟩ => ⟨S1024x2816, .f32⟩
  | .hbm, ⟨55, _⟩ => ⟨S1x2816x1024, .f32⟩
  | .hbm, ⟨56, _⟩ => ⟨S2816x1024, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S_, .f32⟩
  | .hbm, ⟨61, _⟩ => ⟨S4x4096x2816, .f32⟩
  | .hbm, ⟨62, _⟩ => ⟨S4x4096x2816, .f32⟩
  | .hbm, ⟨63, _⟩ => ⟨S_, .f32⟩
  | .hbm, ⟨64, _⟩ => ⟨S4x4096x2816, .f32⟩
  | .hbm, ⟨65, _⟩ => ⟨S4x4096x2816, .f32⟩
  | .hbm, ⟨66, _⟩ => ⟨S4x4096x2816, .f32⟩
  | .hbm, ⟨67, _⟩ => ⟨S4x4096x2816, .f32⟩
  | .hbm, ⟨68, _⟩ => ⟨S4x4096x2816, .f32⟩
  | .hbm, ⟨69, _⟩ => ⟨S4x4096x1024, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]
-- ==== Ffn.lean ====
abbrev S4x4096x1024 : Shape := ⟨3, ![4, 4096, 1024]⟩
abbrev S4x136x6144 : Shape := ⟨3, ![4, 136, 6144]⟩
abbrev S4x2x1024 : Shape := ⟨3, ![4, 2, 1024]⟩
abbrev S4x1024x2816 : Shape := ⟨3, ![4, 1024, 2816]⟩
abbrev S4x2816x1024 : Shape := ⟨3, ![4, 2816, 1024]⟩
abbrev S1024 : Shape := ⟨1, ![1024]⟩
abbrev S4x136x1x6144 : Shape := ⟨4, ![4, 136, 1, 6144]⟩
abbrev S4x2x1x1024 : Shape := ⟨4, ![4, 2, 1, 1024]⟩
abbrev S1x1024 : Shape := ⟨2, ![1, 1024]⟩
abbrev S1x512x1024 : Shape := ⟨3, ![1, 512, 1024]⟩
abbrev S1x1x1x1024 : Shape := ⟨4, ![1, 1, 1, 1024]⟩
abbrev S1x1024x2816 : Shape := ⟨3, ![1, 1024, 2816]⟩
abbrev S1x2816x1024 : Shape := ⟨3, ![1, 2816, 1024]⟩
abbrev S1x1x1024 : Shape := ⟨3, ![1, 1, 1024]⟩
abbrev S1x512 : Shape := ⟨2, ![1, 512]⟩
abbrev S1x512x1 : Shape := ⟨3, ![1, 512, 1]⟩
abbrev S512x1024 : Shape := ⟨2, ![512, 1024]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 14
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x136x6144, .f32⟩
  | .hbm, ⟨2, _⟩ => ⟨S4x2x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S1024, .f32⟩
  | .hbm, ⟨7, _⟩ => ⟨S4x136x1x6144, .f32⟩
  | .hbm, ⟨8, _⟩ => ⟨S4x2x1x1024, .f32⟩
  | .hbm, ⟨9, _⟩ => ⟨S4x1024x2816, .bf16⟩
  | .hbm, ⟨10, _⟩ => ⟨S4x1024x2816, .bf16⟩
  | .hbm, ⟨11, _⟩ => ⟨S4x2816x1024, .bf16⟩
  | .hbm, ⟨12, _⟩ => ⟨S1x1024, .f32⟩
  | .hbm, ⟨13, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1024x2816, .bf16⟩
  | .local _ .vmem, ⟨10, _⟩ => ⟨S1x1024x2816, .bf16⟩
  | .local _ .vmem, ⟨11, _⟩ => ⟨S1x2816x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c1_i32 : BitVec 32 := 1#32
  let c0_i32 : BitVec 32 := 0#32
  let c3_i32 : BitVec 32 := 3#32
  let c0_i32_0 : BitVec 32 := 0#32
  ![c1_i32.toNat, v0.toNat, c0_i32.toNat, c3_i32.toNat]

def cc0_transform_2 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c1_i32 : BitVec 32 := 1#32
  let c0_i32 : BitVec 32 := 0#32
  let c4_i32 : BitVec 32 := 4#32
  let c0_i32_0 : BitVec 32 := 0#32
  ![c1_i32.toNat, v0.toNat, c0_i32.toNat, c4_i32.toNat]

def cc0_transform_3 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c1_i32 : BitVec 32 := 1#32
  let c0_i32 : BitVec 32 := 0#32
  let c5_i32 : BitVec 32 := 5#32
  let c0_i32_0 : BitVec 32 := 0#32
  ![c1_i32.toNat, v0.toNat, c0_i32.toNat, c5_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnReferenceIdeal.lean ====
abbrev S4x4096x1024 : Shape := ⟨3, ![4, 4096, 1024]⟩
abbrev S4x136x6144 : Shape := ⟨3, ![4, 136, 6144]⟩
abbrev S4x2x1024 : Shape := ⟨3, ![4, 2, 1024]⟩
abbrev S4x1024x2816 : Shape := ⟨3, ![4, 1024, 2816]⟩
abbrev S4x2816x1024 : Shape := ⟨3, ![4, 2816, 1024]⟩
abbrev S1024 : Shape := ⟨1, ![1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x4096x2816 : Shape := ⟨3, ![4, 4096, 2816]⟩

abbrev nBuf : Space → Nat
  | .hbm => 63
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x136x6144, .f32⟩
  | .hbm, ⟨2, _⟩ => ⟨S4x2x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S1024, .f32⟩
  | .hbm, ⟨7, _⟩ => ⟨S1x4x6144, .f32⟩
  | .hbm, ⟨8, _⟩ => ⟨S4x6144, .f32⟩
  | .hbm, ⟨9, _⟩ => ⟨S4x1x6144, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S1x1x1024, .f32⟩
  | .hbm, ⟨17, _⟩ => ⟨S1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S1x1024x2816, .f32⟩
  | .hbm, ⟨42, _⟩ => ⟨S1024x2816, .f32⟩
  | .hbm, ⟨43, _⟩ => ⟨S1x1024x2816, .f32⟩
  | .hbm, ⟨44, _⟩ => ⟨S1024x2816, .f32⟩
  | .hbm, ⟨45, _⟩ => ⟨S1x2816x1024, .f32⟩
  | .hbm, ⟨46, _⟩ => ⟨S2816x1024, .f32⟩
  | .hbm, ⟨47, _⟩ => ⟨S4x4096x2816, .f32⟩
  | .hbm, ⟨48, _⟩ => ⟨S4x4096x2816, .f32⟩
  | .hbm, ⟨49, _⟩ => ⟨S4x4096x2816, .f32⟩
  | .hbm, ⟨50, _⟩ => ⟨S_, .f32⟩
  | .hbm, ⟨51, _⟩ => ⟨S4x4096x2816, .f32⟩
  | .hbm, ⟨52, _⟩ => ⟨S4x4096x2816, .f32⟩
  | .hbm, ⟨53, _⟩ => ⟨S_, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S4x4096x2816, .f32⟩
  | .hbm, ⟨58, _⟩ => ⟨S4x4096x2816, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== FfnFinal.lean ====
abbrev S4x4096x1024 : Shape := ⟨3, ![4, 4096, 1024]⟩
abbrev S4x136x6144 : Shape := ⟨3, ![4, 136, 6144]⟩
abbrev S4x2x1024 : Shape := ⟨3, ![4, 2, 1024]⟩
abbrev S4x1024x2816 : Shape := ⟨3, ![4, 1024, 2816]⟩
abbrev S4x2816x1024 : Shape := ⟨3, ![4, 2816, 1024]⟩
abbrev S1024 : Shape := ⟨1, ![1024]⟩
abbrev S4x136x1x6144 : Shape := ⟨4, ![4, 136, 1, 6144]⟩
abbrev S4x2x1x1024 : Shape := ⟨4, ![4, 2, 1, 1024]⟩
abbrev S1x1024 : Shape := ⟨2, ![1, 1024]⟩
abbrev S1x512x1024 : Shape := ⟨3, ![1, 512, 1024]⟩
abbrev S1x1x1x1024 : Shape := ⟨4, ![1, 1, 1, 1024]⟩
abbrev S1x1024x2816 : Shape := ⟨3, ![1, 1024, 2816]⟩
abbrev S1x2816x1024 : Shape := ⟨3, ![1, 2816, 1024]⟩
abbrev S1x1x1024 : Shape := ⟨3, ![1, 1, 1024]⟩
abbrev S1x512 : Shape := ⟨2, ![1, 512]⟩
abbrev S1x512x1 : Shape := ⟨3, ![1, 512, 1]⟩
abbrev S512x1024 : Shape := ⟨2, ![512, 1024]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 14
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x136x6144, .f32⟩
  | .hbm, ⟨2, _⟩ => ⟨S4x2x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S1024, .f32⟩
  | .hbm, ⟨7, _⟩ => ⟨S4x136x1x6144, .f32⟩
  | .hbm, ⟨8, _⟩ => ⟨S4x2x1x1024, .f32⟩
  | .hbm, ⟨9, _⟩ => ⟨S4x1024x2816, .bf16⟩
  | .hbm, ⟨10, _⟩ => ⟨S4x1024x2816, .bf16⟩
  | .hbm, ⟨11, _⟩ => ⟨S4x2816x1024, .bf16⟩
  | .hbm, ⟨12, _⟩ => ⟨S1x1024, .f32⟩
  | .hbm, ⟨13, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1024x2816, .bf16⟩
  | .local _ .vmem, ⟨10, _⟩ => ⟨S1x1024x2816, .bf16⟩
  | .local _ .vmem, ⟨11, _⟩ => ⟨S1x2816x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c3_i32 : BitVec 32 := 3#32
  let c0_i32 : BitVec 32 := 0#32
  let c3_i32_0 : BitVec 32 := 3#32
  let c0_i32_1 : BitVec 32 := 0#32
  ![c3_i32.toNat, v0.toNat, c0_i32.toNat, c3_i32_0.toNat]

def cc0_transform_2 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c3_i32 : BitVec 32 := 3#32
  let c0_i32 : BitVec 32 := 0#32
  let c4_i32 : BitVec 32 := 4#32
  let c0_i32_0 : BitVec 32 := 0#32
  ![c3_i32.toNat, v0.toNat, c0_i32.toNat, c4_i32.toNat]

def cc0_transform_3 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c3_i32 : BitVec 32 := 3#32
  let c0_i32 : BitVec 32 := 0#32
  let c5_i32 : BitVec 32 := 5#32
  let c0_i32_0 : BitVec 32 := 0#32
  ![c3_i32.toNat, v0.toNat, c0_i32.toNat, c5_i32.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnFinalReferenceIdeal.lean ====
abbrev S4x4096x1024 : Shape := ⟨3, ![4, 4096, 1024]⟩
abbrev S4x136x6144 : Shape := ⟨3, ![4, 136, 6144]⟩
abbrev S4x2x1024 : Shape := ⟨3, ![4, 2, 1024]⟩
abbrev S4x1024x2816 : Shape := ⟨3, ![4, 1024, 2816]⟩
abbrev S4x2816x1024 : Shape := ⟨3, ![4, 2816, 1024]⟩
abbrev S1024 : Shape := ⟨1, ![1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x4096x2816 : Shape := ⟨3, ![4, 4096, 2816]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x136x6144, .f32⟩
  | .hbm, ⟨2, _⟩ => ⟨S4x2x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S1024, .f32⟩
  | .hbm, ⟨7, _⟩ => ⟨S1x4x6144, .f32⟩
  | .hbm, ⟨8, _⟩ => ⟨S4x6144, .f32⟩
  | .hbm, ⟨9, _⟩ => ⟨S4x1x6144, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S1x1x1024, .f32⟩
  | .hbm, ⟨17, _⟩ => ⟨S1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S1x1024x2816, .f32⟩
  | .hbm, ⟨42, _⟩ => ⟨S1024x2816, .f32⟩
  | .hbm, ⟨43, _⟩ => ⟨S1x1024x2816, .f32⟩
  | .hbm, ⟨44, _⟩ => ⟨S1024x2816, .f32⟩
  | .hbm, ⟨45, _⟩ => ⟨S1x2816x1024, .f32⟩
  | .hbm, ⟨46, _⟩ => ⟨S2816x1024, .f32⟩
  | .hbm, ⟨47, _⟩ => ⟨S4x4096x2816, .f32⟩
  | .hbm, ⟨48, _⟩ => ⟨S4x4096x2816, .f32⟩
  | .hbm, ⟨49, _⟩ => ⟨S4x4096x2816, .f32⟩
  | .hbm, ⟨50, _⟩ => ⟨S_, .f32⟩
  | .hbm, ⟨51, _⟩ => ⟨S4x4096x2816, .f32⟩
  | .hbm, ⟨52, _⟩ => ⟨S4x4096x2816, .f32⟩
  | .hbm, ⟨53, _⟩ => ⟨S_, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S4x4096x2816, .f32⟩
  | .hbm, ⟨58, _⟩ => ⟨S4x4096x2816, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S4x4096x1, .f32⟩
  | .hbm, ⟨74, _⟩ => ⟨S4x4096x1024, .f32⟩
  | .hbm, ⟨75, _⟩ => ⟨S4x4096x1024, .f32⟩
  | .hbm, ⟨76, _⟩ => ⟨S1x1x1024, .f32⟩
  | .hbm, ⟨77, _⟩ => ⟨S4x4096x1024, .f32⟩
  | .hbm, ⟨78, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== InProj.lean ====
abbrev S128x8x1024 : Shape := ⟨3, ![128, 8, 1024]⟩
abbrev S4x136x6144 : Shape := ⟨3, ![4, 136, 6144]⟩
abbrev S4x2x1024 : Shape := ⟨3, ![4, 2, 1024]⟩
abbrev S2x1024x3328 : Shape := ⟨3, ![2, 1024, 3328]⟩
abbrev S4x136x1x6144 : Shape := ⟨4, ![4, 136, 1, 6144]⟩
abbrev S4x2x1x1024 : Shape := ⟨4, ![4, 2, 1, 1024]⟩
abbrev S8 : Shape := ⟨1, ![8]⟩
abbrev S_ : Shape := ⟨0, ![]⟩
abbrev S8x1 : Shape := ⟨2, ![8, 1]⟩
abbrev S1x8 : Shape := ⟨2, ![1, 8]⟩
abbrev S8x8 : Shape := ⟨2, ![8, 8]⟩
abbrev S8x48 : Shape := ⟨2, ![8, 48]⟩
abbrev S8x64 : Shape := ⟨2, ![8, 64]⟩
abbrev S1x8x1x64 : Shape := ⟨4, ![1, 8, 1, 64]⟩
abbrev S1x8x2x64 : Shape := ⟨4, ![1, 8, 2, 64]⟩
abbrev S8x128 : Shape := ⟨2, ![8, 128]⟩
abbrev S1x8x128 : Shape := ⟨3, ![1, 8, 128]⟩
abbrev S128x8x512 : Shape := ⟨3, ![128, 8, 512]⟩
abbrev S128x8x768 : Shape := ⟨3, ![128, 8, 768]⟩
abbrev S64x8x1024 : Shape := ⟨3, ![64, 8, 1024]⟩
abbrev S1x64x1x1024 : Shape := ⟨4, ![1, 64, 1, 1024]⟩
abbrev S1x1x1x1024 : Shape := ⟨4, ![1, 1, 1, 1024]⟩
abbrev S1x1024x3328 : Shape := ⟨3, ![1, 1024, 3328]⟩
abbrev S64x8x512 : Shape := ⟨3, ![64, 8, 512]⟩
abbrev S64x8x768 : Shape := ⟨3, ![64, 8, 768]⟩
abbrev S1x1024 : Shape := ⟨2, ![1, 1024]⟩
abbrev S64x1x1024 : Shape := ⟨3, ![64, 1, 1024]⟩
abbrev S64x8 : Shape := ⟨2, ![64, 8]⟩
abbrev S64x8x1 : Shape := ⟨3, ![64, 8, 1]⟩
abbrev S1x1x1024 : Shape := ⟨3, ![1, 1, 1024]⟩
abbrev S512x1024 : Shape := ⟨2, ![512, 1024]⟩
abbrev S1x1024x512 : Shape := ⟨3, ![1, 1024, 512]⟩
abbrev S1024x512 : Shape := ⟨2, ![1024, 512]⟩
abbrev S512x512 : Shape := ⟨2, ![512, 512]⟩
abbrev S64x8x128 : Shape := ⟨3, ![64, 8, 128]⟩
abbrev S512x128 : Shape := ⟨2, ![512, 128]⟩
abbrev S1x1024x256 : Shape := ⟨3, ![1, 1024, 256]⟩
abbrev S1024x256 : Shape := ⟨2, ![1024, 256]⟩
abbrev S512x256 : Shape := ⟨2, ![512, 256]⟩
abbrev S64x8x256 : Shape := ⟨3, ![64, 8, 256]⟩

abbrev nBuf : Space → Nat
  | .hbm => 52
  | .vmem => 19
  | .smem => 0
  | _ => 0

abbrev bufTy : (tb : Table) → Fin (tcTables nBuf tb) → BufTy
  | .hbm, ⟨0, _⟩ => ⟨S128x8x1024, .f32⟩
  | .hbm, ⟨1, _⟩ => ⟨S4x136x6144, .f32⟩
  | .hbm, ⟨2, _⟩ => ⟨S4x2x1024, .f32⟩
  | .hbm, ⟨3, _⟩ => ⟨S2x1024x3328, .f32⟩
  | .hbm, ⟨4, _⟩ => ⟨S4x136x1x6144, .f32⟩
  | .hbm, ⟨5, _⟩ => ⟨S4x2x1x1024, .f32⟩
  | .hbm, ⟨6, _⟩ => ⟨S2x1024x3328, .bf16⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8x1, .f32⟩
  | .hbm, ⟨20, _⟩ => ⟨S1x8, .f32⟩
  | .hbm, ⟨21, _⟩ => ⟨S8x8, .f32⟩
  | .hbm, ⟨22, _⟩ => ⟨S8x8, .f32⟩
  | .hbm, ⟨23, _⟩ => ⟨S8x8, .f32⟩
  | .hbm, ⟨24, _⟩ => ⟨S8x8, .f32⟩
  | .hbm, ⟨25, _⟩ => ⟨S8x8, .f32⟩
  | .hbm, ⟨26, _⟩ => ⟨S_, .f32⟩
  | .hbm, ⟨27, _⟩ => ⟨S8x48, .f32⟩
  | .hbm, ⟨28, _⟩ => ⟨S_, .f32⟩
  | .hbm, ⟨29, _⟩ => ⟨S8x48, .f32⟩
  | .hbm, ⟨30, _⟩ => ⟨S_, .f32⟩
  | .hbm, ⟨31, _⟩ => ⟨S8x8, .f32⟩
  | .hbm, ⟨32, _⟩ => ⟨S8x64, .f32⟩
  | .hbm, ⟨33, _⟩ => ⟨S8x8, .f32⟩
  | .hbm, ⟨34, _⟩ => ⟨S8x64, .f32⟩
  | .hbm, ⟨35, _⟩ => ⟨S8x64, .f32⟩
  | .hbm, ⟨36, _⟩ => ⟨S1x8x1x64, .f32⟩
  | .hbm, ⟨37, _⟩ => ⟨S1x8x2x64, .f32⟩
  | .hbm, ⟨38, _⟩ => ⟨S8x128, .f32⟩
  | .hbm, ⟨39, _⟩ => ⟨S1x8x128, .f32⟩
  | .hbm, ⟨40, _⟩ => ⟨S1x8x1x64, .f32⟩
  | .hbm, ⟨41, _⟩ => ⟨S1x8x2x64, .f32⟩
  | .hbm, ⟨42, _⟩ => ⟨S8x128, .f32⟩
  | .hbm, ⟨43, _⟩ => ⟨S1x8x128, .f32⟩
  | .hbm, ⟨44, _⟩ => ⟨S1x8x1x64, .f32⟩
  | .hbm, ⟨45, _⟩ => ⟨S1x8x2x64, .f32⟩
  | .hbm, ⟨46, _⟩ => ⟨S8x128, .f32⟩
  | .hbm, ⟨47, _⟩ => ⟨S1x8x128, .f32⟩
  | .hbm, ⟨48, _⟩ => ⟨S128x8x512, .f32⟩
  | .hbm, ⟨49, _⟩ => ⟨S128x8x768, .f32⟩
  | .hbm, ⟨50, _⟩ => ⟨S128x8x768, .f32⟩
  | .hbm, ⟨51, _⟩ => ⟨S128x8x768, .f32⟩
  | .local _ .vmem, ⟨0, _⟩ => ⟨S64x8x1024, .f32⟩
  | .local _ .vmem, ⟨1, _⟩ => ⟨S64x8x1024, .f32⟩
  | .local _ .vmem, ⟨2, _⟩ => ⟨S1x64x1x1024, .f32⟩
  | .local _ .vmem, ⟨3, _⟩ => ⟨S1x64x1x1024, .f32⟩
  | .local _ .vmem, ⟨4, _⟩ => ⟨S1x64x1x1024, .f32⟩
  | .local _ .vmem, ⟨5, _⟩ => ⟨S1x64x1x1024, .f32⟩
  | .local _ .vmem, ⟨6, _⟩ => ⟨S1x1x1x1024, .f32⟩
  | .local _ .vmem, ⟨7, _⟩ => ⟨S1x1024x3328, .bf16⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S64x8x512, .f32⟩
  | .local _ .vmem, ⟨12, _⟩ => ⟨S64x8x512, .f32⟩
  | .local _ .vmem, ⟨13, _⟩ => ⟨S64x8x768, .f32⟩
  | .local _ .vmem, ⟨14, _⟩ => ⟨S64x8x768, .f32⟩
  | .local _ .vmem, ⟨15, _⟩ => ⟨S64x8x768, .f32⟩
  | .local _ .vmem, ⟨16, _⟩ => ⟨S64x8x768, .f32⟩
  | .local _ .vmem, ⟨17, _⟩ => ⟨S64x8x768, .f32⟩
  | .local _ .vmem, ⟨18, _⟩ => ⟨S64x8x768, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38_0 : Ref sig .tc := ⟨.hbm, 48, rfl⟩
abbrev main_v38_1 : Ref sig .tc := ⟨.hbm, 49, rfl⟩
abbrev main_v38_2 : Ref sig .tc := ⟨.hbm, 50, rfl⟩
abbrev main_v38_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  let c0_i32_3 : BitVec 32 := 0#32
  ![c0_i32_0.toNat, v0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c1_i32 : BitVec 32 := 1#32
  let c0_i32_2 : BitVec 32 := 0#32
  ![c0_i32_0.toNat, v0.toNat, c0_i32_1.toNat, c1_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S64x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x8x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x8x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x8x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InProjReferenceIdeal.lean ====
abbrev S128x8x1024 : Shape := ⟨3, ![128, 8, 1024]⟩
abbrev S4x136x6144 : Shape := ⟨3, ![4, 136, 6144]⟩
abbrev S4x2x1024 : Shape := ⟨3, ![4, 2, 1024]⟩
abbrev S2x1024x3328 : Shape := ⟨3, ![2, 1024, 3328]⟩
abbrev S8 : Shape := ⟨1, ![8]⟩
abbrev S_ : Shape := ⟨0, ![]⟩
abbrev S1x128x6144 : Shape := ⟨3, ![1, 128, 6144]⟩
abbrev S128x6144 : Shape := ⟨2, ![128, 6144]⟩
abbrev S128x1x6144 : Shape := ⟨3, ![128, 1, 6144]⟩
abbrev S128x1x1024 : Shape := ⟨3, ![128, 1, 1024]⟩
abbrev S1x1x1024 : Shape := ⟨3, ![1, 1, 1024]⟩
abbrev S1024 : Shape := ⟨1, ![1024]⟩
abbrev S128x8 : Shape := ⟨2, ![128, 8]⟩
abbrev S128x8x1 : Shape := ⟨3, ![128, 8, 1]⟩
abbrev S1x1024x3328 : Shape := ⟨3, ![1, 1024, 3328]⟩
abbrev S1024x3328 : Shape := ⟨2, ![1024, 3328]⟩
abbrev S128x8x3328 : Shape := ⟨3, ![128, 8, 3328]⟩
abbrev S128x8x512 : Shape := ⟨3, ![128, 8, 512]⟩
abbrev S128x8x2304 : Shape := ⟨3, ![128, 8, 2304]⟩
abbrev S128x8x3x3x4x64 : Shape := ⟨6, ![128, 8, 3, 3, 4, 64]⟩
abbrev S128x8x1x3x4x64 : Shape := ⟨6, ![128, 8, 1, 3, 4, 64]⟩
abbrev S128x8x3x4x64 : Shape := ⟨5, ![128, 8, 3, 4, 64]⟩
abbrev S8x1 : Shape := ⟨2, ![8, 1]⟩
abbrev S1x8 : Shape := ⟨2, ![1, 8]⟩
abbrev S8x8 : Shape := ⟨2, ![8, 8]⟩
abbrev S1x8x1x1x8 : Shape := ⟨5, ![1, 8, 1, 1, 8]⟩
abbrev S128x8x3x4x16 : Shape := ⟨5, ![128, 8, 3, 4, 16]⟩
abbrev S128x8x3x4x8 : Shape := ⟨5, ![128, 8, 3, 4, 8]⟩
abbrev S128x8x3x4x48 : Shape := ⟨5, ![128, 8, 3, 4, 48]⟩
abbrev S128x8x768 : Shape := ⟨3, ![128, 8, 768]⟩

abbrev nBuf : Space → Nat
  | .hbm => 136
  | .vmem => 0
  | .smem => 0
  | _ => 0

abbrev hbmTy0_0 (i : Nat) : BufTy := match i % 128 with
  | 0 => ⟨S128x8x1024, .f32⟩
  | 1 => ⟨S4x136x6144, .f32⟩
  | 2 => ⟨S4x2x1024, .f32⟩
  | 3 => ⟨S2x1024x3328, .f32⟩
  | 4 => ⟨S8, .i32⟩
  | 5 => ⟨S_, .i32⟩
  | 6 => ⟨S8, .i32⟩
  | 7 => ⟨S8, .i32⟩
  | 8 => ⟨S1x128x6144, .f32⟩
  | 9 => ⟨S128x6144, .f32⟩
  | 10 => ⟨S128x1x6144, .f32⟩
  | 11 => ⟨S128x1x1024, .f32⟩
  | 12 => ⟨S128x1x1024, .f32⟩
  | 13 => ⟨S128x1x1024, .f32⟩
  | 14 => ⟨S128x1x1024, .f32⟩
  | 15 => ⟨S128x1x1024, .f32⟩
  | 16 => ⟨S128x1x1024, .f32⟩
  | 17 => ⟨S1x1x1024, .f32⟩
  | 18 => ⟨S1024, .f32⟩
  | 19 => ⟨S128x8x1024, .f32⟩
  | 20 => ⟨S_, .f32⟩
  | 21 => ⟨S128x8, .f32⟩
  | 22 => ⟨S128x8x1, .f32⟩
  | 23 => ⟨S_, .f32⟩
  | 24 => ⟨S128x8x1, .f32⟩
  | 25 => ⟨S128x8x1, .f32⟩
  | 26 => ⟨S_, .f32⟩
  | 27 => ⟨S128x8x1, .f32⟩
  | 28 => ⟨S128x8x1, .f32⟩
  | 29 => ⟨S128x8x1, .f32⟩
  | 30 => ⟨S128x8x1024, .f32⟩
  | 31 => ⟨S128x8x1024, .f32⟩
  | 32 => ⟨S1x1x1024, .f32⟩
  | 33 => ⟨S128x8x1024, .f32⟩
  | 34 => ⟨S128x8x1024, .f32⟩
  | 35 => ⟨S_, .f32⟩
  | 36 => ⟨S128x1x1024, .f32⟩
  | 37 => ⟨S128x1x1024, .f32⟩
  | 38 => ⟨S128x8x1024, .f32⟩
  | 39 => ⟨S128x8x1024, .f32⟩
  | 40 => ⟨S128x8x1024, .f32⟩
  | 41 => ⟨S128x8x1024, .f32⟩
  | 42 => ⟨S1x1024x3328, .f32⟩
  | 43 => ⟨S1024x3328, .f32⟩
  | 44 => ⟨S128x8x3328, .f32⟩
  | 45 => ⟨S128x8x512, .f32⟩
  | 46 => ⟨S128x8x512, .f32⟩
  | 47 => ⟨S128x8x2304, .f32⟩
  | 48 => ⟨S128x8x3x3x4x64, .f32⟩
  | 49 => ⟨S128x8x512, .f32⟩
  | 50 => ⟨S128x8x512, .f32⟩
  | 51 => ⟨S_, .f32⟩
  | 52 => ⟨S128x8x512, .f32⟩
  | 53 => ⟨S128x8x512, .f32⟩
  | 54 => ⟨S_, .f32⟩
  | 55 => ⟨S128x8x512, .f32⟩
  | 56 => ⟨S128x8x512, .f32⟩
  | 57 => ⟨S128x8x512, .f32⟩
  | 58 => ⟨S128x8x1x3x4x64, .f32⟩
  | 59 => ⟨S128x8x3x4x64, .f32⟩
  | 60 => ⟨S8, .f32⟩
  | 61 => ⟨S_, .f32⟩
  | 62 => ⟨S8, .f32⟩
  | 63 => ⟨S8, .f32⟩
  | 64 => ⟨S_, .f32⟩
  | 65 => ⟨S8, .f32⟩
  | 66 => ⟨S8, .f32⟩
  | 67 => ⟨S8, .f32⟩
  | 68 => ⟨S8x1, .f32⟩
  | 69 => ⟨S1x8, .f32⟩
  | 70 => ⟨S8x8, .f32⟩
  | 71 => ⟨S8x8, .f32⟩
  | 72 => ⟨S8x8, .f32⟩
  | 73 => ⟨S8x8, .f32⟩
  | 74 => ⟨S1x8x1x1x8, .f32⟩
  | 75 => ⟨S8x8, .f32⟩
  | 76 => ⟨S1x8x1x1x8, .f32⟩
  | 77 => ⟨S128x8x3x4x16, .f32⟩
  | 78 => ⟨S128x8x3x4x8, .f32⟩
  | 79 => ⟨S128x8x3x4x8, .f32⟩
  | 80 => ⟨S128x8x3x4x8, .f32⟩
  | 81 => ⟨S128x8x3x4x8, .f32⟩
  | 82 => ⟨S128x8x3x4x8, .f32⟩
  | 83 => ⟨S128x8x3x4x8, .f32⟩
  | 84 => ⟨S128x8x3x4x8, .f32⟩
  | 85 => ⟨S128x8x3x4x8, .f32⟩
  | 86 => ⟨S128x8x3x4x8, .f32⟩
  | 87 => ⟨S128x8x3x4x8, .f32⟩
  | 88 => ⟨S128x8x3x4x8, .f32⟩
  | 89 => ⟨S128x8x3x4x8, .f32⟩
  | 90 => ⟨S128x8x3x4x16, .f32⟩
  | 91 => ⟨S128x8x3x4x48, .f32⟩
  | 92 => ⟨S128x8x3x4x64, .f32⟩
  | 93 => ⟨S_, .f32⟩
  | 94 => ⟨S128x8x3x4x64, .f32⟩
  | 95 => ⟨S128x8x3x4x64, .f32⟩
  | 96 => ⟨S128x8x1x3x4x64, .f32⟩
  | 97 => ⟨S128x8x3x4x64, .f32⟩
  | 98 => ⟨S8, .f32⟩
  | 99 => ⟨S_, .f32⟩
  | 100 => ⟨S8, .f32⟩
  | 101 => ⟨S8, .f32⟩
  | 102 => ⟨S_, .f32⟩
  | 103 => ⟨S8, .f32⟩
  | 104 => ⟨S8, .f32⟩
  | 105 => ⟨S8, .f32⟩
  | 106 => ⟨S8x1, .f32⟩
  | 107 => ⟨S1x8, .f32⟩
  | 108 => ⟨S8x8, .f32⟩
  | 109 => ⟨S8x8, .f32⟩
  | 110 => ⟨S8x8, .f32⟩
  | 111 => ⟨S8x8, .f32⟩
  | 112 => ⟨S1x8x1x1x8, .f32⟩
  | 113 => ⟨S8x8, .f32⟩
  | 114 => ⟨S1x8x1x1x8, .f32⟩
  | 115 => ⟨S128x8x3x4x16, .f32⟩
  | 116 => ⟨S128x8x3x4x8, .f32⟩
  | 117 => ⟨S128x8x3x4x8, .f32⟩
  | 118 => ⟨S128x8x3x4x8, .f32⟩
  | 119 => ⟨S128x8x3x4x8, .f32⟩
  | 120 => ⟨S128x8x3x4x8, .f32⟩
  | 121 => ⟨S128x8x3x4x8, .f32⟩
  | 122 => ⟨S128x8x3x4x8, .f32⟩
  | 123 => ⟨S128x8x3x4x8, .f32⟩
  | 124 => ⟨S128x8x3x4x8, .f32⟩
  | 125 => ⟨S128x8x3x4x8, .f32⟩
  | 126 => ⟨S128x8x3x4x8, .f32⟩
  | 127 => ⟨S128x8x3x4x8, .f32⟩
  | _ => ⟨S128x8x1024, .f32⟩

abbrev hbmTy0_1 (i : Nat) : BufTy := match i % 128 with
  | 0 => ⟨S128x8x3x4x16, .f32⟩
  | 1 => ⟨S128x8x3x4x48, .f32⟩
  | 2 => ⟨S128x8x3x4x64, .f32⟩
  | 3 => ⟨S128x8x1x3x4x64, .f32⟩
  | 4 => ⟨S128x8x3x4x64, .f32⟩
  | 5 => ⟨S128x8x768, .f32⟩
  | 6 => ⟨S128x8x768, .f32⟩
  | 7 => ⟨S128x8x768, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_5 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_7 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_cst_8 : Ref sig .tc := ⟨.hbm, 99, rfl⟩
abbrev main_v85 : Ref sig .tc := ⟨.hbm, 100, rfl⟩
abbrev main_v86 : Ref sig .tc := ⟨.hbm, 101, rfl⟩
abbrev main_cst_9 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩

abbrev nD : Nat := 1
abbrev τ : Topo := Topo.v7x

variable {F : FTy → Type} [FloatOps F]
-- ==== FfnSample.lean ====
abbrev S128x8x1024 : Shape := ⟨3, ![128, 8, 1024]⟩
abbrev S4x136x6144 : Shape := ⟨3, ![4, 136, 6144]⟩
abbrev S4x2x1024 : Shape := ⟨3, ![4, 2, 1024]⟩
abbrev S4x1024x2816 : Shape := ⟨3, ![4, 1024, 2816]⟩
abbrev S4x2816x1024 : Shape := ⟨3, ![4, 2816, 1024]⟩
abbrev S1024 : Shape := ⟨1, ![1024]⟩
abbrev S4x136x1x6144 : Shape := ⟨4, ![4, 136, 1, 6144]⟩
abbrev S4x2x1x1024 : Shape := ⟨4, ![4, 2, 1, 1024]⟩
abbrev S1x1024 : Shape := ⟨2, ![1, 1024]⟩
abbrev S64x8x1024 : Shape := ⟨3, ![64, 8, 1024]⟩
abbrev S1x64x1x1024 : Shape := ⟨4, ![1, 64, 1, 1024]⟩
abbrev S1x1x1x1024 : Shape := ⟨4, ![1, 1, 1, 1024]⟩
abbrev S1x1024x2816 : Shape := ⟨3, ![1, 1024, 2816]⟩
abbrev S1x2816x1024 : Shape := ⟨3, ![1, 2816, 1024]⟩
abbrev S64x1x1024 : Shape := ⟨3, ![64, 1, 1024]⟩
abbrev S64x8 : Shape := ⟨2, ![64, 8]⟩
abbrev S64x8x1 : Shape := ⟨3, ![64, 8, 1]⟩
abbrev S1x1x1024 : Shape := ⟨3, ![1, 1, 1024]⟩
abbrev S512x1024 : Shape := ⟨2, ![512, 1024]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 14
  | .vmem => 15
  | .smem => 0
  | _ => 0

abbrev bufTy : (tb : Table) → Fin (tcTables nBuf tb) → BufTy
  | .hbm, ⟨0, _⟩ => ⟨S128x8x1024, .f32⟩
  | .hbm, ⟨1, _⟩ => ⟨S4x136x6144, .f32⟩
  | .hbm, ⟨2, _⟩ => ⟨S4x2x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S1024, .f32⟩
  | .hbm, ⟨7, _⟩ => ⟨S4x136x1x6144, .f32⟩
  | .hbm, ⟨8, _⟩ => ⟨S4x2x1x1024, .f32⟩
  | .hbm, ⟨9, _⟩ => ⟨S4x1024x2816, .bf16⟩
  | .hbm, ⟨10, _⟩ => ⟨S4x1024x2816, .bf16⟩
  | .hbm, ⟨11, _⟩ => ⟨S4x2816x1024, .bf16⟩
  | .hbm, ⟨12, _⟩ => ⟨S1x1024, .f32⟩
  | .hbm, ⟨13, _⟩ => ⟨S128x8x1024, .f32⟩
  | .local _ .vmem, ⟨0, _⟩ => ⟨S64x8x1024, .f32⟩
  | .local _ .vmem, ⟨1, _⟩ => ⟨S64x8x1024, .f32⟩
  | .local _ .vmem, ⟨2, _⟩ => ⟨S1x64x1x1024, .f32⟩
  | .local _ .vmem, ⟨3, _⟩ => ⟨S1x64x1x1024, .f32⟩
  | .local _ .vmem, ⟨4, _⟩ => ⟨S1x64x1x1024, .f32⟩
  | .local _ .vmem, ⟨5, _⟩ => ⟨S1x64x1x1024, .f32⟩
  | .local _ .vmem, ⟨6, _⟩ => ⟨S1x64x1x1024, .f32⟩
  | .local _ .vmem, ⟨7, _⟩ => ⟨S1x64x1x1024, .f32⟩
  | .local _ .vmem, ⟨8, _⟩ => ⟨S1x1x1x1024, .f32⟩
  | .local _ .vmem, ⟨9, _⟩ => ⟨S1x1024x2816, .bf16⟩
  | .local _ .vmem, ⟨10, _⟩ => ⟨S1x1024x2816, .bf16⟩
  | .local _ .vmem, ⟨11, _⟩ => ⟨S1x2816x1024, .bf16⟩
  | .local _ .vmem, ⟨12, _⟩ => ⟨S1x1024, .f32⟩
  | .local _ .vmem, ⟨13, _⟩ => ⟨S64x8x1024, .f32⟩
  | .local _ .vmem, ⟨14, _⟩ => ⟨S64x8x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let c0_i32_0 : BitVec 32 := 0#32
  let c3_i32_1 : BitVec 32 := 3#32
  let c0_i32_2 : BitVec 32 := 0#32
  ![c3_i32.toNat, v0.toNat, c0_i32_0.toNat, c3_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let c0_i32_0 : BitVec 32 := 0#32
  let c4_i32 : BitVec 32 := 4#32
  let c0_i32_1 : BitVec 32 := 0#32
  ![c3_i32.toNat, v0.toNat, c0_i32_0.toNat, c4_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let c0_i32_0 : BitVec 32 := 0#32
  let c5_i32 : BitVec 32 := 5#32
  let c0_i32_1 : BitVec 32 := 0#32
  ![c3_i32.toNat, v0.toNat, c0_i32_0.toNat, c5_i32.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S64x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnSampleReferenceIdeal.lean ====
abbrev S128x8x1024 : Shape := ⟨3, ![128, 8, 1024]⟩
abbrev S4x136x6144 : Shape := ⟨3, ![4, 136, 6144]⟩
abbrev S4x2x1024 : Shape := ⟨3, ![4, 2, 1024]⟩
abbrev S4x1024x2816 : Shape := ⟨3, ![4, 1024, 2816]⟩
abbrev S4x2816x1024 : Shape := ⟨3, ![4, 2816, 1024]⟩
abbrev S1024 : Shape := ⟨1, ![1024]⟩
abbrev S1x128x6144 : Shape := ⟨3, ![1, 128, 6144]⟩
abbrev S128x6144 : Shape := ⟨2, ![128, 6144]⟩
abbrev S128x1x6144 : Shape := ⟨3, ![128, 1, 6144]⟩
abbrev S128x1x1024 : Shape := ⟨3, ![128, 1, 1024]⟩
abbrev S1x1x1024 : Shape := ⟨3, ![1, 1, 1024]⟩
abbrev S_ : Shape := ⟨0, ![]⟩
abbrev S128x8 : Shape := ⟨2, ![128, 8]⟩
abbrev S128x8x1 : Shape := ⟨3, ![128, 8, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S128x8x2816 : Shape := ⟨3, ![128, 8, 2816]⟩

abbrev nBuf : Space → Nat
  | .hbm => 79
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S4x136x6144, .f32⟩
  | .hbm, ⟨2, _⟩ => ⟨S4x2x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S1024, .f32⟩
  | .hbm, ⟨7, _⟩ => ⟨S1x128x6144, .f32⟩
  | .hbm, ⟨8, _⟩ => ⟨S128x6144, .f32⟩
  | .hbm, ⟨9, _⟩ => ⟨S128x1x6144, .f32⟩
  | .hbm, ⟨10, _⟩ => ⟨S128x1x1024, .f32⟩
  | .hbm, ⟨11, _⟩ => ⟨S128x1x1024, .f32⟩
  | .hbm, ⟨12, _⟩ => ⟨S128x1x1024, .f32⟩
  | .hbm, ⟨13, _⟩ => ⟨S128x1x1024, .f32⟩
  | .hbm, ⟨14, _⟩ => ⟨S128x1x1024, .f32⟩
  | .hbm, ⟨15, _⟩ => ⟨S128x1x1024, .f32⟩
  | .hbm, ⟨16, _⟩ => ⟨S1x1x1024, .f32⟩
  | .hbm, ⟨17, _⟩ => ⟨S1024, .f32⟩
  | .hbm, ⟨18, _⟩ => ⟨S128x8x1024, .f32⟩
  | .hbm, ⟨19, _⟩ => ⟨S_, .f32⟩
  | .hbm, ⟨20, _⟩ => ⟨S128x8, .f32⟩
  | .hbm, ⟨21, _⟩ => ⟨S128x8x1, .f32⟩
  | .hbm, ⟨22, _⟩ => ⟨S_, .f32⟩
  | .hbm, ⟨23, _⟩ => ⟨S128x8x1, .f32⟩
  | .hbm, ⟨24, _⟩ => ⟨S128x8x1, .f32⟩
  | .hbm, ⟨25, _⟩ => ⟨S_, .f32⟩
  | .hbm, ⟨26, _⟩ => ⟨S128x8x1, .f32⟩
  | .hbm, ⟨27, _⟩ => ⟨S128x8x1, .f32⟩
  | .hbm, ⟨28, _⟩ => ⟨S128x8x1, .f32⟩
  | .hbm, ⟨29, _⟩ => ⟨S128x8x1024, .f32⟩
  | .hbm, ⟨30, _⟩ => ⟨S128x8x1024, .f32⟩
  | .hbm, ⟨31, _⟩ => ⟨S1x1x1024, .f32⟩
  | .hbm, ⟨32, _⟩ => ⟨S128x8x1024, .f32⟩
  | .hbm, ⟨33, _⟩ => ⟨S128x8x1024, .f32⟩
  | .hbm, ⟨34, _⟩ => ⟨S_, .f32⟩
  | .hbm, ⟨35, _⟩ => ⟨S128x1x1024, .f32⟩
  | .hbm, ⟨36, _⟩ => ⟨S128x1x1024, .f32⟩
  | .hbm, ⟨37, _⟩ => ⟨S128x8x1024, .f32⟩
  | .hbm, ⟨38, _⟩ => ⟨S128x8x1024, .f32⟩
  | .hbm, ⟨39, _⟩ => ⟨S128x8x1024, .f32⟩
  | .hbm, ⟨40, _⟩ => ⟨S128x8x1024, .f32⟩
  | .hbm, ⟨41, _⟩ => ⟨S1x1024x2816, .f32⟩
  | .hbm, ⟨42, _⟩ => ⟨S1024x2816, .f32⟩
  | .hbm, ⟨43, _⟩ => ⟨S1x1024x2816, .f32⟩
  | .hbm, ⟨44, _⟩ => ⟨S1024x2816, .f32⟩
  | .hbm, ⟨45, _⟩ => ⟨S1x2816x1024, .f32⟩
  | .hbm, ⟨46, _⟩ => ⟨S2816x1024, .f32⟩
  | .hbm, ⟨47, _⟩ => ⟨S128x8x2816, .f32⟩
  | .hbm, ⟨48, _⟩ => ⟨S128x8x2816, .f32⟩
  | .hbm, ⟨49, _⟩ => ⟨S128x8x2816, .f32⟩
  | .hbm, ⟨50, _⟩ => ⟨S_, .f32⟩
  | .hbm, ⟨51, _⟩ => ⟨S128x8x2816, .f32⟩
  | .hbm, ⟨52, _⟩ => ⟨S128x8x2816, .f32⟩
  | .hbm, ⟨53, _⟩ => ⟨S_, .f32⟩
  | .hbm, ⟨54, _⟩ => ⟨S128x8x2816, .f32⟩
  | .hbm, ⟨55, _⟩ => ⟨S128x8x2816, .f32⟩
  | .hbm, ⟨56, _⟩ => ⟨S128x8x2816, .f32⟩
  | .hbm, ⟨57, _⟩ => ⟨S128x8x2816, .f32⟩
  | .hbm, ⟨58, _⟩ => ⟨S128x8x2816, .f32⟩
  | .hbm, ⟨59, _⟩ => ⟨S128x8x1024, .f32⟩
  | .hbm, ⟨60, _⟩ => ⟨S128x8x1024, .f32⟩
  | .hbm, ⟨61, _⟩ => ⟨S128x8x1024, .f32⟩
  | .hbm, ⟨62, _⟩ => ⟨S128x8x1024, .f32⟩
  | .hbm, ⟨63, _⟩ => ⟨S128x8x1024, .f32⟩
  | .hbm, ⟨64, _⟩ => ⟨S_, .f32⟩
  | .hbm, ⟨65, _⟩ => ⟨S128x8, .f32⟩
  | .hbm, ⟨66, _⟩ => ⟨S128x8x1, .f32⟩
  | .hbm, ⟨67, _⟩ => ⟨S_, .f32⟩
  | .hbm, ⟨68, _⟩ => ⟨S128x8x1, .f32⟩
  | .hbm, ⟨69, _⟩ => ⟨S128x8x1, .f32⟩
  | .hbm, ⟨70, _⟩ => ⟨S_, .f32⟩
  | .hbm, ⟨71, _⟩ => ⟨S128x8x1, .f32⟩
  | .hbm, ⟨72, _⟩ => ⟨S128x8x1, .f32⟩
  | .hbm, ⟨73, _⟩ => ⟨S128x8x1, .f32⟩
  | .hbm, ⟨74, _⟩ => ⟨S128x8x1024, .f32⟩
  | .hbm, ⟨75, _⟩ => ⟨S128x8x1024, .f32⟩
  | .hbm, ⟨76, _⟩ => ⟨S1x1x1024, .f32⟩
  | .hbm, ⟨77, _⟩ => ⟨S128x8x1024, .f32⟩
  | .hbm, ⟨78, _⟩ => ⟨S128x8x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Mod.lean ====
abbrev S4x1024 : Shape := ⟨2, ![4, 1024]⟩
abbrev S128x1024 : Shape := ⟨2, ![128, 1024]⟩
abbrev S4x1024x6144 : Shape := ⟨3, ![4, 1024, 6144]⟩
abbrev S4x6144 : Shape := ⟨2, ![4, 6144]⟩
abbrev S_ : Shape := ⟨0, ![]⟩
abbrev S136x1024 : Shape := ⟨2, ![136, 1024]⟩
abbrev S4x1x6144 : Shape := ⟨3, ![4, 1, 6144]⟩
abbrev S4x136x6144 : Shape := ⟨3, ![4, 136, 6144]⟩
abbrev S1x1024x1536 : Shape := ⟨3, ![1, 1024, 1536]⟩
abbrev S1x1x1536 : Shape := ⟨3, ![1, 1, 1536]⟩
abbrev S1x136x1536 : Shape := ⟨3, ![1, 136, 1536]⟩
abbrev S1024x1536 : Shape := ⟨2, ![1024, 1536]⟩
abbrev S136x1536 : Shape := ⟨2, ![136, 1536]⟩
abbrev S1x1536 : Shape := ⟨2, ![1, 1536]⟩

abbrev nBuf : Space → Nat
  | .hbm => 9
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S128x1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S4x1024, .f32⟩
  | .hbm, ⟨6, _⟩ => ⟨S136x1024, .f32⟩
  | .hbm, ⟨7, _⟩ => ⟨S4x1x6144, .f32⟩
  | .hbm, ⟨8, _⟩ => ⟨S4x136x6144, .f32⟩
  | .local _ .vmem, ⟨0, _⟩ => ⟨S136x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x136x1536, .f32⟩
  | .local _ .vmem, ⟨6, _⟩ => ⟨S1x136x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModReferenceIdeal.lean ====
abbrev S4x1024 : Shape := ⟨2, ![4, 1024]⟩
abbrev S128x1024 : Shape := ⟨2, ![128, 1024]⟩
abbrev S4x1024x6144 : Shape := ⟨3, ![4, 1024, 6144]⟩
abbrev S4x6144 : Shape := ⟨2, ![4, 6144]⟩
abbrev S_ : Shape := ⟨0, ![]⟩
abbrev S136x1024 : Shape := ⟨2, ![136, 1024]⟩
abbrev S1x1024x6144 : Shape := ⟨3, ![1, 1024, 6144]⟩
abbrev S1024x6144 : Shape := ⟨2, ![1024, 6144]⟩
abbrev S136x6144 : Shape := ⟨2, ![136, 6144]⟩
abbrev S1x6144 : Shape := ⟨2, ![1, 6144]⟩
abbrev S6144 : Shape := ⟨1, ![6144]⟩
abbrev S1x136x6144 : Shape := ⟨3, ![1, 136, 6144]⟩
abbrev S4x136x6144 : Shape := ⟨3, ![4, 136, 6144]⟩

abbrev nBuf : Space → Nat
  | .hbm => 80
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S128x1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S4x1024, .f32⟩
  | .hbm, ⟨6, _⟩ => ⟨S136x1024, .f32⟩
  | .hbm, ⟨7, _⟩ => ⟨S136x1024, .f32⟩
  | .hbm, ⟨8, _⟩ => ⟨S136x1024, .f32⟩
  | .hbm, ⟨9, _⟩ => ⟨S_, .f32⟩
  | .hbm, ⟨10, _⟩ => ⟨S136x1024, .f32⟩
  | .hbm, ⟨11, _⟩ => ⟨S136x1024, .f32⟩
  | .hbm, ⟨12, _⟩ => ⟨S_, .f32⟩
  | .hbm, ⟨13, _⟩ => ⟨S136x1024, .f32⟩
  | .hbm, ⟨14, _⟩ => ⟨S136x1024, .f32⟩
  | .hbm, ⟨15, _⟩ => ⟨S136x1024, .f32⟩
  | .hbm, ⟨16, _⟩ => ⟨S1x1024x6144, .f32⟩
  | .hbm, ⟨17, _⟩ => ⟨S1024x6144, .f32⟩
  | .hbm, ⟨18, _⟩ => ⟨S136x6144, .f32⟩
  | .hbm, ⟨19, _⟩ => ⟨S1x6144, .f32⟩
  | .hbm, ⟨20, _⟩ => ⟨S6144, .f32⟩
  | .hbm, ⟨21, _⟩ => ⟨S1x6144, .f32⟩
  | .hbm, ⟨22, _⟩ => ⟨S136x6144, .f32⟩
  | .hbm, ⟨23, _⟩ => ⟨S136x6144, .f32⟩
  | .hbm, ⟨24, _⟩ => ⟨S136x1024, .f32⟩
  | .hbm, ⟨25, _⟩ => ⟨S136x1024, .f32⟩
  | .hbm, ⟨26, _⟩ => ⟨S_, .f32⟩
  | .hbm, ⟨27, _⟩ => ⟨S136x1024, .f32⟩
  | .hbm, ⟨28, _⟩ => ⟨S136x1024, .f32⟩
  | .hbm, ⟨29, _⟩ => ⟨S_, .f32⟩
  | .hbm, ⟨30, _⟩ => ⟨S136x1024, .f32⟩
  | .hbm, ⟨31, _⟩ => ⟨S136x1024, .f32⟩
  | .hbm, ⟨32, _⟩ => ⟨S136x1024, .f32⟩
  | .hbm, ⟨33, _⟩ => ⟨S1x1024x6144, .f32⟩
  | .hbm, ⟨34, _⟩ => ⟨S1024x6144, .f32⟩
  | .hbm, ⟨35, _⟩ => ⟨S136x6144, .f32⟩
  | .hbm, ⟨36, _⟩ => ⟨S1x6144, .f32⟩
  | .hbm, ⟨37, _⟩ => ⟨S6144, .f32⟩
  | .hbm, ⟨38, _⟩ => ⟨S1x6144, .f32⟩
  | .hbm, ⟨39, _⟩ => ⟨S136x6144, .f32⟩
  | .hbm, ⟨40, _⟩ => ⟨S136x6144, .f32⟩
  | .hbm, ⟨41, _⟩ => ⟨S136x1024, .f32⟩
  | .hbm, ⟨42, _⟩ => ⟨S136x1024, .f32⟩
  | .hbm, ⟨43, _⟩ => ⟨S_, .f32⟩
  | .hbm, ⟨44, _⟩ => ⟨S136x1024, .f32⟩
  | .hbm, ⟨45, _⟩ => ⟨S136x1024, .f32⟩
  | .hbm, ⟨46, _⟩ => ⟨S_, .f32⟩
  | .hbm, ⟨47, _⟩ => ⟨S136x1024, .f32⟩
  | .hbm, ⟨48, _⟩ => ⟨S136x1024, .f32⟩
  | .hbm, ⟨49, _⟩ => ⟨S136x1024, .f32⟩
  | .hbm, ⟨50, _⟩ => ⟨S1x1024x6144, .f32⟩
  | .hbm, ⟨51, _⟩ => ⟨S1024x6144, .f32⟩
  | .hbm, ⟨52, _⟩ => ⟨S136x6144, .f32⟩
  | .hbm, ⟨53, _⟩ => ⟨S1x6144, .f32⟩
  | .hbm, ⟨54, _⟩ => ⟨S6144, .f32⟩
  | .hbm, ⟨55, _⟩ => ⟨S1x6144, .f32⟩
  | .hbm, ⟨56, _⟩ => ⟨S136x6144, .f32⟩
  | .hbm, ⟨57, _⟩ => ⟨S136x6144, .f32⟩
  | .hbm, ⟨58, _⟩ => ⟨S136x1024, .f32⟩
  | .hbm, ⟨59, _⟩ => ⟨S136x1024, .f32⟩
  | .hbm, ⟨60, _⟩ => ⟨S_, .f32⟩
  | .hbm, ⟨61, _⟩ => ⟨S136x1024, .f32⟩
  | .hbm, ⟨62, _⟩ => ⟨S136x1024, .f32⟩
  | .hbm, ⟨63, _⟩ => ⟨S_, .f32⟩
  | .hbm, ⟨64, _⟩ => ⟨S136x1024, .f32⟩
  | .hbm, ⟨65, _⟩ => ⟨S136x1024, .f32⟩
  | .hbm, ⟨66, _⟩ => ⟨S136x1024, .f32⟩
  | .hbm, ⟨67, _⟩ => ⟨S1x1024x6144, .f32⟩
  | .hbm, ⟨68, _⟩ => ⟨S1024x6144, .f32⟩
  | .hbm, ⟨69, _⟩ => ⟨S136x6144, .f32⟩
  | .hbm, ⟨70, _⟩ => ⟨S1x6144, .f32⟩
  | .hbm, ⟨71, _⟩ => ⟨S6144, .f32⟩
  | .hbm, ⟨72, _⟩ => ⟨S1x6144, .f32⟩
  | .hbm, ⟨73, _⟩ => ⟨S136x6144, .f32⟩
  | .hbm, ⟨74, _⟩ => ⟨S136x6144, .f32⟩
  | .hbm, ⟨75, _⟩ => ⟨S1x136x6144, .f32⟩
  | .hbm, ⟨76, _⟩ => ⟨S1x136x6144, .f32⟩
  | .hbm, ⟨77, _⟩ => ⟨S1x136x6144, .f32⟩
  | .hbm, ⟨78, _⟩ => ⟨S1x136x6144, .f32⟩
  | .hbm, ⟨79, _⟩ => ⟨S4x136x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_call3_v0 : Ref sig .tc := ⟨.hbm, 58, rfl⟩
abbrev main_call3_v1 : Ref sig .tc := ⟨.hbm, 59, rfl⟩
abbrev main_call3_cst : Ref sig .tc := ⟨.hbm, 60, rfl⟩
abbrev main_call3_v2 : Ref sig .tc := ⟨.hbm, 61, rfl⟩
abbrev main_call3_v3 : Ref sig .tc := ⟨.hbm, 62, rfl⟩
abbrev main_call3_cst_0 : Ref sig .tc := ⟨.hbm, 63, rfl⟩
abbrev main_call3_v4 : Ref sig .tc := ⟨.hbm, 64, rfl⟩
abbrev main_call3_v5 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩

abbrev nD : Nat := 1
abbrev τ : Topo := Topo.v7x

variable {F : FTy → Type} [FloatOps F]
-- ==== Conv.lean ====
abbrev S128x8x512 : Shape := ⟨3, ![128, 8, 512]⟩
abbrev S2x128x30x512 : Shape := ⟨4, ![2, 128, 30, 512]⟩
abbrev S2x31x512 : Shape := ⟨3, ![2, 31, 512]⟩
abbrev S2x512 : Shape := ⟨2, ![2, 512]⟩
abbrev S1x128x30x512 : Shape := ⟨4, ![1, 128, 30, 512]⟩
abbrev S128x30x512 : Shape := ⟨3, ![128, 30, 512]⟩
abbrev S128x38x512 : Shape := ⟨3, ![128, 38, 512]⟩
abbrev S38x128x512 : Shape := ⟨3, ![38, 128, 512]⟩
abbrev S1x31x512 : Shape := ⟨3, ![1, 31, 512]⟩
abbrev S31x512 : Shape := ⟨2, ![31, 512]⟩
abbrev S1x512 : Shape := ⟨2, ![1, 512]⟩
abbrev S512 : Shape := ⟨1, ![512]⟩
abbrev S8x128x512 : Shape := ⟨3, ![8, 128, 512]⟩
abbrev S38x32x512 : Shape := ⟨3, ![38, 32, 512]⟩
abbrev S8x32x512 : Shape := ⟨3, ![8, 32, 512]⟩
abbrev S1x32x512 : Shape := ⟨3, ![1, 32, 512]⟩
abbrev S32x512 : Shape := ⟨2, ![32, 512]⟩
abbrev S32 : Shape := ⟨1, ![32]⟩
abbrev S32x1 : Shape := ⟨2, ![32, 1]⟩

abbrev nBuf : Space → Nat
  | .hbm => 22
  | .vmem => 8
  | .smem => 0
  | _ => 0

abbrev bufTy : (tb : Table) → Fin (tcTables nBuf tb) → BufTy
  | .hbm, ⟨0, _⟩ => ⟨S128x8x512, .f32⟩
  | .hbm, ⟨1, _⟩ => ⟨S2x128x30x512, .f32⟩
  | .hbm, ⟨2, _⟩ => ⟨S2x31x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S1x128x30x512, .f32⟩
  | .hbm, ⟨7, _⟩ => ⟨S128x30x512, .f32⟩
  | .hbm, ⟨8, _⟩ => ⟨S128x38x512, .f32⟩
  | .hbm, ⟨9, _⟩ => ⟨S38x128x512, .f32⟩
  | .hbm, ⟨10, _⟩ => ⟨S1x31x512, .f32⟩
  | .hbm, ⟨11, _⟩ => ⟨S31x512, .f32⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S8x128x512, .f32⟩
  | .local _ .vmem, ⟨0, _⟩ => ⟨S38x32x512, .f32⟩
  | .local _ .vmem, ⟨1, _⟩ => ⟨S38x32x512, .f32⟩
  | .local _ .vmem, ⟨2, _⟩ => ⟨S31x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S8x32x512, .f32⟩
  | .local _ .vmem, ⟨7, _⟩ => ⟨S8x32x512, .f32⟩
  | _, _ => ⟨S128x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S38x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvReferenceIdeal.lean ====
abbrev S128x8x512 : Shape := ⟨3, ![128, 8, 512]⟩
abbrev S2x128x30x512 : Shape := ⟨4, ![2, 128, 30, 512]⟩
abbrev S2x31x512 : Shape := ⟨3, ![2, 31, 512]⟩
abbrev S2x512 : Shape := ⟨2, ![2, 512]⟩
abbrev S1x128x30x512 : Shape := ⟨4, ![1, 128, 30, 512]⟩
abbrev S128x30x512 : Shape := ⟨3, ![128, 30, 512]⟩
abbrev S128x38x512 : Shape := ⟨3, ![128, 38, 512]⟩
abbrev S8 : Shape := ⟨1, ![8]⟩
abbrev S8x1 : Shape := ⟨2, ![8, 1]⟩
abbrev S31 : Shape := ⟨1, ![31]⟩
abbrev S1x31 : Shape := ⟨2, ![1, 31]⟩
abbrev S8x31 : Shape := ⟨2, ![8, 31]⟩
abbrev S_ : Shape := ⟨0, ![]⟩
abbrev S8x31x1 : Shape := ⟨3, ![8, 31, 1]⟩
abbrev S128x8x31x512 : Shape := ⟨4, ![128, 8, 31, 512]⟩
abbrev S1x31x512 : Shape := ⟨3, ![1, 31, 512]⟩
abbrev S31x512 : Shape := ⟨2, ![31, 512]⟩
abbrev S1x1x31x512 : Shape := ⟨4, ![1, 1, 31, 512]⟩
abbrev S1x512 : Shape := ⟨2, ![1, 512]⟩
abbrev S512 : Shape := ⟨1, ![512]⟩
abbrev S1x1x512 : Shape := ⟨3, ![1, 1, 512]⟩
abbrev S128x8 : Shape := ⟨2, ![128, 8]⟩
abbrev S128x8x1 : Shape := ⟨3, ![128, 8, 1]⟩
abbrev S8x128x512 : Shape := ⟨3, ![8, 128, 512]⟩

abbrev nBuf : Space → Nat
  | .hbm => 78
  | .vmem => 0
  | .smem => 0
  | _ => 0

abbrev bufTy : (tb : Table) → Fin (tcTables nBuf tb) → BufTy
  | .hbm, ⟨0, _⟩ => ⟨S128x8x512, .f32⟩
  | .hbm, ⟨1, _⟩ => ⟨S2x128x30x512, .f32⟩
  | .hbm, ⟨2, _⟩ => ⟨S2x31x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S1x128x30x512, .f32⟩
  | .hbm, ⟨7, _⟩ => ⟨S128x30x512, .f32⟩
  | .hbm, ⟨8, _⟩ => ⟨S128x38x512, .f32⟩
  | .hbm, ⟨9, _⟩ => ⟨S8, .i32⟩
  | .hbm, ⟨10, _⟩ => ⟨S8x1, .i32⟩
  | .hbm, ⟨11, _⟩ => ⟨S31, .i32⟩
  | .hbm, ⟨12, _⟩ => ⟨S1x31, .i32⟩
  | .hbm, ⟨13, _⟩ => ⟨S8x31, .i32⟩
  | .hbm, ⟨14, _⟩ => ⟨S8x31, .i32⟩
  | .hbm, ⟨15, _⟩ => ⟨S8x31, .i32⟩
  | .hbm, ⟨16, _⟩ => ⟨S_, .i32⟩
  | .hbm, ⟨17, _⟩ => ⟨S8x31, .i32⟩
  | .hbm, ⟨18, _⟩ => ⟨S8x31, .i1⟩
  | .hbm, ⟨19, _⟩ => ⟨S_, .i32⟩
  | .hbm, ⟨20, _⟩ => ⟨S8x31, .i32⟩
  | .hbm, ⟨21, _⟩ => ⟨S8x31, .i32⟩
  | .hbm, ⟨22, _⟩ => ⟨S8x31, .i32⟩
  | .hbm, ⟨23, _⟩ => ⟨S8x31x1, .i32⟩
  | .hbm, ⟨24, _⟩ => ⟨S128x8x31x512, .f32⟩
  | .hbm, ⟨25, _⟩ => ⟨S1x31x512, .f32⟩
  | .hbm, ⟨26, _⟩ => ⟨S31x512, .f32⟩
  | .hbm, ⟨27, _⟩ => ⟨S1x1x31x512, .f32⟩
  | .hbm, ⟨28, _⟩ => ⟨S128x8x31x512, .f32⟩
  | .hbm, ⟨29, _⟩ => ⟨S128x8x31x512, .f32⟩
  | .hbm, ⟨30, _⟩ => ⟨S_, .f32⟩
  | .hbm, ⟨31, _⟩ => ⟨S128x8x512, .f32⟩
  | .hbm, ⟨32, _⟩ => ⟨S1x512, .f32⟩
  | .hbm, ⟨33, _⟩ => ⟨S512, .f32⟩
  | .hbm, ⟨34, _⟩ => ⟨S1x1x512, .f32⟩
  | .hbm, ⟨35, _⟩ => ⟨S128x8x512, .f32⟩
  | .hbm, ⟨36, _⟩ => ⟨S128x8x512, .f32⟩
  | .hbm, ⟨37, _⟩ => ⟨S1x512, .f32⟩
  | .hbm, ⟨38, _⟩ => ⟨S512, .f32⟩
  | .hbm, ⟨39, _⟩ => ⟨S1x512, .f32⟩
  | .hbm, ⟨40, _⟩ => ⟨S512, .f32⟩
  | .hbm, ⟨41, _⟩ => ⟨S_, .f32⟩
  | .hbm, ⟨42, _⟩ => ⟨S128x8, .f32⟩
  | .hbm, ⟨43, _⟩ => ⟨S128x8x1, .f32⟩
  | .hbm, ⟨44, _⟩ => ⟨S_, .f32⟩
  | .hbm, ⟨45, _⟩ => ⟨S128x8x1, .f32⟩
  | .hbm, ⟨46, _⟩ => ⟨S128x8x1, .f32⟩
  | .hbm, ⟨47, _⟩ => ⟨S128x8x512, .f32⟩
  | .hbm, ⟨48, _⟩ => ⟨S128x8x512, .f32⟩
  | .hbm, ⟨49, _⟩ => ⟨S128x8x512, .f32⟩
  | .hbm, ⟨50, _⟩ => ⟨S_, .f32⟩
  | .hbm, ⟨51, _⟩ => ⟨S128x8, .f32⟩
  | .hbm, ⟨52, _⟩ => ⟨S128x8x1, .f32⟩
  | .hbm, ⟨53, _⟩ => ⟨S_, .f32⟩
  | .hbm, ⟨54, _⟩ => ⟨S128x8x1, .f32⟩
  | .hbm, ⟨55, _⟩ => ⟨S128x8x1, .f32⟩
  | .hbm, ⟨56, _⟩ => ⟨S_, .f32⟩
  | .hbm, ⟨57, _⟩ => ⟨S128x8x1, .f32⟩
  | .hbm, ⟨58, _⟩ => ⟨S128x8x1, .f32⟩
  | .hbm, ⟨59, _⟩ => ⟨S128x8x1, .f32⟩
  | .hbm, ⟨60, _⟩ => ⟨S128x8x512, .f32⟩
  | .hbm, ⟨61, _⟩ => ⟨S128x8x512, .f32⟩
  | .hbm, ⟨62, _⟩ => ⟨S1x1x512, .f32⟩
  | .hbm, ⟨63, _⟩ => ⟨S128x8x512, .f32⟩
  | .hbm, ⟨64, _⟩ => ⟨S128x8x512, .f32⟩
  | .hbm, ⟨65, _⟩ => ⟨S1x1x512, .f32⟩
  | .hbm, ⟨66, _⟩ => ⟨S128x8x512, .f32⟩
  | .hbm, ⟨67, _⟩ => ⟨S128x8x512, .f32⟩
  | .hbm, ⟨68, _⟩ => ⟨S128x8x512, .f32⟩
  | .hbm, ⟨69, _⟩ => ⟨S128x8x512, .f32⟩
  | .hbm, ⟨70, _⟩ => ⟨S_, .f32⟩
  | .hbm, ⟨71, _⟩ => ⟨S128x8x512, .f32⟩
  | .hbm, ⟨72, _⟩ => ⟨S128x8x512, .f32⟩
  | .hbm, ⟨73, _⟩ => ⟨S_, .f32⟩
  | .hbm, ⟨74, _⟩ => ⟨S128x8x512, .f32⟩
  | .hbm, ⟨75, _⟩ => ⟨S128x8x512, .f32⟩
  | .hbm, ⟨76, _⟩ => ⟨S128x8x512, .f32⟩
  | .hbm, ⟨77, _⟩ => ⟨S8x128x512, .f32⟩
  | _, _ => ⟨S128x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== S5Params.lean ====
abbrev S2x64x64 : Shape := ⟨3, ![2, 64, 64]⟩
abbrev S2x64 : Shape := ⟨2, ![2, 64]⟩
abbrev S2x64x64x16 : Shape := ⟨4, ![2, 64, 64, 16]⟩
abbrev S2x16x64x64 : Shape := ⟨4, ![2, 16, 64, 64]⟩
abbrev S2x64x1 : Shape := ⟨3, ![2, 64, 1]⟩
abbrev S1x64x64 : Shape := ⟨3, ![1, 64, 64]⟩
abbrev S1x64x1 : Shape := ⟨3, ![1, 64, 1]⟩
abbrev S1x16x64x64 : Shape := ⟨4, ![1, 16, 64, 64]⟩
abbrev S64x64 : Shape := ⟨2, ![64, 64]⟩
abbrev S64x1 : Shape := ⟨2, ![64, 1]⟩
abbrev S1x1x64x64 : Shape := ⟨4, ![1, 1, 64, 64]⟩

abbrev nBuf : Space → Nat
  | .hbm => 14
  | .vmem => 22
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64, .f32⟩
  | .hbm, ⟨3, _⟩ => ⟨S2x64x64x16, .f32⟩
  | .hbm, ⟨4, _⟩ => ⟨S2x64x64x16, .f32⟩
  | .hbm, ⟨5, _⟩ => ⟨S2x16x64x64, .f32⟩
  | .hbm, ⟨6, _⟩ => ⟨S2x16x64x64, .f32⟩
  | .hbm, ⟨7, _⟩ => ⟨S2x64x1, .f32⟩
  | .hbm, ⟨8, _⟩ => ⟨S2x64x64, .f32⟩
  | .hbm, ⟨9, _⟩ => ⟨S2x64x64, .f32⟩
  | .hbm, ⟨10, _⟩ => ⟨S2x16x64x64, .f32⟩
  | .hbm, ⟨11, _⟩ => ⟨S2x16x64x64, .f32⟩
  | .hbm, ⟨12, _⟩ => ⟨S2x16x64x64, .f32⟩
  | .hbm, ⟨13, _⟩ => ⟨S2x16x64x64, .f32⟩
  | .local _ .vmem, ⟨0, _⟩ => ⟨S1x64x64, .f32⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x1, .f32⟩
  | .local _ .vmem, ⟨5, _⟩ => ⟨S1x64x1, .f32⟩
  | .local _ .vmem, ⟨6, _⟩ => ⟨S1x16x64x64, .f32⟩
  | .local _ .vmem, ⟨7, _⟩ => ⟨S1x16x64x64, .f32⟩
  | .local _ .vmem, ⟨8, _⟩ => ⟨S1x16x64x64, .f32⟩
  | .local _ .vmem, ⟨9, _⟩ => ⟨S1x16x64x64, .f32⟩
  | .local _ .vmem, ⟨10, _⟩ => ⟨S1x64x64, .f32⟩
  | .local _ .vmem, ⟨11, _⟩ => ⟨S1x64x64, .f32⟩
  | .local _ .vmem, ⟨12, _⟩ => ⟨S1x64x64, .f32⟩
  | .local _ .vmem, ⟨13, _⟩ => ⟨S1x64x64, .f32⟩
  | .local _ .vmem, ⟨14, _⟩ => ⟨S1x16x64x64, .f32⟩
  | .local _ .vmem, ⟨15, _⟩ => ⟨S1x16x64x64, .f32⟩
  | .local _ .vmem, ⟨16, _⟩ => ⟨S1x16x64x64, .f32⟩
  | .local _ .vmem, ⟨17, _⟩ => ⟨S1x16x64x64, .f32⟩
  | .local _ .vmem, ⟨18, _⟩ => ⟨S1x16x64x64, .f32⟩
  | .local _ .vmem, ⟨19, _⟩ => ⟨S1x16x64x64, .f32⟩
  | .local _ .vmem, ⟨20, _⟩ => ⟨S1x16x64x64, .f32⟩
  | .local _ .vmem, ⟨21, _⟩ => ⟨S1x16x64x64, .f32⟩
  | _, _ => ⟨S2x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== S5ParamsReferenceIdeal.lean ====
abbrev S2x64x64 : Shape := ⟨3, ![2, 64, 64]⟩
abbrev S2x64 : Shape := ⟨2, ![2, 64]⟩
abbrev S2x64x64x16 : Shape := ⟨4, ![2, 64, 64, 16]⟩
abbrev S2x64x1 : Shape := ⟨3, ![2, 64, 1]⟩
abbrev S_ : Shape := ⟨0, ![]⟩
abbrev S2x64x64x1 : Shape := ⟨4, ![2, 64, 64, 1]⟩
abbrev S2x16x64x64 : Shape := ⟨4, ![2, 16, 64, 64]⟩

abbrev nBuf : Space → Nat
  | .hbm => 62
  | .vmem => 0
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64, .f32⟩
  | .hbm, ⟨3, _⟩ => ⟨S2x64x64x16, .f32⟩
  | .hbm, ⟨4, _⟩ => ⟨S2x64x64x16, .f32⟩
  | .hbm, ⟨5, _⟩ => ⟨S2x64, .f32⟩
  | .hbm, ⟨6, _⟩ => ⟨S2x64x1, .f32⟩
  | .hbm, ⟨7, _⟩ => ⟨S2x64x64, .f32⟩
  | .hbm, ⟨8, _⟩ => ⟨S2x64x64, .f32⟩
  | .hbm, ⟨9, _⟩ => ⟨S2x64x64, .f32⟩
  | .hbm, ⟨10, _⟩ => ⟨S2x64x64, .f32⟩
  | .hbm, ⟨11, _⟩ => ⟨S2x64x64, .f32⟩
  | .hbm, ⟨12, _⟩ => ⟨S2x64x64, .f32⟩
  | .hbm, ⟨13, _⟩ => ⟨S2x64x64, .f32⟩
  | .hbm, ⟨14, _⟩ => ⟨S2x64x64, .f32⟩
  | .hbm, ⟨15, _⟩ => ⟨S2x64x64, .f32⟩
  | .hbm, ⟨16, _⟩ => ⟨S2x64x64, .f32⟩
  | .hbm, ⟨17, _⟩ => ⟨S2x64x64, .f32⟩
  | .hbm, ⟨18, _⟩ => ⟨S2x64x64, .f32⟩
  | .hbm, ⟨19, _⟩ => ⟨S_, .f32⟩
  | .hbm, ⟨20, _⟩ => ⟨S2x64x64, .f32⟩
  | .hbm, ⟨21, _⟩ => ⟨S2x64x64, .f32⟩
  | .hbm, ⟨22, _⟩ => ⟨S2x64x64, .f32⟩
  | .hbm, ⟨23, _⟩ => ⟨S2x64x64, .f32⟩
  | .hbm, ⟨24, _⟩ => ⟨S2x64x64, .f32⟩
  | .hbm, ⟨25, _⟩ => ⟨S2x64x64, .f32⟩
  | .hbm, ⟨26, _⟩ => ⟨S2x64x64, .f32⟩
  | .hbm, ⟨27, _⟩ => ⟨S2x64x64, .f32⟩
  | .hbm, ⟨28, _⟩ => ⟨S2x64x64, .f32⟩
  | .hbm, ⟨29, _⟩ => ⟨S2x64x64, .f32⟩
  | .hbm, ⟨30, _⟩ => ⟨S2x64x64x1, .f32⟩
  | .hbm, ⟨31, _⟩ => ⟨S2x64x64x16, .f32⟩
  | .hbm, ⟨32, _⟩ => ⟨S2x64x64x16, .f32⟩
  | .hbm, ⟨33, _⟩ => ⟨S2x64x64x1, .f32⟩
  | .hbm, ⟨34, _⟩ => ⟨S2x64x64x16, .f32⟩
  | .hbm, ⟨35, _⟩ => ⟨S2x64x64x16, .f32⟩
  | .hbm, ⟨36, _⟩ => ⟨S2x64x64x16, .f32⟩
  | .hbm, ⟨37, _⟩ => ⟨S2x64x64x1, .f32⟩
  | .hbm, ⟨38, _⟩ => ⟨S2x64x64x16, .f32⟩
  | .hbm, ⟨39, _⟩ => ⟨S2x64x64x16, .f32⟩
  | .hbm, ⟨40, _⟩ => ⟨S2x64x64x1, .f32⟩
  | .hbm, ⟨41, _⟩ => ⟨S2x64x64x16, .f32⟩
  | .hbm, ⟨42, _⟩ => ⟨S2x64x64x16, .f32⟩
  | .hbm, ⟨43, _⟩ => ⟨S2x64x64x16, .f32⟩
  | .hbm, ⟨44, _⟩ => ⟨S2x64x64x1, .f32⟩
  | .hbm, ⟨45, _⟩ => ⟨S2x64x64x16, .f32⟩
  | .hbm, ⟨46, _⟩ => ⟨S2x64x64x16, .f32⟩
  | .hbm, ⟨47, _⟩ => ⟨S2x64x64x1, .f32⟩
  | .hbm, ⟨48, _⟩ => ⟨S2x64x64x16, .f32⟩
  | .hbm, ⟨49, _⟩ => ⟨S2x64x64x16, .f32⟩
  | .hbm, ⟨50, _⟩ => ⟨S2x64x64x16, .f32⟩
  | .hbm, ⟨51, _⟩ => ⟨S2x64x64x1, .f32⟩
  | .hbm, ⟨52, _⟩ => ⟨S2x64x64x16, .f32⟩
  | .hbm, ⟨53, _⟩ => ⟨S2x64x64x16, .f32⟩
  | .hbm, ⟨54, _⟩ => ⟨S2x64x64x1, .f32⟩
  | .hbm, ⟨55, _⟩ => ⟨S2x64x64x16, .f32⟩
  | .hbm, ⟨56, _⟩ => ⟨S2x64x64x16, .f32⟩
  | .hbm, ⟨57, _⟩ => ⟨S2x64x64x16, .f32⟩
  | .hbm, ⟨58, _⟩ => ⟨S2x16x64x64, .f32⟩
  | .hbm, ⟨59, _⟩ => ⟨S2x16x64x64, .f32⟩
  | .hbm, ⟨60, _⟩ => ⟨S2x16x64x64, .f32⟩
  | .hbm, ⟨61, _⟩ => ⟨S2x16x64x64, .f32⟩
  | _, _ => ⟨S2x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩

abbrev nD : Nat := 1
abbrev τ : Topo := Topo.v7x

variable {F : FTy → Type} [FloatOps F]
-- ==== S5Sample.lean ====
abbrev S128x8x1024 : Shape := ⟨3, ![128, 8, 1024]⟩
abbrev S4x136x6144 : Shape := ⟨3, ![4, 136, 6144]⟩
abbrev S4x2x1024 : Shape := ⟨3, ![4, 2, 1024]⟩
abbrev S2x128x64x64x2 : Shape := ⟨5, ![2, 128, 64, 64, 2]⟩
abbrev S2x64x64 : Shape := ⟨3, ![2, 64, 64]⟩
abbrev S2x64x64x16 : Shape := ⟨4, ![2, 64, 64, 16]⟩
abbrev S2x64x16x64 : Shape := ⟨4, ![2, 64, 16, 64]⟩
abbrev S2x1024 : Shape := ⟨2, ![2, 1024]⟩
abbrev S2x1024x2048 : Shape := ⟨3, ![2, 1024, 2048]⟩
abbrev S2x2048 : Shape := ⟨2, ![2, 2048]⟩
abbrev S1x64x64x16 : Shape := ⟨4, ![1, 64, 64, 16]⟩
abbrev S64x64x16 : Shape := ⟨3, ![64, 64, 16]⟩
abbrev S16x64x64 : Shape := ⟨3, ![16, 64, 64]⟩
abbrev S1x64x16x64 : Shape := ⟨4, ![1, 64, 16, 64]⟩
abbrev S64x16x64 : Shape := ⟨3, ![64, 16, 64]⟩
abbrev S16x16 : Shape := ⟨2, ![16, 16]⟩
abbrev S_ : Shape := ⟨0, ![]⟩
abbrev S8x8 : Shape := ⟨2, ![8, 8]⟩
abbrev S16x8x8x64 : Shape := ⟨4, ![16, 8, 8, 64]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S4x16x16x64 : Shape := ⟨4, ![4, 16, 16, 64]⟩
abbrev S4x16x64x16 : Shape := ⟨4, ![4, 16, 64, 16]⟩
abbrev S4x16x64x1x16 : Shape := ⟨5, ![4, 16, 64, 1, 16]⟩
abbrev S1x16x1x16x1 : Shape := ⟨5, ![1, 16, 1, 16, 1]⟩
abbrev S4x16x64x16x16 : Shape := ⟨5, ![4, 16, 64, 16, 16]⟩
abbrev S4x1024x256 : Shape := ⟨3, ![4, 1024, 256]⟩
abbrev S4x2048x256 : Shape := ⟨3, ![4, 2048, 256]⟩
abbrev S8x256x1024 : Shape := ⟨3, ![8, 256, 1024]⟩
abbrev S1x128x64x64x2 : Shape := ⟨5, ![1, 128, 64, 64, 2]⟩
abbrev S128x64x64x2 : Shape := ⟨4, ![128, 64, 64, 2]⟩
abbrev S4x136x1x6144 : Shape := ⟨4, ![4, 136, 1, 6144]⟩
abbrev S4x2x1x1024 : Shape := ⟨4, ![4, 2, 1, 1024]⟩
abbrev S128x64x64x1 : Shape := ⟨4, ![128, 64, 64, 1]⟩
abbrev S128x64x64 : Shape := ⟨3, ![128, 64, 64]⟩
abbrev S128x4096 : Shape := ⟨2, ![128, 4096]⟩
abbrev S1x64x64 : Shape := ⟨3, ![1, 64, 64]⟩
abbrev S64x64 : Shape := ⟨2, ![64, 64]⟩
abbrev S1x1024 : Shape := ⟨2, ![1, 1024]⟩
abbrev S1024 : Shape := ⟨1, ![1024]⟩
abbrev S1x2048 : Shape := ⟨2, ![1, 2048]⟩
abbrev S2048 : Shape := ⟨1, ![2048]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S1x512x512 : Shape := ⟨3, ![1, 512, 512]⟩
abbrev S2x512x512 : Shape := ⟨3, ![2, 512, 512]⟩
abbrev S1x4096 : Shape := ⟨2, ![1, 4096]⟩
abbrev S64x8x1024 : Shape := ⟨3, ![64, 8, 1024]⟩
abbrev S1x64x1x1024 : Shape := ⟨4, ![1, 64, 1, 1024]⟩
abbrev S1x1x1x1024 : Shape := ⟨4, ![1, 1, 1, 1024]⟩
abbrev S64x4096 : Shape := ⟨2, ![64, 4096]⟩
abbrev S1x1024x2048 : Shape := ⟨3, ![1, 1024, 2048]⟩
abbrev S2x512x2048 : Shape := ⟨3, ![2, 512, 2048]⟩
abbrev S8x512x128 : Shape := ⟨3, ![8, 512, 128]⟩
abbrev S64x1x1024 : Shape := ⟨3, ![64, 1, 1024]⟩
abbrev S64x8 : Shape := ⟨2, ![64, 8]⟩
abbrev S64x8x1 : Shape := ⟨3, ![64, 8, 1]⟩
abbrev S1x1x1024 : Shape := ⟨3, ![1, 1, 1024]⟩
abbrev S512x1024 : Shape := ⟨2, ![512, 1024]⟩
abbrev S512x128 : Shape := ⟨2, ![512, 128]⟩
abbrev S1x128x256 : Shape := ⟨3, ![1, 128, 256]⟩
abbrev S128x256 : Shape := ⟨2, ![128, 256]⟩
abbrev S512x256 : Shape := ⟨2, ![512, 256]⟩
abbrev S1x512x256 : Shape := ⟨3, ![1, 512, 256]⟩
abbrev S1x128 : Shape := ⟨2, ![1, 128]⟩
abbrev S64x128 : Shape := ⟨2, ![64, 128]⟩
abbrev S1x512x2048 : Shape := ⟨3, ![1, 512, 2048]⟩
abbrev S512x2048 : Shape := ⟨2, ![512, 2048]⟩
abbrev S1x256x256 : Shape := ⟨3, ![1, 256, 256]⟩
abbrev S256x256 : Shape := ⟨2, ![256, 256]⟩
abbrev S1x512x128 : Shape := ⟨3, ![1, 512, 128]⟩
abbrev S1x64x128 : Shape := ⟨3, ![1, 64, 128]⟩
abbrev S1024x2048 : Shape := ⟨2, ![1024, 2048]⟩

abbrev nBuf : Space → Nat
  | .hbm => 205
  | .vmem => 33
  | .smem => 0
  | _ => 0

abbrev hbmTy0_0 (i : Nat) : BufTy := match i % 128 with
  | 0 => ⟨S128x8x1024, .f32⟩
  | 1 => ⟨S4x136x6144, .f32⟩
  | 2 => ⟨S4x2x1024, .f32⟩
  | 3 => ⟨S2x128x64x64x2, .f32⟩
  | 4 => ⟨S2x64x64, .f32⟩
  | 5 => ⟨S2x64x64, .f32⟩
  | 6 => ⟨S2x64x64x16, .f32⟩
  | 7 => ⟨S2x64x64x16, .f32⟩
  | 8 => ⟨S2x64x16x64, .f32⟩
  | 9 => ⟨S2x64x16x64, .f32⟩
  | 10 => ⟨S2x1024, .f32⟩
  | 11 => ⟨S2x1024x2048, .f32⟩
  | 12 => ⟨S2x2048, .f32⟩
  | 13 => ⟨S1x64x64x16, .f32⟩
  | 14 => ⟨S64x64x16, .f32⟩
  | 15 => ⟨S16x64x64, .f32⟩
  | 16 => ⟨S1x64x64x16, .f32⟩
  | 17 => ⟨S64x64x16, .f32⟩
  | 18 => ⟨S16x64x64, .f32⟩
  | 19 => ⟨S1x64x16x64, .f32⟩
  | 20 => ⟨S64x16x64, .f32⟩
  | 21 => ⟨S1x64x16x64, .f32⟩
  | 22 => ⟨S64x16x64, .f32⟩
  | 23 => ⟨S16x16, .i32⟩
  | 24 => ⟨S16x16, .i32⟩
  | 25 => ⟨S_, .i32⟩
  | 26 => ⟨S16x16, .i32⟩
  | 27 => ⟨S16x16, .i32⟩
  | 28 => ⟨S16x16, .i1⟩
  | 29 => ⟨S16x16, .f32⟩
  | 30 => ⟨S8x8, .i32⟩
  | 31 => ⟨S8x8, .i32⟩
  | 32 => ⟨S_, .i32⟩
  | 33 => ⟨S8x8, .i32⟩
  | 34 => ⟨S8x8, .i32⟩
  | 35 => ⟨S8x8, .i1⟩
  | 36 => ⟨S8x8, .f32⟩
  | 37 => ⟨S16x8x8x64, .f32⟩
  | 38 => ⟨S8x8x16x64, .f32⟩
  | 39 => ⟨S8x8x16x1x64, .f32⟩
  | 40 => ⟨S1x8x1x8x1, .f32⟩
  | 41 => ⟨S8x8x16x8x64, .f32⟩
  | 42 => ⟨S8x8x16x8x64, .f32⟩
  | 43 => ⟨S8x8x16x8x64, .f32⟩
  | 44 => ⟨S8x128x512, .f32⟩
  | 45 => ⟨S16x8x8x64, .f32⟩
  | 46 => ⟨S8x8x16x64, .f32⟩
  | 47 => ⟨S8x8x16x1x64, .f32⟩
  | 48 => ⟨S1x8x1x8x1, .f32⟩
  | 49 => ⟨S8x8x16x8x64, .f32⟩
  | 50 => ⟨S8x8x16x8x64, .f32⟩
  | 51 => ⟨S8x8x16x8x64, .f32⟩
  | 52 => ⟨S8x128x512, .f32⟩
  | 53 => ⟨S8x128x1024, .f32⟩
  | 54 => ⟨S8x128x1024, .bf16⟩
  | 55 => ⟨S16x8x8x64, .f32⟩
  | 56 => ⟨S8x8x16x64, .f32⟩
  | 57 => ⟨S8x8x16x1x64, .f32⟩
  | 58 => ⟨S1x8x1x8x1, .f32⟩
  | 59 => ⟨S8x8x16x8x64, .f32⟩
  | 60 => ⟨S8x8x16x8x64, .f32⟩
  | 61 => ⟨S8x8x16x8x64, .f32⟩
  | 62 => ⟨S8x128x512, .f32⟩
  | 63 => ⟨S16x8x8x64, .f32⟩
  | 64 => ⟨S8x8x16x64, .f32⟩
  | 65 => ⟨S8x8x16x1x64, .f32⟩
  | 66 => ⟨S1x8x1x8x1, .f32⟩
  | 67 => ⟨S8x8x16x8x64, .f32⟩
  | 68 => ⟨S8x8x16x8x64, .f32⟩
  | 69 => ⟨S8x8x16x8x64, .f32⟩
  | 70 => ⟨S8x128x512, .f32⟩
  | 71 => ⟨S8x128x1024, .f32⟩
  | 72 => ⟨S8x128x1024, .bf16⟩
  | 73 => ⟨S4x16x16x64, .f32⟩
  | 74 => ⟨S4x16x64x16, .f32⟩
  | 75 => ⟨S4x16x64x1x16, .f32⟩
  | 76 => ⟨S1x16x1x16x1, .f32⟩
  | 77 => ⟨S4x16x64x16x16, .f32⟩
  | 78 => ⟨S4x16x64x16x16, .f32⟩
  | 79 => ⟨S4x16x64x16x16, .f32⟩
  | 80 => ⟨S4x1024x256, .f32⟩
  | 81 => ⟨S64x16x64, .f32⟩
  | 82 => ⟨S4x16x16x64, .f32⟩
  | 83 => ⟨S4x16x64x16, .f32⟩
  | 84 => ⟨S4x16x64x1x16, .f32⟩
  | 85 => ⟨S1x16x1x16x1, .f32⟩
  | 86 => ⟨S4x16x64x16x16, .f32⟩
  | 87 => ⟨S4x16x64x16x16, .f32⟩
  | 88 => ⟨S4x16x64x16x16, .f32⟩
  | 89 => ⟨S4x1024x256, .f32⟩
  | 90 => ⟨S4x2048x256, .f32⟩
  | 91 => ⟨S4x2048x256, .bf16⟩
  | 92 => ⟨S8x256x1024, .bf16⟩
  | 93 => ⟨S1x128x64x64x2, .f32⟩
  | 94 => ⟨S128x64x64x2, .f32⟩
  | 95 => ⟨S4x136x1x6144, .f32⟩
  | 96 => ⟨S4x2x1x1024, .f32⟩
  | 97 => ⟨S128x64x64x1, .f32⟩
  | 98 => ⟨S128x64x64, .f32⟩
  | 99 => ⟨S128x4096, .f32⟩
  | 100 => ⟨S128x64x64x1, .f32⟩
  | 101 => ⟨S128x64x64, .f32⟩
  | 102 => ⟨S128x4096, .f32⟩
  | 103 => ⟨S1x64x64, .f32⟩
  | 104 => ⟨S64x64, .f32⟩
  | 105 => ⟨S1x64x64, .f32⟩
  | 106 => ⟨S64x64, .f32⟩
  | 107 => ⟨S1x1024, .f32⟩
  | 108 => ⟨S1024, .f32⟩
  | 109 => ⟨S2x1024x2048, .bf16⟩
  | 110 => ⟨S1x2048, .f32⟩
  | 111 => ⟨S2048, .f32⟩
  | 112 => ⟨S512, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S512, .i32⟩
  | 120 => ⟨S512, .i32⟩
  | 121 => ⟨S_, .i32⟩
  | 122 => ⟨S512, .i32⟩
  | 123 => ⟨S512, .i1⟩
  | 124 => ⟨S_, .i32⟩
  | 125 => ⟨S512, .i32⟩
  | 126 => ⟨S512, .i1⟩
  | 127 => ⟨S_, .i32⟩
  | _ => ⟨S128x8x1024, .f32⟩

abbrev hbmTy0_1 (i : Nat) : BufTy := match i % 128 with
  | 0 => ⟨S_, .i1⟩
  | 1 => ⟨S512, .i1⟩
  | 2 => ⟨S512, .i1⟩
  | 3 => ⟨S512, .i1⟩
  | 4 => ⟨S512, .i32⟩
  | 5 => ⟨S512, .i32⟩
  | 6 => ⟨S512, .i32⟩
  | 7 => ⟨S_, .i32⟩
  | 8 => ⟨S512, .i32⟩
  | 9 => ⟨S512, .i32⟩
  | 10 => ⟨S_, .i32⟩
  | 11 => ⟨S_, .i32⟩
  | 12 => ⟨S512, .i32⟩
  | 13 => ⟨S512, .i32⟩
  | 14 => ⟨S512, .i32⟩
  | 15 => ⟨S_, .i32⟩
  | 16 => ⟨S512, .i32⟩
  | 17 => ⟨S512, .i1⟩
  | 18 => ⟨S512, .i32⟩
  | 19 => ⟨S512, .i32⟩
  | 20 => ⟨S_, .i32⟩
  | 21 => ⟨S512, .i32⟩
  | 22 => ⟨S512, .i1⟩
  | 23 => ⟨S512, .i1⟩
  | 24 => ⟨S_, .i32⟩
  | 25 => ⟨S512, .i32⟩
  | 26 => ⟨S512, .i32⟩
  | 27 => ⟨S512, .i32⟩
  | 28 => ⟨S512, .i32⟩
  | 29 => ⟨S512, .i32⟩
  | 30 => ⟨S1x512, .i32⟩
  | 31 => ⟨S512x1, .i32⟩
  | 32 => ⟨S512x512, .i32⟩
  | 33 => ⟨S512x512, .i32⟩
  | 34 => ⟨S512x512, .i1⟩
  | 35 => ⟨S512x1, .i32⟩
  | 36 => ⟨S_, .i32⟩
  | 37 => ⟨S512x1, .i32⟩
  | 38 => ⟨S512x1, .i32⟩
  | 39 => ⟨S512x512, .i32⟩
  | 40 => ⟨S512x512, .i32⟩
  | 41 => ⟨S512x512, .i1⟩
  | 42 => ⟨S_, .i32⟩
  | 43 => ⟨S_, .i32⟩
  | 44 => ⟨S512, .i32⟩
  | 45 => ⟨S512, .i32⟩
  | 46 => ⟨S512, .i32⟩
  | 47 => ⟨S_, .i32⟩
  | 48 => ⟨S512, .i32⟩
  | 49 => ⟨S512, .i1⟩
  | 50 => ⟨S512, .i32⟩
  | 51 => ⟨S512, .i32⟩
  | 52 => ⟨S_, .i32⟩
  | 53 => ⟨S512, .i32⟩
  | 54 => ⟨S512, .i1⟩
  | 55 => ⟨S512, .i1⟩
  | 56 => ⟨S_, .i32⟩
  | 57 => ⟨S512, .i32⟩
  | 58 => ⟨S512, .i32⟩
  | 59 => ⟨S512, .i32⟩
  | 60 => ⟨S_, .i32⟩
  | 61 => ⟨S512, .i32⟩
  | 62 => ⟨S512, .i1⟩
  | 63 => ⟨S512x1, .i1⟩
  | 64 => ⟨S512x512, .i1⟩
  | 65 => ⟨S512x512, .i1⟩
  | 66 => ⟨S1x512x512, .i1⟩
  | 67 => ⟨S1x512x512, .i1⟩
  | 68 => ⟨S2x512x512, .i1⟩
  | 69 => ⟨S2x512x512, .bf16⟩
  | 70 => ⟨S1x4096, .f32⟩
  | 71 => ⟨S1x4096, .f32⟩
  | 72 => ⟨S1x1024, .f32⟩
  | 73 => ⟨S1x2048, .f32⟩
  | 74 => ⟨S128x8x1024, .f32⟩
  | 75 => ⟨S128x4096, .f32⟩
  | 76 => ⟨S128x4096, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | .local _ .vmem, ⟨0, _⟩ => ⟨S64x8x1024, .f32⟩
  | .local _ .vmem, ⟨1, _⟩ => ⟨S64x8x1024, .f32⟩
  | .local _ .vmem, ⟨2, _⟩ => ⟨S1x64x1x1024, .f32⟩
  | .local _ .vmem, ⟨3, _⟩ => ⟨S1x64x1x1024, .f32⟩
  | .local _ .vmem, ⟨4, _⟩ => ⟨S1x64x1x1024, .f32⟩
  | .local _ .vmem, ⟨5, _⟩ => ⟨S1x64x1x1024, .f32⟩
  | .local _ .vmem, ⟨6, _⟩ => ⟨S1x64x1x1024, .f32⟩
  | .local _ .vmem, ⟨7, _⟩ => ⟨S1x64x1x1024, .f32⟩
  | .local _ .vmem, ⟨8, _⟩ => ⟨S1x1x1x1024, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S1x4096, .f32⟩
  | .local _ .vmem, ⟨14, _⟩ => ⟨S1x4096, .f32⟩
  | .local _ .vmem, ⟨15, _⟩ => ⟨S2x512x512, .bf16⟩
  | .local _ .vmem, ⟨16, _⟩ => ⟨S8x128x1024, .bf16⟩
  | .local _ .vmem, ⟨17, _⟩ => ⟨S4x2048x256, .bf16⟩
  | .local _ .vmem, ⟨18, _⟩ => ⟨S1x1024, .f32⟩
  | .local _ .vmem, ⟨19, _⟩ => ⟨S1x1024x2048, .bf16⟩
  | .local _ .vmem, ⟨20, _⟩ => ⟨S1x2048, .f32⟩
  | .local _ .vmem, ⟨21, _⟩ => ⟨S64x8x1024, .f32⟩
  | .local _ .vmem, ⟨22, _⟩ => ⟨S64x8x1024, .f32⟩
  | .local _ .vmem, ⟨23, _⟩ => ⟨S64x4096, .f32⟩
  | .local _ .vmem, ⟨24, _⟩ => ⟨S64x4096, .f32⟩
  | .local _ .vmem, ⟨25, _⟩ => ⟨S64x4096, .f32⟩
  | .local _ .vmem, ⟨26, _⟩ => ⟨S64x4096, .f32⟩
  | .local _ .vmem, ⟨27, _⟩ => ⟨S64x4096, .f32⟩
  | .local _ .vmem, ⟨28, _⟩ => ⟨S64x4096, .f32⟩
  | .local _ .vmem, ⟨29, _⟩ => ⟨S2x512x2048, .f32⟩
  | .local _ .vmem, ⟨30, _⟩ => ⟨S2x512x2048, .f32⟩
  | .local _ .vmem, ⟨31, _⟩ => ⟨S8x512x128, .f32⟩
  | .local _ .vmem, ⟨32, _⟩ => ⟨S8x512x128, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_c_1 : Ref sig .tc := ⟨.hbm, 113, rfl⟩
abbrev main_call0_v0 : Ref sig .tc := ⟨.hbm, 114, rfl⟩
abbrev main_call0_c : Ref sig .tc := ⟨.hbm, 115, rfl⟩
abbrev main_call0_v1 : Ref sig .tc := ⟨.hbm, 116, rfl⟩
abbrev main_call0_c_0 : Ref sig .tc := ⟨.hbm, 117, rfl⟩
abbrev main_call0_v2 : Ref sig .tc := ⟨.hbm, 118, rfl⟩
abbrev main_call0_v3 : Ref sig .tc := ⟨.hbm, 119, rfl⟩
abbrev main_call0_v4 : Ref sig .tc := ⟨.hbm, 120, rfl⟩
abbrev main_call0_c_1 : Ref sig .tc := ⟨.hbm, 121, rfl⟩
abbrev main_call0_v5 : Ref sig .tc := ⟨.hbm, 122, rfl⟩
abbrev main_call0_v6 : Ref sig .tc := ⟨.hbm, 123, rfl⟩
abbrev main_call0_c_2 : Ref sig .tc := ⟨.hbm, 124, rfl⟩
abbrev main_call0_v7 : Ref sig .tc := ⟨.hbm, 125, rfl⟩
abbrev main_call0_v8 : Ref sig .tc := ⟨.hbm, 126, rfl⟩
abbrev main_call0_c_3 : Ref sig .tc := ⟨.hbm, 127, rfl⟩
abbrev main_call0_v9 : Ref sig .tc := ⟨.hbm, 128, rfl⟩
abbrev main_call0_v10 : Ref sig .tc := ⟨.hbm, 129, rfl⟩
abbrev main_call0_v11 : Ref sig .tc := ⟨.hbm, 130, rfl⟩
abbrev main_call0_v12 : Ref sig .tc := ⟨.hbm, 131, rfl⟩
abbrev main_call0_v13 : Ref sig .tc := ⟨.hbm, 132, rfl⟩
abbrev main_call0_v14 : Ref sig .tc := ⟨.hbm, 133, rfl⟩
abbrev main_v98 : Ref sig .tc := ⟨.hbm, 134, rfl⟩
abbrev main_c_2 : Ref sig .tc := ⟨.hbm, 135, rfl⟩
abbrev main_v99 : Ref sig .tc := ⟨.hbm, 136, rfl⟩
abbrev main_v100 : Ref sig .tc := ⟨.hbm, 137, rfl⟩
abbrev main_c_3 : Ref sig .tc := ⟨.hbm, 138, rfl⟩
abbrev main_call1_v0 : Ref sig .tc := ⟨.hbm, 139, rfl⟩
abbrev main_call1_v1 : Ref sig .tc := ⟨.hbm, 140, rfl⟩
abbrev main_call1_v2 : Ref sig .tc := ⟨.hbm, 141, rfl⟩
abbrev main_call1_v3 : Ref sig .tc := ⟨.hbm, 142, rfl⟩
abbrev main_call1_v4 : Ref sig .tc := ⟨.hbm, 143, rfl⟩
abbrev main_call1_v5 : Ref sig .tc := ⟨.hbm, 144, rfl⟩
abbrev main_call1_v6 : Ref sig .tc := ⟨.hbm, 145, rfl⟩
abbrev main_call1_v7 : Ref sig .tc := ⟨.hbm, 146, rfl⟩
abbrev main_call1_v8 : Ref sig .tc := ⟨.hbm, 147, rfl⟩
abbrev main_call1_c : Ref sig .tc := ⟨.hbm, 148, rfl⟩
abbrev main_call1_v9 : Ref sig .tc := ⟨.hbm, 149, rfl⟩
abbrev main_call1_v10 : Ref sig .tc := ⟨.hbm, 150, rfl⟩
abbrev main_call1_v11 : Ref sig .tc := ⟨.hbm, 151, rfl⟩
abbrev main_call1_c_0 : Ref sig .tc := ⟨.hbm, 152, rfl⟩
abbrev main_call1_v12 : Ref sig .tc := ⟨.hbm, 153, rfl⟩
abbrev main_call1_v13 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_c_4 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_c_5 : Ref sig .tc := ⟨.hbm, 170, rfl⟩
abbrev main_call2_v0 : Ref sig .tc := ⟨.hbm, 171, rfl⟩
abbrev main_call2_v1 : Ref sig .tc := ⟨.hbm, 172, rfl⟩
abbrev main_call2_v2 : Ref sig .tc := ⟨.hbm, 173, rfl⟩
abbrev main_call2_v3 : Ref sig .tc := ⟨.hbm, 174, rfl⟩
abbrev main_call2_v4 : Ref sig .tc := ⟨.hbm, 175, rfl⟩
abbrev main_call2_v5 : Ref sig .tc := ⟨.hbm, 176, rfl⟩
abbrev main_call2_v6 : Ref sig .tc := ⟨.hbm, 177, rfl⟩
abbrev main_call2_v7 : Ref sig .tc := ⟨.hbm, 178, rfl⟩
abbrev main_call2_v8 : Ref sig .tc := ⟨.hbm, 179, rfl⟩
abbrev main_call2_c : Ref sig .tc := ⟨.hbm, 180, rfl⟩
abbrev main_call2_v9 : Ref sig .tc := ⟨.hbm, 181, rfl⟩
abbrev main_call2_v10 : Ref sig .tc := ⟨.hbm, 182, rfl⟩
abbrev main_call2_v11 : Ref sig .tc := ⟨.hbm, 183, rfl⟩
abbrev main_call2_c_0 : Ref sig .tc := ⟨.hbm, 184, rfl⟩
abbrev main_call2_v12 : Ref sig .tc := ⟨.hbm, 185, rfl⟩
abbrev main_call2_v13 : Ref sig .tc := ⟨.hbm, 186, rfl⟩
abbrev main_v115 : Ref sig .tc := ⟨.hbm, 187, rfl⟩
abbrev main_c_6 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129_0 : Ref sig .tc := ⟨.hbm, 202, rfl⟩
abbrev main_v129_1 : Ref sig .tc := ⟨.hbm, 203, rfl⟩
abbrev main_v129_2 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![2, 1], ![false, false]⟩

def k0_mult1 : BitVec 32 :=
  let c0_i32_80 : BitVec 32 := 0#32
  let c64_i32 : BitVec 32 := 64#32
  let v95 : BitVec 32 := Scalar.muli c0_i32_80 c64_i32
  v95
def k0_off1 (c0_i32_80 : BitVec 32) : Fin 2 → Nat :=
  let c64_i32 : BitVec 32 := 64#32
  let v95 : BitVec 32 := Scalar.muli c0_i32_80 c64_i32
  let v96 : BitVec 32 := v95
  let v102 : Index := Scalar.indexCast v96
  let c0_83 : Index := 0#32
  ![v102.toNat, 0]
def k0_off2 (c0_i32_80 : BitVec 32) : Fin 2 → Nat :=
  let c64_i32 : BitVec 32 := 64#32
  let v95 : BitVec 32 := Scalar.muli c0_i32_80 c64_i32
  let v96 : BitVec 32 := v95
  let v110 : Index := Scalar.indexCast v96
  let c1024_86 : Index := 1024#32
  ![v110.toNat, 1024]
def k0_mult2 : BitVec 32 :=
  let c1_i32 : BitVec 32 := 1#32
  let c64_i32_93 : BitVec 32 := 64#32
  let v125 : BitVec 32 := Scalar.muli c1_i32 c64_i32_93
  v125
def k0_mult3 : BitVec 32 :=
  let c2_i32 : BitVec 32 := 2#32
  let c64_i32_106 : BitVec 32 := 64#32
  let v155 : BitVec 32 := Scalar.muli c2_i32 c64_i32_106
  v155
def k0_mult4 : BitVec 32 :=
  let c3_i32 : BitVec 32 := 3#32
  let c64_i32_119 : BitVec 32 := 64#32
  let v185 : BitVec 32 := Scalar.muli c3_i32 c64_i32_119
  v185
def k0_mult5 : BitVec 32 :=
  let c4_i32 : BitVec 32 := 4#32
  let c64_i32_132 : BitVec 32 := 64#32
  let v215 : BitVec 32 := Scalar.muli c4_i32 c64_i32_132
  v215
def k0_mult6 : BitVec 32 :=
  let c5_i32 : BitVec 32 := 5#32
  let c64_i32_145 : BitVec 32 := 64#32
  let v245 : BitVec 32 := Scalar.muli c5_i32 c64_i32_145
  v245
def k0_mult7 : BitVec 32 :=
  let c6_i32 : BitVec 32 := 6#32
  let c64_i32_158 : BitVec 32 := 64#32
  let v275 : BitVec 32 := Scalar.muli c6_i32 c64_i32_158
  v275
def k0_mult8 : BitVec 32 :=
  let c7_i32 : BitVec 32 := 7#32
  let c64_i32_171 : BitVec 32 := 64#32
  let v305 : BitVec 32 := Scalar.muli c7_i32 c64_i32_171
  v305
def k0_mult9 : BitVec 32 :=
  let c0_i32_203 : BitVec 32 := 0#32
  let c64_i32_204 : BitVec 32 := 64#32
  let v358 : BitVec 32 := Scalar.muli c0_i32_203 c64_i32_204
  v358
def k0_off3 (c0_i32_203 : BitVec 32) : Fin 2 → Nat :=
  let c64_i32_204 : BitVec 32 := 64#32
  let v358 : BitVec 32 := Scalar.muli c0_i32_203 c64_i32_204
  let v359 : BitVec 32 := v358
  let v365 : Index := Scalar.indexCast v359
  let c128_207 : Index := 128#32
  ![v365.toNat, 128]
def k0_off4 (c0_i32_203 : BitVec 32) : Fin 2 → Nat :=
  let c64_i32_204 : BitVec 32 := 64#32
  let v358 : BitVec 32 := Scalar.muli c0_i32_203 c64_i32_204
  let v359 : BitVec 32 := v358
  let v373 : Index := Scalar.indexCast v359
  let c1152 : Index := 1152#32
  ![v373.toNat, 1152]
def k0_mult10 : BitVec 32 :=
  let c1_i32_216 : BitVec 32 := 1#32
  let c64_i32_217 : BitVec 32 := 64#32
  let v388 : BitVec 32 := Scalar.muli c1_i32_216 c64_i32_217
  v388
def k0_mult11 : BitVec 32 :=
  let c2_i32_230 : BitVec 32 := 2#32
  let c64_i32_231 : BitVec 32 := 64#32
  let v418 : BitVec 32 := Scalar.muli c2_i32_230 c64_i32_231
  v418
def k0_mult12 : BitVec 32 :=
  let c3_i32_244 : BitVec 32 := 3#32
  let c64_i32_245 : BitVec 32 := 64#32
  let v448 : BitVec 32 := Scalar.muli c3_i32_244 c64_i32_245
  v448
def k0_mult13 : BitVec 32 :=
  let c4_i32_258 : BitVec 32 := 4#32
  let c64_i32_259 : BitVec 32 := 64#32
  let v478 : BitVec 32 := Scalar.muli c4_i32_258 c64_i32_259
  v478
def k0_mult14 : BitVec 32 :=
  let c5_i32_272 : BitVec 32 := 5#32
  let c64_i32_273 : BitVec 32 := 64#32
  let v508 : BitVec 32 := Scalar.muli c5_i32_272 c64_i32_273
  v508
def k0_mult15 : BitVec 32 :=
  let c6_i32_286 : BitVec 32 := 6#32
  let c64_i32_287 : BitVec 32 := 64#32
  let v538 : BitVec 32 := Scalar.muli c6_i32_286 c64_i32_287
  v538
def k0_mult16 : BitVec 32 :=
  let c7_i32_300 : BitVec 32 := 7#32
  let c64_i32_301 : BitVec 32 := 64#32
  let v568 : BitVec 32 := Scalar.muli c7_i32_300 c64_i32_301
  v568
def k0_mult17 : BitVec 32 :=
  let c0_i32_336 : BitVec 32 := 0#32
  let c64_i32_337 : BitVec 32 := 64#32
  let v620 : BitVec 32 := Scalar.muli c0_i32_336 c64_i32_337
  v620
def k0_off5 (c0_i32_336 : BitVec 32) : Fin 2 → Nat :=
  let c64_i32_337 : BitVec 32 := 64#32
  let v620 : BitVec 32 := Scalar.muli c0_i32_336 c64_i32_337
  let v621 : BitVec 32 := v620
  let v627 : Index := Scalar.indexCast v621
  let c256_340 : Index := 256#32
  ![v627.toNat, 256]
def k0_off6 (c0_i32_336 : BitVec 32) : Fin 2 → Nat :=
  let c64_i32_337 : BitVec 32 := 64#32
  let v620 : BitVec 32 := Scalar.muli c0_i32_336 c64_i32_337
  let v621 : BitVec 32 := v620
  let v635 : Index := Scalar.indexCast v621
  let c1280_343 : Index := 1280#32
  ![v635.toNat, 1280]
def k0_mult18 : BitVec 32 :=
  let c1_i32_350 : BitVec 32 := 1#32
  let c64_i32_351 : BitVec 32 := 64#32
  let v650 : BitVec 32 := Scalar.muli c1_i32_350 c64_i32_351
  v650
def k0_mult19 : BitVec 32 :=
  let c2_i32_364 : BitVec 32 := 2#32
  let c64_i32_365 : BitVec 32 := 64#32
  let v680 : BitVec 32 := Scalar.muli c2_i32_364 c64_i32_365
  v680
def k0_mult20 : BitVec 32 :=
  let c3_i32_378 : BitVec 32 := 3#32
  let c64_i32_379 : BitVec 32 := 64#32
  let v710 : BitVec 32 := Scalar.muli c3_i32_378 c64_i32_379
  v710
def k0_mult21 : BitVec 32 :=
  let c4_i32_392 : BitVec 32 := 4#32
  let c64_i32_393 : BitVec 32 := 64#32
  let v740 : BitVec 32 := Scalar.muli c4_i32_392 c64_i32_393
  v740
def k0_mult22 : BitVec 32 :=
  let c5_i32_406 : BitVec 32 := 5#32
  let c64_i32_407 : BitVec 32 := 64#32
  let v770 : BitVec 32 := Scalar.muli c5_i32_406 c64_i32_407
  v770
def k0_mult23 : BitVec 32 :=
  let c6_i32_420 : BitVec 32 := 6#32
  let c64_i32_421 : BitVec 32 := 64#32
  let v800 : BitVec 32 := Scalar.muli c6_i32_420 c64_i32_421
  v800
def k0_mult24 : BitVec 32 :=
  let c7_i32_434 : BitVec 32 := 7#32
  let c64_i32_435 : BitVec 32 := 64#32
  let v830 : BitVec 32 := Scalar.muli c7_i32_434 c64_i32_435
  v830
def k0_mult25 : BitVec 32 :=
  let c0_i32_469 : BitVec 32 := 0#32
  let c64_i32_470 : BitVec 32 := 64#32
  let v882 : BitVec 32 := Scalar.muli c0_i32_469 c64_i32_470
  v882
def k0_off7 (c0_i32_469 : BitVec 32) : Fin 2 → Nat :=
  let c64_i32_470 : BitVec 32 := 64#32
  let v882 : BitVec 32 := Scalar.muli c0_i32_469 c64_i32_470
  let v883 : BitVec 32 := v882
  let v889 : Index := Scalar.indexCast v883
  let c384_473 : Index := 384#32
  ![v889.toNat, 384]
def k0_off8 (c0_i32_469 : BitVec 32) : Fin 2 → Nat :=
  let c64_i32_470 : BitVec 32 := 64#32
  let v882 : BitVec 32 := Scalar.muli c0_i32_469 c64_i32_470
  let v883 : BitVec 32 := v882
  let v897 : Index := Scalar.indexCast v883
  let c1408 : Index := 1408#32
  ![v897.toNat, 1408]
def k0_mult26 : BitVec 32 :=
  let c1_i32_482 : BitVec 32 := 1#32
  let c64_i32_483 : BitVec 32 := 64#32
  let v912 : BitVec 32 := Scalar.muli c1_i32_482 c64_i32_483
  v912
def k0_mult27 : BitVec 32 :=
  let c2_i32_496 : BitVec 32 := 2#32
  let c64_i32_497 : BitVec 32 := 64#32
  let v942 : BitVec 32 := Scalar.muli c2_i32_496 c64_i32_497
  v942
def k0_mult28 : BitVec 32 :=
  let c3_i32_510 : BitVec 32 := 3#32
  let c64_i32_511 : BitVec 32 := 64#32
  let v972 : BitVec 32 := Scalar.muli c3_i32_510 c64_i32_511
  v972
def k0_mult29 : BitVec 32 :=
  let c4_i32_524 : BitVec 32 := 4#32
  let c64_i32_525 : BitVec 32 := 64#32
  let v1002 : BitVec 32 := Scalar.muli c4_i32_524 c64_i32_525
  v1002
def k0_mult30 : BitVec 32 :=
  let c5_i32_538 : BitVec 32 := 5#32
  let c64_i32_539 : BitVec 32 := 64#32
  let v1032 : BitVec 32 := Scalar.muli c5_i32_538 c64_i32_539
  v1032
def k0_mult31 : BitVec 32 :=
  let c6_i32_552 : BitVec 32 := 6#32
  let c64_i32_553 : BitVec 32 := 64#32
  let v1062 : BitVec 32 := Scalar.muli c6_i32_552 c64_i32_553
  v1062
def k0_mult32 : BitVec 32 :=
  let c7_i32_566 : BitVec 32 := 7#32
  let c64_i32_567 : BitVec 32 := 64#32
  let v1092 : BitVec 32 := Scalar.muli c7_i32_566 c64_i32_567
  v1092
def k0_mult33 : BitVec 32 :=
  let c0_i32_602 : BitVec 32 := 0#32
  let c64_i32_603 : BitVec 32 := 64#32
  let v1144 : BitVec 32 := Scalar.muli c0_i32_602 c64_i32_603
  v1144
def k0_off9 (c0_i32_602 : BitVec 32) : Fin 2 → Nat :=
  let c64_i32_603 : BitVec 32 := 64#32
  let v1144 : BitVec 32 := Scalar.muli c0_i32_602 c64_i32_603
  let v1145 : BitVec 32 := v1144
  let v1151 : Index := Scalar.indexCast v1145
  let c512_606 : Index := 512#32
  ![v1151.toNat, 512]
def k0_off10 (c0_i32_602 : BitVec 32) : Fin 2 → Nat :=
  let c64_i32_603 : BitVec 32 := 64#32
  let v1144 : BitVec 32 := Scalar.muli c0_i32_602 c64_i32_603
  let v1145 : BitVec 32 := v1144
  let v1159 : Index := Scalar.indexCast v1145
  let c1536_609 : Index := 1536#32
  ![v1159.toNat, 1536]
def k0_mult34 : BitVec 32 :=
  let c1_i32_616 : BitVec 32 := 1#32
  let c64_i32_617 : BitVec 32 := 64#32
  let v1174 : BitVec 32 := Scalar.muli c1_i32_616 c64_i32_617
  v1174
def k0_mult35 : BitVec 32 :=
  let c2_i32_630 : BitVec 32 := 2#32
  let c64_i32_631 : BitVec 32 := 64#32
  let v1204 : BitVec 32 := Scalar.muli c2_i32_630 c64_i32_631
  v1204
def k0_mult36 : BitVec 32 :=
  let c3_i32_644 : BitVec 32 := 3#32
  let c64_i32_645 : BitVec 32 := 64#32
  let v1234 : BitVec 32 := Scalar.muli c3_i32_644 c64_i32_645
  v1234
def k0_mult37 : BitVec 32 :=
  let c4_i32_658 : BitVec 32 := 4#32
  let c64_i32_659 : BitVec 32 := 64#32
  let v1264 : BitVec 32 := Scalar.muli c4_i32_658 c64_i32_659
  v1264
def k0_mult38 : BitVec 32 :=
  let c5_i32_672 : BitVec 32 := 5#32
  let c64_i32_673 : BitVec 32 := 64#32
  let v1294 : BitVec 32 := Scalar.muli c5_i32_672 c64_i32_673
  v1294
def k0_mult39 : BitVec 32 :=
  let c6_i32_686 : BitVec 32 := 6#32
  let c64_i32_687 : BitVec 32 := 64#32
  let v1324 : BitVec 32 := Scalar.muli c6_i32_686 c64_i32_687
  v1324
def k0_mult40 : BitVec 32 :=
  let c7_i32_700 : BitVec 32 := 7#32
  let c64_i32_701 : BitVec 32 := 64#32
  let v1354 : BitVec 32 := Scalar.muli c7_i32_700 c64_i32_701
  v1354
def k0_mult41 : BitVec 32 :=
  let c0_i32_734 : BitVec 32 := 0#32
  let c64_i32_735 : BitVec 32 := 64#32
  let v1407 : BitVec 32 := Scalar.muli c0_i32_734 c64_i32_735
  v1407
def k0_off11 (c0_i32_734 : BitVec 32) : Fin 2 → Nat :=
  let c64_i32_735 : BitVec 32 := 64#32
  let v1407 : BitVec 32 := Scalar.muli c0_i32_734 c64_i32_735
  let v1408 : BitVec 32 := v1407
  let v1414 : Index := Scalar.indexCast v1408
  let c640_738 : Index := 640#32
  ![v1414.toNat, 640]
def k0_off12 (c0_i32_734 : BitVec 32) : Fin 2 → Nat :=
  let c64_i32_735 : BitVec 32 := 64#32
  let v1407 : BitVec 32 := Scalar.muli c0_i32_734 c64_i32_735
  let v1408 : BitVec 32 := v1407
  let v1422 : Index := Scalar.indexCast v1408
  let c1664 : Index := 1664#32
  ![v1422.toNat, 1664]
def k0_mult42 : BitVec 32 :=
  let c1_i32_747 : BitVec 32 := 1#32
  let c64_i32_748 : BitVec 32 := 64#32
  let v1437 : BitVec 32 := Scalar.muli c1_i32_747 c64_i32_748
  v1437
def k0_mult43 : BitVec 32 :=
  let c2_i32_761 : BitVec 32 := 2#32
  let c64_i32_762 : BitVec 32 := 64#32
  let v1467 : BitVec 32 := Scalar.muli c2_i32_761 c64_i32_762
  v1467
def k0_mult44 : BitVec 32 :=
  let c3_i32_775 : BitVec 32 := 3#32
  let c64_i32_776 : BitVec 32 := 64#32
  let v1497 : BitVec 32 := Scalar.muli c3_i32_775 c64_i32_776
  v1497
def k0_mult45 : BitVec 32 :=
  let c4_i32_789 : BitVec 32 := 4#32
  let c64_i32_790 : BitVec 32 := 64#32
  let v1527 : BitVec 32 := Scalar.muli c4_i32_789 c64_i32_790
  v1527
def k0_mult46 : BitVec 32 :=
  let c5_i32_803 : BitVec 32 := 5#32
  let c64_i32_804 : BitVec 32 := 64#32
  let v1557 : BitVec 32 := Scalar.muli c5_i32_803 c64_i32_804
  v1557
def k0_mult47 : BitVec 32 :=
  let c6_i32_817 : BitVec 32 := 6#32
  let c64_i32_818 : BitVec 32 := 64#32
  let v1587 : BitVec 32 := Scalar.muli c6_i32_817 c64_i32_818
  v1587
def k0_mult48 : BitVec 32 :=
  let c7_i32_831 : BitVec 32 := 7#32
  let c64_i32_832 : BitVec 32 := 64#32
  let v1617 : BitVec 32 := Scalar.muli c7_i32_831 c64_i32_832
  v1617
def k0_mult49 : BitVec 32 :=
  let c0_i32_867 : BitVec 32 := 0#32
  let c64_i32_868 : BitVec 32 := 64#32
  let v1669 : BitVec 32 := Scalar.muli c0_i32_867 c64_i32_868
  v1669
def k0_off13 (c0_i32_867 : BitVec 32) : Fin 2 → Nat :=
  let c64_i32_868 : BitVec 32 := 64#32
  let v1669 : BitVec 32 := Scalar.muli c0_i32_867 c64_i32_868
  let v1670 : BitVec 32 := v1669
  let v1676 : Index := Scalar.indexCast v1670
  let c768_871 : Index := 768#32
  ![v1676.toNat, 768]
def k0_off14 (c0_i32_867 : BitVec 32) : Fin 2 → Nat :=
  let c64_i32_868 : BitVec 32 := 64#32
  let v1669 : BitVec 32 := Scalar.muli c0_i32_867 c64_i32_868
  let v1670 : BitVec 32 := v1669
  let v1684 : Index := Scalar.indexCast v1670
  let c1792_874 : Index := 1792#32
  ![v1684.toNat, 1792]
def k0_mult50 : BitVec 32 :=
  let c1_i32_881 : BitVec 32 := 1#32
  let c64_i32_882 : BitVec 32 := 64#32
  let v1699 : BitVec 32 := Scalar.muli c1_i32_881 c64_i32_882
  v1699
def k0_mult51 : BitVec 32 :=
  let c2_i32_895 : BitVec 32 := 2#32
  let c64_i32_896 : BitVec 32 := 64#32
  let v1729 : BitVec 32 := Scalar.muli c2_i32_895 c64_i32_896
  v1729
def k0_mult52 : BitVec 32 :=
  let c3_i32_909 : BitVec 32 := 3#32
  let c64_i32_910 : BitVec 32 := 64#32
  let v1759 : BitVec 32 := Scalar.muli c3_i32_909 c64_i32_910
  v1759
def k0_mult53 : BitVec 32 :=
  let c4_i32_923 : BitVec 32 := 4#32
  let c64_i32_924 : BitVec 32 := 64#32
  let v1789 : BitVec 32 := Scalar.muli c4_i32_923 c64_i32_924
  v1789
def k0_mult54 : BitVec 32 :=
  let c5_i32_937 : BitVec 32 := 5#32
  let c64_i32_938 : BitVec 32 := 64#32
  let v1819 : BitVec 32 := Scalar.muli c5_i32_937 c64_i32_938
  v1819
def k0_mult55 : BitVec 32 :=
  let c6_i32_951 : BitVec 32 := 6#32
  let c64_i32_952 : BitVec 32 := 64#32
  let v1849 : BitVec 32 := Scalar.muli c6_i32_951 c64_i32_952
  v1849
def k0_mult56 : BitVec 32 :=
  let c7_i32_965 : BitVec 32 := 7#32
  let c64_i32_966 : BitVec 32 := 64#32
  let v1879 : BitVec 32 := Scalar.muli c7_i32_965 c64_i32_966
  v1879
def k0_mult57 : BitVec 32 :=
  let c0_i32_1000 : BitVec 32 := 0#32
  let c64_i32_1001 : BitVec 32 := 64#32
  let v1931 : BitVec 32 := Scalar.muli c0_i32_1000 c64_i32_1001
  v1931
def k0_off15 (c0_i32_1000 : BitVec 32) : Fin 2 → Nat :=
  let c64_i32_1001 : BitVec 32 := 64#32
  let v1931 : BitVec 32 := Scalar.muli c0_i32_1000 c64_i32_1001
  let v1932 : BitVec 32 := v1931
  let v1938 : Index := Scalar.indexCast v1932
  let c896_1004 : Index := 896#32
  ![v1938.toNat, 896]
def k0_off16 (c0_i32_1000 : BitVec 32) : Fin 2 → Nat :=
  let c64_i32_1001 : BitVec 32 := 64#32
  let v1931 : BitVec 32 := Scalar.muli c0_i32_1000 c64_i32_1001
  let v1932 : BitVec 32 := v1931
  let v1946 : Index := Scalar.indexCast v1932
  let c1920 : Index := 1920#32
  ![v1946.toNat, 1920]
def k0_mult58 : BitVec 32 :=
  let c1_i32_1013 : BitVec 32 := 1#32
  let c64_i32_1014 : BitVec 32 := 64#32
  let v1961 : BitVec 32 := Scalar.muli c1_i32_1013 c64_i32_1014
  v1961
def k0_mult59 : BitVec 32 :=
  let c2_i32_1027 : BitVec 32 := 2#32
  let c64_i32_1028 : BitVec 32 := 64#32
  let v1991 : BitVec 32 := Scalar.muli c2_i32_1027 c64_i32_1028
  v1991
def k0_mult60 : BitVec 32 :=
  let c3_i32_1041 : BitVec 32 := 3#32
  let c64_i32_1042 : BitVec 32 := 64#32
  let v2021 : BitVec 32 := Scalar.muli c3_i32_1041 c64_i32_1042
  v2021
def k0_mult61 : BitVec 32 :=
  let c4_i32_1055 : BitVec 32 := 4#32
  let c64_i32_1056 : BitVec 32 := 64#32
  let v2051 : BitVec 32 := Scalar.muli c4_i32_1055 c64_i32_1056
  v2051
def k0_mult62 : BitVec 32 :=
  let c5_i32_1069 : BitVec 32 := 5#32
  let c64_i32_1070 : BitVec 32 := 64#32
  let v2081 : BitVec 32 := Scalar.muli c5_i32_1069 c64_i32_1070
  v2081
def k0_mult63 : BitVec 32 :=
  let c6_i32_1083 : BitVec 32 := 6#32
  let c64_i32_1084 : BitVec 32 := 64#32
  let v2111 : BitVec 32 := Scalar.muli c6_i32_1083 c64_i32_1084
  v2111
def k0_mult64 : BitVec 32 :=
  let c7_i32_1097 : BitVec 32 := 7#32
  let c64_i32_1098 : BitVec 32 := 64#32
  let v2141 : BitVec 32 := Scalar.muli c7_i32_1097 c64_i32_1098
  v2141
def k0_mult65 : BitVec 32 :=
  let c0_i32_1133 : BitVec 32 := 0#32
  let c64_i32_1134 : BitVec 32 := 64#32
  let v2193 : BitVec 32 := Scalar.muli c0_i32_1133 c64_i32_1134
  v2193
def k0_mult66 : BitVec 32 :=
  let c1_i32_1147 : BitVec 32 := 1#32
  let c64_i32_1148 : BitVec 32 := 64#32
  let v2223 : BitVec 32 := Scalar.muli c1_i32_1147 c64_i32_1148
  v2223
def k0_mult67 : BitVec 32 :=
  let c2_i32_1161 : BitVec 32 := 2#32
  let c64_i32_1162 : BitVec 32 := 64#32
  let v2253 : BitVec 32 := Scalar.muli c2_i32_1161 c64_i32_1162
  v2253
def k0_mult68 : BitVec 32 :=
  let c3_i32_1175 : BitVec 32 := 3#32
  let c64_i32_1176 : BitVec 32 := 64#32
  let v2283 : BitVec 32 := Scalar.muli c3_i32_1175 c64_i32_1176
  v2283
def k0_mult69 : BitVec 32 :=
  let c4_i32_1189 : BitVec 32 := 4#32
  let c64_i32_1190 : BitVec 32 := 64#32
  let v2313 : BitVec 32 := Scalar.muli c4_i32_1189 c64_i32_1190
  v2313
def k0_mult70 : BitVec 32 :=
  let c5_i32_1203 : BitVec 32 := 5#32
  let c64_i32_1204 : BitVec 32 := 64#32
  let v2343 : BitVec 32 := Scalar.muli c5_i32_1203 c64_i32_1204
  v2343
def k0_mult71 : BitVec 32 :=
  let c6_i32_1217 : BitVec 32 := 6#32
  let c64_i32_1218 : BitVec 32 := 64#32
  let v2373 : BitVec 32 := Scalar.muli c6_i32_1217 c64_i32_1218
  v2373
def k0_mult72 : BitVec 32 :=
  let c7_i32_1231 : BitVec 32 := 7#32
  let c64_i32_1232 : BitVec 32 := 64#32
  let v2403 : BitVec 32 := Scalar.muli c7_i32_1231 c64_i32_1232
  v2403
def k0_mult73 : BitVec 32 :=
  let c0_i32_1273 : BitVec 32 := 0#32
  let c64_i32_1274 : BitVec 32 := 64#32
  let v2462 : BitVec 32 := Scalar.muli c0_i32_1273 c64_i32_1274
  v2462
def k0_mult74 : BitVec 32 :=
  let c1_i32_1287 : BitVec 32 := 1#32
  let c64_i32_1288 : BitVec 32 := 64#32
  let v2492 : BitVec 32 := Scalar.muli c1_i32_1287 c64_i32_1288
  v2492
def k0_mult75 : BitVec 32 :=
  let c2_i32_1301 : BitVec 32 := 2#32
  let c64_i32_1302 : BitVec 32 := 64#32
  let v2522 : BitVec 32 := Scalar.muli c2_i32_1301 c64_i32_1302
  v2522
def k0_mult76 : BitVec 32 :=
  let c3_i32_1315 : BitVec 32 := 3#32
  let c64_i32_1316 : BitVec 32 := 64#32
  let v2552 : BitVec 32 := Scalar.muli c3_i32_1315 c64_i32_1316
  v2552
def k0_mult77 : BitVec 32 :=
  let c4_i32_1329 : BitVec 32 := 4#32
  let c64_i32_1330 : BitVec 32 := 64#32
  let v2582 : BitVec 32 := Scalar.muli c4_i32_1329 c64_i32_1330
  v2582
def k0_mult78 : BitVec 32 :=
  let c5_i32_1343 : BitVec 32 := 5#32
  let c64_i32_1344 : BitVec 32 := 64#32
  let v2612 : BitVec 32 := Scalar.muli c5_i32_1343 c64_i32_1344
  v2612
def k0_mult79 : BitVec 32 :=
  let c6_i32_1357 : BitVec 32 := 6#32
  let c64_i32_1358 : BitVec 32 := 64#32
  let v2642 : BitVec 32 := Scalar.muli c6_i32_1357 c64_i32_1358
  v2642
def k0_mult80 : BitVec 32 :=
  let c7_i32_1371 : BitVec 32 := 7#32
  let c64_i32_1372 : BitVec 32 := 64#32
  let v2672 : BitVec 32 := Scalar.muli c7_i32_1371 c64_i32_1372
  v2672
def k0_mult81 : BitVec 32 :=
  let c0_i32_1414 : BitVec 32 := 0#32
  let c64_i32_1415 : BitVec 32 := 64#32
  let v2731 : BitVec 32 := Scalar.muli c0_i32_1414 c64_i32_1415
  v2731
def k0_mult82 : BitVec 32 :=
  let c1_i32_1428 : BitVec 32 := 1#32
  let c64_i32_1429 : BitVec 32 := 64#32
  let v2761 : BitVec 32 := Scalar.muli c1_i32_1428 c64_i32_1429
  v2761
def k0_mult83 : BitVec 32 :=
  let c2_i32_1442 : BitVec 32 := 2#32
  let c64_i32_1443 : BitVec 32 := 64#32
  let v2791 : BitVec 32 := Scalar.muli c2_i32_1442 c64_i32_1443
  v2791
def k0_mult84 : BitVec 32 :=
  let c3_i32_1456 : BitVec 32 := 3#32
  let c64_i32_1457 : BitVec 32 := 64#32
  let v2821 : BitVec 32 := Scalar.muli c3_i32_1456 c64_i32_1457
  v2821
def k0_mult85 : BitVec 32 :=
  let c4_i32_1470 : BitVec 32 := 4#32
  let c64_i32_1471 : BitVec 32 := 64#32
  let v2851 : BitVec 32 := Scalar.muli c4_i32_1470 c64_i32_1471
  v2851
def k0_mult86 : BitVec 32 :=
  let c5_i32_1484 : BitVec 32 := 5#32
  let c64_i32_1485 : BitVec 32 := 64#32
  let v2881 : BitVec 32 := Scalar.muli c5_i32_1484 c64_i32_1485
  v2881
def k0_mult87 : BitVec 32 :=
  let c6_i32_1498 : BitVec 32 := 6#32
  let c64_i32_1499 : BitVec 32 := 64#32
  let v2911 : BitVec 32 := Scalar.muli c6_i32_1498 c64_i32_1499
  v2911
def k0_mult88 : BitVec 32 :=
  let c7_i32_1512 : BitVec 32 := 7#32
  let c64_i32_1513 : BitVec 32 := 64#32
  let v2941 : BitVec 32 := Scalar.muli c7_i32_1512 c64_i32_1513
  v2941
def k0_mult89 : BitVec 32 :=
  let c0_i32_1555 : BitVec 32 := 0#32
  let c64_i32_1556 : BitVec 32 := 64#32
  let v3000 : BitVec 32 := Scalar.muli c0_i32_1555 c64_i32_1556
  v3000
def k0_mult90 : BitVec 32 :=
  let c1_i32_1569 : BitVec 32 := 1#32
  let c64_i32_1570 : BitVec 32 := 64#32
  let v3030 : BitVec 32 := Scalar.muli c1_i32_1569 c64_i32_1570
  v3030
def k0_mult91 : BitVec 32 :=
  let c2_i32_1583 : BitVec 32 := 2#32
  let c64_i32_1584 : BitVec 32 := 64#32
  let v3060 : BitVec 32 := Scalar.muli c2_i32_1583 c64_i32_1584
  v3060
def k0_mult92 : BitVec 32 :=
  let c3_i32_1597 : BitVec 32 := 3#32
  let c64_i32_1598 : BitVec 32 := 64#32
  let v3090 : BitVec 32 := Scalar.muli c3_i32_1597 c64_i32_1598
  v3090
def k0_mult93 : BitVec 32 :=
  let c4_i32_1611 : BitVec 32 := 4#32
  let c64_i32_1612 : BitVec 32 := 64#32
  let v3120 : BitVec 32 := Scalar.muli c4_i32_1611 c64_i32_1612
  v3120
def k0_mult94 : BitVec 32 :=
  let c5_i32_1625 : BitVec 32 := 5#32
  let c64_i32_1626 : BitVec 32 := 64#32
  let v3150 : BitVec 32 := Scalar.muli c5_i32_1625 c64_i32_1626
  v3150
def k0_mult95 : BitVec 32 :=
  let c6_i32_1639 : BitVec 32 := 6#32
  let c64_i32_1640 : BitVec 32 := 64#32
  let v3180 : BitVec 32 := Scalar.muli c6_i32_1639 c64_i32_1640
  v3180
def k0_mult96 : BitVec 32 :=
  let c7_i32_1653 : BitVec 32 := 7#32
  let c64_i32_1654 : BitVec 32 := 64#32
  let v3210 : BitVec 32 := Scalar.muli c7_i32_1653 c64_i32_1654
  v3210
def k0_mult97 : BitVec 32 :=
  let c0_i32_1696 : BitVec 32 := 0#32
  let c64_i32_1697 : BitVec 32 := 64#32
  let v3269 : BitVec 32 := Scalar.muli c0_i32_1696 c64_i32_1697
  v3269
def k0_mult98 : BitVec 32 :=
  let c1_i32_1710 : BitVec 32 := 1#32
  let c64_i32_1711 : BitVec 32 := 64#32
  let v3299 : BitVec 32 := Scalar.muli c1_i32_1710 c64_i32_1711
  v3299
def k0_mult99 : BitVec 32 :=
  let c2_i32_1724 : BitVec 32 := 2#32
  let c64_i32_1725 : BitVec 32 := 64#32
  let v3329 : BitVec 32 := Scalar.muli c2_i32_1724 c64_i32_1725
  v3329
def k0_mult100 : BitVec 32 :=
  let c3_i32_1738 : BitVec 32 := 3#32
  let c64_i32_1739 : BitVec 32 := 64#32
  let v3359 : BitVec 32 := Scalar.muli c3_i32_1738 c64_i32_1739
  v3359
def k0_mult101 : BitVec 32 :=
  let c4_i32_1752 : BitVec 32 := 4#32
  let c64_i32_1753 : BitVec 32 := 64#32
  let v3389 : BitVec 32 := Scalar.muli c4_i32_1752 c64_i32_1753
  v3389
def k0_mult102 : BitVec 32 :=
  let c5_i32_1766 : BitVec 32 := 5#32
  let c64_i32_1767 : BitVec 32 := 64#32
  let v3419 : BitVec 32 := Scalar.muli c5_i32_1766 c64_i32_1767
  v3419
def k0_mult103 : BitVec 32 :=
  let c6_i32_1780 : BitVec 32 := 6#32
  let c64_i32_1781 : BitVec 32 := 64#32
  let v3449 : BitVec 32 := Scalar.muli c6_i32_1780 c64_i32_1781
  v3449
def k0_mult104 : BitVec 32 :=
  let c7_i32_1794 : BitVec 32 := 7#32
  let c64_i32_1795 : BitVec 32 := 64#32
  let v3479 : BitVec 32 := Scalar.muli c7_i32_1794 c64_i32_1795
  v3479
def k0_mult105 : BitVec 32 :=
  let c0_i32_1836 : BitVec 32 := 0#32
  let c64_i32_1837 : BitVec 32 := 64#32
  let v3539 : BitVec 32 := Scalar.muli c0_i32_1836 c64_i32_1837
  v3539
def k0_mult106 : BitVec 32 :=
  let c1_i32_1850 : BitVec 32 := 1#32
  let c64_i32_1851 : BitVec 32 := 64#32
  let v3569 : BitVec 32 := Scalar.muli c1_i32_1850 c64_i32_1851
  v3569
def k0_mult107 : BitVec 32 :=
  let c2_i32_1864 : BitVec 32 := 2#32
  let c64_i32_1865 : BitVec 32 := 64#32
  let v3599 : BitVec 32 := Scalar.muli c2_i32_1864 c64_i32_1865
  v3599
def k0_mult108 : BitVec 32 :=
  let c3_i32_1878 : BitVec 32 := 3#32
  let c64_i32_1879 : BitVec 32 := 64#32
  let v3629 : BitVec 32 := Scalar.muli c3_i32_1878 c64_i32_1879
  v3629
def k0_mult109 : BitVec 32 :=
  let c4_i32_1892 : BitVec 32 := 4#32
  let c64_i32_1893 : BitVec 32 := 64#32
  let v3659 : BitVec 32 := Scalar.muli c4_i32_1892 c64_i32_1893
  v3659
def k0_mult110 : BitVec 32 :=
  let c5_i32_1906 : BitVec 32 := 5#32
  let c64_i32_1907 : BitVec 32 := 64#32
  let v3689 : BitVec 32 := Scalar.muli c5_i32_1906 c64_i32_1907
  v3689
def k0_mult111 : BitVec 32 :=
  let c6_i32_1920 : BitVec 32 := 6#32
  let c64_i32_1921 : BitVec 32 := 64#32
  let v3719 : BitVec 32 := Scalar.muli c6_i32_1920 c64_i32_1921
  v3719
def k0_mult112 : BitVec 32 :=
  let c7_i32_1934 : BitVec 32 := 7#32
  let c64_i32_1935 : BitVec 32 := 64#32
  let v3749 : BitVec 32 := Scalar.muli c7_i32_1934 c64_i32_1935
  v3749
def k0_mult113 : BitVec 32 :=
  let c0_i32_1977 : BitVec 32 := 0#32
  let c64_i32_1978 : BitVec 32 := 64#32
  let v3808 : BitVec 32 := Scalar.muli c0_i32_1977 c64_i32_1978
  v3808
def k0_mult114 : BitVec 32 :=
  let c1_i32_1991 : BitVec 32 := 1#32
  let c64_i32_1992 : BitVec 32 := 64#32
  let v3838 : BitVec 32 := Scalar.muli c1_i32_1991 c64_i32_1992
  v3838
def k0_mult115 : BitVec 32 :=
  let c2_i32_2005 : BitVec 32 := 2#32
  let c64_i32_2006 : BitVec 32 := 64#32
  let v3868 : BitVec 32 := Scalar.muli c2_i32_2005 c64_i32_2006
  v3868
def k0_mult116 : BitVec 32 :=
  let c3_i32_2019 : BitVec 32 := 3#32
  let c64_i32_2020 : BitVec 32 := 64#32
  let v3898 : BitVec 32 := Scalar.muli c3_i32_2019 c64_i32_2020
  v3898
def k0_mult117 : BitVec 32 :=
  let c4_i32_2033 : BitVec 32 := 4#32
  let c64_i32_2034 : BitVec 32 := 64#32
  let v3928 : BitVec 32 := Scalar.muli c4_i32_2033 c64_i32_2034
  v3928
def k0_mult118 : BitVec 32 :=
  let c5_i32_2047 : BitVec 32 := 5#32
  let c64_i32_2048 : BitVec 32 := 64#32
  let v3958 : BitVec 32 := Scalar.muli c5_i32_2047 c64_i32_2048
  v3958
def k0_mult119 : BitVec 32 :=
  let c6_i32_2061 : BitVec 32 := 6#32
  let c64_i32_2062 : BitVec 32 := 64#32
  let v3988 : BitVec 32 := Scalar.muli c6_i32_2061 c64_i32_2062
  v3988
def k0_mult120 : BitVec 32 :=
  let c7_i32_2075 : BitVec 32 := 7#32
  let c64_i32_2076 : BitVec 32 := 64#32
  let v4018 : BitVec 32 := Scalar.muli c7_i32_2075 c64_i32_2076
  v4018
def k0_mult121 : BitVec 32 :=
  let c0_i32_2118 : BitVec 32 := 0#32
  let c64_i32_2119 : BitVec 32 := 64#32
  let v4077 : BitVec 32 := Scalar.muli c0_i32_2118 c64_i32_2119
  v4077
def k0_mult122 : BitVec 32 :=
  let c1_i32_2132 : BitVec 32 := 1#32
  let c64_i32_2133 : BitVec 32 := 64#32
  let v4107 : BitVec 32 := Scalar.muli c1_i32_2132 c64_i32_2133
  v4107
def k0_mult123 : BitVec 32 :=
  let c2_i32_2146 : BitVec 32 := 2#32
  let c64_i32_2147 : BitVec 32 := 64#32
  let v4137 : BitVec 32 := Scalar.muli c2_i32_2146 c64_i32_2147
  v4137
def k0_mult124 : BitVec 32 :=
  let c3_i32_2160 : BitVec 32 := 3#32
  let c64_i32_2161 : BitVec 32 := 64#32
  let v4167 : BitVec 32 := Scalar.muli c3_i32_2160 c64_i32_2161
  v4167
def k0_mult125 : BitVec 32 :=
  let c4_i32_2174 : BitVec 32 := 4#32
  let c64_i32_2175 : BitVec 32 := 64#32
  let v4197 : BitVec 32 := Scalar.muli c4_i32_2174 c64_i32_2175
  v4197
def k0_mult126 : BitVec 32 :=
  let c5_i32_2188 : BitVec 32 := 5#32
  let c64_i32_2189 : BitVec 32 := 64#32
  let v4227 : BitVec 32 := Scalar.muli c5_i32_2188 c64_i32_2189
  v4227
def k0_mult127 : BitVec 32 :=
  let c6_i32_2202 : BitVec 32 := 6#32
  let c64_i32_2203 : BitVec 32 := 64#32
  let v4257 : BitVec 32 := Scalar.muli c6_i32_2202 c64_i32_2203
  v4257
def k0_mult128 : BitVec 32 :=
  let c7_i32_2216 : BitVec 32 := 7#32
  let c64_i32_2217 : BitVec 32 := 64#32
  let v4287 : BitVec 32 := Scalar.muli c7_i32_2216 c64_i32_2217
  v4287
def k0_mult129 : BitVec 32 :=
  let c0_i32_2264 : BitVec 32 := 0#32
  let c64_i32_2265 : BitVec 32 := 64#32
  let v4354 : BitVec 32 := Scalar.muli c0_i32_2264 c64_i32_2265
  v4354
def k0_mult130 : BitVec 32 :=
  let c1_i32_2278 : BitVec 32 := 1#32
  let c64_i32_2279 : BitVec 32 := 64#32
  let v4384 : BitVec 32 := Scalar.muli c1_i32_2278 c64_i32_2279
  v4384
def k0_mult131 : BitVec 32 :=
  let c2_i32_2292 : BitVec 32 := 2#32
  let c64_i32_2293 : BitVec 32 := 64#32
  let v4414 : BitVec 32 := Scalar.muli c2_i32_2292 c64_i32_2293
  v4414
def k0_mult132 : BitVec 32 :=
  let c3_i32_2306 : BitVec 32 := 3#32
  let c64_i32_2307 : BitVec 32 := 64#32
  let v4444 : BitVec 32 := Scalar.muli c3_i32_2306 c64_i32_2307
  v4444
def k0_mult133 : BitVec 32 :=
  let c4_i32_2320 : BitVec 32 := 4#32
  let c64_i32_2321 : BitVec 32 := 64#32
  let v4474 : BitVec 32 := Scalar.muli c4_i32_2320 c64_i32_2321
  v4474
def k0_mult134 : BitVec 32 :=
  let c5_i32_2334 : BitVec 32 := 5#32
  let c64_i32_2335 : BitVec 32 := 64#32
  let v4504 : BitVec 32 := Scalar.muli c5_i32_2334 c64_i32_2335
  v4504
def k0_mult135 : BitVec 32 :=
  let c6_i32_2348 : BitVec 32 := 6#32
  let c64_i32_2349 : BitVec 32 := 64#32
  let v4534 : BitVec 32 := Scalar.muli c6_i32_2348 c64_i32_2349
  v4534
def k0_mult136 : BitVec 32 :=
  let c7_i32_2362 : BitVec 32 := 7#32
  let c64_i32_2363 : BitVec 32 := 64#32
  let v4564 : BitVec 32 := Scalar.muli c7_i32_2362 c64_i32_2363
  v4564
def k0_mult137 : BitVec 32 :=
  let c0_i32_2403 : BitVec 32 := 0#32
  let c64_i32_2404 : BitVec 32 := 64#32
  let v4623 : BitVec 32 := Scalar.muli c0_i32_2403 c64_i32_2404
  v4623
def k0_mult138 : BitVec 32 :=
  let c1_i32_2417 : BitVec 32 := 1#32
  let c64_i32_2418 : BitVec 32 := 64#32
  let v4653 : BitVec 32 := Scalar.muli c1_i32_2417 c64_i32_2418
  v4653
def k0_mult139 : BitVec 32 :=
  let c2_i32_2431 : BitVec 32 := 2#32
  let c64_i32_2432 : BitVec 32 := 64#32
  let v4683 : BitVec 32 := Scalar.muli c2_i32_2431 c64_i32_2432
  v4683
def k0_mult140 : BitVec 32 :=
  let c3_i32_2445 : BitVec 32 := 3#32
  let c64_i32_2446 : BitVec 32 := 64#32
  let v4713 : BitVec 32 := Scalar.muli c3_i32_2445 c64_i32_2446
  v4713
def k0_mult141 : BitVec 32 :=
  let c4_i32_2459 : BitVec 32 := 4#32
  let c64_i32_2460 : BitVec 32 := 64#32
  let v4743 : BitVec 32 := Scalar.muli c4_i32_2459 c64_i32_2460
  v4743
def k0_mult142 : BitVec 32 :=
  let c5_i32_2473 : BitVec 32 := 5#32
  let c64_i32_2474 : BitVec 32 := 64#32
  let v4773 : BitVec 32 := Scalar.muli c5_i32_2473 c64_i32_2474
  v4773
def k0_mult143 : BitVec 32 :=
  let c6_i32_2487 : BitVec 32 := 6#32
  let c64_i32_2488 : BitVec 32 := 64#32
  let v4803 : BitVec 32 := Scalar.muli c6_i32_2487 c64_i32_2488
  v4803
def k0_mult144 : BitVec 32 :=
  let c7_i32_2501 : BitVec 32 := 7#32
  let c64_i32_2502 : BitVec 32 := 64#32
  let v4833 : BitVec 32 := Scalar.muli c7_i32_2501 c64_i32_2502
  v4833
def k0_mult145 : BitVec 32 :=
  let c0_i32_2543 : BitVec 32 := 0#32
  let c64_i32_2544 : BitVec 32 := 64#32
  let v4892 : BitVec 32 := Scalar.muli c0_i32_2543 c64_i32_2544
  v4892
def k0_mult146 : BitVec 32 :=
  let c1_i32_2557 : BitVec 32 := 1#32
  let c64_i32_2558 : BitVec 32 := 64#32
  let v4922 : BitVec 32 := Scalar.muli c1_i32_2557 c64_i32_2558
  v4922
def k0_mult147 : BitVec 32 :=
  let c2_i32_2571 : BitVec 32 := 2#32
  let c64_i32_2572 : BitVec 32 := 64#32
  let v4952 : BitVec 32 := Scalar.muli c2_i32_2571 c64_i32_2572
  v4952
def k0_mult148 : BitVec 32 :=
  let c3_i32_2585 : BitVec 32 := 3#32
  let c64_i32_2586 : BitVec 32 := 64#32
  let v4982 : BitVec 32 := Scalar.muli c3_i32_2585 c64_i32_2586
  v4982
def k0_mult149 : BitVec 32 :=
  let c4_i32_2599 : BitVec 32 := 4#32
  let c64_i32_2600 : BitVec 32 := 64#32
  let v5012 : BitVec 32 := Scalar.muli c4_i32_2599 c64_i32_2600
  v5012
def k0_mult150 : BitVec 32 :=
  let c5_i32_2613 : BitVec 32 := 5#32
  let c64_i32_2614 : BitVec 32 := 64#32
  let v5042 : BitVec 32 := Scalar.muli c5_i32_2613 c64_i32_2614
  v5042
def k0_mult151 : BitVec 32 :=
  let c6_i32_2627 : BitVec 32 := 6#32
  let c64_i32_2628 : BitVec 32 := 64#32
  let v5072 : BitVec 32 := Scalar.muli c6_i32_2627 c64_i32_2628
  v5072
def k0_mult152 : BitVec 32 :=
  let c7_i32_2641 : BitVec 32 := 7#32
  let c64_i32_2642 : BitVec 32 := 64#32
  let v5102 : BitVec 32 := Scalar.muli c7_i32_2641 c64_i32_2642
  v5102
def k0_mult153 : BitVec 32 :=
  let c0_i32_2683 : BitVec 32 := 0#32
  let c64_i32_2684 : BitVec 32 := 64#32
  let v5161 : BitVec 32 := Scalar.muli c0_i32_2683 c64_i32_2684
  v5161
def k0_mult154 : BitVec 32 :=
  let c1_i32_2697 : BitVec 32 := 1#32
  let c64_i32_2698 : BitVec 32 := 64#32
  let v5191 : BitVec 32 := Scalar.muli c1_i32_2697 c64_i32_2698
  v5191
def k0_mult155 : BitVec 32 :=
  let c2_i32_2711 : BitVec 32 := 2#32
  let c64_i32_2712 : BitVec 32 := 64#32
  let v5221 : BitVec 32 := Scalar.muli c2_i32_2711 c64_i32_2712
  v5221
def k0_mult156 : BitVec 32 :=
  let c3_i32_2725 : BitVec 32 := 3#32
  let c64_i32_2726 : BitVec 32 := 64#32
  let v5251 : BitVec 32 := Scalar.muli c3_i32_2725 c64_i32_2726
  v5251
def k0_mult157 : BitVec 32 :=
  let c4_i32_2739 : BitVec 32 := 4#32
  let c64_i32_2740 : BitVec 32 := 64#32
  let v5281 : BitVec 32 := Scalar.muli c4_i32_2739 c64_i32_2740
  v5281
def k0_mult158 : BitVec 32 :=
  let c5_i32_2753 : BitVec 32 := 5#32
  let c64_i32_2754 : BitVec 32 := 64#32
  let v5311 : BitVec 32 := Scalar.muli c5_i32_2753 c64_i32_2754
  v5311
def k0_mult159 : BitVec 32 :=
  let c6_i32_2767 : BitVec 32 := 6#32
  let c64_i32_2768 : BitVec 32 := 64#32
  let v5341 : BitVec 32 := Scalar.muli c6_i32_2767 c64_i32_2768
  v5341
def k0_mult160 : BitVec 32 :=
  let c7_i32_2781 : BitVec 32 := 7#32
  let c64_i32_2782 : BitVec 32 := 64#32
  let v5371 : BitVec 32 := Scalar.muli c7_i32_2781 c64_i32_2782
  v5371
def k0_mult161 : BitVec 32 :=
  let c0_i32_2823 : BitVec 32 := 0#32
  let c64_i32_2824 : BitVec 32 := 64#32
  let v5430 : BitVec 32 := Scalar.muli c0_i32_2823 c64_i32_2824
  v5430
def k0_mult162 : BitVec 32 :=
  let c1_i32_2837 : BitVec 32 := 1#32
  let c64_i32_2838 : BitVec 32 := 64#32
  let v5460 : BitVec 32 := Scalar.muli c1_i32_2837 c64_i32_2838
  v5460
def k0_mult163 : BitVec 32 :=
  let c2_i32_2851 : BitVec 32 := 2#32
  let c64_i32_2852 : BitVec 32 := 64#32
  let v5490 : BitVec 32 := Scalar.muli c2_i32_2851 c64_i32_2852
  v5490
def k0_mult164 : BitVec 32 :=
  let c3_i32_2865 : BitVec 32 := 3#32
  let c64_i32_2866 : BitVec 32 := 64#32
  let v5520 : BitVec 32 := Scalar.muli c3_i32_2865 c64_i32_2866
  v5520
def k0_mult165 : BitVec 32 :=
  let c4_i32_2879 : BitVec 32 := 4#32
  let c64_i32_2880 : BitVec 32 := 64#32
  let v5550 : BitVec 32 := Scalar.muli c4_i32_2879 c64_i32_2880
  v5550
def k0_mult166 : BitVec 32 :=
  let c5_i32_2893 : BitVec 32 := 5#32
  let c64_i32_2894 : BitVec 32 := 64#32
  let v5580 : BitVec 32 := Scalar.muli c5_i32_2893 c64_i32_2894
  v5580
def k0_mult167 : BitVec 32 :=
  let c6_i32_2907 : BitVec 32 := 6#32
  let c64_i32_2908 : BitVec 32 := 64#32
  let v5610 : BitVec 32 := Scalar.muli c6_i32_2907 c64_i32_2908
  v5610
def k0_mult168 : BitVec 32 :=
  let c7_i32_2921 : BitVec 32 := 7#32
  let c64_i32_2922 : BitVec 32 := 64#32
  let v5640 : BitVec 32 := Scalar.muli c7_i32_2921 c64_i32_2922
  v5640
def k0_mult169 : BitVec 32 :=
  let c0_i32_2962 : BitVec 32 := 0#32
  let c64_i32_2963 : BitVec 32 := 64#32
  let v5700 : BitVec 32 := Scalar.muli c0_i32_2962 c64_i32_2963
  v5700
def k0_mult170 : BitVec 32 :=
  let c1_i32_2976 : BitVec 32 := 1#32
  let c64_i32_2977 : BitVec 32 := 64#32
  let v5730 : BitVec 32 := Scalar.muli c1_i32_2976 c64_i32_2977
  v5730
def k0_mult171 : BitVec 32 :=
  let c2_i32_2990 : BitVec 32 := 2#32
  let c64_i32_2991 : BitVec 32 := 64#32
  let v5760 : BitVec 32 := Scalar.muli c2_i32_2990 c64_i32_2991
  v5760
def k0_mult172 : BitVec 32 :=
  let c3_i32_3004 : BitVec 32 := 3#32
  let c64_i32_3005 : BitVec 32 := 64#32
  let v5790 : BitVec 32 := Scalar.muli c3_i32_3004 c64_i32_3005
  v5790
def k0_mult173 : BitVec 32 :=
  let c4_i32_3018 : BitVec 32 := 4#32
  let c64_i32_3019 : BitVec 32 := 64#32
  let v5820 : BitVec 32 := Scalar.muli c4_i32_3018 c64_i32_3019
  v5820
def k0_mult174 : BitVec 32 :=
  let c5_i32_3032 : BitVec 32 := 5#32
  let c64_i32_3033 : BitVec 32 := 64#32
  let v5850 : BitVec 32 := Scalar.muli c5_i32_3032 c64_i32_3033
  v5850
def k0_mult175 : BitVec 32 :=
  let c6_i32_3046 : BitVec 32 := 6#32
  let c64_i32_3047 : BitVec 32 := 64#32
  let v5880 : BitVec 32 := Scalar.muli c6_i32_3046 c64_i32_3047
  v5880
def k0_mult176 : BitVec 32 :=
  let c7_i32_3060 : BitVec 32 := 7#32
  let c64_i32_3061 : BitVec 32 := 64#32
  let v5910 : BitVec 32 := Scalar.muli c7_i32_3060 c64_i32_3061
  v5910
def k0_mult177 : BitVec 32 :=
  let c0_i32_3102 : BitVec 32 := 0#32
  let c64_i32_3103 : BitVec 32 := 64#32
  let v5969 : BitVec 32 := Scalar.muli c0_i32_3102 c64_i32_3103
  v5969
def k0_mult178 : BitVec 32 :=
  let c1_i32_3116 : BitVec 32 := 1#32
  let c64_i32_3117 : BitVec 32 := 64#32
  let v5999 : BitVec 32 := Scalar.muli c1_i32_3116 c64_i32_3117
  v5999
def k0_mult179 : BitVec 32 :=
  let c2_i32_3130 : BitVec 32 := 2#32
  let c64_i32_3131 : BitVec 32 := 64#32
  let v6029 : BitVec 32 := Scalar.muli c2_i32_3130 c64_i32_3131
  v6029
def k0_mult180 : BitVec 32 :=
  let c3_i32_3144 : BitVec 32 := 3#32
  let c64_i32_3145 : BitVec 32 := 64#32
  let v6059 : BitVec 32 := Scalar.muli c3_i32_3144 c64_i32_3145
  v6059
def k0_mult181 : BitVec 32 :=
  let c4_i32_3158 : BitVec 32 := 4#32
  let c64_i32_3159 : BitVec 32 := 64#32
  let v6089 : BitVec 32 := Scalar.muli c4_i32_3158 c64_i32_3159
  v6089
def k0_mult182 : BitVec 32 :=
  let c5_i32_3172 : BitVec 32 := 5#32
  let c64_i32_3173 : BitVec 32 := 64#32
  let v6119 : BitVec 32 := Scalar.muli c5_i32_3172 c64_i32_3173
  v6119
def k0_mult183 : BitVec 32 :=
  let c6_i32_3186 : BitVec 32 := 6#32
  let c64_i32_3187 : BitVec 32 := 64#32
  let v6149 : BitVec 32 := Scalar.muli c6_i32_3186 c64_i32_3187
  v6149
def k0_mult184 : BitVec 32 :=
  let c7_i32_3200 : BitVec 32 := 7#32
  let c64_i32_3201 : BitVec 32 := 64#32
  let v6179 : BitVec 32 := Scalar.muli c7_i32_3200 c64_i32_3201
  v6179
def k0_mult185 : BitVec 32 :=
  let c0_i32_3242 : BitVec 32 := 0#32
  let c64_i32_3243 : BitVec 32 := 64#32
  let v6238 : BitVec 32 := Scalar.muli c0_i32_3242 c64_i32_3243
  v6238
def k0_mult186 : BitVec 32 :=
  let c1_i32_3256 : BitVec 32 := 1#32
  let c64_i32_3257 : BitVec 32 := 64#32
  let v6268 : BitVec 32 := Scalar.muli c1_i32_3256 c64_i32_3257
  v6268
def k0_mult187 : BitVec 32 :=
  let c2_i32_3270 : BitVec 32 := 2#32
  let c64_i32_3271 : BitVec 32 := 64#32
  let v6298 : BitVec 32 := Scalar.muli c2_i32_3270 c64_i32_3271
  v6298
def k0_mult188 : BitVec 32 :=
  let c3_i32_3284 : BitVec 32 := 3#32
  let c64_i32_3285 : BitVec 32 := 64#32
  let v6328 : BitVec 32 := Scalar.muli c3_i32_3284 c64_i32_3285
  v6328
def k0_mult189 : BitVec 32 :=
  let c4_i32_3298 : BitVec 32 := 4#32
  let c64_i32_3299 : BitVec 32 := 64#32
  let v6358 : BitVec 32 := Scalar.muli c4_i32_3298 c64_i32_3299
  v6358
def k0_mult190 : BitVec 32 :=
  let c5_i32_3312 : BitVec 32 := 5#32
  let c64_i32_3313 : BitVec 32 := 64#32
  let v6388 : BitVec 32 := Scalar.muli c5_i32_3312 c64_i32_3313
  v6388
def k0_mult191 : BitVec 32 :=
  let c6_i32_3326 : BitVec 32 := 6#32
  let c64_i32_3327 : BitVec 32 := 64#32
  let v6418 : BitVec 32 := Scalar.muli c6_i32_3326 c64_i32_3327
  v6418
def k0_mult192 : BitVec 32 :=
  let c7_i32_3340 : BitVec 32 := 7#32
  let c64_i32_3341 : BitVec 32 := 64#32
  let v6448 : BitVec 32 := Scalar.muli c7_i32_3340 c64_i32_3341
  v6448
def k0_mult193 : BitVec 32 :=
  let c0_i32_3388 : BitVec 32 := 0#32
  let c64_i32_3389 : BitVec 32 := 64#32
  let v6515 : BitVec 32 := Scalar.muli c0_i32_3388 c64_i32_3389
  v6515
def k0_mult194 : BitVec 32 :=
  let c1_i32_3402 : BitVec 32 := 1#32
  let c64_i32_3403 : BitVec 32 := 64#32
  let v6545 : BitVec 32 := Scalar.muli c1_i32_3402 c64_i32_3403
  v6545
def k0_mult195 : BitVec 32 :=
  let c2_i32_3416 : BitVec 32 := 2#32
  let c64_i32_3417 : BitVec 32 := 64#32
  let v6575 : BitVec 32 := Scalar.muli c2_i32_3416 c64_i32_3417
  v6575
def k0_mult196 : BitVec 32 :=
  let c3_i32_3430 : BitVec 32 := 3#32
  let c64_i32_3431 : BitVec 32 := 64#32
  let v6605 : BitVec 32 := Scalar.muli c3_i32_3430 c64_i32_3431
  v6605
def k0_mult197 : BitVec 32 :=
  let c4_i32_3444 : BitVec 32 := 4#32
  let c64_i32_3445 : BitVec 32 := 64#32
  let v6635 : BitVec 32 := Scalar.muli c4_i32_3444 c64_i32_3445
  v6635
def k0_mult198 : BitVec 32 :=
  let c5_i32_3458 : BitVec 32 := 5#32
  let c64_i32_3459 : BitVec 32 := 64#32
  let v6665 : BitVec 32 := Scalar.muli c5_i32_3458 c64_i32_3459
  v6665
def k0_mult199 : BitVec 32 :=
  let c6_i32_3472 : BitVec 32 := 6#32
  let c64_i32_3473 : BitVec 32 := 64#32
  let v6695 : BitVec 32 := Scalar.muli c6_i32_3472 c64_i32_3473
  v6695
def k0_mult200 : BitVec 32 :=
  let c7_i32_3486 : BitVec 32 := 7#32
  let c64_i32_3487 : BitVec 32 := 64#32
  let v6725 : BitVec 32 := Scalar.muli c7_i32_3486 c64_i32_3487
  v6725
def k0_mult201 : BitVec 32 :=
  let c0_i32_3521 : BitVec 32 := 0#32
  let c64_i32_3522 : BitVec 32 := 64#32
  let v6777 : BitVec 32 := Scalar.muli c0_i32_3521 c64_i32_3522
  v6777
def k0_mult202 : BitVec 32 :=
  let c1_i32_3535 : BitVec 32 := 1#32
  let c64_i32_3536 : BitVec 32 := 64#32
  let v6807 : BitVec 32 := Scalar.muli c1_i32_3535 c64_i32_3536
  v6807
def k0_mult203 : BitVec 32 :=
  let c2_i32_3549 : BitVec 32 := 2#32
  let c64_i32_3550 : BitVec 32 := 64#32
  let v6837 : BitVec 32 := Scalar.muli c2_i32_3549 c64_i32_3550
  v6837
def k0_mult204 : BitVec 32 :=
  let c3_i32_3563 : BitVec 32 := 3#32
  let c64_i32_3564 : BitVec 32 := 64#32
  let v6867 : BitVec 32 := Scalar.muli c3_i32_3563 c64_i32_3564
  v6867
def k0_mult205 : BitVec 32 :=
  let c4_i32_3577 : BitVec 32 := 4#32
  let c64_i32_3578 : BitVec 32 := 64#32
  let v6897 : BitVec 32 := Scalar.muli c4_i32_3577 c64_i32_3578
  v6897
def k0_mult206 : BitVec 32 :=
  let c5_i32_3591 : BitVec 32 := 5#32
  let c64_i32_3592 : BitVec 32 := 64#32
  let v6927 : BitVec 32 := Scalar.muli c5_i32_3591 c64_i32_3592
  v6927
def k0_mult207 : BitVec 32 :=
  let c6_i32_3605 : BitVec 32 := 6#32
  let c64_i32_3606 : BitVec 32 := 64#32
  let v6957 : BitVec 32 := Scalar.muli c6_i32_3605 c64_i32_3606
  v6957
def k0_mult208 : BitVec 32 :=
  let c7_i32_3619 : BitVec 32 := 7#32
  let c64_i32_3620 : BitVec 32 := 64#32
  let v6987 : BitVec 32 := Scalar.muli c7_i32_3619 c64_i32_3620
  v6987
def k0_mult209 : BitVec 32 :=
  let c0_i32_3654 : BitVec 32 := 0#32
  let c64_i32_3655 : BitVec 32 := 64#32
  let v7040 : BitVec 32 := Scalar.muli c0_i32_3654 c64_i32_3655
  v7040
def k0_mult210 : BitVec 32 :=
  let c1_i32_3668 : BitVec 32 := 1#32
  let c64_i32_3669 : BitVec 32 := 64#32
  let v7070 : BitVec 32 := Scalar.muli c1_i32_3668 c64_i32_3669
  v7070
def k0_mult211 : BitVec 32 :=
  let c2_i32_3682 : BitVec 32 := 2#32
  let c64_i32_3683 : BitVec 32 := 64#32
  let v7100 : BitVec 32 := Scalar.muli c2_i32_3682 c64_i32_3683
  v7100
def k0_mult212 : BitVec 32 :=
  let c3_i32_3696 : BitVec 32 := 3#32
  let c64_i32_3697 : BitVec 32 := 64#32
  let v7130 : BitVec 32 := Scalar.muli c3_i32_3696 c64_i32_3697
  v7130
def k0_mult213 : BitVec 32 :=
  let c4_i32_3710 : BitVec 32 := 4#32
  let c64_i32_3711 : BitVec 32 := 64#32
  let v7160 : BitVec 32 := Scalar.muli c4_i32_3710 c64_i32_3711
  v7160
def k0_mult214 : BitVec 32 :=
  let c5_i32_3724 : BitVec 32 := 5#32
  let c64_i32_3725 : BitVec 32 := 64#32
  let v7190 : BitVec 32 := Scalar.muli c5_i32_3724 c64_i32_3725
  v7190
def k0_mult215 : BitVec 32 :=
  let c6_i32_3738 : BitVec 32 := 6#32
  let c64_i32_3739 : BitVec 32 := 64#32
  let v7220 : BitVec 32 := Scalar.muli c6_i32_3738 c64_i32_3739
  v7220
def k0_mult216 : BitVec 32 :=
  let c7_i32_3752 : BitVec 32 := 7#32
  let c64_i32_3753 : BitVec 32 := 64#32
  let v7250 : BitVec 32 := Scalar.muli c7_i32_3752 c64_i32_3753
  v7250
def k0_mult217 : BitVec 32 :=
  let c0_i32_3787 : BitVec 32 := 0#32
  let c64_i32_3788 : BitVec 32 := 64#32
  let v7303 : BitVec 32 := Scalar.muli c0_i32_3787 c64_i32_3788
  v7303
def k0_mult218 : BitVec 32 :=
  let c1_i32_3801 : BitVec 32 := 1#32
  let c64_i32_3802 : BitVec 32 := 64#32
  let v7333 : BitVec 32 := Scalar.muli c1_i32_3801 c64_i32_3802
  v7333
def k0_mult219 : BitVec 32 :=
  let c2_i32_3815 : BitVec 32 := 2#32
  let c64_i32_3816 : BitVec 32 := 64#32
  let v7363 : BitVec 32 := Scalar.muli c2_i32_3815 c64_i32_3816
  v7363
def k0_mult220 : BitVec 32 :=
  let c3_i32_3829 : BitVec 32 := 3#32
  let c64_i32_3830 : BitVec 32 := 64#32
  let v7393 : BitVec 32 := Scalar.muli c3_i32_3829 c64_i32_3830
  v7393
def k0_mult221 : BitVec 32 :=
  let c4_i32_3843 : BitVec 32 := 4#32
  let c64_i32_3844 : BitVec 32 := 64#32
  let v7423 : BitVec 32 := Scalar.muli c4_i32_3843 c64_i32_3844
  v7423
def k0_mult222 : BitVec 32 :=
  let c5_i32_3857 : BitVec 32 := 5#32
  let c64_i32_3858 : BitVec 32 := 64#32
  let v7453 : BitVec 32 := Scalar.muli c5_i32_3857 c64_i32_3858
  v7453
def k0_mult223 : BitVec 32 :=
  let c6_i32_3871 : BitVec 32 := 6#32
  let c64_i32_3872 : BitVec 32 := 64#32
  let v7483 : BitVec 32 := Scalar.muli c6_i32_3871 c64_i32_3872
  v7483
def k0_mult224 : BitVec 32 :=
  let c7_i32_3885 : BitVec 32 := 7#32
  let c64_i32_3886 : BitVec 32 := 64#32
  let v7513 : BitVec 32 := Scalar.muli c7_i32_3885 c64_i32_3886
  v7513
def k0_mult225 : BitVec 32 :=
  let c0_i32_3920 : BitVec 32 := 0#32
  let c64_i32_3921 : BitVec 32 := 64#32
  let v7566 : BitVec 32 := Scalar.muli c0_i32_3920 c64_i32_3921
  v7566
def k0_mult226 : BitVec 32 :=
  let c1_i32_3934 : BitVec 32 := 1#32
  let c64_i32_3935 : BitVec 32 := 64#32
  let v7596 : BitVec 32 := Scalar.muli c1_i32_3934 c64_i32_3935
  v7596
def k0_mult227 : BitVec 32 :=
  let c2_i32_3948 : BitVec 32 := 2#32
  let c64_i32_3949 : BitVec 32 := 64#32
  let v7626 : BitVec 32 := Scalar.muli c2_i32_3948 c64_i32_3949
  v7626
def k0_mult228 : BitVec 32 :=
  let c3_i32_3962 : BitVec 32 := 3#32
  let c64_i32_3963 : BitVec 32 := 64#32
  let v7656 : BitVec 32 := Scalar.muli c3_i32_3962 c64_i32_3963
  v7656
def k0_mult229 : BitVec 32 :=
  let c4_i32_3976 : BitVec 32 := 4#32
  let c64_i32_3977 : BitVec 32 := 64#32
  let v7686 : BitVec 32 := Scalar.muli c4_i32_3976 c64_i32_3977
  v7686
def k0_mult230 : BitVec 32 :=
  let c5_i32_3990 : BitVec 32 := 5#32
  let c64_i32_3991 : BitVec 32 := 64#32
  let v7716 : BitVec 32 := Scalar.muli c5_i32_3990 c64_i32_3991
  v7716
def k0_mult231 : BitVec 32 :=
  let c6_i32_4004 : BitVec 32 := 6#32
  let c64_i32_4005 : BitVec 32 := 64#32
  let v7746 : BitVec 32 := Scalar.muli c6_i32_4004 c64_i32_4005
  v7746
def k0_mult232 : BitVec 32 :=
  let c7_i32_4018 : BitVec 32 := 7#32
  let c64_i32_4019 : BitVec 32 := 64#32
  let v7776 : BitVec 32 := Scalar.muli c7_i32_4018 c64_i32_4019
  v7776
def k0_mult233 : BitVec 32 :=
  let c0_i32_4053 : BitVec 32 := 0#32
  let c64_i32_4054 : BitVec 32 := 64#32
  let v7829 : BitVec 32 := Scalar.muli c0_i32_4053 c64_i32_4054
  v7829
def k0_mult234 : BitVec 32 :=
  let c1_i32_4067 : BitVec 32 := 1#32
  let c64_i32_4068 : BitVec 32 := 64#32
  let v7859 : BitVec 32 := Scalar.muli c1_i32_4067 c64_i32_4068
  v7859
def k0_mult235 : BitVec 32 :=
  let c2_i32_4081 : BitVec 32 := 2#32
  let c64_i32_4082 : BitVec 32 := 64#32
  let v7889 : BitVec 32 := Scalar.muli c2_i32_4081 c64_i32_4082
  v7889
def k0_mult236 : BitVec 32 :=
  let c3_i32_4095 : BitVec 32 := 3#32
  let c64_i32_4096 : BitVec 32 := 64#32
  let v7919 : BitVec 32 := Scalar.muli c3_i32_4095 c64_i32_4096
  v7919
def k0_mult237 : BitVec 32 :=
  let c4_i32_4109 : BitVec 32 := 4#32
  let c64_i32_4110 : BitVec 32 := 64#32
  let v7949 : BitVec 32 := Scalar.muli c4_i32_4109 c64_i32_4110
  v7949
def k0_mult238 : BitVec 32 :=
  let c5_i32_4123 : BitVec 32 := 5#32
  let c64_i32_4124 : BitVec 32 := 64#32
  let v7979 : BitVec 32 := Scalar.muli c5_i32_4123 c64_i32_4124
  v7979
def k0_mult239 : BitVec 32 :=
  let c6_i32_4137 : BitVec 32 := 6#32
  let c64_i32_4138 : BitVec 32 := 64#32
  let v8009 : BitVec 32 := Scalar.muli c6_i32_4137 c64_i32_4138
  v8009
def k0_mult240 : BitVec 32 :=
  let c7_i32_4151 : BitVec 32 := 7#32
  let c64_i32_4152 : BitVec 32 := 64#32
  let v8039 : BitVec 32 := Scalar.muli c7_i32_4151 c64_i32_4152
  v8039
def k0_mult241 : BitVec 32 :=
  let c0_i32_4186 : BitVec 32 := 0#32
  let c64_i32_4187 : BitVec 32 := 64#32
  let v8092 : BitVec 32 := Scalar.muli c0_i32_4186 c64_i32_4187
  v8092
def k0_mult242 : BitVec 32 :=
  let c1_i32_4200 : BitVec 32 := 1#32
  let c64_i32_4201 : BitVec 32 := 64#32
  let v8122 : BitVec 32 := Scalar.muli c1_i32_4200 c64_i32_4201
  v8122
def k0_mult243 : BitVec 32 :=
  let c2_i32_4214 : BitVec 32 := 2#32
  let c64_i32_4215 : BitVec 32 := 64#32
  let v8152 : BitVec 32 := Scalar.muli c2_i32_4214 c64_i32_4215
  v8152
def k0_mult244 : BitVec 32 :=
  let c3_i32_4228 : BitVec 32 := 3#32
  let c64_i32_4229 : BitVec 32 := 64#32
  let v8182 : BitVec 32 := Scalar.muli c3_i32_4228 c64_i32_4229
  v8182
def k0_mult245 : BitVec 32 :=
  let c4_i32_4242 : BitVec 32 := 4#32
  let c64_i32_4243 : BitVec 32 := 64#32
  let v8212 : BitVec 32 := Scalar.muli c4_i32_4242 c64_i32_4243
  v8212
def k0_mult246 : BitVec 32 :=
  let c5_i32_4256 : BitVec 32 := 5#32
  let c64_i32_4257 : BitVec 32 := 64#32
  let v8242 : BitVec 32 := Scalar.muli c5_i32_4256 c64_i32_4257
  v8242
def k0_mult247 : BitVec 32 :=
  let c6_i32_4270 : BitVec 32 := 6#32
  let c64_i32_4271 : BitVec 32 := 64#32
  let v8272 : BitVec 32 := Scalar.muli c6_i32_4270 c64_i32_4271
  v8272
def k0_mult248 : BitVec 32 :=
  let c7_i32_4284 : BitVec 32 := 7#32
  let c64_i32_4285 : BitVec 32 := 64#32
  let v8302 : BitVec 32 := Scalar.muli c7_i32_4284 c64_i32_4285
  v8302
def k0_mult249 : BitVec 32 :=
  let c0_i32_4319 : BitVec 32 := 0#32
  let c64_i32_4320 : BitVec 32 := 64#32
  let v8355 : BitVec 32 := Scalar.muli c0_i32_4319 c64_i32_4320
  v8355
def k0_mult250 : BitVec 32 :=
  let c1_i32_4333 : BitVec 32 := 1#32
  let c64_i32_4334 : BitVec 32 := 64#32
  let v8385 : BitVec 32 := Scalar.muli c1_i32_4333 c64_i32_4334
  v8385
def k0_mult251 : BitVec 32 :=
  let c2_i32_4347 : BitVec 32 := 2#32
  let c64_i32_4348 : BitVec 32 := 64#32
  let v8415 : BitVec 32 := Scalar.muli c2_i32_4347 c64_i32_4348
  v8415
def k0_mult252 : BitVec 32 :=
  let c3_i32_4361 : BitVec 32 := 3#32
  let c64_i32_4362 : BitVec 32 := 64#32
  let v8445 : BitVec 32 := Scalar.muli c3_i32_4361 c64_i32_4362
  v8445
def k0_mult253 : BitVec 32 :=
  let c4_i32_4375 : BitVec 32 := 4#32
  let c64_i32_4376 : BitVec 32 := 64#32
  let v8475 : BitVec 32 := Scalar.muli c4_i32_4375 c64_i32_4376
  v8475
def k0_mult254 : BitVec 32 :=
  let c5_i32_4389 : BitVec 32 := 5#32
  let c64_i32_4390 : BitVec 32 := 64#32
  let v8505 : BitVec 32 := Scalar.muli c5_i32_4389 c64_i32_4390
  v8505
def k0_mult255 : BitVec 32 :=
  let c6_i32_4403 : BitVec 32 := 6#32
  let c64_i32_4404 : BitVec 32 := 64#32
  let v8535 : BitVec 32 := Scalar.muli c6_i32_4403 c64_i32_4404
  v8535
def k0_mult256 : BitVec 32 :=
  let c7_i32_4417 : BitVec 32 := 7#32
  let c64_i32_4418 : BitVec 32 := 64#32
  let v8565 : BitVec 32 := Scalar.muli c7_i32_4417 c64_i32_4418
  v8565
def k0_cond2 (i : grid0.Coords) : BitVec 1 :=
  let arg1 : BitVec 32 := BitVec.ofNat 32 (i 1).val
  let c0_i32_4934 : BitVec 32 := 0#32
  let v9053 : BitVec 1 := Scalar.cmpi .eq arg1 c0_i32_4934
  let v9054 : BitVec 32 := Scalar.extui v9053
  let c0_i32_4935 : BitVec 32 := 0#32
  let v9055 : BitVec 1 := Scalar.cmpi .ne v9054 c0_i32_4935
  v9055

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  let c0_i32_2 : BitVec 32 := 0#32
  ![c1_i32.toNat, v0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c1_i32_1 : BitVec 32 := 1#32
  let c0_i32_2 : BitVec 32 := 0#32
  ![c1_i32.toNat, v0.toNat, c0_i32_0.toNat, c1_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c2_i32 : BitVec 32 := 2#32
  let c0_i32_1 : BitVec 32 := 0#32
  ![c1_i32.toNat, v0.toNat, c0_i32_0.toNat, c2_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x2048x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S64x8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x4096 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S64x4096 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Proof.Softmax.lean ====
/- Extended-real facts about a softmax-weighted sum over a window of keys, its log-sum-exp, and the merge of three
   such sums by their log-sum-exps. No program occurs here. -/
module

public import Idealize.ShloMosaic.PureOps.Ideal.Laws
public import Idealize.ShloMosaic.Lib.ValueIdx

@[expose] public section

noncomputable section

namespace Cert.Attn

open Idealize.ShloMosaic

/-- Minus infinity minus anything is minus infinity. -/
theorem bot_sub' (x : EReal) : (⊥ : EReal) - x = ⊥ := by
  rw [sub_eq_add_neg, EReal.bot_add]

/-- The exponential is never negative. -/
theorem exp_nonneg (x : EReal) : 0 ≤ Ideal.exp x := by
  induction x with
  | bot => simp
  | top => simp
  | coe r => rw [Ideal.exp_coe]; exact_mod_cast (Real.exp_pos r).le

/-- The exponential of anything below plus infinity is a nonnegative real. -/
theorem exp_real {x : EReal} (h : x ≠ ⊤) : ∃ r : ℝ, 0 ≤ r ∧ Ideal.exp x = (r : EReal) := by
  induction x with
  | bot => exact ⟨0, le_rfl, by simp⟩
  | top => exact absurd rfl h
  | coe r => exact ⟨Real.exp r, (Real.exp_pos r).le, by simp⟩

/-- Subtracting a bound that is not plus infinity gives something below plus infinity. -/
theorem sub_ne_top {x m : EReal} (h : x ≤ m) : x - m ≠ ⊤ := by
  induction m with
  | bot => rw [le_bot_iff] at h; subst h; simp
  | top => simp
  | coe r =>
    have hx : x ≠ ⊤ := fun e => by rw [e] at h; exact absurd (top_le_iff.mp h) (EReal.coe_ne_top r)
    induction x with
    | bot => simp
    | top => exact absurd rfl hx
    | coe s => rw [← EReal.coe_sub]; exact EReal.coe_ne_top _

/-- A finite sum of reals is a real, nonnegative when they are. -/
theorem sum_real {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_rfl, by simp⟩
  | insert a s ha ih =>
    obtain ⟨r, hr, e⟩ := ih fun i hi => h i (Finset.mem_insert_of_mem hi)
    obtain ⟨r', hr', e'⟩ := h a (Finset.mem_insert_self a s)
    exact ⟨r' + r, add_nonneg hr' hr, by rw [Finset.sum_insert ha, e, e', EReal.coe_add]⟩

/-- A finite sum of reals of any sign is a real. -/
theorem sum_real' {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, e⟩ := ih fun i hi => h i (Finset.mem_insert_of_mem hi)
    obtain ⟨r', e'⟩ := h a (Finset.mem_insert_self a s)
    exact ⟨r' + r, by rw [Finset.sum_insert ha, e, e', EReal.coe_add]⟩

/-- A nonnegative real factor moves into a finite sum from the right. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- The largest of finitely many scores, the sum of the exponentials of their distances to it, the weighted sum of
    the values divided by that sum term by term, and the log-sum-exp: a softmax over the keys `ι`. -/
def rowMax {ι : Type} [Fintype ι] (s : ι → EReal) : EReal := Finset.univ.fold max ⊥ s
def rowSum {ι : Type} [Fintype ι] (s : ι → EReal) : EReal := ∑ j, Ideal.exp (s j - rowMax s)
def rowLse {ι : Type} [Fintype ι] (s : ι → EReal) : EReal := rowMax s + Ideal.log (rowSum s)
def rowOut {ι : Type} [Fintype ι] (s v : ι → EReal) : EReal :=
  ∑ j, Ideal.div (Ideal.exp (s j - rowMax s)) (rowSum s) * v j

theorem rowMax_eq_sup {ι : Type} [Fintype ι] (s : ι → EReal) : rowMax s = Finset.univ.sup s := rfl

theorem le_rowMax {ι : Type} [Fintype ι] (s : ι → EReal) (j : ι) : s j ≤ rowMax s := by
  rw [rowMax_eq_sup]; exact Finset.le_sup (Finset.mem_univ j)

/-- With a real maximum the sum of exponentials is a real that is at least one. -/
theorem rowSum_real {ι : Type} [Fintype ι] (s : ι → EReal) {r : ℝ} (h : rowMax s = r) :
    ∃ l : ℝ, 1 ≤ l ∧ rowSum s = l := by
  classical
  obtain ⟨l, hl, e⟩ := sum_real Finset.univ (fun j => Ideal.exp (s j - rowMax s))
    fun j _ => exp_real (sub_ne_top (le_rowMax s j))
  refine ⟨l, ?_, e⟩
  have hne : (Finset.univ : Finset ι).Nonempty := by
    by_contra hn
    rw [Finset.not_nonempty_iff_eq_empty] at hn
    rw [rowMax_eq_sup, hn, Finset.sup_empty] at h
    exact absurd h.symm (EReal.coe_ne_bot r)
  obtain ⟨j, -, hj⟩ := Finset.exists_mem_eq_sup Finset.univ hne s
  have h1 : (1 : EReal) ≤ ∑ j, Ideal.exp (s j - rowMax s) := by
    refine le_trans ?_ (Finset.single_le_sum (f := fun j => Ideal.exp (s j - rowMax s))
      (fun i _ => exp_nonneg _) (Finset.mem_univ j))
    have : s j = (r : EReal) := by rw [← h, rowMax_eq_sup]; exact hj.symm
    simp only [this, h]
    rw [← EReal.coe_sub, sub_self, Ideal.exp_coe, Real.exp_zero]
    exact le_rfl
  rw [e] at h1
  exact_mod_cast h1

/-- With a maximum that is plus or minus infinity every exponential vanishes. -/
theorem rowSum_zero {ι : Type} [Fintype ι] (s : ι → EReal) (h : rowMax s = ⊥ ∨ rowMax s = ⊤) : rowSum s = 0 := by
  unfold rowSum
  refine Finset.sum_eq_zero fun j _ => ?_
  rcases h with h | h
  · have : s j = ⊥ := le_bot_iff.mp (h ▸ le_rowMax s j)
    rw [this, bot_sub']; rfl
  · rw [h]; simp

/-- The log-sum-exp is a real exactly with a real maximum, and minus infinity otherwise. -/
theorem rowLse_cases {ι : Type} [Fintype ι] (s : ι → EReal) :
    (∃ r : ℝ, rowLse s = r ∧ ∃ M : ℝ, rowMax s = M) ∨ rowLse s = ⊥ := by
  obtain h | h | ⟨r, h⟩ : rowMax s = ⊥ ∨ rowMax s = ⊤ ∨ ∃ r : ℝ, rowMax s = r := by
    generalize rowMax s = x
    induction x with
    | bot => exact Or.inl rfl
    | top => exact Or.inr (Or.inl rfl)
    | coe r => exact Or.inr (Or.inr ⟨r, rfl⟩)
  · right; unfold rowLse; rw [h, EReal.bot_add]
  · right
    unfold rowLse
    have : Ideal.log 0 = ⊥ := by rw [← EReal.coe_zero, Ideal.log_coe, if_pos le_rfl]
    rw [rowSum_zero s (Or.inr h), this, EReal.add_bot]
  · left
    obtain ⟨l, hl, e⟩ := rowSum_real s h
    unfold rowLse
    rw [e, h, Ideal.log_coe, if_neg (not_le.mpr (lt_of_lt_of_le one_pos hl))]
    exact ⟨r + Real.log l, by rw [EReal.coe_add], r, rfl⟩

/-- A real row has a real maximum, so a real log-sum-exp. -/
theorem rowLse_real {ι : Type} [Fintype ι] [Nonempty ι] (s : ι → EReal) (h : ∀ j, ∃ r : ℝ, s j = r) :
    ∃ r : ℝ, rowLse s = r := by
  obtain ⟨j, -, hj⟩ := Finset.exists_mem_eq_sup Finset.univ Finset.univ_nonempty s
  obtain ⟨M, hM⟩ := h j
  have hm : rowMax s = M := by rw [rowMax_eq_sup, hj, hM]
  obtain ⟨l, hl, e⟩ := rowSum_real s hm
  refine ⟨M + Real.log l, ?_⟩
  unfold rowLse
  rw [e, hm, Ideal.log_coe, if_neg (not_le.mpr (lt_of_lt_of_le one_pos hl)), EReal.coe_add]

/-- Dividing the weighted sum once or each weight on its own is the same, with a real maximum. -/
theorem rowOut_eq {ι : Type} [Fintype ι] (s v : ι → EReal) {M : ℝ} (h : rowMax s = M) :
    Ideal.div (∑ j, Ideal.exp (s j - rowMax s) * v j) (rowSum s) = rowOut s v := by
  obtain ⟨l, hl, e⟩ := rowSum_real s h
  have hl0 : l ≠ 0 := (lt_of_lt_of_le one_pos hl).ne'
  have hc : (0 : ℝ) ≤ 1 / l := by positivity
  unfold rowOut
  rw [e, Ideal.div_coe hl0, sum_mul_real _ _ hc]
  refine Finset.sum_congr rfl fun j _ => ?_
  rw [Ideal.div_coe hl0, mul_assoc, mul_assoc, mul_comm (v j)]

/-- The merge of three outputs by their log-sum-exps, as one division of a weighted sum: the weights are the
    exponentials of the distances to the largest log-sum-exp. An output may be replaced by any other where its
    log-sum-exp is minus infinity; one log-sum-exp is a real. -/
theorem merge_eq (e : Fin 3 → EReal) (o o' : Fin 3 → EReal) (h0 : ∃ r : ℝ, e 0 = r)
    (he : ∀ g, (∃ r : ℝ, e g = r ∧ o g = o' g) ∨ e g = ⊥) :
    Ideal.div (∑ g, Ideal.exp (e g - rowMax e) * o g) (rowSum e) = rowOut e o' := by
  obtain ⟨r, hr⟩ := h0
  have hM : ∃ M : ℝ, rowMax e = M := by
    obtain ⟨g, -, hg⟩ := Finset.exists_mem_eq_sup Finset.univ Finset.univ_nonempty e
    rcases he g with ⟨M, hM, -⟩ | hb
    · exact ⟨M, by rw [rowMax_eq_sup, hg, hM]⟩
    · have := le_rowMax e 0
      rw [rowMax_eq_sup, hg, hb, le_bot_iff, hr] at this
      exact absurd this (EReal.coe_ne_bot r)
  obtain ⟨M, hM⟩ := hM
  rw [← rowOut_eq e o' hM]
  congr 1
  refine Finset.sum_congr rfl fun g _ => ?_
  rcases he g with ⟨_, _, h⟩ | hb
  · rw [h]
  · rw [hb, bot_sub', Ideal.exp_bot, zero_mul, zero_mul]

/-- Key `i` of a window of `wb` cached keys and the new ones after them, seen from new token `t`: it is not later than
    the token, at most `wb` before it, and a whole number of dilation steps away. -/
def InWin (wb dil t i : ℕ) : Prop := i ≤ wb + t ∧ wb + t - i ≤ wb ∧ (wb + t - i) % dil = 0

instance (wb dil t i : ℕ) : Decidable (InWin wb dil t i) := inferInstanceAs (Decidable (_ ∧ _))

/-- The key that is `j` dilation steps before new token `t`. -/
def keyAt (wb dil t : ℕ) (j : Fin 129) : ℕ := wb + t - dil * j.val

theorem keyAt_le {wb dil t : ℕ} (hw : wb = 128 * dil) (ht : t < 8) (j : Fin 129) :
    dil * j.val ≤ wb ∧ keyAt wb dil t j < wb + 8 ∧ InWin wb dil t (keyAt wb dil t j) := by
  have h1 : dil * j.val ≤ dil * 128 := Nat.mul_le_mul_left _ (by omega)
  have h2 : dil * 128 = wb := by rw [hw, Nat.mul_comm]
  unfold InWin keyAt
  refine ⟨by omega, by omega, by omega, by omega, ?_⟩
  rw [show wb + t - (wb + t - dil * j.val) = dil * j.val by omega, Nat.mul_mod_right]

theorem exists_keyAt {wb dil t : ℕ} (hd : 0 < dil) (hw : wb = 128 * dil) {i : ℕ} (h : InWin wb dil t i) :
    ∃ j : Fin 129, keyAt wb dil t j = i := by
  obtain ⟨h1, h2, h3⟩ := h
  obtain ⟨q, hq⟩ := Nat.dvd_of_mod_eq_zero h3
  have hq' : q ≤ 128 := by
    by_contra hn
    have : dil * 129 ≤ dil * q := Nat.mul_le_mul_left _ (by omega)
    omega
  exact ⟨⟨q, by omega⟩, by unfold keyAt; show wb + t - dil * q = i; omega⟩

/-- A sum over the cached and the new keys with the keys outside the window counted as zero is the sum over the window. -/
theorem sum_window {wb dil t : ℕ} (hd : 0 < dil) (hw : wb = 128 * dil) (ht : t < 8) (f : ℕ → EReal) :
    (∑ i : Fin wb, if InWin wb dil t i.val then f i.val else 0)
      + (∑ i : Fin 8, if InWin wb dil t (wb + i.val) then f (wb + i.val) else 0)
      = ∑ j : Fin 129, f (keyAt wb dil t j) := by
  have h := Fin.sum_univ_add (fun i : Fin (wb + 8) => if InWin wb dil t i.val then f i.val else 0)
  simp only [Fin.val_castAdd, Fin.val_natAdd] at h
  rw [← h, ← Finset.sum_filter]
  symm
  refine Finset.sum_bij (fun j _ => ⟨keyAt wb dil t j, (keyAt_le hw ht j).2.1⟩) ?_ ?_ ?_ ?_
  · intro j _
    simpa using (keyAt_le hw ht j).2.2
  · intro j _ j' _ e
    have e' : keyAt wb dil t j = keyAt wb dil t j' := congrArg Fin.val e
    have h1 := (keyAt_le hw ht j).1
    have h2 := (keyAt_le hw ht j').1
    unfold keyAt at e'
    have : dil * j.val = dil * j'.val := by omega
    exact Fin.ext (Nat.eq_of_mul_eq_mul_left hd this)
  · intro i hi
    obtain ⟨j, hj⟩ := exists_keyAt hd hw (Finset.mem_filter.mp hi).2
    exact ⟨j, Finset.mem_univ _, Fin.ext hj⟩
  · intro j _; rfl

/-- So the largest over the cached and the new keys, with the keys outside the window counted as minus infinity. -/
theorem max_window {wb dil t : ℕ} (hd : 0 < dil) (hw : wb = 128 * dil) (ht : t < 8) (f : ℕ → EReal) :
    max (rowMax fun i : Fin wb => if InWin wb dil t i.val then f i.val else ⊥)
      (rowMax fun i : Fin 8 => if InWin wb dil t (wb + i.val) then f (wb + i.val) else ⊥)
      = rowMax fun j : Fin 129 => f (keyAt wb dil t j) := by
  refine le_antisymm (max_le ?_ ?_) ?_
  · rw [rowMax_eq_sup]
    refine Finset.sup_le fun i _ => ?_
    split_ifs with hi
    · obtain ⟨j, hj⟩ := exists_keyAt hd hw hi
      rw [← hj]; exact le_rowMax (fun j : Fin 129 => f (keyAt wb dil t j)) j
    · exact bot_le
  · rw [rowMax_eq_sup]
    refine Finset.sup_le fun i _ => ?_
    split_ifs with hi
    · obtain ⟨j, hj⟩ := exists_keyAt hd hw hi
      rw [← hj]; exact le_rowMax (fun j : Fin 129 => f (keyAt wb dil t j)) j
    · exact bot_le
  · rw [rowMax_eq_sup (fun j : Fin 129 => f (keyAt wb dil t j))]
    refine Finset.sup_le fun j _ => ?_
    obtain ⟨-, hlt, hin⟩ := keyAt_le hw ht j
    by_cases hk : keyAt wb dil t j < wb
    · refine le_trans ?_ (le_max_left _ _)
      refine le_trans (le_of_eq ?_) (le_rowMax _ (⟨keyAt wb dil t j, hk⟩ : Fin wb))
      exact (if_pos hin).symm
    · refine le_trans ?_ (le_max_right _ _)
      have e : wb + (keyAt wb dil t j - wb) = keyAt wb dil t j := by omega
      refine le_trans (le_of_eq ?_) (le_rowMax _ (⟨keyAt wb dil t j - wb, by omega⟩ : Fin 8))
      show _ = if InWin wb dil t (wb + (keyAt wb dil t j - wb)) then f (wb + (keyAt wb dil t j - wb)) else ⊥
      rw [e, if_pos hin]

/-- One masked row as it is computed densely: scores outside the window are minus infinity, so their weights vanish,
    and the row's maximum, its sum, its weighted sum and its log-sum-exp are those of the window. -/
theorem dense_row {wb dil t : ℕ} (hd : 0 < dil) (hw : wb = 128 * dil) (ht : t < 8) (s v : ℕ → EReal)
    (sc : Fin wb → EReal) (sn : Fin 8 → EReal) (m : EReal)
    (hc : ∀ i, sc i = if InWin wb dil t i.val then s i.val else ⊥)
    (hn : ∀ i, sn i = if InWin wb dil t (wb + i.val) then s (wb + i.val) else ⊥)
    (hm : m = max (rowMax sc) (rowMax sn)) :
    m = rowMax (fun j : Fin 129 => s (keyAt wb dil t j))
    ∧ (∑ i, Ideal.exp (sc i - m)) + (∑ i, Ideal.exp (sn i - m)) = rowSum (fun j : Fin 129 => s (keyAt wb dil t j))
    ∧ (∑ i, Ideal.exp (sc i - m) * v i.val) + (∑ i, Ideal.exp (sn i - m) * v (wb + i.val))
        = ∑ j : Fin 129, Ideal.exp (s (keyAt wb dil t j) - rowMax (fun j : Fin 129 => s (keyAt wb dil t j)))
            * v (keyAt wb dil t j) := by
  obtain rfl : sc = _ := funext hc
  obtain rfl : sn = _ := funext hn
  have hM := max_window hd hw ht s
  rw [← hm] at hM
  refine ⟨hM, ?_, ?_⟩
  · unfold rowSum
    rw [← sum_window hd hw ht fun i => Ideal.exp (s i - rowMax fun j : Fin 129 => s (keyAt wb dil t j)), ← hM]
    congr 1 <;> refine Finset.sum_congr rfl fun i _ => ?_ <;> dsimp only <;> split_ifs <;> simp [bot_sub']
  · rw [← hM, ← sum_window hd hw ht fun i => Ideal.exp (s i - m) * v i]
    congr 1 <;> refine Finset.sum_congr rfl fun i _ => ?_ <;> dsimp only <;> split_ifs <;> simp [bot_sub']

end Cert.Attn

end
-- ==== Proof.Ker.lean ====
module

public import proofs.«01_k».proof.Proof.Gen.KernelIdeal.Value
public import proofs.«01_k».proof.Proof.Softmax
public import Idealize.ShloMosaic.Lib.Pointwise

@[expose] public section

set_option maxRecDepth 16384

noncomputable section

namespace Cert.Attn

open Idealize.ShloMosaic Cert.KernelIdeal Cert.KernelIdeal.Gen

abbrev SW (W : ℕ) : Shape := ⟨2, ![32, W]⟩
abbrev SD (W : ℕ) : Shape := ⟨2, ![256, W]⟩
abbrev SC (W : ℕ) : Shape := ⟨5, ![1, 1, 1, 256, W]⟩

/-- What the operations over a window of `W` cached keys ask of their shapes. -/
structure WF (W : ℕ) : Prop where
  cast : (SC W).ShapeCasts (SD W)
  red : (SW W).Reduces [1] S32
  bc : S32x1.Broadcasts (SW W)
  dk : DotDims.WF S32x256 (SD W) (SW W) [1] [0] [0] [1] [] []
  dv : DotDims.WF (SW W) (SD W) S32x256 [1] [1] [0] [0] [] []

def dotK {W : ℕ} (h : WF W) : DotDims S32x256 (SD W) (SW W) where
  lhsContracting := [1]
  rhsContracting := [0]
  lhsNonContracting := [0]
  rhsNonContracting := [1]
  lhsBatch := []
  rhsBatch := []
  wf := h.dk

def dotV {W : ℕ} (h : WF W) : DotDims (SW W) (SD W) S32x256 where
  lhsContracting := [1]
  rhsContracting := [1]
  lhsNonContracting := [0]
  rhsNonContracting := [0]
  lhsBatch := []
  rhsBatch := []
  wf := h.dv

variable {W : ℕ} (h : WF W)

/-- The scores of the head-masked queries `qb` against the cached keys `k`, minus infinity outside the mask `vc`. -/
def scoreC (vc : IVec (SW W) 1) (qb : FVec Ideal S32x256 .f32) (k : Vec Ideal (SC W) .f32) : FVec Ideal (SW W) .f32 :=
  select vc (matmul (dotK h) none (truncf .bf16 qb bitsLt_bf16_f32) (truncf .bf16 (shapeCast (SD W) k h.cast) bitsLt_bf16_f32)
    (constant (SW W) .f32 0x00000000#32)) (broadcast (SW W) (Scalar.ofBits .f32 0xFF800000#32))

/-- The scores against the new keys. -/
def scoreN (vn : IVec S32x8 1) (qb : FVec Ideal S32x256 .f32) (k : Vec Ideal S1x8x256 .f32) : FVec Ideal S32x8 .f32 :=
  select vn (matmul dot_S32x256_S8x256_S32x8_1_1_0_0_n_n none (truncf .bf16 qb bitsLt_bf16_f32)
    (truncf .bf16 (shapeCast S8x256 k shapeCasts_S1x8x256_S8x256) bitsLt_bf16_f32)
    (constant S32x8 .f32 0x00000000#32)) (broadcast S32x8 (Scalar.ofBits .f32 0xFF800000#32))

/-- Each row's largest score. -/
def maxRow (sc : FVec Ideal (SW W) .f32) (sn : FVec Ideal S32x8 .f32) : FVec Ideal S32x1 .f32 :=
  maximumf (shapeCast S32x1 (multiReduction .maximumf [1] S32 sc 0xFF800000#32 h.red (.inl rfl) rfl) shapeCasts_S32_S32x1)
    (shapeCast S32x1 (multiReduction .maximumf [1] S32 sn 0xFF800000#32 reduces_S32x8_S32 (.inl rfl) rfl) shapeCasts_S32_S32x1)

/-- The weights of the cached keys, and of the new ones. -/
def expC (sc : FVec Ideal (SW W) .f32) (m : FVec Ideal S32x1 .f32) : FVec Ideal (SW W) .f32 :=
  exp (subf sc (broadcastTo (SW W) m h.bc))
def expN (sn : FVec Ideal S32x8 .f32) (m : FVec Ideal S32x1 .f32) : FVec Ideal S32x8 .f32 :=
  exp (subf sn (broadcastTo S32x8 m broadcasts_S32x1_S32x8))

/-- Each row's sum of weights. -/
def sumRow (pc : FVec Ideal (SW W) .f32) (pn : FVec Ideal S32x8 .f32) : FVec Ideal S32x1 .f32 :=
  addf (shapeCast S32x1 (multiReduction .add [1] S32 pc 0x00000000#32 h.red (.inl rfl) rfl) shapeCasts_S32_S32x1)
    (shapeCast S32x1 (multiReduction .add [1] S32 pn 0x00000000#32 reduces_S32x8_S32 (.inl rfl) rfl) shapeCasts_S32_S32x1)

/-- Each row's weighted sum of all the values, divided by the sum of weights. -/
def outRow (pc : FVec Ideal (SW W) .f32) (pn : FVec Ideal S32x8 .f32) (l : FVec Ideal S32x1 .f32)
    (v : Vec Ideal (SC W) .f32) (vn : Vec Ideal S1x8x256 .f32) : FVec Ideal S32x256 .f32 :=
  divf (addf (matmul (dotV h) none (truncf .bf16 pc bitsLt_bf16_f32) (truncf .bf16 (shapeCast (SD W) v h.cast) bitsLt_bf16_f32)
      (constant S32x256 .f32 0x00000000#32))
    (matmul dot_S32x8_S8x256_S32x256_1_0_0_1_n_n none (truncf .bf16 pn bitsLt_bf16_f32)
      (truncf .bf16 (shapeCast S8x256 vn shapeCasts_S1x8x256_S8x256) bitsLt_bf16_f32) (constant S32x256 .f32 0x00000000#32)))
    (broadcastTo S32x256 l broadcasts_S32x1_S32x256)

/-- Each row's log-sum-exp. -/
def lseRow (m l : FVec Ideal S32x1 .f32) : FVec Ideal S32x1 .f32 := addf m (log l)

include h in
/-- The cached block with its unit axes dropped, at a channel and a key. -/
theorem cast_idx (e : (SD W).numel = (SC W).numel) (c : Fin 256) (i : Fin W) :
    Shape.reshapeEquiv e (ix2 c i) = (ix5 0 0 0 c i : (SC W).Idx) :=
  shapeCast_apply (s := SC W) (t := SD W) (fun z => z) h.cast (ix2 c i) (ix5 0 0 0 c i) (by
    rw [Shape.rowMajor_val_five, Shape.rowMajor_val_two]
    show ((((0 * 1 + 0) * 1 + 0) * 256 + c.val) * W + i.val) = c.val * W + i.val
    simp)

theorem dotK_apply (x : S32x256.Idx → EReal) (y : (SD W).Idx → EReal) (acc : (SW W).Idx → EReal) (r : Fin 32) (i : Fin W) :
    Ideal.matmul (dotK h) x y acc (ix2 r i) = acc (ix2 r i) + ∑ c : Fin 256, x (ix2 r c) * y (ix2 c i) := by
  refine Ideal.matmul_apply₁_of (dotK h) (a := 1) rfl rfl x y acc (ix2 r i) (fun c => ix2 r c) (fun c => ix2 c i) ?_ ?_
  · intro c
    funext a
    match a with
    | ⟨0, _⟩ => rfl
    | ⟨1, _⟩ => rfl
  · intro c
    funext a
    match a with
    | ⟨0, _⟩ => rfl
    | ⟨1, _⟩ => rfl

theorem dotV_apply (x : (SW W).Idx → EReal) (y : (SD W).Idx → EReal) (acc : S32x256.Idx → EReal) (r : Fin 32) (c : Fin 256) :
    Ideal.matmul (dotV h) x y acc (ix2 r c) = acc (ix2 r c) + ∑ i : Fin W, x (ix2 r i) * y (ix2 c i) := by
  refine Ideal.matmul_apply₁_of (dotV h) (a := 1) rfl rfl x y acc (ix2 r c) (fun i => ix2 r i) (fun i => ix2 c i) ?_ ?_
  · intro i
    funext a
    match a with
    | ⟨0, _⟩ => rfl
    | ⟨1, _⟩ => rfl
  · intro i
    funext a
    match a with
    | ⟨0, _⟩ => rfl
    | ⟨1, _⟩ => rfl

theorem lift_idx (r : Fin 32) (i : Fin W) : h.red.lift (ix1 r) i = ix2 r i := by
  funext a
  match a with
  | ⟨0, _⟩ => rfl
  | ⟨1, _⟩ => rfl

theorem ofBits_neg_inf : Ideal.ofBits .f32 0xFF800000#32 = ⊥ := by
  simp [Ideal.ofBits, Ideal.ieee]

theorem scoreC_apply (vc : IVec (SW W) 1) (qb : FVec Ideal S32x256 .f32) (k : Vec Ideal (SC W) .f32) (r : Fin 32) (i : Fin W) :
    scoreC h vc qb k (ix2 r i) = if vc (ix2 r i) = 1#1 then ∑ c : Fin 256, qb (ix2 r c) * k (ix5 0 0 0 c i) else ⊥ := by
  pointwise [scoreC, dotK_apply, cast_idx h, ofBits_neg_inf]
  rfl

theorem scoreN_apply (vn : IVec S32x8 1) (qb : FVec Ideal S32x256 .f32) (k : Vec Ideal S1x8x256 .f32) (r : Fin 32) (i : Fin 8) :
    scoreN vn qb k (ix2 r i) = if vn (ix2 r i) = 1#1 then ∑ c : Fin 256, qb (ix2 r c) * k (ix3 0 i c) else ⊥ := by
  pointwise [scoreN, ofBits_neg_inf]
  rfl

theorem maxRow_apply (sc : FVec Ideal (SW W) .f32) (sn : FVec Ideal S32x8 .f32) (r : Fin 32) :
    maxRow h sc sn (ix2 r 0) = max (rowMax fun i : Fin W => sc (ix2 r i)) (rowMax fun i : Fin 8 => sn (ix2 r i)) := by
  pointwise [maxRow, ofBits_neg_inf]
  rfl

theorem expC_apply (sc : FVec Ideal (SW W) .f32) (m : FVec Ideal S32x1 .f32) (r : Fin 32) (i : Fin W) :
    expC h sc m (ix2 r i) = Ideal.exp (sc (ix2 r i) - m (ix2 r 0)) := by
  pointwise [expC]

theorem expN_apply (sn : FVec Ideal S32x8 .f32) (m : FVec Ideal S32x1 .f32) (r : Fin 32) (i : Fin 8) :
    expN sn m (ix2 r i) = Ideal.exp (sn (ix2 r i) - m (ix2 r 0)) := by
  pointwise [expN]

theorem sumRow_apply (pc : FVec Ideal (SW W) .f32) (pn : FVec Ideal S32x8 .f32) (r : Fin 32) :
    sumRow h pc pn (ix2 r 0) = (∑ i : Fin W, pc (ix2 r i)) + ∑ i : Fin 8, pn (ix2 r i) := by
  pointwise [sumRow]

theorem outRow_apply (pc : FVec Ideal (SW W) .f32) (pn : FVec Ideal S32x8 .f32) (l : FVec Ideal S32x1 .f32)
    (v : Vec Ideal (SC W) .f32) (vn : Vec Ideal S1x8x256 .f32) (r : Fin 32) (c : Fin 256) :
    outRow h pc pn l v vn (ix2 r c) = Ideal.div ((∑ i : Fin W, pc (ix2 r i) * v (ix5 0 0 0 c i))
      + ∑ i : Fin 8, pn (ix2 r i) * vn (ix3 0 i c)) (l (ix2 r 0)) := by
  pointwise [outRow, dotV_apply, cast_idx h, ofBits_neg_inf]

theorem lseRow_apply (m l : FVec Ideal S32x1 .f32) (r : Fin 32) :
    lseRow m l (ix2 r 0) = m (ix2 r 0) + Ideal.log (l (ix2 r 0)) := by
  pointwise [lseRow]

/-! ### The masks -/

/-- The mask word of a query at position `a` and a key at position `b`: their distance is not negative, at most `n`, and
    has no bit in common with `k`. -/
def winWord (a b n k : BitVec 32) : BitVec 1 :=
  IntOp.andi (IntOp.andi (IntOp.cmpi .sge (IntOp.subi a b) 0#32) (IntOp.cmpi .sle (IntOp.subi a b) n))
    (IntOp.cmpi .eq (IntOp.andi (IntOp.subi a b) k) 0#32)

theorem ofBool_and (a b c : Bool) :
    IntOp.andi (IntOp.andi (BitVec.ofBool a) (BitVec.ofBool b)) (BitVec.ofBool c) = 1#1 ↔ a = true ∧ b = true ∧ c = true := by
  cases a <;> cases b <;> cases c <;> decide

theorem winWord_iff {x y n : ℕ} (k : ℕ) (hk : k ≤ 4) (hx : x < 2 ^ 20) (hy : y < 2 ^ 20) (hn : n < 2 ^ 20) :
    winWord (BitVec.ofNat 32 x) (BitVec.ofNat 32 y) (BitVec.ofNat 32 n) (BitVec.ofNat 32 (2 ^ k - 1)) = 1#1
      ↔ y ≤ x ∧ x - y ≤ n ∧ (x - y) % 2 ^ k = 0 := by
  unfold winWord IntOp.cmpi
  rw [ofBool_and]
  simp only [IntOp.subi, IntOp.andi]
  have hn' : (BitVec.ofNat 32 n).toInt = n := by
    rw [BitVec.toInt_eq_toNat_cond, BitVec.toNat_ofNat]; omega
  have h0 : (0#32 : BitVec 32).toInt = 0 := rfl
  by_cases hle : y ≤ x
  · have e : BitVec.ofNat 32 x - BitVec.ofNat 32 y = BitVec.ofNat 32 (x - y) := by
      apply BitVec.eq_of_toNat_eq
      rw [BitVec.toNat_sub, BitVec.toNat_ofNat, BitVec.toNat_ofNat, BitVec.toNat_ofNat]
      omega
    have hi : (BitVec.ofNat 32 (x - y)).toInt = (x - y : ℕ) := by
      rw [BitVec.toInt_eq_toNat_cond, BitVec.toNat_ofNat]; omega
    have hand : (BitVec.ofNat 32 (x - y) &&& BitVec.ofNat 32 (2 ^ k - 1) == 0#32) = true ↔ (x - y) % 2 ^ k = 0 := by
      have h2 : (2 : ℕ) ^ k ≤ 2 ^ 4 := Nat.pow_le_pow_right (by decide) hk
      rw [beq_iff_eq, ← BitVec.toNat_inj, BitVec.toNat_and, BitVec.toNat_ofNat, BitVec.toNat_ofNat,
        Nat.mod_eq_of_lt (by omega), Nat.mod_eq_of_lt (by omega), Nat.and_two_pow_sub_one_eq_mod]
      rfl
    rw [e, hand, BitVec.sle_iff_toInt_le, BitVec.sle_iff_toInt_le, hi, hn', h0]
    omega
  · have : ¬ (BitVec.sle 0#32 (BitVec.ofNat 32 x - BitVec.ofNat 32 y) = true) := by
      rw [BitVec.sle_iff_toInt_le, h0, BitVec.toInt_eq_toNat_cond, BitVec.toNat_sub, BitVec.toNat_ofNat, BitVec.toNat_ofNat]
      omega
    constructor
    · intro h; exact absurd h.1 this
    · intro h; exact absurd h.1 hle

theorem and7 : ∀ r : Fin 32, IntOp.andi (BitVec.ofNat 32 r.val) 7#32 = BitVec.ofNat 32 (r.val % 8) := by decide +kernel

theorem winC_iff {wb : ℕ} (k : ℕ) (hk : k ≤ 4) (hw : wb ≤ 2048) (r : Fin 32) (i : ℕ) (hi : i < wb) :
    winWord (IntOp.addi (BitVec.ofNat 32 wb) (IntOp.andi (BitVec.ofNat 32 r.val) 7#32)) (BitVec.ofNat 32 i)
      (BitVec.ofNat 32 wb) (BitVec.ofNat 32 (2 ^ k - 1)) = 1#1 ↔ InWin wb (2 ^ k) (r.val % 8) i := by
  rw [and7, IntOp.addi, ← BitVec.ofNat_add, winWord_iff k hk (by omega) (by omega) (by omega)]
  rfl

theorem winN_iff {wb : ℕ} (k : ℕ) (hk : k ≤ 4) (hw : wb ≤ 2048) (r : Fin 32) (i : Fin 8) :
    winWord (IntOp.andi (BitVec.ofNat 32 r.val) 7#32) (BitVec.ofNat 32 i.val)
      (BitVec.ofNat 32 wb) (BitVec.ofNat 32 (2 ^ k - 1)) = 1#1 ↔ InWin wb (2 ^ k) (r.val % 8) (wb + i.val) := by
  rw [and7, winWord_iff k hk (by omega) (by omega) (by omega)]
  unfold InWin
  rw [show wb + r.val % 8 - (wb + i.val) = r.val % 8 - i.val by omega]
  have : i.val ≤ r.val % 8 ↔ wb + i.val ≤ wb + r.val % 8 := by omega
  rw [this]

theorem mask0C (r : Fin 32) (i : Fin 128) : k0_pay3 (ix2 r i) = 1#1 ↔ InWin 128 1 (r.val % 8) i.val := by
  pointwise [k0_pay3]
  exact winC_iff 0 (by decide) (by decide) r i.val i.isLt
theorem mask0N (r : Fin 32) (i : Fin 8) : k0_pay4 (ix2 r i) = 1#1 ↔ InWin 128 1 (r.val % 8) (128 + i.val) := by
  pointwise [k0_pay4]
  exact winN_iff 0 (by decide) (by decide) r i
theorem mask1C (r : Fin 32) (i : Fin 512) :
    k0_pay7 k0_pay5 (iota .tc S32x512 32 [1] iota_S32x512_d1_w32) k0_pay6 (ix2 r i) = 1#1 ↔ InWin 512 4 (r.val % 8) i.val := by
  pointwise [k0_pay7, k0_pay5, k0_pay6]
  exact winC_iff 2 (by decide) (by decide) r i.val i.isLt
theorem mask1N (r : Fin 32) (i : Fin 8) : k0_pay8 (ix2 r i) = 1#1 ↔ InWin 512 4 (r.val % 8) (512 + i.val) := by
  pointwise [k0_pay8]
  exact winN_iff 2 (by decide) (by decide) r i
theorem mask2C (r : Fin 32) (i : Fin 2048) :
    k0_pay13 k0_pay9 k0_pay11 k0_pay12 (ix2 r i) = 1#1 ↔ InWin 2048 16 (r.val % 8) i.val := by
  pointwise [k0_pay9, k0_pay11, k0_pay12, k0_pay13]
  exact winC_iff 4 (by decide) (by decide) r i.val i.isLt
theorem mask2N (r : Fin 32) (i : Fin 8) : k0_pay14 k0_pay10 (ix2 r i) = 1#1 ↔ InWin 2048 16 (r.val % 8) (2048 + i.val) := by
  pointwise [k0_pay14, k0_pay10]
  exact winN_iff 4 (by decide) (by decide) r i

/-! ### Heads: row `8 h + t` is head `h` of token `t`, channel `64 h + d` is its channel `d` -/

def row (h : Fin 4) (t : Fin 8) : Fin 32 := ⟨h.val * 8 + t.val, by omega⟩
def ch (h : Fin 4) (d : Fin 64) : Fin 256 := ⟨h.val * 64 + d.val, by omega⟩

theorem row_mod (h : Fin 4) (t : Fin 8) : (row h t).val % 8 = t.val := by show (h.val * 8 + t.val) % 8 = _; omega

theorem headMask (r : Fin 32) (c : Fin 256) : k0_pay2 (ix2 r c) = 1#1 ↔ c.val / 64 = r.val / 8 := by
  have hc : ∀ c : Fin 256, IntOp.shrsi .vector (BitVec.ofNat 32 c.val) 6#32 = BitVec.ofNat 32 (c.val / 64) := by decide +kernel
  have hr : ∀ r : Fin 32, IntOp.shrsi .vector (BitVec.ofNat 32 r.val) 3#32 = BitVec.ofNat 32 (r.val / 8) := by decide +kernel
  have ho : ∀ b : Bool, BitVec.ofBool b = 1#1 ↔ b = true := by decide
  pointwise [k0_pay2]
  rw [hc, hr, IntOp.cmpi, ho, beq_iff_eq, ← BitVec.toNat_inj, BitVec.toNat_ofNat, BitVec.toNat_ofNat,
    Nat.mod_eq_of_lt (by omega), Nat.mod_eq_of_lt (by omega)]

theorem headMask_row (h h' : Fin 4) (t : Fin 8) (d : Fin 64) : k0_pay2 (ix2 (row h t) (ch h' d)) = 1#1 ↔ h' = h := by
  rw [headMask]
  show (h'.val * 64 + d.val) / 64 = (h.val * 8 + t.val) / 8 ↔ _
  rw [Fin.ext_iff]; omega

theorem sel_pos {α : Type} {c : BitVec 1} (h : c = 1#1) (a b : α) : Scalar.select c a b = a := if_pos h
theorem sel_neg {α : Type} {c : BitVec 1} (h : ¬ c = 1#1) (a b : α) : Scalar.select c a b = b := if_neg h

theorem qb_apply (q : Vec Ideal S1x8x256 .f32) (h h' : Fin 4) (t : Fin 8) (d : Fin 64) :
    k0_pay15 k0_pay2 q (ix2 (row h t) (ch h' d)) = if h' = h then q (ix3 0 t (ch h' d)) else 0 := by
  pointwise [k0_pay15]
  by_cases e : h' = h
  · refine (sel_pos ((headMask_row h h' t d).2 e) _ _).trans ?_
    rw [if_pos e]
    fin_cases h
    · exact (dif_pos (show (row 0 t).val < 8 by show 0 * 8 + t.val < 8; omega)).trans
        (congrArg (fun u => q (ix3 0 u (ch h' d))) (Fin.ext (by show 0 * 8 + t.val = _; omega)))
    · refine (dif_neg (show ¬ (row 1 t).val < 8 by show ¬ 1 * 8 + t.val < 8; omega)).trans ?_
      exact (dif_pos (show (row 1 t).val - 8 < 8 by show 1 * 8 + t.val - 8 < 8; omega)).trans
        (congrArg (fun u => q (ix3 0 u (ch h' d))) (Fin.ext (by show 1 * 8 + t.val - 8 = _; omega)))
    · refine (dif_neg (show ¬ (row 2 t).val < 8 by show ¬ 2 * 8 + t.val < 8; omega)).trans ?_
      refine (dif_neg (show ¬ (row 2 t).val - 8 < 8 by show ¬ 2 * 8 + t.val - 8 < 8; omega)).trans ?_
      exact (dif_pos (show (row 2 t).val - 8 - 8 < 8 by show 2 * 8 + t.val - 8 - 8 < 8; omega)).trans
        (congrArg (fun u => q (ix3 0 u (ch h' d))) (Fin.ext (by show 2 * 8 + t.val - 8 - 8 = _; omega)))
    · refine (dif_neg (show ¬ (row 3 t).val < 8 by show ¬ 3 * 8 + t.val < 8; omega)).trans ?_
      refine (dif_neg (show ¬ (row 3 t).val - 8 < 8 by show ¬ 3 * 8 + t.val - 8 < 8; omega)).trans ?_
      refine (dif_neg (show ¬ (row 3 t).val - 8 - 8 < 8 by show ¬ 3 * 8 + t.val - 8 - 8 < 8; omega)).trans ?_
      exact congrArg (fun u => q (ix3 0 u (ch h' d))) (Fin.ext (by show 3 * 8 + t.val - 8 - 8 - 8 = _; omega))
  · rw [if_neg e]
    exact sel_neg (fun hh => e ((headMask_row h h' t d).1 hh)) _ _

theorem sum_heads (f : Fin 256 → EReal) : ∑ c, f c = ∑ h : Fin 4, ∑ d : Fin 64, f (ch h d) :=
  Fin.sum_univ_tiles 4 64 rfl f

theorem qb_dot (q : Vec Ideal S1x8x256 .f32) (h : Fin 4) (t : Fin 8) (y : Fin 256 → EReal) :
    ∑ c, k0_pay15 k0_pay2 q (ix2 (row h t) c) * y c = ∑ d : Fin 64, q (ix3 0 t (ch h d)) * y (ch h d) := by
  rw [sum_heads, Finset.sum_eq_single h]
  · refine Finset.sum_congr rfl fun d _ => ?_
    rw [qb_apply, if_pos rfl]
  · intro h' _ hne
    refine Finset.sum_eq_zero fun d _ => ?_
    rw [qb_apply, if_neg hne, zero_mul]
  · exact fun hn => absurd (Finset.mem_univ h) hn

theorem row0 (t : Fin 8) (h : t.val < 32) : (⟨t.val, h⟩ : Fin 32) = row 0 t := Fin.ext (by show t.val = 0 * 8 + t.val; omega)

/-- Of the four rows of a token the head mask keeps, at a channel of head `h`, row `h` alone. -/
theorem pick_head (f : Fin 32 → EReal) (h : Fin 4) (t : Fin 8) (d : Fin 64) :
    Scalar.select (k0_pay2 (ix2 (row 0 t) (ch h d))) (f (row 0 t)) 0 + Scalar.select (k0_pay2 (ix2 (row 1 t) (ch h d))) (f (row 1 t)) 0
      + Scalar.select (k0_pay2 (ix2 (row 2 t) (ch h d))) (f (row 2 t)) 0
      + Scalar.select (k0_pay2 (ix2 (row 3 t) (ch h d))) (f (row 3 t)) 0 = f (row h t) := by
  have hs : ∀ g : Fin 4, Scalar.select (k0_pay2 (ix2 (row g t) (ch h d))) (f (row g t)) 0 = if h = g then f (row g t) else 0 :=
    fun g => if_congr (headMask_row g h t d) rfl rfl
  rw [hs, hs, hs, hs]
  fin_cases h <;> simp

theorem headOut (o : FVec Ideal S32x256 .f32) (h : Fin 4) (t : Fin 8) (d : Fin 64) :
    k0_pay38 k0_pay2 o (ix2 t (ch h d)) = o (ix2 (row h t) (ch h d)) := by
  pointwise [k0_pay38]
  rw [row0]
  exact pick_head (fun r => o (ix2 r (ch h d))) h t d

theorem headLse (e : FVec Ideal S32x1 .f32) (h : Fin 4) (t : Fin 8) (d : Fin 64) :
    k0_pay37 k0_pay2 e (ix2 t (ch h d)) = e (ix2 (row h t) 0) := by
  pointwise [k0_pay37]
  rw [row0]
  exact pick_head (fun r => e (ix2 r 0)) h t d

end Cert.Attn

end
-- ==== Proof.KerBlock.lean ====
/- What one grid point of the attention call computes for one of its two samples, as a function of the blocks it
   reads, and that function at an index. -/
module

public import proofs.«01_k».proof.Proof.Ker

@[expose] public section

set_option maxRecDepth 16384

noncomputable section

namespace Cert.Attn

open Idealize.ShloMosaic Cert.KernelIdeal Cert.KernelIdeal.Gen

section Group
variable {W : ℕ} (h : WF W) (vc : IVec (SW W) 1) (vn : IVec S32x8 1)
variable (q k v : Vec Ideal S1x8x256 .f32) (K V : Vec Ideal (SC W) .f32)

def gS : FVec Ideal (SW W) .f32 := scoreC h vc (k0_pay15 k0_pay2 q) K
def gN : FVec Ideal S32x8 .f32 := scoreN vn (k0_pay15 k0_pay2 q) k
def gM : FVec Ideal S32x1 .f32 := maxRow h (gS h vc q K) (gN vn q k)
def gL : FVec Ideal S32x1 .f32 :=
  sumRow h (expC h (gS h vc q K) (gM h vc vn q k K)) (expN (gN vn q k) (gM h vc vn q k K))
def gO : FVec Ideal S32x256 .f32 :=
  outRow h (expC h (gS h vc q K) (gM h vc vn q k K)) (expN (gN vn q k) (gM h vc vn q k K)) (gL h vc vn q k K) V v
def gE : FVec Ideal S32x1 .f32 := lseRow (gM h vc vn q k K) (gL h vc vn q k K)

/-- Cached entries and then the new ones, as one sequence. -/
def cat {W : ℕ} (c : Fin W → EReal) (n : Fin 8 → EReal) (i : ℕ) : EReal :=
  if hi : i < W then c ⟨i, hi⟩ else if hj : i - W < 8 then n ⟨i - W, hj⟩ else 0

theorem cat_left {W : ℕ} (c : Fin W → EReal) (n : Fin 8 → EReal) (i : Fin W) : cat c n i.val = c i := dif_pos i.isLt
theorem cat_right {W : ℕ} (c : Fin W → EReal) (n : Fin 8 → EReal) (i : Fin 8) : cat c n (W + i.val) = n i := by
  unfold cat
  rw [dif_neg (by omega), dif_pos (by omega)]
  congr 1; exact Fin.ext (by show W + i.val - W = i.val; omega)

/-- The score of head `hd` of token `t` against the key at a position. -/
def keyScore (hd : Fin 4) (t : Fin 8) : ℕ → EReal :=
  cat (fun i : Fin W => ∑ d : Fin 64, q (ix3 0 t (ch hd d)) * K (ix5 0 0 0 (ch hd d) i))
    (fun i => ∑ d : Fin 64, q (ix3 0 t (ch hd d)) * k (ix3 0 i (ch hd d)))

/-- Channel `d` of head `hd` of the value at a position. -/
def keyVal (hd : Fin 4) (d : Fin 64) : ℕ → EReal :=
  cat (fun i : Fin W => V (ix5 0 0 0 (ch hd d) i)) (fun i => v (ix3 0 i (ch hd d)))

/-- One group's rows: the log-sum-exp and the output of head `hd` of token `t` are those of the window of keys that the
    masks describe. -/
theorem group_apply {dil : ℕ} (hd0 : 0 < dil) (hW : W = 128 * dil)
    (hvc : ∀ (r : Fin 32) (i : Fin W), vc (ix2 r i) = 1#1 ↔ InWin W dil (r.val % 8) i.val)
    (hvn : ∀ (r : Fin 32) (i : Fin 8), vn (ix2 r i) = 1#1 ↔ InWin W dil (r.val % 8) (W + i.val))
    (hd : Fin 4) (t : Fin 8) (d : Fin 64) :
    gE h vc vn q k K (ix2 (row hd t) 0) = rowLse (fun j : Fin 129 => keyScore q k K hd t (keyAt W dil t.val j))
    ∧ gO h vc vn q k v K V (ix2 (row hd t) (ch hd d))
      = Ideal.div (∑ j : Fin 129, Ideal.exp (keyScore q k K hd t (keyAt W dil t.val j)
            - rowMax (fun j : Fin 129 => keyScore q k K hd t (keyAt W dil t.val j))) * keyVal v V hd d (keyAt W dil t.val j))
          (rowSum (fun j : Fin 129 => keyScore q k K hd t (keyAt W dil t.val j))) := by
  have hS : ∀ i : Fin W, gS h vc q K (ix2 (row hd t) i)
      = if InWin W dil t.val i.val then keyScore q k K hd t i.val else ⊥ := fun i => by
    unfold gS keyScore
    rw [scoreC_apply, cat_left, qb_dot q hd t (fun c => K (ix5 0 0 0 c i))]
    exact if_congr (by rw [hvc, row_mod]) rfl rfl
  have hN : ∀ i : Fin 8, gN vn q k (ix2 (row hd t) i)
      = if InWin W dil t.val (W + i.val) then keyScore q k K hd t (W + i.val) else ⊥ := fun i => by
    unfold gN keyScore
    rw [scoreN_apply, cat_right, qb_dot q hd t (fun c => k (ix3 0 i c))]
    exact if_congr (by rw [hvn, row_mod]) rfl rfl
  obtain ⟨e1, e2, e3⟩ := dense_row hd0 hW t.isLt (keyScore q k K hd t) (keyVal v V hd d)
    (fun i => gS h vc q K (ix2 (row hd t) i)) (fun i => gN vn q k (ix2 (row hd t) i))
    (gM h vc vn q k K (ix2 (row hd t) 0)) hS hN (maxRow_apply h _ _ _)
  have hL : gL h vc vn q k K (ix2 (row hd t) 0) = rowSum (fun j : Fin 129 => keyScore q k K hd t (keyAt W dil t.val j)) := by
    rw [← e2]
    unfold gL
    rw [sumRow_apply]
    simp only [expC_apply, expN_apply]
  refine ⟨?_, ?_⟩
  · unfold gE
    rw [lseRow_apply, hL, e1]
    rfl
  · unfold gO
    rw [outRow_apply, hL, ← e3]
    simp only [expC_apply, expN_apply, keyVal, cat_left, cat_right]

end Group

/-- The merge of three groups' outputs by their log-sum-exps. -/
def merge (o0 o1 o2 e0 e1 e2 : FVec Ideal S8x256 .f32) : FVec Ideal S1x8x256 .f32 :=
  have m : FVec Ideal S8x256 .f32 := maximumf (maximumf e0 e1) e2
  have w0 : FVec Ideal S8x256 .f32 := exp (subf e0 m)
  have w1 : FVec Ideal S8x256 .f32 := exp (subf e1 m)
  have w2 : FVec Ideal S8x256 .f32 := exp (subf e2 m)
  shapeCast S1x8x256 (divf (addf (addf (mulf w0 o0) (mulf w1 o1)) (mulf w2 o2)) (addf (addf w0 w1) w2)) shapeCasts_S8x256_S1x8x256

theorem merge_apply (o0 o1 o2 e0 e1 e2 : FVec Ideal S8x256 .f32) (t : Fin 8) (c : Fin 256) :
    merge o0 o1 o2 e0 e1 e2 (ix3 0 t c)
      = Ideal.div (∑ g : Fin 3, Ideal.exp ((![e0 (ix2 t c), e1 (ix2 t c), e2 (ix2 t c)] : Fin 3 → EReal) g
          - rowMax ![e0 (ix2 t c), e1 (ix2 t c), e2 (ix2 t c)]) * (![o0 (ix2 t c), o1 (ix2 t c), o2 (ix2 t c)] : Fin 3 → EReal) g)
        (rowSum ![e0 (ix2 t c), e1 (ix2 t c), e2 (ix2 t c)]) := by
  have hm : rowMax ![e0 (ix2 t c), e1 (ix2 t c), e2 (ix2 t c)] = max (max (e0 (ix2 t c)) (e1 (ix2 t c))) (e2 (ix2 t c)) := by
    rw [rowMax_eq_sup]
    simp [Fin.univ_succ, max_assoc]
  unfold rowSum
  rw [hm, Fin.sum_univ_three, Fin.sum_univ_three]
  pointwise [merge]

/-- The window of `W` keys is well shaped, at the three windows the groups have. -/
theorem wf0 : WF 128 := ⟨shapeCasts_S1x1x1x256x128_S256x128, reduces_S32x128_S32, broadcasts_S32x1_S32x128,
  dot_S32x256_S256x128_S32x128_1_0_0_1_n_n_wf, dot_S32x128_S256x128_S32x256_1_1_0_0_n_n_wf⟩
theorem wf1 : WF 512 := ⟨shapeCasts_S1x1x1x256x512_S256x512, reduces_S32x512_S32, broadcasts_S32x1_S32x512,
  dot_S32x256_S256x512_S32x512_1_0_0_1_n_n_wf, dot_S32x512_S256x512_S32x256_1_1_0_0_n_n_wf⟩
theorem wf2 : WF 2048 := ⟨shapeCasts_S1x1x1x256x2048_S256x2048, reduces_S32x2048_S32, broadcasts_S32x1_S32x2048,
  dot_S32x256_S256x2048_S32x2048_1_0_0_1_n_n_wf, dot_S32x2048_S256x2048_S32x256_1_1_0_0_n_n_wf⟩

def m0C : IVec (SW 128) 1 := k0_pay3
def m0N : IVec S32x8 1 := k0_pay4
def m1C : IVec (SW 512) 1 := k0_pay7 k0_pay5 (iota .tc S32x512 32 [1] iota_S32x512_d1_w32) k0_pay6
def m1N : IVec S32x8 1 := k0_pay8
def m2C : IVec (SW 2048) 1 := k0_pay13 k0_pay9 k0_pay11 k0_pay12
def m2N : IVec S32x8 1 := k0_pay14 k0_pay10

/-- What one grid point stores for one sample: the three groups' outputs, head by head, merged. -/
def sample (q0 q1 q2 k0 k1 k2 v0 v1 v2 : Vec Ideal S1x8x256 .f32) (K0 V0 : Vec Ideal (SC 128) .f32)
    (K1 V1 : Vec Ideal (SC 512) .f32) (K2 V2 : Vec Ideal (SC 2048) .f32) : FVec Ideal S1x8x256 .f32 :=
  merge (k0_pay38 k0_pay2 (gO wf0 m0C m0N q0 k0 v0 K0 V0)) (k0_pay38 k0_pay2 (gO wf1 m1C m1N q1 k1 v1 K1 V1))
    (k0_pay38 k0_pay2 (gO wf2 m2C m2N q2 k2 v2 K2 V2))
    (k0_pay37 k0_pay2 (gE wf0 m0C m0N q0 k0 K0)) (k0_pay37 k0_pay2 (gE wf1 m1C m1N q1 k1 K1))
    (k0_pay37 k0_pay2 (gE wf2 m2C m2N q2 k2 K2))

/-- The scores of the 129 keys of a window: token `t`, head `hd`. -/
def win {W : ℕ} (dil : ℕ) (q k : Vec Ideal S1x8x256 .f32) (K : Vec Ideal (SC W) .f32) (hd : Fin 4) (t : Fin 8) (j : Fin 129) : EReal :=
  keyScore q k K hd t (keyAt W dil t.val j)

/-- The values of the 129 keys of a window. -/
def winV {W : ℕ} (dil : ℕ) (v : Vec Ideal S1x8x256 .f32) (V : Vec Ideal (SC W) .f32) (hd : Fin 4) (t : Fin 8) (d : Fin 64)
    (j : Fin 129) : EReal := keyVal v V hd d (keyAt W dil t.val j)

/-- A group's output is the softmax average of its window wherever its log-sum-exp is not `⊥`. -/
theorem group_case {W : ℕ} (h : WF W) (vc : IVec (SW W) 1) (vn : IVec S32x8 1)
    (q k v : Vec Ideal S1x8x256 .f32) (K V : Vec Ideal (SC W) .f32) {dil : ℕ} (hd0 : 0 < dil) (hW : W = 128 * dil)
    (hvc : ∀ (r : Fin 32) (i : Fin W), vc (ix2 r i) = 1#1 ↔ InWin W dil (r.val % 8) i.val)
    (hvn : ∀ (r : Fin 32) (i : Fin 8), vn (ix2 r i) = 1#1 ↔ InWin W dil (r.val % 8) (W + i.val))
    (hd : Fin 4) (t : Fin 8) (d : Fin 64) :
    (∃ r : ℝ, rowLse (win dil q k K hd t) = r
      ∧ k0_pay38 k0_pay2 (gO h vc vn q k v K V) (ix2 t (ch hd d)) = rowOut (win dil q k K hd t) (winV dil v V hd t d))
    ∨ rowLse (win dil q k K hd t) = ⊥ := by
  rcases rowLse_cases (win dil q k K hd t) with ⟨r, hr, M, hM⟩ | hb
  · refine Or.inl ⟨r, hr, ?_⟩
    rw [headOut, (group_apply h vc vn q k v K V hd0 hW hvc hvn hd t d).2]
    exact rowOut_eq (win dil q k K hd t) (winV dil v V hd t d) hM
  · exact Or.inr hb

/-- What one grid point stores for one sample is the softmax over the groups' log-sum-exps of the groups' softmax
    averages, where the first group's scores are real. -/
theorem sample_apply (q0 q1 q2 k0 k1 k2 v0 v1 v2 : Vec Ideal S1x8x256 .f32) (K0 V0 : Vec Ideal (SC 128) .f32)
    (K1 V1 : Vec Ideal (SC 512) .f32) (K2 V2 : Vec Ideal (SC 2048) .f32) (hd : Fin 4) (t : Fin 8) (d : Fin 64)
    (hr : ∀ j, ∃ r : ℝ, win 1 q0 k0 K0 hd t j = r) :
    sample q0 q1 q2 k0 k1 k2 v0 v1 v2 K0 V0 K1 V1 K2 V2 (ix3 0 t (ch hd d))
      = rowOut ![rowLse (win 1 q0 k0 K0 hd t), rowLse (win 4 q1 k1 K1 hd t), rowLse (win 16 q2 k2 K2 hd t)]
          ![rowOut (win 1 q0 k0 K0 hd t) (winV 1 v0 V0 hd t d), rowOut (win 4 q1 k1 K1 hd t) (winV 4 v1 V1 hd t d),
            rowOut (win 16 q2 k2 K2 hd t) (winV 16 v2 V2 hd t d)] := by
  unfold sample
  rw [merge_apply, headLse, headLse, headLse,
    (group_apply wf0 m0C m0N q0 k0 v0 K0 V0 (dil := 1) (by decide) rfl mask0C mask0N hd t d).1,
    (group_apply wf1 m1C m1N q1 k1 v1 K1 V1 (dil := 4) (by decide) rfl mask1C mask1N hd t d).1,
    (group_apply wf2 m2C m2N q2 k2 v2 K2 V2 (dil := 16) (by decide) rfl mask2C mask2N hd t d).1]
  refine merge_eq _ _ _ (rowLse_real _ hr) fun g => ?_
  fin_cases g
  · exact group_case wf0 m0C m0N q0 k0 v0 K0 V0 (by decide) rfl mask0C mask0N hd t d
  · exact group_case wf1 m1C m1N q1 k1 v1 K1 V1 (by decide) rfl mask1C mask1N hd t d
  · exact group_case wf2 m2C m2N q2 k2 v2 K2 V2 (by decide) rfl mask2C mask2N hd t d

/-- A cache of `W` keys and values per sample. -/
abbrev SCache (W : ℕ) : Shape := ⟨6, ![2, 128, W, 2, 4, 64]⟩

section Attention
variable (Q K V : FVec Ideal S128x8x3x4x64 .f32)

/-- The score of token `t` of sample `n` against the key at a position of group `g`'s sequence, at head `hd`: the
    cached keys come first, then the new ones. -/
def score {W : ℕ} (C : FVec Ideal (SCache W) .f32) (g : Fin 3) (n : Fin 128) (t : Fin 8) (hd : Fin 4) : ℕ → EReal :=
  cat (fun i : Fin W => ∑ d : Fin 64, Q (ix5 n t g hd d) * C (ix6 0 n i 0 hd d))
    (fun i => ∑ d : Fin 64, Q (ix5 n t g hd d) * K (ix5 n i g hd d))

/-- Channel `d` of head `hd` of the value at a position of group `g`'s sequence. -/
def value {W : ℕ} (C : FVec Ideal (SCache W) .f32) (g : Fin 3) (n : Fin 128) (hd : Fin 4) (d : Fin 64) : ℕ → EReal :=
  cat (fun i : Fin W => C (ix6 0 n i 1 hd d)) (fun i => V (ix5 n i g hd d))

/-- The scores of a token's dilated window. -/
def scores {W : ℕ} (C : FVec Ideal (SCache W) .f32) (dil : ℕ) (g : Fin 3) (n : Fin 128) (t : Fin 8) (hd : Fin 4)
    (j : Fin 129) : EReal := score Q K C g n t hd (keyAt W dil t.val j)

/-- The values of a token's dilated window. -/
def values {W : ℕ} (C : FVec Ideal (SCache W) .f32) (dil : ℕ) (g : Fin 3) (n : Fin 128) (t : Fin 8) (hd : Fin 4) (d : Fin 64)
    (j : Fin 129) : EReal := value V C g n hd d (keyAt W dil t.val j)

variable (C0 : FVec Ideal (SCache 128) .f32) (C1 : FVec Ideal (SCache 512) .f32) (C2 : FVec Ideal (SCache 2048) .f32)

/-- The attention's result: the three groups' softmax averages, averaged by the softmax of their log-sum-exps. -/
def attn (n : Fin 128) (t : Fin 8) (hd : Fin 4) (d : Fin 64) : EReal :=
  rowOut ![rowLse (scores Q K C0 1 0 n t hd), rowLse (scores Q K C1 4 1 n t hd), rowLse (scores Q K C2 16 2 n t hd)]
    ![rowOut (scores Q K C0 1 0 n t hd) (values V C0 1 0 n t hd d), rowOut (scores Q K C1 4 1 n t hd) (values V C1 4 1 n t hd d),
      rowOut (scores Q K C2 16 2 n t hd) (values V C2 16 2 n t hd d)]

/-- Rows `x` are sample `n`'s rows of `X` for group `g`. -/
def Rows (x : Vec Ideal S1x8x256 .f32) (X : FVec Ideal S128x8x3x4x64 .f32) (n : Fin 128) (g : Fin 3) : Prop :=
  ∀ (t : Fin 8) (hd : Fin 4) (d : Fin 64), x (ix3 0 t (ch hd d)) = X (ix5 n t g hd d)

/-- Block `x` is sample `n`'s cached keys (`b = 0`) or values (`b = 1`). -/
def Cached {W : ℕ} (x : Vec Ideal (SC W) .f32) (X : FVec Ideal (SCache W) .f32) (n : Fin 128) (b : Fin 2) : Prop :=
  ∀ (hd : Fin 4) (d : Fin 64) (i : Fin W), x (ix5 0 0 0 (ch hd d) i) = X (ix6 0 n i b hd d)

variable {Q K V C0 C1 C2}

theorem win_eq {W : ℕ} {q k : Vec Ideal S1x8x256 .f32} {x : Vec Ideal (SC W) .f32} {C : FVec Ideal (SCache W) .f32} {n : Fin 128}
    {g : Fin 3} (hq : Rows q Q n g) (hk : Rows k K n g) (hx : Cached x C n 0) (dil : ℕ) (hd : Fin 4) (t : Fin 8) :
    win dil q k x hd t = scores Q K C dil g n t hd := by
  funext j
  unfold win scores keyScore score
  simp only [hq _ _ _, hk _ _ _, hx _ _ _]

theorem winV_eq {W : ℕ} {v : Vec Ideal S1x8x256 .f32} {x : Vec Ideal (SC W) .f32} {C : FVec Ideal (SCache W) .f32} {n : Fin 128}
    {g : Fin 3} (hv : Rows v V n g) (hx : Cached x C n 1) (dil : ℕ) (hd : Fin 4) (t : Fin 8) (d : Fin 64) :
    winV dil v x hd t d = values V C dil g n t hd d := by
  funext j
  unfold winV values keyVal value
  simp only [hv _ _ _, hx _ _ _]

/-- What a grid point stores for sample `n` is the attention's result for it, where the first group's scores are real. -/
theorem sample_eq {q0 q1 q2 k0 k1 k2 v0 v1 v2 : Vec Ideal S1x8x256 .f32} {K0 V0 : Vec Ideal (SC 128) .f32}
    {K1 V1 : Vec Ideal (SC 512) .f32} {K2 V2 : Vec Ideal (SC 2048) .f32} (n : Fin 128)
    (hr : ∀ (t : Fin 8) (hd : Fin 4) (j : Fin 129), ∃ r : ℝ, scores Q K C0 1 0 n t hd j = r)
    (hq0 : Rows q0 Q n 0) (hq1 : Rows q1 Q n 1) (hq2 : Rows q2 Q n 2) (hk0 : Rows k0 K n 0) (hk1 : Rows k1 K n 1) (hk2 : Rows k2 K n 2)
    (hv0 : Rows v0 V n 0) (hv1 : Rows v1 V n 1) (hv2 : Rows v2 V n 2) (hK0 : Cached K0 C0 n 0) (hV0 : Cached V0 C0 n 1)
    (hK1 : Cached K1 C1 n 0) (hV1 : Cached V1 C1 n 1) (hK2 : Cached K2 C2 n 0) (hV2 : Cached V2 C2 n 1)
    (hd : Fin 4) (t : Fin 8) (d : Fin 64) :
    sample q0 q1 q2 k0 k1 k2 v0 v1 v2 K0 V0 K1 V1 K2 V2 (ix3 0 t (ch hd d)) = attn Q K V C0 C1 C2 n t hd d := by
  rw [sample_apply _ _ _ _ _ _ _ _ _ _ _ _ _ _ _ hd t d (fun j => by rw [win_eq hq0 hk0 hK0]; exact hr t hd j),
    win_eq hq0 hk0 hK0, win_eq hq1 hk1 hK1, win_eq hq2 hk2 hK2, winV_eq hv0 hV0, winV_eq hv1 hV1, winV_eq hv2 hV2]
  rfl

end Attention

variable (x0 : Vec Ideal S2x8x768 .f32) (x1 : Vec Ideal S2x8x768 .f32) (x2 : Vec Ideal S2x8x768 .f32)
  (x3 : Vec Ideal S1x2x2x256x128 .f32) (x4 : Vec Ideal S1x2x2x256x512 .f32) (x5 : Vec Ideal S1x2x2x256x2048 .f32)

/-- The block a grid point leaves: its two samples' stores. -/
theorem out_eq : out0_6 x0 x1 x2 x3 x4 x5 = View.canon
    [⟨r0_19, sample (View.ld x0 r0_1) (View.ld x0 r0_7) (View.ld x0 r0_13) (View.ld x1 r0_1) (View.ld x1 r0_7) (View.ld x1 r0_13)
        (View.ld x2 r0_1) (View.ld x2 r0_7) (View.ld x2 r0_13) (View.ld x3 r0_3) (View.ld x3 r0_5) (View.ld x4 r0_9) (View.ld x4 r0_11)
        (View.ld x5 r0_15) (View.ld x5 r0_17)⟩,
     ⟨r0_18, sample (View.ld x0 r0_0) (View.ld x0 r0_6) (View.ld x0 r0_12) (View.ld x1 r0_0) (View.ld x1 r0_6) (View.ld x1 r0_12)
        (View.ld x2 r0_0) (View.ld x2 r0_6) (View.ld x2 r0_12) (View.ld x3 r0_2) (View.ld x3 r0_4) (View.ld x4 r0_8) (View.ld x4 r0_10)
        (View.ld x5 r0_14) (View.ld x5 r0_16)⟩] := rfl

end Cert.Attn

end
-- ==== Proof.KerFinal.lean ====
/- The array the attention call returns, index by index. -/
module

public import proofs.«01_k».proof.Proof.KerBlock
public import Idealize.ShloMosaic.Lib.Pipeline.ValueKit

@[expose] public section

set_option maxRecDepth 16384

noncomputable section

namespace Cert.Attn

open Idealize.ShloMosaic Idealize.ShloMosaic.TcCoe Cert.KernelIdeal Cert.KernelIdeal.Gen

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0]
    ∧ win0_3.index t = ![0, t.val, 0, 0, 0] ∧ win0_4.index t = ![0, t.val, 0, 0, 0] ∧ win0_5.index t = ![0, t.val, 0, 0, 0]
    ∧ win0_6.index t = ![t.val, 0, 0] :=
  (by decide +kernel : ∀ t : Fin grid0.N, _)

/-- The queries, laid out with a group's channels side by side. -/
theorem V_q (c : Dev nD) (n : Fin 128) (t : Fin 8) (e : Fin 768) :
    (V m c main_v6 : Vec Ideal S128x8x768 .f32) (ix3 n t e)
      = (m ((c : Thread nD τ).loc main_arg0) : Vec Ideal S128x8x3x4x64 .f32)
          (ix5 n t ⟨e.val / 256, by omega⟩ ⟨e.val / 64 % 4, by omega⟩ ⟨e.val % 64, by omega⟩) := by
  entry_read
  pointwise []

/-- The new keys, likewise. -/
theorem V_k (c : Dev nD) (n : Fin 128) (t : Fin 8) (e : Fin 768) :
    (V m c main_v7 : Vec Ideal S128x8x768 .f32) (ix3 n t e)
      = (m ((c : Thread nD τ).loc main_arg1) : Vec Ideal S128x8x3x4x64 .f32)
          (ix5 n t ⟨e.val / 256, by omega⟩ ⟨e.val / 64 % 4, by omega⟩ ⟨e.val % 64, by omega⟩) := by
  entry_read
  pointwise []

/-- The new values, likewise. -/
theorem V_v (c : Dev nD) (n : Fin 128) (t : Fin 8) (e : Fin 768) :
    (V m c main_v8 : Vec Ideal S128x8x768 .f32) (ix3 n t e)
      = (m ((c : Thread nD τ).loc main_arg2) : Vec Ideal S128x8x3x4x64 .f32)
          (ix5 n t ⟨e.val / 256, by omega⟩ ⟨e.val / 64 % 4, by omega⟩ ⟨e.val % 64, by omega⟩) := by
  entry_read
  pointwise []

/-- The first group's cache, laid out with the keys along the last axis. -/
theorem V_c0 (c : Dev nD) (n : Fin 128) (b : Fin 2) (e : Fin 256) (i : Fin 128) :
    (V m c main_v1 : Vec Ideal S2x128x2x256x128 .f32) (ix5 0 n b e i)
      = (m ((c : Thread nD τ).loc main_arg3) : Vec Ideal S2x128x128x2x4x64 .f32)
          (ix6 0 n i b ⟨e.val / 64, by omega⟩ ⟨e.val % 64, by omega⟩) := by
  entry_read
  pointwise []

/-- The second group's cache, likewise. -/
theorem V_c1 (c : Dev nD) (n : Fin 128) (b : Fin 2) (e : Fin 256) (i : Fin 512) :
    (V m c main_v3 : Vec Ideal S2x128x2x256x512 .f32) (ix5 0 n b e i)
      = (m ((c : Thread nD τ).loc main_arg4) : Vec Ideal S2x128x512x2x4x64 .f32)
          (ix6 0 n i b ⟨e.val / 64, by omega⟩ ⟨e.val % 64, by omega⟩) := by
  entry_read
  pointwise []

/-- The third group's cache, likewise. -/
theorem V_c2 (c : Dev nD) (n : Fin 128) (b : Fin 2) (e : Fin 256) (i : Fin 2048) :
    (V m c main_v5 : Vec Ideal S2x128x2x256x2048 .f32) (ix5 0 n b e i)
      = (m ((c : Thread nD τ).loc main_arg5) : Vec Ideal S2x128x2048x2x4x64 .f32)
          (ix6 0 n i b ⟨e.val / 64, by omega⟩ ⟨e.val % 64, by omega⟩) := by
  entry_read
  pointwise []

/-- Sample `b` of the pair of a grid point is sample `2 t + b`: its queries. -/
theorem blk_q (c : Dev nD) (t : Fin cfg0.N) (n : Fin 128) (b : Fin 2) (hn : n.val = 2 * t.val + b.val) (tok : Fin 8) (g : Fin 3)
    (hd : Fin 4) (d : Fin 64) (e : Fin 768) (he : e.val = g.val * 256 + hd.val * 64 + d.val) :
    (iblk m c 0 t : Vec Ideal S2x8x768 .f32) (ix3 b tok e)
      = (m ((c : Thread nD τ).loc main_arg0) : Vec Ideal S128x8x3x4x64 .f32) (ix5 n tok g hd d) := by
  refine Eq.trans (b := (V m c main_v6 : Vec Ideal S128x8x768 .f32) (ix3 n tok e)) ?_ ?_
  · blk_ext [iblk, idx t]
  · rw [V_q]
    blk_ext

/-- Its new keys. -/
theorem blk_k (c : Dev nD) (t : Fin cfg0.N) (n : Fin 128) (b : Fin 2) (hn : n.val = 2 * t.val + b.val) (tok : Fin 8) (g : Fin 3)
    (hd : Fin 4) (d : Fin 64) (e : Fin 768) (he : e.val = g.val * 256 + hd.val * 64 + d.val) :
    (iblk m c 1 t : Vec Ideal S2x8x768 .f32) (ix3 b tok e)
      = (m ((c : Thread nD τ).loc main_arg1) : Vec Ideal S128x8x3x4x64 .f32) (ix5 n tok g hd d) := by
  refine Eq.trans (b := (V m c main_v7 : Vec Ideal S128x8x768 .f32) (ix3 n tok e)) ?_ ?_
  · blk_ext [iblk, idx t]
  · rw [V_k]
    blk_ext

/-- Its new values. -/
theorem blk_v (c : Dev nD) (t : Fin cfg0.N) (n : Fin 128) (b : Fin 2) (hn : n.val = 2 * t.val + b.val) (tok : Fin 8) (g : Fin 3)
    (hd : Fin 4) (d : Fin 64) (e : Fin 768) (he : e.val = g.val * 256 + hd.val * 64 + d.val) :
    (iblk m c 2 t : Vec Ideal S2x8x768 .f32) (ix3 b tok e)
      = (m ((c : Thread nD τ).loc main_arg2) : Vec Ideal S128x8x3x4x64 .f32) (ix5 n tok g hd d) := by
  refine Eq.trans (b := (V m c main_v8 : Vec Ideal S128x8x768 .f32) (ix3 n tok e)) ?_ ?_
  · blk_ext [iblk, idx t]
  · rw [V_v]
    blk_ext

/-- Its first cache. -/
theorem blk_c0 (c : Dev nD) (t : Fin cfg0.N) (n : Fin 128) (b : Fin 2) (hn : n.val = 2 * t.val + b.val) (kv : Fin 2)
    (hd : Fin 4) (d : Fin 64) (i : Fin 128) :
    (iblk m c 3 t : Vec Ideal S1x2x2x256x128 .f32) (ix5 0 b kv (ch hd d) i)
      = (m ((c : Thread nD τ).loc main_arg3) : Vec Ideal S2x128x128x2x4x64 .f32) (ix6 0 n i kv hd d) := by
  refine Eq.trans (b := (V m c main_v1 : Vec Ideal S2x128x2x256x128 .f32) (ix5 0 n kv (ch hd d) i)) ?_ ?_
  · blk_ext [iblk, idx t]
  · rw [V_c0]
    unfold ch
    blk_ext

/-- Its second cache. -/
theorem blk_c1 (c : Dev nD) (t : Fin cfg0.N) (n : Fin 128) (b : Fin 2) (hn : n.val = 2 * t.val + b.val) (kv : Fin 2)
    (hd : Fin 4) (d : Fin 64) (i : Fin 512) :
    (iblk m c 4 t : Vec Ideal S1x2x2x256x512 .f32) (ix5 0 b kv (ch hd d) i)
      = (m ((c : Thread nD τ).loc main_arg4) : Vec Ideal S2x128x512x2x4x64 .f32) (ix6 0 n i kv hd d) := by
  refine Eq.trans (b := (V m c main_v3 : Vec Ideal S2x128x2x256x512 .f32) (ix5 0 n kv (ch hd d) i)) ?_ ?_
  · blk_ext [iblk, idx t]
  · rw [V_c1]
    unfold ch
    blk_ext

/-- Its third cache. -/
theorem blk_c2 (c : Dev nD) (t : Fin cfg0.N) (n : Fin 128) (b : Fin 2) (hn : n.val = 2 * t.val + b.val) (kv : Fin 2)
    (hd : Fin 4) (d : Fin 64) (i : Fin 2048) :
    (iblk m c 5 t : Vec Ideal S1x2x2x256x2048 .f32) (ix5 0 b kv (ch hd d) i)
      = (m ((c : Thread nD τ).loc main_arg5) : Vec Ideal S2x128x2048x2x4x64 .f32) (ix6 0 n i kv hd d) := by
  refine Eq.trans (b := (V m c main_v5 : Vec Ideal S2x128x2x256x2048 .f32) (ix5 0 n kv (ch hd d) i)) ?_ ?_
  · blk_ext [iblk, idx t]
  · rw [V_c2]
    unfold ch
    blk_ext

/-- Reading one sample's rows of one group out of a pair's rows. -/
theorem ld_rows (X : Vec Ideal S2x8x768 .f32) (b : Fin 2) (g : Fin 3)
    (inb : ∀ a, (![b.val, 0, g.val * 256] : Fin 3 → ℕ) a + S1x8x256.size a ≤ S2x8x768.size a) (tok : Fin 8) (e : Fin 256) :
    View.ld X (Rect.unit (s := S2x8x768) ![b.val, 0, g.val * 256] S1x8x256.size inb) (ix3 0 tok e)
      = X (ix3 b tok ⟨g.val * 256 + e.val, by omega⟩) := by
  show X _ = X _
  congr 1
  funext a
  refine Fin.ext ?_
  fin_cases a
  · show b.val + 1 * 0 = b.val; omega
  · show 0 + 1 * tok.val = tok.val; omega
  · show g.val * 256 + 1 * e.val = g.val * 256 + e.val; omega

/-- Reading one sample's keys or values out of a pair's cache. -/
theorem ld_cache {W : ℕ} (X : Vec Ideal ⟨5, ![1, 2, 2, 256, W]⟩ .f32) (b kv : Fin 2)
    (inb : ∀ a, (![0, b.val, kv.val, 0, 0] : Fin 5 → ℕ) a + (SC W).size a ≤ (⟨5, ![1, 2, 2, 256, W]⟩ : Shape).size a) (e : Fin 256)
    (i : Fin W) :
    View.ld X (Rect.unit (s := ⟨5, ![1, 2, 2, 256, W]⟩) ![0, b.val, kv.val, 0, 0] (SC W).size inb) (ix5 0 0 0 e i)
      = X (ix5 0 b kv e i) := by
  show X _ = X _
  congr 1
  funext a
  refine Fin.ext ?_
  fin_cases a
  · rfl
  · show b.val + 1 * 0 = b.val; omega
  · show kv.val + 1 * 0 = kv.val; omega
  · show 0 + 1 * e.val = e.val; omega
  · show 0 + 1 * i.val = i.val; omega

/-- The queries a grid point reads for a sample of its pair. -/
theorem rows_q (c : Dev nD) (t : Fin cfg0.N) (n : Fin 128) (b : Fin 2) (g : Fin 3) (hn : n.val = 2 * t.val + b.val)
    (inb : ∀ a, (![b.val, 0, g.val * 256] : Fin 3 → ℕ) a + S1x8x256.size a ≤ S2x8x768.size a) :
    Rows (View.ld (iblk m c 0 t) (Rect.unit (s := S2x8x768) ![b.val, 0, g.val * 256] S1x8x256.size inb))
      (m ((c : Thread nD τ).loc main_arg0)) n g := fun tok hd d =>
  (ld_rows (iblk m c 0 t) b g inb tok (ch hd d)).trans
    (blk_q m c t n b hn tok g hd d _ (by show g.val * 256 + (hd.val * 64 + d.val) = _; omega))

/-- The new keys. -/
theorem rows_k (c : Dev nD) (t : Fin cfg0.N) (n : Fin 128) (b : Fin 2) (g : Fin 3) (hn : n.val = 2 * t.val + b.val)
    (inb : ∀ a, (![b.val, 0, g.val * 256] : Fin 3 → ℕ) a + S1x8x256.size a ≤ S2x8x768.size a) :
    Rows (View.ld (iblk m c 1 t) (Rect.unit (s := S2x8x768) ![b.val, 0, g.val * 256] S1x8x256.size inb))
      (m ((c : Thread nD τ).loc main_arg1)) n g := fun tok hd d =>
  (ld_rows (iblk m c 1 t) b g inb tok (ch hd d)).trans
    (blk_k m c t n b hn tok g hd d _ (by show g.val * 256 + (hd.val * 64 + d.val) = _; omega))

/-- The new values. -/
theorem rows_v (c : Dev nD) (t : Fin cfg0.N) (n : Fin 128) (b : Fin 2) (g : Fin 3) (hn : n.val = 2 * t.val + b.val)
    (inb : ∀ a, (![b.val, 0, g.val * 256] : Fin 3 → ℕ) a + S1x8x256.size a ≤ S2x8x768.size a) :
    Rows (View.ld (iblk m c 2 t) (Rect.unit (s := S2x8x768) ![b.val, 0, g.val * 256] S1x8x256.size inb))
      (m ((c : Thread nD τ).loc main_arg2)) n g := fun tok hd d =>
  (ld_rows (iblk m c 2 t) b g inb tok (ch hd d)).trans
    (blk_v m c t n b hn tok g hd d _ (by show g.val * 256 + (hd.val * 64 + d.val) = _; omega))

/-- The first cache. -/
theorem cached_c0 (c : Dev nD) (t : Fin cfg0.N) (n : Fin 128) (b kv : Fin 2) (hn : n.val = 2 * t.val + b.val)
    (inb : ∀ a, (![0, b.val, kv.val, 0, 0] : Fin 5 → ℕ) a + (SC 128).size a ≤ (⟨5, ![1, 2, 2, 256, 128]⟩ : Shape).size a) :
    Cached (View.ld (iblk m c 3 t) (Rect.unit (s := ⟨5, ![1, 2, 2, 256, 128]⟩) ![0, b.val, kv.val, 0, 0] (SC 128).size inb))
      (m ((c : Thread nD τ).loc main_arg3)) n kv := fun hd d i =>
  (ld_cache (iblk m c 3 t) b kv inb (ch hd d) i).trans (blk_c0 m c t n b hn kv hd d i)

/-- The second cache. -/
theorem cached_c1 (c : Dev nD) (t : Fin cfg0.N) (n : Fin 128) (b kv : Fin 2) (hn : n.val = 2 * t.val + b.val)
    (inb : ∀ a, (![0, b.val, kv.val, 0, 0] : Fin 5 → ℕ) a + (SC 512).size a ≤ (⟨5, ![1, 2, 2, 256, 512]⟩ : Shape).size a) :
    Cached (View.ld (iblk m c 4 t) (Rect.unit (s := ⟨5, ![1, 2, 2, 256, 512]⟩) ![0, b.val, kv.val, 0, 0] (SC 512).size inb))
      (m ((c : Thread nD τ).loc main_arg4)) n kv := fun hd d i =>
  (ld_cache (iblk m c 4 t) b kv inb (ch hd d) i).trans (blk_c1 m c t n b hn kv hd d i)

/-- The third cache. -/
theorem cached_c2 (c : Dev nD) (t : Fin cfg0.N) (n : Fin 128) (b kv : Fin 2) (hn : n.val = 2 * t.val + b.val)
    (inb : ∀ a, (![0, b.val, kv.val, 0, 0] : Fin 5 → ℕ) a + (SC 2048).size a ≤ (⟨5, ![1, 2, 2, 256, 2048]⟩ : Shape).size a) :
    Cached (View.ld (iblk m c 5 t) (Rect.unit (s := ⟨5, ![1, 2, 2, 256, 2048]⟩) ![0, b.val, kv.val, 0, 0] (SC 2048).size inb))
      (m ((c : Thread nD τ).loc main_arg5)) n kv := fun hd d i =>
  (ld_cache (iblk m c 5 t) b kv inb (ch hd d) i).trans (blk_c2 m c t n b hn kv hd d i)

/-- The array the call returns. -/
def G (Q K V : FVec Ideal S128x8x3x4x64 .f32) (C0 : FVec Ideal (SCache 128) .f32) (C1 : FVec Ideal (SCache 512) .f32)
    (C2 : FVec Ideal (SCache 2048) .f32) : FVec Ideal S128x8x256 .f32 := fun i =>
  attn Q K V C0 C1 C2 (i 0) (i 1) ⟨(i 2).val / 64, by have := (i 2).isLt; exact Nat.div_lt_of_lt_mul this⟩
    ⟨(i 2).val % 64, Nat.mod_lt _ (by decide)⟩

/-- The result's index at which index `y` of a grid point's block sits. -/
theorem G_at (c : Dev nD) (t : Fin cfg0.N) (y : S2x8x256.Idx) (n : Fin 128) (tok : Fin 8) (hd : Fin 4) (d : Fin 64)
    (h0 : n.val = 2 * t.val + (y 0).val) (h1 : (y 1).val = tok.val) (h2 : (y 2).val = hd.val * 64 + d.val)
    (Q K V : FVec Ideal S128x8x3x4x64 .f32) (C0 : FVec Ideal (SCache 128) .f32) (C1 : FVec Ideal (SCache 512) .f32)
    (C2 : FVec Ideal (SCache 2048) .f32) :
    G Q K V C0 C1 C2 (((cfg0.win 6).blk t).view.emb y) = attn Q K V C0 C1 C2 n tok hd d := by
  have e : ((cfg0.win 6).blk t).view.emb y = (ix3 n tok (ch hd d) : S128x8x256.Idx) := by
    unfold ch
    blk_ext [idx t]
  rw [e]
  have e1 : (⟨(ch hd d).val / 64, by have := (ch hd d).isLt; omega⟩ : Fin 4) = hd := Fin.ext (by show (hd.val * 64 + d.val) / 64 = hd.val; omega)
  have e2 : (⟨(ch hd d).val % 64, by omega⟩ : Fin 64) = d := Fin.ext (by show (hd.val * 64 + d.val) % 64 = d.val; omega)
  show attn Q K V C0 C1 C2 n tok ⟨(ch hd d).val / 64, _⟩ ⟨(ch hd d).val % 64, _⟩ = _
  rw [e1, e2]

/-- What a grid point leaves at an index of its block. -/
theorem point (c : Dev nD) (t : Fin cfg0.N) (y : S2x8x256.Idx)
    (hr : ∀ (n : Fin 128) (t : Fin 8) (hd : Fin 4) (j : Fin 129), ∃ r : ℝ,
      scores (m ((c : Thread nD τ).loc main_arg0)) (m ((c : Thread nD τ).loc main_arg1)) (m ((c : Thread nD τ).loc main_arg3)) 1 0 n t hd j = r) :
    out0_6 (iblk m c 0 t) (iblk m c 1 t) (iblk m c 2 t) (iblk m c 3 t) (iblk m c 4 t) (iblk m c 5 t) y
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 6).blk t).view.emb y) := by
  have ht : t.val < 64 := lt_of_lt_of_eq t.isLt (by decide)
  rw [out_eq]
  canon_tiles x h
  · have hx : x = ix3 0 ⟨(x 1).val, x1_lt⟩ (ch ⟨(x 2).val / 64, by omega⟩ ⟨(x 2).val % 64, by omega⟩) := by
      unfold ch; blk_ext
    rw [G_at c t y ⟨2 * t.val + 1, by omega⟩ ⟨(x 1).val, x1_lt⟩ ⟨(x 2).val / 64, by omega⟩ ⟨(x 2).val % 64, by omega⟩
      (by show 2 * t.val + 1 = 2 * t.val + (y 0).val; omega) h1 (by show (y 2).val = (x 2).val / 64 * 64 + (x 2).val % 64; omega)]
    refine (congrArg (sample _ _ _ _ _ _ _ _ _ _ _ _ _ _ _) hx).trans ?_
    exact sample_eq ⟨2 * t.val + 1, by omega⟩ (hr _)
      (rows_q m c t _ 1 0 rfl _) (rows_q m c t _ 1 1 rfl _) (rows_q m c t _ 1 2 rfl _) (rows_k m c t _ 1 0 rfl _) (rows_k m c t _ 1 1 rfl _) (rows_k m c t _ 1 2 rfl _) (rows_v m c t _ 1 0 rfl _) (rows_v m c t _ 1 1 rfl _) (rows_v m c t _ 1 2 rfl _) (cached_c0 m c t _ 1 0 rfl _) (cached_c0 m c t _ 1 1 rfl _) (cached_c1 m c t _ 1 0 rfl _) (cached_c1 m c t _ 1 1 rfl _) (cached_c2 m c t _ 1 0 rfl _) (cached_c2 m c t _ 1 1 rfl _) _ _ _
  · have hx : x = ix3 0 ⟨(x 1).val, x1_lt⟩ (ch ⟨(x 2).val / 64, by omega⟩ ⟨(x 2).val % 64, by omega⟩) := by
      unfold ch; blk_ext
    rw [G_at c t y ⟨2 * t.val + 0, by omega⟩ ⟨(x 1).val, x1_lt⟩ ⟨(x 2).val / 64, by omega⟩ ⟨(x 2).val % 64, by omega⟩
      (by show 2 * t.val + 0 = 2 * t.val + (y 0).val; omega) h1 (by show (y 2).val = (x 2).val / 64 * 64 + (x 2).val % 64; omega)]
    refine (congrArg (sample _ _ _ _ _ _ _ _ _ _ _ _ _ _ _) hx).trans ?_
    exact sample_eq ⟨2 * t.val + 0, by omega⟩ (hr _)
      (rows_q m c t _ 0 0 rfl _) (rows_q m c t _ 0 1 rfl _) (rows_q m c t _ 0 2 rfl _) (rows_k m c t _ 0 0 rfl _) (rows_k m c t _ 0 1 rfl _) (rows_k m c t _ 0 2 rfl _) (rows_v m c t _ 0 0 rfl _) (rows_v m c t _ 0 1 rfl _) (rows_v m c t _ 0 2 rfl _) (cached_c0 m c t _ 0 0 rfl _) (cached_c0 m c t _ 0 1 rfl _) (cached_c1 m c t _ 0 0 rfl _) (cached_c1 m c t _ 0 1 rfl _) (cached_c2 m c t _ 0 0 rfl _) (cached_c2 m c t _ 0 1 rfl _) _ _ _

/-- The array the call returns, where the first group's scores are real. -/
theorem final (c : Dev nD)
    (hr : ∀ (n : Fin 128) (t : Fin 8) (hd : Fin 4) (j : Fin 129), ∃ r : ℝ,
      scores (m ((c : Thread nD τ).loc main_arg0)) (m ((c : Thread nD τ).loc main_arg1)) (m ((c : Thread nD τ).loc main_arg3)) 1 0 n t hd j = r) :
    (dats m 0 c).arrAt 6 (cfgs 0).N
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  exact point m c t y hr

end Cert.Attn

end
-- ==== Proof.RefRows.lean ====
/- The reference's stages: the rows of a window gathered from a sequence, and one group's softmax over them. -/
module

public import proofs.«01_k».proof.Proof.Gen.ReferenceIdeal.Read
public import proofs.«01_k».proof.Proof.KerBlock
public import Idealize.ShloMosaic.Lib.Pointwise

@[expose] public section

set_option maxRecDepth 16384

noncomputable section

namespace Cert.Attn.Ref

open Idealize.ShloMosaic Cert.ReferenceIdeal Cert.ReferenceIdeal.Gen Cert.ReferenceIdeal.Read

/-- A sequence of `N` rows per sample. -/
abbrev SSeq (N : ℕ) : Shape := ⟨4, ![128, N, 4, 64]⟩

/-- The dimension numbers of reading, for each token, the 129 rows of its window. -/
abbrev rowDims (N : ℕ) (wf : GatherDims.WF (SSeq N) S8x129x1 S128x8x129x4x64 [0, 3, 4] [1] [] [1] [] 2 ![128, 1, 4, 64]) :
    GatherDims (SSeq N) S8x129x1 S128x8x129x4x64 where
  offsetDims := [0, 3, 4]
  collapsedSliceDims := [1]
  operandBatchingDims := []
  startIndicesBatchingDims := []
  startIndexMap := [1]
  indexVectorDim := 2
  sliceSizes := ![128, 1, 4, 64]
  wf := wf

/-- A gathered row is the sequence's row at the index word, when the word is a row's number. -/
theorem gather_rows {α : Type} {N : ℕ} (wf : GatherDims.WF (SSeq N) S8x129x1 S128x8x129x4x64 [0, 3, 4] [1] [] [1] [] 2 ![128, 1, 4, 64])
    (x : (SSeq N).Idx → α) (w : IVec S8x129x1 32) (n : Fin 128) (t : Fin 8) (j : Fin 129) (hd : Fin 4) (d : Fin 64) (p : Fin N)
    (hp : (w (ix3 t j 0)).toInt.toNat = p.val) :
    Host.gather (rowDims N wf) x w (ix5 n t j hd d) = x (ix4 n p hd d) := by
  unfold Host.gather
  congr 1
  funext a
  refine Fin.ext ?_
  show (rowDims N wf).start _ w a + (rowDims N wf).batchCoord _ a + (rowDims N wf).offCoord _ a = _
  rw [GatherDims.batchCoord_eq_zero _ _ _ List.not_mem_nil]
  have h0 : ∀ b : Fin 4, b ≠ 1 → (rowDims N wf).start (ix5 n t j hd d) w b = 0 := fun b hb => by
    unfold GatherDims.start
    exact dif_neg fun h => hb (List.mem_singleton.mp h)
  have h1 : ∀ b : Fin 4, b ≠ 1 → b ∈ (rowDims N wf).sKept := fun b hb =>
    (GatherDims.mem_sKept _ _).mpr ⟨fun h => hb (List.mem_singleton.mp h), List.not_mem_nil⟩
  fin_cases a
  · show (rowDims N wf).start (ix5 n t j hd d) w (0 : Fin 4) + 0 + (rowDims N wf).offCoord (ix5 n t j hd d) (0 : Fin 4) = n.val
    rw [h0 0 (by decide), Nat.zero_add]
    exact (dif_pos (h1 0 (by decide))).trans rfl
  · show (rowDims N wf).start (ix5 n t j hd d) w (1 : Fin 4) + 0 + (rowDims N wf).offCoord (ix5 n t j hd d) (1 : Fin 4) = p.val
    rw [GatherDims.offCoord_eq_zero _ _ _ (fun h => ((GatherDims.mem_sKept _ _).mp h).1 (List.mem_singleton.mpr rfl))]
    simp only [Nat.add_zero]
    unfold GatherDims.start
    rw [dif_pos (show (1 : Fin 4) ∈ (rowDims N wf).startIndexMap from List.mem_singleton.mpr rfl)]
    have hsi : (rowDims N wf).siIdx (ix5 n t j hd d) ⟨List.idxOf (1 : Fin 4) (rowDims N wf).startIndexMap,
        List.idxOf_lt_length_iff.2 (List.mem_singleton.mpr rfl)⟩ = ix3 t j 0 := by
      funext b; refine Fin.ext ?_
      match b with
      | ⟨0, _⟩ => rfl
      | ⟨1, _⟩ => rfl
      | ⟨2, _⟩ => rfl
    rw [hsi]
    show min (w (ix3 t j 0)).toInt.toNat (N - 1) = p.val
    rw [hp]; omega
  · show (rowDims N wf).start (ix5 n t j hd d) w (2 : Fin 4) + 0 + (rowDims N wf).offCoord (ix5 n t j hd d) (2 : Fin 4) = hd.val
    rw [h0 2 (by decide), Nat.zero_add]
    exact (dif_pos (h1 2 (by decide))).trans rfl
  · show (rowDims N wf).start (ix5 n t j hd d) w (3 : Fin 4) + 0 + (rowDims N wf).offCoord (ix5 n t j hd d) (3 : Fin 4) = d.val
    rw [h0 3 (by decide), Nat.zero_add]
    exact (dif_pos (h1 3 (by decide))).trans rfl

/-- A reference's softmax over each token's 129 keys: the masked scores, … -/
def rsc (valid : IVec S8x129 1) (q : FVec Ideal S128x8x4x64 .f32) (kg : FVec Ideal S128x8x129x4x64 .f32) : FVec Ideal S128x8x4x129 .f32 :=
  select (broadcastInDim S128x8x4x129 ![0, 1, 2, 3] bcast_S1x8x1x129_S128x8x4x129_0_1_2_3
      (broadcastInDim S1x8x1x129 ![1, 3] bcast_S8x129_S1x8x1x129_1_3 valid))
    (Host.dotGeneral dot_S128x8x4x64_S128x8x129x4x64_S128x8x4x129_3_4_n_2_012_013 none q kg)
    (broadcastInDim S128x8x4x129 ![] bcast_S_S128x8x4x129 (id (constant S_ .f32 0xFF800000#32)))

/-- … their maximum, … -/
def rmx (sc : FVec Ideal S128x8x4x129 .f32) : FVec Ideal S128x8x4x1 .f32 :=
  broadcastInDim S128x8x4x1 ![0, 1, 2] bcast_S128x8x4_S128x8x4x1_0_1_2
    (Host.reduce FloatOps.maximumf sc (constant S_ .f32 0xFF800000#32) reducesTo_S128x8x4x129_S128x8x4_d3 h_S_)

/-- … the exponentials, … -/
def rex (sc : FVec Ideal S128x8x4x129 .f32) : FVec Ideal S128x8x4x129 .f32 :=
  Host.exp (subf sc (broadcastInDim S128x8x4x129 ![0, 1, 2, 3] bcast_S128x8x4x1_S128x8x4x129_0_1_2_3 (rmx sc)))

/-- … their sum, … -/
def rsm (sc : FVec Ideal S128x8x4x129 .f32) : FVec Ideal S128x8x4x1 .f32 :=
  broadcastInDim S128x8x4x1 ![0, 1, 2] bcast_S128x8x4_S128x8x4x1_0_1_2
    (Host.reduceAdd (rex sc) (constant S_ .f32 0x00000000#32) reducesTo_S128x8x4x129_S128x8x4_d3 h_S_)

/-- … the weighted sum of the values, … -/
def rout (sc : FVec Ideal S128x8x4x129 .f32) (vg : FVec Ideal S128x8x129x4x64 .f32) : FVec Ideal S128x8x4x64 .f32 :=
  Host.dotGeneral dot_S128x8x4x129_S128x8x129x4x64_S128x8x4x64_3_2_n_4_012_013 none
    (Host.divf (rex sc) (broadcastInDim S128x8x4x129 ![0, 1, 2, 3] bcast_S128x8x4x1_S128x8x4x129_0_1_2_3 (rsm sc))) vg

/-- … and the log-sum-exp. -/
def rlse (sc : FVec Ideal S128x8x4x129 .f32) : FVec Ideal S128x8x4 .f32 :=
  shapeCast _ (addf (rmx sc) (Host.log (rsm sc))) shapeCasts_S128x8x4x1_S128x8x4

theorem rmx_apply (sc : FVec Ideal S128x8x4x129 .f32) (n : Fin 128) (t : Fin 8) (hd : Fin 4) :
    rmx sc (ix4 n t hd 0) = rowMax fun j => sc (ix4 n t hd j) := by
  pointwise [rmx]
  rw [ofBits_neg_inf]
  rfl

theorem rsm_apply (sc : FVec Ideal S128x8x4x129 .f32) (n : Fin 128) (t : Fin 8) (hd : Fin 4) :
    rsm sc (ix4 n t hd 0) = rowSum fun j => sc (ix4 n t hd j) := by
  pointwise [rsm, rex]
  rw [rmx_apply]
  rfl

theorem rsc_apply (valid : IVec S8x129 1) (q : FVec Ideal S128x8x4x64 .f32) (kg : FVec Ideal S128x8x129x4x64 .f32)
   (n : Fin 128) (t : Fin 8) (hd : Fin 4) (j : Fin 129) (hv : valid (ix2 t j) = 1#1):
    rsc valid q kg (ix4 n t hd j) = ∑ d : Fin 64, q (ix4 n t hd d) * kg (ix5 n t j hd d) := by
  pointwise [rsc]
  rw [hv]
  exact if_pos rfl

theorem rout_apply (sc : FVec Ideal S128x8x4x129 .f32) (vg : FVec Ideal S128x8x129x4x64 .f32)
   (n : Fin 128) (t : Fin 8) (hd : Fin 4) (d : Fin 64) :
    rout sc vg (ix4 n t hd d) = rowOut (fun j => sc (ix4 n t hd j)) fun j => vg (ix5 n t j hd d) := by
  pointwise [rout, rex]
  rw [rmx_apply, rsm_apply]
  rfl

theorem rlse_apply (sc : FVec Ideal S128x8x4x129 .f32) (n : Fin 128) (t : Fin 8) (hd : Fin 4) :
    rlse sc (ix3 n t hd) = rowLse fun j => sc (ix4 n t hd j) := by
  pointwise [rlse]
  rw [rmx_apply, rsm_apply]
  rfl

theorem sum_cat {W : ℕ} (q : Fin 64 → EReal) (c : Fin W → Fin 64 → EReal) (k : Fin 8 → Fin 64 → EReal) (p : ℕ) :
    ∑ d, q d * cat (fun i => c i d) (fun i => k i d) p
      = cat (fun i => ∑ d, q d * c i d) (fun i => ∑ d, q d * k i d) p := by
  unfold cat
  split_ifs
  · rfl
  · rfl
  · simp

/-! ## The first group -/

/-- Its windows: the words that index the keys and the values, and the bits that say a position exists. -/
theorem words0 : ∀ (t : Fin 8) (j : Fin 129), (val_main_v34 (F := Ideal) (ix3 t j 0)).toInt.toNat = keyAt 128 1 t.val j
    ∧ (val_main_v41 (F := Ideal) (ix3 t j 0)).toInt.toNat = keyAt 128 1 t.val j ∧ val_main_v26 (F := Ideal) (ix2 t j) = 1#1 := by
  decide +kernel

/-- Its keys, the cached ones first. -/
theorem keys0 (x1 : FVec Ideal S128x8x3x4x64 .f32) (x3 : FVec Ideal S2x128x128x2x4x64 .f32) (n : Fin 128) (p : Fin 136) (hd : Fin 4)
    (d : Fin 64) : val_main_v10 (F := Ideal) x1 x3 (ix4 n p hd d)
      = cat (fun i : Fin 128 => x3 (ix6 0 n i 0 hd d)) (fun i => x1 (ix5 n i 0 hd d)) p.val := by
  pointwise [val_main_v10, val_main_v9, val_main_v8, val_main_v7, val_main_v6, val_main_v3, val_main_v2, cat]
  split
  · rfl
  · rw [dif_pos (by omega)]

/-- Its values, likewise. -/
theorem vals0 (x2 : FVec Ideal S128x8x3x4x64 .f32) (x3 : FVec Ideal S2x128x128x2x4x64 .f32) (n : Fin 128) (p : Fin 136) (hd : Fin 4)
    (d : Fin 64) : val_main_v13 (F := Ideal) x2 x3 (ix4 n p hd d)
      = cat (fun i : Fin 128 => x3 (ix6 0 n i 1 hd d)) (fun i => x2 (ix5 n i 0 hd d)) p.val := by
  pointwise [val_main_v13, val_main_v12, val_main_v11, val_main_v7, val_main_v6, val_main_v5, val_main_v4, cat]
  split
  · rfl
  · rw [dif_pos (by omega)]

/-- The keys of the windows. -/
theorem kg0 (x1 : FVec Ideal S128x8x3x4x64 .f32) (x3 : FVec Ideal S2x128x128x2x4x64 .f32) :
    val_main_v35 (F := Ideal) x1 x3 = Host.gather (rowDims 136 gather_S128x136x4x64_S8x129x1_S128x8x129x4x64_034_1_n_n_1_2_1281464_wf) (val_main_v10 (F := Ideal) x1 x3) (val_main_v34 (F := Ideal)) := by
  unfold val_main_v35
  rfl

/-- The values of the windows. -/
theorem vg0 (x2 : FVec Ideal S128x8x3x4x64 .f32) (x3 : FVec Ideal S2x128x128x2x4x64 .f32) :
    val_main_v42 (F := Ideal) x2 x3 = Host.gather (rowDims 136 gather_S128x136x4x64_S8x129x1_S128x8x129x4x64_034_1_n_n_1_2_1281464_wf) (val_main_v13 (F := Ideal) x2 x3) (val_main_v41 (F := Ideal)) := by
  unfold val_main_v42
  rfl

/-- Its masked scores. -/
def sc0 (x0 x1 : FVec Ideal S128x8x3x4x64 .f32) (x3 : FVec Ideal S2x128x128x2x4x64 .f32) : FVec Ideal S128x8x4x129 .f32 :=
  rsc (val_main_v26 (F := Ideal)) (val_main_v1 (F := Ideal) x0) (val_main_v35 (F := Ideal) x1 x3)

theorem sc0_apply (x0 x1 : FVec Ideal S128x8x3x4x64 .f32) (x3 : FVec Ideal S2x128x128x2x4x64 .f32) (n : Fin 128) (t : Fin 8) (hd : Fin 4)
    (j : Fin 129) : sc0 x0 x1 x3 (ix4 n t hd j) = scores x0 x1 x3 1 0 n t hd j := by
  have hk := (keyAt_le (wb := 128) (dil := 1) rfl t.isLt j).2.1
  unfold sc0 scores score
  rw [rsc_apply _ _ _ _ _ _ _ (words0 t j).2.2, ← sum_cat]
  refine Finset.sum_congr rfl fun d _ => ?_
  refine congrArg₂ (fun a b : EReal => a * b) ?_ ?_
  · pointwise [val_main_v1, val_main_v0]
  · rw [kg0]
    refine (gather_rows _ _ _ n t j hd d ⟨keyAt 128 1 t.val j, by omega⟩ (words0 t j).1).trans ?_
    exact keys0 x1 x3 n _ hd d

theorem vg0_apply (x2 : FVec Ideal S128x8x3x4x64 .f32) (x3 : FVec Ideal S2x128x128x2x4x64 .f32) (n : Fin 128) (t : Fin 8) (hd : Fin 4)
    (d : Fin 64) (j : Fin 129) : val_main_v42 (F := Ideal) x2 x3 (ix5 n t j hd d) = values x2 x3 1 0 n t hd d j := by
  have hk := (keyAt_le (wb := 128) (dil := 1) rfl t.isLt j).2.1
  rw [vg0]
  refine (gather_rows _ _ _ n t j hd d ⟨keyAt 128 1 t.val j, by omega⟩ (words0 t j).2.1).trans ?_
  exact vals0 x2 x3 n _ hd d

theorem out0_eq (x0 x1 x2 : FVec Ideal S128x8x3x4x64 .f32) (x3 : FVec Ideal S2x128x128x2x4x64 .f32) :
    val_main_v55 (F := Ideal) x0 x1 x2 x3 = rout (sc0 x0 x1 x3) (val_main_v42 (F := Ideal) x2 x3) := by
  unfold val_main_v55 val_main_v54 val_main_v53 val_main_v52 val_main_v51
  rfl

theorem lse0_eq (x0 x1 : FVec Ideal S128x8x3x4x64 .f32) (x3 : FVec Ideal S2x128x128x2x4x64 .f32) :
    val_main_v58 (F := Ideal) x0 x1 x3 = rlse (sc0 x0 x1 x3) := by
  unfold val_main_v58 val_main_v57 val_main_v56 val_main_v52 val_main_v51
  rfl

/-- Its output. -/
theorem out0 (x0 x1 x2 : FVec Ideal S128x8x3x4x64 .f32) (x3 : FVec Ideal S2x128x128x2x4x64 .f32) (n : Fin 128) (t : Fin 8) (hd : Fin 4)
    (d : Fin 64) : val_main_v55 (F := Ideal) x0 x1 x2 x3 (ix4 n t hd d)
      = rowOut (scores x0 x1 x3 1 0 n t hd) (values x2 x3 1 0 n t hd d) := by
  rw [out0_eq, rout_apply]
  exact congrArg₂ rowOut (funext fun j => sc0_apply x0 x1 x3 n t hd j) (funext fun j => vg0_apply x2 x3 n t hd d j)

/-- Its log-sum-exp. -/
theorem lse0 (x0 x1 : FVec Ideal S128x8x3x4x64 .f32) (x3 : FVec Ideal S2x128x128x2x4x64 .f32) (n : Fin 128) (t : Fin 8) (hd : Fin 4) :
    val_main_v58 (F := Ideal) x0 x1 x3 (ix3 n t hd) = rowLse (scores x0 x1 x3 1 0 n t hd) := by
  rw [lse0_eq, rlse_apply]
  exact congrArg rowLse (funext fun j => sc0_apply x0 x1 x3 n t hd j)

/-! ## The second group -/

/-- Its windows: the words that index the keys and the values, and the bits that say a position exists. -/
theorem words1 : ∀ (t : Fin 8) (j : Fin 129), (val_main_v93 (F := Ideal) (ix3 t j 0)).toInt.toNat = keyAt 512 4 t.val j
    ∧ (val_main_v100 (F := Ideal) (ix3 t j 0)).toInt.toNat = keyAt 512 4 t.val j ∧ val_main_v85 (F := Ideal) (ix2 t j) = 1#1 := by
  decide +kernel

/-- Its keys, the cached ones first. -/
theorem keys1 (x1 : FVec Ideal S128x8x3x4x64 .f32) (x4 : FVec Ideal S2x128x512x2x4x64 .f32) (n : Fin 128) (p : Fin 520) (hd : Fin 4)
    (d : Fin 64) : val_main_v69 (F := Ideal) x1 x4 (ix4 n p hd d)
      = cat (fun i : Fin 512 => x4 (ix6 0 n i 0 hd d)) (fun i => x1 (ix5 n i 1 hd d)) p.val := by
  pointwise [val_main_v69, val_main_v68, val_main_v67, val_main_v66, val_main_v65, val_main_v62, val_main_v61, cat]
  split
  · rfl
  · rw [dif_pos (by omega)]

/-- Its values, likewise. -/
theorem vals1 (x2 : FVec Ideal S128x8x3x4x64 .f32) (x4 : FVec Ideal S2x128x512x2x4x64 .f32) (n : Fin 128) (p : Fin 520) (hd : Fin 4)
    (d : Fin 64) : val_main_v72 (F := Ideal) x2 x4 (ix4 n p hd d)
      = cat (fun i : Fin 512 => x4 (ix6 0 n i 1 hd d)) (fun i => x2 (ix5 n i 1 hd d)) p.val := by
  pointwise [val_main_v72, val_main_v71, val_main_v70, val_main_v66, val_main_v65, val_main_v64, val_main_v63, cat]
  split
  · rfl
  · rw [dif_pos (by omega)]

/-- The keys of the windows. -/
theorem kg1 (x1 : FVec Ideal S128x8x3x4x64 .f32) (x4 : FVec Ideal S2x128x512x2x4x64 .f32) :
    val_main_v94 (F := Ideal) x1 x4 = Host.gather (rowDims 520 gather_S128x520x4x64_S8x129x1_S128x8x129x4x64_034_1_n_n_1_2_1281464_wf) (val_main_v69 (F := Ideal) x1 x4) (val_main_v93 (F := Ideal)) := by
  unfold val_main_v94
  rfl

/-- The values of the windows. -/
theorem vg1 (x2 : FVec Ideal S128x8x3x4x64 .f32) (x4 : FVec Ideal S2x128x512x2x4x64 .f32) :
    val_main_v101 (F := Ideal) x2 x4 = Host.gather (rowDims 520 gather_S128x520x4x64_S8x129x1_S128x8x129x4x64_034_1_n_n_1_2_1281464_wf) (val_main_v72 (F := Ideal) x2 x4) (val_main_v100 (F := Ideal)) := by
  unfold val_main_v101
  rfl

/-- Its masked scores. -/
def sc1 (x0 x1 : FVec Ideal S128x8x3x4x64 .f32) (x4 : FVec Ideal S2x128x512x2x4x64 .f32) : FVec Ideal S128x8x4x129 .f32 :=
  rsc (val_main_v85 (F := Ideal)) (val_main_v60 (F := Ideal) x0) (val_main_v94 (F := Ideal) x1 x4)

theorem sc1_apply (x0 x1 : FVec Ideal S128x8x3x4x64 .f32) (x4 : FVec Ideal S2x128x512x2x4x64 .f32) (n : Fin 128) (t : Fin 8) (hd : Fin 4)
    (j : Fin 129) : sc1 x0 x1 x4 (ix4 n t hd j) = scores x0 x1 x4 4 1 n t hd j := by
  have hk := (keyAt_le (wb := 512) (dil := 4) rfl t.isLt j).2.1
  unfold sc1 scores score
  rw [rsc_apply _ _ _ _ _ _ _ (words1 t j).2.2, ← sum_cat]
  refine Finset.sum_congr rfl fun d _ => ?_
  refine congrArg₂ (fun a b : EReal => a * b) ?_ ?_
  · pointwise [val_main_v60, val_main_v59]
  · rw [kg1]
    refine (gather_rows _ _ _ n t j hd d ⟨keyAt 512 4 t.val j, by omega⟩ (words1 t j).1).trans ?_
    exact keys1 x1 x4 n _ hd d

theorem vg1_apply (x2 : FVec Ideal S128x8x3x4x64 .f32) (x4 : FVec Ideal S2x128x512x2x4x64 .f32) (n : Fin 128) (t : Fin 8) (hd : Fin 4)
    (d : Fin 64) (j : Fin 129) : val_main_v101 (F := Ideal) x2 x4 (ix5 n t j hd d) = values x2 x4 4 1 n t hd d j := by
  have hk := (keyAt_le (wb := 512) (dil := 4) rfl t.isLt j).2.1
  rw [vg1]
  refine (gather_rows _ _ _ n t j hd d ⟨keyAt 512 4 t.val j, by omega⟩ (words1 t j).2.1).trans ?_
  exact vals1 x2 x4 n _ hd d

theorem out1_eq (x0 x1 x2 : FVec Ideal S128x8x3x4x64 .f32) (x4 : FVec Ideal S2x128x512x2x4x64 .f32) :
    val_main_v114 (F := Ideal) x0 x1 x2 x4 = rout (sc1 x0 x1 x4) (val_main_v101 (F := Ideal) x2 x4) := by
  unfold val_main_v114 val_main_v113 val_main_v112 val_main_v111 val_main_v110
  rfl

theorem lse1_eq (x0 x1 : FVec Ideal S128x8x3x4x64 .f32) (x4 : FVec Ideal S2x128x512x2x4x64 .f32) :
    val_main_v117 (F := Ideal) x0 x1 x4 = rlse (sc1 x0 x1 x4) := by
  unfold val_main_v117 val_main_v116 val_main_v115 val_main_v111 val_main_v110
  rfl

/-- Its output. -/
theorem out1 (x0 x1 x2 : FVec Ideal S128x8x3x4x64 .f32) (x4 : FVec Ideal S2x128x512x2x4x64 .f32) (n : Fin 128) (t : Fin 8) (hd : Fin 4)
    (d : Fin 64) : val_main_v114 (F := Ideal) x0 x1 x2 x4 (ix4 n t hd d)
      = rowOut (scores x0 x1 x4 4 1 n t hd) (values x2 x4 4 1 n t hd d) := by
  rw [out1_eq, rout_apply]
  exact congrArg₂ rowOut (funext fun j => sc1_apply x0 x1 x4 n t hd j) (funext fun j => vg1_apply x2 x4 n t hd d j)

/-- Its log-sum-exp. -/
theorem lse1 (x0 x1 : FVec Ideal S128x8x3x4x64 .f32) (x4 : FVec Ideal S2x128x512x2x4x64 .f32) (n : Fin 128) (t : Fin 8) (hd : Fin 4) :
    val_main_v117 (F := Ideal) x0 x1 x4 (ix3 n t hd) = rowLse (scores x0 x1 x4 4 1 n t hd) := by
  rw [lse1_eq, rlse_apply]
  exact congrArg rowLse (funext fun j => sc1_apply x0 x1 x4 n t hd j)

/-! ## The third group -/

/-- Its windows: the words that index the keys and the values, and the bits that say a position exists. -/
theorem words2 : ∀ (t : Fin 8) (j : Fin 129), (val_main_v152 (F := Ideal) (ix3 t j 0)).toInt.toNat = keyAt 2048 16 t.val j
    ∧ (val_main_v159 (F := Ideal) (ix3 t j 0)).toInt.toNat = keyAt 2048 16 t.val j ∧ val_main_v144 (F := Ideal) (ix2 t j) = 1#1 := by
  decide +kernel

/-- Its keys, the cached ones first. -/
theorem keys2 (x1 : FVec Ideal S128x8x3x4x64 .f32) (x5 : FVec Ideal S2x128x2048x2x4x64 .f32) (n : Fin 128) (p : Fin 2056) (hd : Fin 4)
    (d : Fin 64) : val_main_v128 (F := Ideal) x1 x5 (ix4 n p hd d)
      = cat (fun i : Fin 2048 => x5 (ix6 0 n i 0 hd d)) (fun i => x1 (ix5 n i 2 hd d)) p.val := by
  pointwise [val_main_v128, val_main_v127, val_main_v126, val_main_v125, val_main_v124, val_main_v121, val_main_v120, cat]
  split
  · rfl
  · rw [dif_pos (by omega)]

/-- Its values, likewise. -/
theorem vals2 (x2 : FVec Ideal S128x8x3x4x64 .f32) (x5 : FVec Ideal S2x128x2048x2x4x64 .f32) (n : Fin 128) (p : Fin 2056) (hd : Fin 4)
    (d : Fin 64) : val_main_v131 (F := Ideal) x2 x5 (ix4 n p hd d)
      = cat (fun i : Fin 2048 => x5 (ix6 0 n i 1 hd d)) (fun i => x2 (ix5 n i 2 hd d)) p.val := by
  pointwise [val_main_v131, val_main_v130, val_main_v129, val_main_v125, val_main_v124, val_main_v123, val_main_v122, cat]
  split
  · rfl
  · rw [dif_pos (by omega)]

/-- The keys of the windows. -/
theorem kg2 (x1 : FVec Ideal S128x8x3x4x64 .f32) (x5 : FVec Ideal S2x128x2048x2x4x64 .f32) :
    val_main_v153 (F := Ideal) x1 x5 = Host.gather (rowDims 2056 gather_S128x2056x4x64_S8x129x1_S128x8x129x4x64_034_1_n_n_1_2_1281464_wf) (val_main_v128 (F := Ideal) x1 x5) (val_main_v152 (F := Ideal)) := by
  unfold val_main_v153
  rfl

/-- The values of the windows. -/
theorem vg2 (x2 : FVec Ideal S128x8x3x4x64 .f32) (x5 : FVec Ideal S2x128x2048x2x4x64 .f32) :
    val_main_v160 (F := Ideal) x2 x5 = Host.gather (rowDims 2056 gather_S128x2056x4x64_S8x129x1_S128x8x129x4x64_034_1_n_n_1_2_1281464_wf) (val_main_v131 (F := Ideal) x2 x5) (val_main_v159 (F := Ideal)) := by
  unfold val_main_v160
  rfl

/-- Its masked scores. -/
def sc2 (x0 x1 : FVec Ideal S128x8x3x4x64 .f32) (x5 : FVec Ideal S2x128x2048x2x4x64 .f32) : FVec Ideal S128x8x4x129 .f32 :=
  rsc (val_main_v144 (F := Ideal)) (val_main_v119 (F := Ideal) x0) (val_main_v153 (F := Ideal) x1 x5)

theorem sc2_apply (x0 x1 : FVec Ideal S128x8x3x4x64 .f32) (x5 : FVec Ideal S2x128x2048x2x4x64 .f32) (n : Fin 128) (t : Fin 8) (hd : Fin 4)
    (j : Fin 129) : sc2 x0 x1 x5 (ix4 n t hd j) = scores x0 x1 x5 16 2 n t hd j := by
  have hk := (keyAt_le (wb := 2048) (dil := 16) rfl t.isLt j).2.1
  unfold sc2 scores score
  rw [rsc_apply _ _ _ _ _ _ _ (words2 t j).2.2, ← sum_cat]
  refine Finset.sum_congr rfl fun d _ => ?_
  refine congrArg₂ (fun a b : EReal => a * b) ?_ ?_
  · pointwise [val_main_v119, val_main_v118]
  · rw [kg2]
    refine (gather_rows _ _ _ n t j hd d ⟨keyAt 2048 16 t.val j, by omega⟩ (words2 t j).1).trans ?_
    exact keys2 x1 x5 n _ hd d

theorem vg2_apply (x2 : FVec Ideal S128x8x3x4x64 .f32) (x5 : FVec Ideal S2x128x2048x2x4x64 .f32) (n : Fin 128) (t : Fin 8) (hd : Fin 4)
    (d : Fin 64) (j : Fin 129) : val_main_v160 (F := Ideal) x2 x5 (ix5 n t j hd d) = values x2 x5 16 2 n t hd d j := by
  have hk := (keyAt_le (wb := 2048) (dil := 16) rfl t.isLt j).2.1
  rw [vg2]
  refine (gather_rows _ _ _ n t j hd d ⟨keyAt 2048 16 t.val j, by omega⟩ (words2 t j).2.1).trans ?_
  exact vals2 x2 x5 n _ hd d

theorem out2_eq (x0 x1 x2 : FVec Ideal S128x8x3x4x64 .f32) (x5 : FVec Ideal S2x128x2048x2x4x64 .f32) :
    val_main_v173 (F := Ideal) x0 x1 x2 x5 = rout (sc2 x0 x1 x5) (val_main_v160 (F := Ideal) x2 x5) := by
  unfold val_main_v173 val_main_v172 val_main_v171 val_main_v170 val_main_v169
  rfl

theorem lse2_eq (x0 x1 : FVec Ideal S128x8x3x4x64 .f32) (x5 : FVec Ideal S2x128x2048x2x4x64 .f32) :
    val_main_v176 (F := Ideal) x0 x1 x5 = rlse (sc2 x0 x1 x5) := by
  unfold val_main_v176 val_main_v175 val_main_v174 val_main_v170 val_main_v169
  rfl

/-- Its output. -/
theorem out2 (x0 x1 x2 : FVec Ideal S128x8x3x4x64 .f32) (x5 : FVec Ideal S2x128x2048x2x4x64 .f32) (n : Fin 128) (t : Fin 8) (hd : Fin 4)
    (d : Fin 64) : val_main_v173 (F := Ideal) x0 x1 x2 x5 (ix4 n t hd d)
      = rowOut (scores x0 x1 x5 16 2 n t hd) (values x2 x5 16 2 n t hd d) := by
  rw [out2_eq, rout_apply]
  exact congrArg₂ rowOut (funext fun j => sc2_apply x0 x1 x5 n t hd j) (funext fun j => vg2_apply x2 x5 n t hd d j)

/-- Its log-sum-exp. -/
theorem lse2 (x0 x1 : FVec Ideal S128x8x3x4x64 .f32) (x5 : FVec Ideal S2x128x2048x2x4x64 .f32) (n : Fin 128) (t : Fin 8) (hd : Fin 4) :
    val_main_v176 (F := Ideal) x0 x1 x5 (ix3 n t hd) = rowLse (scores x0 x1 x5 16 2 n t hd) := by
  rw [lse2_eq, rlse_apply]
  exact congrArg rowLse (funext fun j => sc2_apply x0 x1 x5 n t hd j)

/-! ## The merge -/

section Merge
variable (x0 x1 x2 : FVec Ideal S128x8x3x4x64 .f32) (x3 : FVec Ideal S2x128x128x2x4x64 .f32)
  (x4 : FVec Ideal S2x128x512x2x4x64 .f32) (x5 : FVec Ideal S2x128x2048x2x4x64 .f32)

/-- The groups' log-sum-exps, stacked. -/
theorem lses (g : Fin 3) (n : Fin 128) (t : Fin 8) (hd : Fin 4) : val_main_v180 (F := Ideal) x0 x1 x3 x4 x5 (ix4 g n t hd)
    = ![rowLse (scores x0 x1 x3 1 0 n t hd), rowLse (scores x0 x1 x4 4 1 n t hd), rowLse (scores x0 x1 x5 16 2 n t hd)] g := by
  fin_cases g
  all_goals pointwise [val_main_v180, val_main_v177, val_main_v178, val_main_v179]
  · exact lse0 x0 x1 x3 n t hd
  · exact lse1 x0 x1 x4 n t hd
  · exact lse2 x0 x1 x5 n t hd

/-- The groups' outputs, stacked. -/
theorem outs (g : Fin 3) (n : Fin 128) (t : Fin 8) (hd : Fin 4) (d : Fin 64) :
    val_main_v196 (F := Ideal) x0 x1 x2 x3 x4 x5 (ix5 g n t hd d)
    = ![rowOut (scores x0 x1 x3 1 0 n t hd) (values x2 x3 1 0 n t hd d), rowOut (scores x0 x1 x4 4 1 n t hd) (values x2 x4 4 1 n t hd d),
        rowOut (scores x0 x1 x5 16 2 n t hd) (values x2 x5 16 2 n t hd d)] g := by
  fin_cases g
  all_goals pointwise [val_main_v196, val_main_v193, val_main_v194, val_main_v195]
  · exact out0 x0 x1 x2 x3 n t hd d
  · exact out1 x0 x1 x2 x4 n t hd d
  · exact out2 x0 x1 x2 x5 n t hd d

/-- The reference's result is the attention. -/
theorem final (n : Fin 128) (t : Fin 8) (c : Fin 256) : val_main_v200 (F := Ideal) x0 x1 x2 x3 x4 x5 (ix3 n t c)
    = attn x0 x1 x2 x3 x4 x5 n t ⟨c.val / 64, by omega⟩ ⟨c.val % 64, by omega⟩ := by
  pointwise [val_main_v200, val_main_v199, val_main_v198, val_main_v197, val_main_v192, val_main_v191, val_main_v190, val_main_v189,
    val_main_v188, val_main_v187, val_main_v186, val_main_v185, val_main_v184, val_main_v183, val_main_v182, val_main_v181,
    val_main_cst_31, val_main_cst_32, val_main_cst_33, val_main_cst_34, lses, outs, ofBits_neg_inf, max_bot_left]
  rfl

end Merge

end Cert.Attn.Ref

end
-- ==== Proof.Pre.lean ====
/- What the precondition says at an index: the first group's queries, its new keys and its cached keys are real
   numbers; and so the first group's scores are. -/
module

public import proofs.«01_k».proof.Proof.KerBlock
public import proofs.«01_k».proof.Proof.Gen.Pre_group0_scores_finite
public import Idealize.ShloMosaic.Lib.ReduceAll
public import Idealize.ShloMosaic.Lib.Pointwise

@[expose] public section

set_option maxRecDepth 16384

noncomputable section

namespace Cert.Attn.Pre

open Idealize.ShloMosaic Cert.Pre_group0_scores_finite

instance : Subsingleton S_.Idx := ⟨fun a b => funext fun k => k.elim0⟩

theorem ofBits_inf : Ideal.ofBits .f32 0x7F800000#32 = ⊤ := by
  unfold Ideal.ofBits; rfl

/-- An extended real whose absolute value compares below infinity is a real number. -/
theorem real_of_abs (x : EReal)
    (h : BitVec.ofBool (decide (FloatOps.absf (F := Ideal) (φ := .f32) x < Ideal.ofBits .f32 0x7F800000#32)) = 1#1) :
    ∃ r : ℝ, x = r := by
  rw [ofBits_inf] at h
  have h' : max x (-x) < ⊤ := by
    by_contra hn
    rw [show decide (FloatOps.absf (F := Ideal) (φ := .f32) x < ⊤) = false from decide_eq_false hn] at h
    exact absurd h (by decide)
  induction x using EReal.rec with
  | bot => simp at h'
  | top => simp at h'
  | coe r => exact ⟨r, rfl⟩

/-- The test on a group's rows says that every entry is real. -/
theorem rows_real (q : FVec Ideal S128x8x3x4x64 .f32) (j : S_.Idx)
    (e : Host.reduce IntOp.andi (cmpf .olt (Host.absf (shapeCast S128x8x4x64 (extractStridedSlice S128x8x1x4x64 ![0, 0, 0, 0, 0] q
        Facts.slices_S128x8x3x4x64_S128x8x1x4x64_0_0_0_0_0) Facts.shapeCasts_S128x8x1x4x64_S128x8x4x64))
        (broadcastInDim S128x8x4x64 ![] Facts.bcast_S_S128x8x4x64 (constant (F := Ideal) S_ .f32 0x7F800000#32))) (constantI S_ 1 1#1)
        Facts.reducesTo_S128x8x4x64_S_d0_1_2_3 Facts.h_S_ j = 1#1)
    (n : Fin 128) (t : Fin 8) (hd : Fin 4) (d : Fin 64) : ∃ r : ℝ, q (ix5 n t 0 hd d) = r := by
  have a := Host.reduce_andi_all _ _ _ _ _ e (ix4 n t hd d)
  pointwise [] at a
  exact real_of_abs _ a

/-- The test on the cached keys says that every entry is real. -/
theorem cache_real (C : FVec Ideal S2x128x128x2x4x64 .f32) (j : S_.Idx)
    (e : Host.reduce IntOp.andi (cmpf .olt (Host.absf (shapeCast S128x128x4x64 (extractStridedSlice S1x128x128x1x4x64 ![0, 0, 0, 0, 0, 0] C
        Facts.slices_S2x128x128x2x4x64_S1x128x128x1x4x64_0_0_0_0_0_0) Facts.shapeCasts_S1x128x128x1x4x64_S128x128x4x64))
        (broadcastInDim S128x128x4x64 ![] Facts.bcast_S_S128x128x4x64 (constant (F := Ideal) S_ .f32 0x7F800000#32))) (constantI S_ 1 1#1)
        Facts.reducesTo_S128x128x4x64_S_d0_1_2_3 Facts.h_S_ j = 1#1)
    (n i : Fin 128) (hd : Fin 4) (d : Fin 64) : ∃ r : ℝ, C (ix6 0 n i 0 hd d) = r := by
  have a := Host.reduce_andi_all _ _ _ _ _ e (ix4 n i hd d)
  pointwise [] at a
  exact real_of_abs _ a

/-- A sum of products of real numbers is real. -/
theorem dot_real {K : ℕ} (a b : Fin K → EReal) (ha : ∀ d, ∃ r : ℝ, a d = r) (hb : ∀ d, ∃ r : ℝ, b d = r) :
    ∃ r : ℝ, ∑ d, a d * b d = r := by
  refine Exists.imp ?_ (sum_real' Finset.univ (fun d => a d * b d) fun d _ => ?_)
  · rintro r h; exact h
  · obtain ⟨x, hx⟩ := ha d
    obtain ⟨y, hy⟩ := hb d
    exact ⟨x * y, by show a d * b d = _; rw [hx, hy, EReal.coe_mul]⟩

/-- An entry of the cached and new entries is real where those are. -/
theorem cat_real {W : ℕ} (c : Fin W → EReal) (n : Fin 8 → EReal) (hc : ∀ i, ∃ r : ℝ, c i = r) (hn : ∀ i, ∃ r : ℝ, n i = r)
    (i : ℕ) : ∃ r : ℝ, cat c n i = r := by
  unfold cat
  split_ifs
  · exact hc _
  · exact hn _
  · exact ⟨0, rfl⟩

/-- Under the precondition the first group's scores are real. -/
theorem scores_real (Q K V : FVec Ideal S128x8x3x4x64 .f32) (C0 : FVec Ideal S2x128x128x2x4x64 .f32)
    (C1 : FVec Ideal S2x128x512x2x4x64 .f32) (C2 : FVec Ideal S2x128x2048x2x4x64 .f32)
    (h : fn (F := Ideal) Q K V C0 C1 C2 = fun _ => 1#1) (n : Fin 128) (t : Fin 8) (hd : Fin 4) (j : Fin 129) :
    ∃ r : ℝ, scores Q K C0 1 0 n t hd j = r := by
  have e := congrFun h ix0
  obtain ⟨e12, e3⟩ := IntOp.andi_eq_one.1 e
  obtain ⟨e1, e2⟩ := IntOp.andi_eq_one.1 e12
  exact cat_real _ _ (fun i => dot_real _ _ (fun d => rows_real Q _ e1 n t hd d) fun d => cache_real C0 _ e3 n i hd d)
    (fun i => dot_real _ _ (fun d => rows_real Q _ e1 n t hd d) fun d => rows_real K _ e2 n i hd d) _

end Cert.Attn.Pre

end
-- ==== Proof.FfnSpec.lean ====
/- The layer's feed-forward block on one token, as functions of its row: the norm, the modulation and the gated
   product. -/
module

public import Idealize.ShloMosaic.PureOps.Ideal
public import Idealize.ShloMosaic.Lib.Pointwise

@[expose] public section

noncomputable section

namespace Cert.FfnSpec

open Idealize.ShloMosaic

/-- The root-mean-square norm of a row, times a gain. -/
def norm (x g : Fin 1024 → EReal) (k : Fin 1024) : EReal :=
  x k * Ideal.rsqrt (Ideal.div (∑ j, x j * x j) (Ideal.ofBits .f32 0x44800000#32) + Ideal.ofBits .f32 0x358637BD#32) * g k

/-- The norm, scaled and shifted by the modulation. -/
def modNorm (x g sc sh : Fin 1024 → EReal) (k : Fin 1024) : EReal := norm x g k * (1 + sc k) + sh k

/-- One unit of the gated hidden layer. -/
def unit (h wg wu : Fin 1024 → EReal) : EReal :=
  (∑ k, h k * wg k) * Ideal.logistic (∑ k, h k * wg k) * (∑ k, h k * wu k)

/-- One channel of the gated block's result. -/
def swiglu (h : Fin 1024 → EReal) (wg wu : Fin 1024 → Fin 2816 → EReal) (wd : Fin 2816 → EReal) : EReal :=
  ∑ f, unit h (fun k => wg k f) (fun k => wu k f) * wd f

/-- A sum over the hidden units is the sum over the first 1536 and the sum over the other 1280. -/
theorem sum_units (a : Fin 2816 → EReal) :
    ∑ f, a f = (∑ f : Fin 1536, a ⟨f.val, by omega⟩) + ∑ f : Fin 1280, a ⟨1536 + f.val, by omega⟩ :=
  Fin.sum_univ_add (a := 1536) (b := 1280) a

/-- A sum over the mixed channels is the sum over the convolution's 512 and the sum over the attention's 256. -/
theorem sum_mix (a : Fin 768 → EReal) :
    ∑ f, a f = (∑ f : Fin 512, a ⟨f.val, by omega⟩) + ∑ f : Fin 256, a ⟨512 + f.val, by omega⟩ :=
  Fin.sum_univ_add (a := 512) (b := 256) a

/-- The feed-forward block's row: the residual and the gated block's result, scaled by the gate. -/
def ffn (x g sc sh g2 : Fin 1024 → EReal) (wg wu : Fin 1024 → Fin 2816 → EReal) (wd : Fin 2816 → Fin 1024 → EReal)
    (c : Fin 1024) : EReal :=
  x c + g2 c * swiglu (modNorm x g sc sh) wg wu (fun f => wd f c)

/-- The mixers' row added to the residual. -/
def mixed (x g1 : Fin 1024 → EReal) (yc : Fin 512 → EReal) (att : Fin 256 → EReal) (wa : Fin 512 → Fin 1024 → EReal)
    (wb : Fin 256 → Fin 1024 → EReal) (c : Fin 1024) : EReal :=
  x c + g1 c * ((∑ f, yc f * wa f c) + ∑ f, att f * wb f c)

/-- Rows and gains that agree entry by entry have the same norm. -/
theorem norm_congr {x x' g g' : Fin 1024 → EReal} (hx : ∀ k, x k = x' k) (hg : ∀ k, g k = g' k) (k : Fin 1024) :
    norm x g k = norm x' g' k := by
  obtain rfl : x = x' := funext hx
  obtain rfl : g = g' := funext hg
  rfl

/-- Rows, gains and modulations that agree entry by entry have the same modulated norm. -/
theorem modNorm_congr {x x' g g' sc sc' sh sh' : Fin 1024 → EReal} (hx : ∀ k, x k = x' k) (hg : ∀ k, g k = g' k)
    (hc : ∀ k, sc k = sc' k) (hh : ∀ k, sh k = sh' k) (k : Fin 1024) : modNorm x g sc sh k = modNorm x' g' sc' sh' k := by
  obtain rfl : sc = sc' := funext hc
  obtain rfl : sh = sh' := funext hh
  exact congrArg (fun a => a * (1 + sc k) + sh k) (norm_congr hx hg k)

/-- Rows and weights that agree entry by entry have the same feed-forward row. -/
theorem ffn_congr {x x' g g' sc sc' sh sh' g2 g2' : Fin 1024 → EReal} {wg wg' wu wu' : Fin 1024 → Fin 2816 → EReal}
    {wd wd' : Fin 2816 → Fin 1024 → EReal} (hx : ∀ k, x k = x' k) (hg : ∀ k, g k = g' k) (hc : ∀ k, sc k = sc' k)
    (hh : ∀ k, sh k = sh' k) (h2 : ∀ k, g2 k = g2' k) (hwg : ∀ k f, wg k f = wg' k f) (hwu : ∀ k f, wu k f = wu' k f)
    (hwd : ∀ f k, wd f k = wd' f k) (c : Fin 1024) : ffn x g sc sh g2 wg wu wd c = ffn x' g' sc' sh' g2' wg' wu' wd' c := by
  obtain rfl : x = x' := funext hx
  obtain rfl : g = g' := funext hg
  obtain rfl : sc = sc' := funext hc
  obtain rfl : sh = sh' := funext hh
  obtain rfl : g2 = g2' := funext h2
  obtain rfl : wg = wg' := funext fun k => funext (hwg k)
  obtain rfl : wu = wu' := funext fun k => funext (hwu k)
  obtain rfl : wd = wd' := funext fun f => funext (hwd f)
  rfl

/-- Rows and weights that agree entry by entry have the same mixed row. -/
theorem mixed_congr {x x' g1 g1' : Fin 1024 → EReal} {yc yc' : Fin 512 → EReal} {att att' : Fin 256 → EReal}
    {wa wa' : Fin 512 → Fin 1024 → EReal} {wb wb' : Fin 256 → Fin 1024 → EReal} (hx : ∀ k, x k = x' k)
    (hg : ∀ k, g1 k = g1' k) (hy : ∀ f, yc f = yc' f) (ha : ∀ f, att f = att' f) (hwa : ∀ f k, wa f k = wa' f k)
    (hwb : ∀ f k, wb f k = wb' f k) (c : Fin 1024) : mixed x g1 yc att wa wb c = mixed x' g1' yc' att' wa' wb' c := by
  obtain rfl : x = x' := funext hx
  obtain rfl : g1 = g1' := funext hg
  obtain rfl : yc = yc' := funext hy
  obtain rfl : att = att' := funext ha
  obtain rfl : wa = wa' := funext fun f => funext (hwa f)
  obtain rfl : wb = wb' := funext fun f => funext (hwb f)
  rfl

end Cert.FfnSpec

end
-- ==== Proof.MixKer.lean ====
/- The array that the feed-forward call with the mixers' projection returns, index by index. -/
module

public import proofs.«01_k».proof.Proof.Gen.MixFfnIdeal.Value
public import proofs.«01_k».proof.Proof.FfnSpec
public import Idealize.ShloMosaic.Lib.Pipeline.ValueKit

@[expose] public section

set_option maxRecDepth 16384

noncomputable section

namespace Cert.MixKer

open Idealize.ShloMosaic Idealize.ShloMosaic.TcCoe Cert.MixFfnIdeal Cert.MixFfnIdeal.Gen Cert.FfnSpec

section Block
variable (x : Vec Ideal S1x512x1024 .f32) (yc : Vec Ideal S1x512x512 .f32) (wa : Vec Ideal S1x512x1024 .bf16)
  (att : Vec Ideal S1x512x256 .f32) (wb : Vec Ideal S1x256x1024 .bf16) (g1 g sc sh g2 : Vec Ideal S1x1x1x1024 .f32)
  (wg wu : Vec Ideal S1x1024x2816 .bf16) (wd : Vec Ideal S1x2816x1024 .bf16)

/-- A block's row of the residual with the mixers' row added. -/
def row (r : Fin 512) : Fin 1024 → EReal :=
  mixed (fun k => x (ix3 0 r k)) (fun k => g1 (ix4 0 0 0 k)) (fun f => yc (ix3 0 r f)) (fun f => att (ix3 0 r f))
    (fun f k => wa (ix3 0 f k)) (fun f k => wb (ix3 0 f k))

theorem pay2_apply (r : Fin 512) (k : Fin 1024) : k0_pay2 x yc wa att wb g1 (ix3 0 r k) = row x yc wa att wb g1 r k := by
  pointwise [k0_pay2]
  rfl

variable (x' : FVec Ideal S1x512x1024 .f32)

theorem pay5_apply (r : Fin 512) (k : Fin 1024) :
    k0_pay5 x' (k0_pay3 g) (k0_pay4 sc) sh (ix2 r k) = modNorm (fun k => x' (ix3 0 r k)) (fun k => g (ix4 0 0 0 k))
      (fun k => sc (ix4 0 0 0 k)) (fun k => sh (ix4 0 0 0 k)) k := by
  pointwise [k0_pay5, k0_pay3, k0_pay4]
  rfl

/-- The gated block in two halves of the hidden units is the gated block. -/
theorem pay1_apply (r : Fin 512) (c : Fin 1024) :
    k0_pay1 x' (k0_pay5 x' (k0_pay3 g) (k0_pay4 sc) sh)
        (k0_pay6 x' (k0_pay3 g) (k0_pay4 sc) sh (View.ld wg r0_5) (View.ld wu r0_5) (View.ld wd r0_6))
        (k0_pay7 x' (k0_pay3 g) (k0_pay4 sc) sh (View.ld wg r0_7)) (View.ld wu r0_7) (View.ld wd r0_8) g2 (ix3 0 r c)
      = ffn (fun k => x' (ix3 0 r k)) (fun k => g (ix4 0 0 0 k)) (fun k => sc (ix4 0 0 0 k)) (fun k => sh (ix4 0 0 0 k))
          (fun k => g2 (ix4 0 0 0 k)) (fun k f => wg (ix3 0 k f)) (fun k f => wu (ix3 0 k f)) (fun f k => wd (ix3 0 f k)) c := by
  pointwise [k0_pay1, k0_pay6, k0_pay7, pay5_apply]
  unfold ffn swiglu
  rw [sum_units]
  rfl

end Block

variable (m : (ℓ : Loc nD τ sig) → Buf (Elt Ideal) ℓ)

theorem idx : ∀ t : Fin cfg0.N, win0_0.index t = ![t.val / 8, t.val % 8, 0] ∧ win0_1.index t = ![0, 128 + t.val / 8, 0, 3]
    ∧ win0_2.index t = ![0, 128 + t.val / 8, 0, 4] ∧ win0_3.index t = ![0, 128 + t.val / 8, 0, 5] ∧ win0_4.index t = ![0, 1, 0, 0]
    ∧ win0_5.index t = ![0, 0, 0] ∧ win0_6.index t = ![0, 0, 0] ∧ win0_7.index t = ![0, 0, 0]
    ∧ win0_9.index t = ![0, 128 + t.val / 8, 0, 2] ∧ win0_10.index t = ![t.val / 8, t.val % 8, 0]
    ∧ win0_11.index t = ![t.val / 8, t.val % 8, 0] ∧ win0_12.index t = ![0, 0, 0] ∧ win0_13.index t = ![0, 0, 0]
    ∧ win0_14.index t = ![t.val / 8, t.val % 8, 0] :=
  (by decide +kernel : ∀ t : Fin grid0.N, _)

/-- The array the call returns, from the arguments. -/
def G (x : FVec Ideal S4x4096x1024 .f32) (mod : FVec Ideal S4x136x6144 .f32) (ng : FVec Ideal S4x2x1024 .f32)
    (wg wu : FVec Ideal S4x1024x2816 .f32) (wd : FVec Ideal S4x2816x1024 .f32) (yc : FVec Ideal S4x4096x512 .f32)
    (att : FVec Ideal S4x4096x256 .f32) (wo : FVec Ideal S2x768x1024 .f32) (n : Fin 4) (i : Fin 4096) (c : Fin 1024) : EReal :=
  let md (s : Fin 6) (k : Fin 1024) := mod (ix3 0 ⟨128 + n.val, by omega⟩ ⟨s.val * 1024 + k.val, by omega⟩)
  ffn (mixed (fun k => x (ix3 n i k)) (md 2) (fun f => yc (ix3 n i f)) (fun f => att (ix3 n i f))
      (fun f k => wo (ix3 0 ⟨f.val, by omega⟩ k)) (fun f k => wo (ix3 0 ⟨512 + f.val, by omega⟩ k)))
    (fun k => ng (ix3 0 1 k)) (md 4) (md 3) (md 5) (fun k f => wg (ix3 0 k f)) (fun k f => wu (ix3 0 k f))
    (fun f k => wd (ix3 0 f k)) c

section Blocks
variable (c : Dev nD) (t : Fin cfg0.N)

theorem V_mod (n : Fin 136) (e : Fin 6144) : (V m c main_v0 : Vec Ideal S4x136x1x6144 .f32) (ix4 0 n 0 e)
    = (m ((c : Thread nD τ).loc main_arg1) : Vec Ideal S4x136x6144 .f32) (ix3 0 n e) := by
  entry_read
  pointwise []

theorem V_gain (k : Fin 1024) : (V m c main_v1 : Vec Ideal S4x2x1x1024 .f32) (ix4 0 1 0 k)
    = (m ((c : Thread nD τ).loc main_arg2) : Vec Ideal S4x2x1024 .f32) (ix3 0 1 k) := by
  entry_read
  pointwise []

theorem V_wg (k : Fin 1024) (f : Fin 2816) : (V m c main_v2 : Vec Ideal S4x1024x2816 .bf16) (ix3 0 k f)
    = (m ((c : Thread nD τ).loc main_arg3) : Vec Ideal S4x1024x2816 .f32) (ix3 0 k f) := by
  entry_read
  pointwise []

theorem V_wu (k : Fin 1024) (f : Fin 2816) : (V m c main_v3 : Vec Ideal S4x1024x2816 .bf16) (ix3 0 k f)
    = (m ((c : Thread nD τ).loc main_arg4) : Vec Ideal S4x1024x2816 .f32) (ix3 0 k f) := by
  entry_read
  pointwise []

theorem V_wd (f : Fin 2816) (k : Fin 1024) : (V m c main_v4 : Vec Ideal S4x2816x1024 .bf16) (ix3 0 f k)
    = (m ((c : Thread nD τ).loc main_arg5) : Vec Ideal S4x2816x1024 .f32) (ix3 0 f k) := by
  entry_read
  pointwise []

theorem V_wa (f : Fin 512) (k : Fin 1024) : (V m c main_v6 : Vec Ideal S2x512x1024 .bf16) (ix3 0 f k)
    = (m ((c : Thread nD τ).loc main_arg9) : Vec Ideal S2x768x1024 .f32) (ix3 0 ⟨f.val, by omega⟩ k) := by
  entry_read
  pointwise []

theorem V_wb (f : Fin 256) (k : Fin 1024) : (V m c main_v8 : Vec Ideal S2x256x1024 .bf16) (ix3 0 f k)
    = (m ((c : Thread nD τ).loc main_arg9) : Vec Ideal S2x768x1024 .f32) (ix3 0 ⟨512 + f.val, by omega⟩ k) := by
  entry_read
  pointwise []

theorem blk_wa (f : Fin 512) (k : Fin 1024) : (iblk m c 12 t : Vec Ideal S1x512x1024 .bf16) (ix3 0 f k)
    = (m ((c : Thread nD τ).loc main_arg9) : Vec Ideal S2x768x1024 .f32) (ix3 0 ⟨f.val, by omega⟩ k) := by
  refine Eq.trans ?_ (V_wa m c _ _)
  blk_ext [iblk, idx t]

theorem blk_wb (f : Fin 256) (k : Fin 1024) : (iblk m c 13 t : Vec Ideal S1x256x1024 .bf16) (ix3 0 f k)
    = (m ((c : Thread nD τ).loc main_arg9) : Vec Ideal S2x768x1024 .f32) (ix3 0 ⟨512 + f.val, by omega⟩ k) := by
  refine Eq.trans ?_ (V_wb m c _ _)
  blk_ext [iblk, idx t]

variable (n : Fin 4) (hn : n.val = t.val / 8)

include hn in
theorem blk_x (r : Fin 512) (i : Fin 4096) (hi : i.val = 512 * (t.val % 8) + r.val) (k : Fin 1024) :
    (iblk m c 0 t : Vec Ideal S1x512x1024 .f32) (ix3 0 r k)
      = (m ((c : Thread nD τ).loc main_arg0) : Vec Ideal S4x4096x1024 .f32) (ix3 n i k) := by
  refine Eq.trans ?_ (congrFun (V_main_arg0 m c) _)
  blk_ext [iblk, idx t]

include hn in
theorem blk_yc (r : Fin 512) (i : Fin 4096) (hi : i.val = 512 * (t.val % 8) + r.val) (k : Fin 512) :
    (iblk m c 10 t : Vec Ideal S1x512x512 .f32) (ix3 0 r k)
      = (m ((c : Thread nD τ).loc main_arg7) : Vec Ideal S4x4096x512 .f32) (ix3 n i k) := by
  refine Eq.trans ?_ (congrFun (V_main_arg7 m c) _)
  blk_ext [iblk, idx t]

include hn in
theorem blk_att (r : Fin 512) (i : Fin 4096) (hi : i.val = 512 * (t.val % 8) + r.val) (k : Fin 256) :
    (iblk m c 11 t : Vec Ideal S1x512x256 .f32) (ix3 0 r k)
      = (m ((c : Thread nD τ).loc main_arg8) : Vec Ideal S4x4096x256 .f32) (ix3 n i k) := by
  refine Eq.trans ?_ (congrFun (V_main_arg8 m c) _)
  blk_ext [iblk, idx t]

include hn in
theorem blk_sh (k : Fin 1024) : (iblk m c 1 t : Vec Ideal S1x1x1x1024 .f32) (ix4 0 0 0 k)
    = (m ((c : Thread nD τ).loc main_arg1) : Vec Ideal S4x136x6144 .f32) (ix3 0 ⟨128 + n.val, by omega⟩ ⟨3 * 1024 + k.val, by omega⟩) := by
  refine Eq.trans ?_ (V_mod m c _ _)
  blk_ext [iblk, idx t]

include hn in
theorem blk_sc (k : Fin 1024) : (iblk m c 2 t : Vec Ideal S1x1x1x1024 .f32) (ix4 0 0 0 k)
    = (m ((c : Thread nD τ).loc main_arg1) : Vec Ideal S4x136x6144 .f32) (ix3 0 ⟨128 + n.val, by omega⟩ ⟨4 * 1024 + k.val, by omega⟩) := by
  refine Eq.trans ?_ (V_mod m c _ _)
  blk_ext [iblk, idx t]

include hn in
theorem blk_g2 (k : Fin 1024) : (iblk m c 3 t : Vec Ideal S1x1x1x1024 .f32) (ix4 0 0 0 k)
    = (m ((c : Thread nD τ).loc main_arg1) : Vec Ideal S4x136x6144 .f32) (ix3 0 ⟨128 + n.val, by omega⟩ ⟨5 * 1024 + k.val, by omega⟩) := by
  refine Eq.trans ?_ (V_mod m c _ _)
  blk_ext [iblk, idx t]

include hn in
theorem blk_g1 (k : Fin 1024) : (iblk m c 9 t : Vec Ideal S1x1x1x1024 .f32) (ix4 0 0 0 k)
    = (m ((c : Thread nD τ).loc main_arg1) : Vec Ideal S4x136x6144 .f32) (ix3 0 ⟨128 + n.val, by omega⟩ ⟨2 * 1024 + k.val, by omega⟩) := by
  refine Eq.trans ?_ (V_mod m c _ _)
  blk_ext [iblk, idx t]

theorem blk_gain (k : Fin 1024) : (iblk m c 4 t : Vec Ideal S1x1x1x1024 .f32) (ix4 0 0 0 k)
    = (m ((c : Thread nD τ).loc main_arg2) : Vec Ideal S4x2x1024 .f32) (ix3 0 1 k) := by
  refine Eq.trans ?_ (V_gain m c _)
  blk_ext [iblk, idx t]

theorem blk_wg (k : Fin 1024) (f : Fin 2816) : (iblk m c 5 t : Vec Ideal S1x1024x2816 .bf16) (ix3 0 k f)
    = (m ((c : Thread nD τ).loc main_arg3) : Vec Ideal S4x1024x2816 .f32) (ix3 0 k f) := by
  refine Eq.trans ?_ (V_wg m c _ _)
  blk_ext [iblk, idx t]

theorem blk_wu (k : Fin 1024) (f : Fin 2816) : (iblk m c 6 t : Vec Ideal S1x1024x2816 .bf16) (ix3 0 k f)
    = (m ((c : Thread nD τ).loc main_arg4) : Vec Ideal S4x1024x2816 .f32) (ix3 0 k f) := by
  refine Eq.trans ?_ (V_wu m c _ _)
  blk_ext [iblk, idx t]

theorem blk_wd (f : Fin 2816) (k : Fin 1024) : (iblk m c 7 t : Vec Ideal S1x2816x1024 .bf16) (ix3 0 f k)
    = (m ((c : Thread nD τ).loc main_arg5) : Vec Ideal S4x2816x1024 .f32) (ix3 0 f k) := by
  refine Eq.trans ?_ (V_wd m c _ _)
  blk_ext [iblk, idx t]

end Blocks

/-- What a grid point writes, from the blocks it reads. -/
theorem out_apply (x0 : Vec Ideal S1x512x1024 .f32) (x1 x2 x3 x4 : Vec Ideal S1x1x1x1024 .f32) (x5 x6 : Vec Ideal S1x1024x2816 .bf16)
    (x7 : Vec Ideal S1x2816x1024 .bf16) (x8 : Vec Ideal S1x1024 .f32) (x9 : Vec Ideal S1x1x1x1024 .f32) (x10 : Vec Ideal S1x512x512 .f32)
    (x11 : Vec Ideal S1x512x256 .f32) (x12 : Vec Ideal S1x512x1024 .bf16) (x13 : Vec Ideal S1x256x1024 .bf16) (r : Fin 512) (k : Fin 1024) :
    out0_14 x0 x1 x2 x3 x4 x5 x6 x7 x8 x9 x10 x11 x12 x13 (ix3 0 r k)
      = ffn (row x0 x10 x12 x11 x13 x9 r) (fun k => x4 (ix4 0 0 0 k)) (fun k => x2 (ix4 0 0 0 k)) (fun k => x1 (ix4 0 0 0 k))
          (fun k => x3 (ix4 0 0 0 k)) (fun k f => x5 (ix3 0 k f)) (fun k f => x6 (ix3 0 k f)) (fun f k => x7 (ix3 0 f k)) k := by
  unfold out0_14 k0_pay10 k0_pay9 k0_pay8
  frame_out
  refine (pay1_apply _ _ _ _ _ _ _ _ r k).trans ?_
  exact ffn_congr (fun k => pay2_apply _ _ _ _ _ _ r k) (fun _ => rfl) (fun _ => rfl) (fun _ => rfl) (fun _ => rfl) (fun _ _ => rfl)
    (fun _ _ => rfl) (fun _ _ => rfl) k

/-- The array the call returns, over the memory it is launched on. -/
def out (c : Dev nD) : FVec Ideal S4x4096x1024 .f32 := fun i =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg7)) (m ((c : Thread nD τ).loc main_arg8)) (m ((c : Thread nD τ).loc main_arg9))
    (i 0) (i 1) (i 2)

/-- A grid point writes its tile of that array. -/
theorem tile (c : Dev nD) (t : Fin cfg0.N) (n : Fin 4) (hn : n.val = t.val / 8) (r : Fin 512) (i : Fin 4096)
    (hi : i.val = 512 * (t.val % 8) + r.val) (k : Fin 1024) :
    (dats m 0 c).after 14 t (ix3 0 r k) = out m c (ix3 n i k) := by
  rw [after0_14]
  refine (out_apply _ _ _ _ _ _ _ _ _ _ _ _ _ _ r k).trans ?_
  have hm := mixed_congr (blk_x m c t n hn r i hi) (blk_g1 m c t n hn) (blk_yc m c t n hn r i hi) (blk_att m c t n hn r i hi)
    (blk_wa m c t) (blk_wb m c t)
  exact ffn_congr hm (blk_gain m c t) (blk_sc m c t n hn) (blk_sh m c t n hn) (blk_g2 m c t n hn) (blk_wg m c t) (blk_wu m c t)
    (blk_wd m c t) k

/-- The call's result is that array. -/
theorem final (c : Dev nD) : (dats m 0 c).arrAt 14 (cfgs 0).N = out m c := by
  refine (dats m 0 c).arrAt_eq_of_covers 14 _ (by decide +kernel) fun t _ y => ?_
  have ht : t.val < 32 := lt_of_lt_of_eq t.isLt (by decide)
  obtain ⟨r, k, rfl⟩ : ∃ (r : Fin 512) (k : Fin 1024), y = ix3 0 r k := ⟨y 1, y 2, by
    funext a; match a with | ⟨0, _⟩ => exact Subsingleton.elim (α := Fin 1) _ _ | ⟨1, _⟩ => rfl | ⟨2, _⟩ => rfl⟩
  have e : ∀ f : S4x4096x1024.Idx → EReal, f (((View.whole main_v10).slice (win0_14.rect t)).emb (ix3 0 r k))
      = f (ix3 (⟨t.val / 8, by omega⟩ : Fin 4) (⟨512 * (t.val % 8) + r.val, by omega⟩ : Fin 4096) k) := fun f => by
    blk_ext [idx t]
  exact (tile m c t ⟨t.val / 8, by omega⟩ rfl r ⟨512 * (t.val % 8) + r.val, by omega⟩ rfl k).trans (e (out m c)).symm

end Cert.MixKer

end
-- ==== Proof.MixRef.lean ====
/- The reference of the feed-forward block after the mixers, index by index. -/
module

public import proofs.«01_k».proof.Proof.Gen.MixFfnReferenceIdeal.Read
public import proofs.«01_k».proof.Proof.MixKer

@[expose] public section

set_option maxRecDepth 16384

noncomputable section

namespace Cert.MixRef

open Idealize.ShloMosaic Cert.MixFfnReferenceIdeal Cert.MixFfnReferenceIdeal.Gen Cert.MixFfnReferenceIdeal.Read Cert.FfnSpec

variable (x0 : Vec Ideal S4x4096x1024 .f32) (x1 : Vec Ideal S4x136x6144 .f32) (x2 : Vec Ideal S4x2x1024 .f32)
  (x3 x4 : Vec Ideal S4x1024x2816 .f32) (x5 : Vec Ideal S4x2816x1024 .f32) (x7 : Vec Ideal S4x4096x512 .f32)
  (x8 : Vec Ideal S4x4096x256 .f32) (x9 : Vec Ideal S2x768x1024 .f32) (n : Fin 4) (i : Fin 4096)

/-- One of the six parts of a sample's modulation. -/
abbrev md (s : Fin 6) (k : Fin 1024) : EReal := x1 (ix3 0 ⟨128 + n.val, by omega⟩ ⟨s.val * 1024 + k.val, by omega⟩)

/-- The residual with the mixers' row added. -/
abbrev mrow : Fin 1024 → EReal :=
  mixed (fun k => x0 (ix3 n i k)) (md x1 n 2) (fun f => x7 (ix3 n i f)) (fun f => x8 (ix3 n i f))
    (fun f k => x9 (ix3 0 ⟨f.val, by omega⟩ k)) (fun f k => x9 (ix3 0 ⟨512 + f.val, by omega⟩ k))

/-- The row the gated block reads. -/
abbrev hid : Fin 1024 → EReal := modNorm (mrow x0 x1 x7 x8 x9 n i) (fun k => x2 (ix3 0 1 k)) (md x1 n 4) (md x1 n 3)

theorem shift_apply (k : Fin 1024) : val_main_v6 (F := Ideal) x1 (ix3 n 0 k) = md x1 n 3 k := by
  pointwise [val_main_v6, val_main_v2, val_main_v1, val_main_v0]
  rfl

theorem scale_apply (k : Fin 1024) : val_main_v7 (F := Ideal) x1 (ix3 n 0 k) = md x1 n 4 k := by
  pointwise [val_main_v7, val_main_v2, val_main_v1, val_main_v0]
  rfl

theorem gate_apply (k : Fin 1024) : val_main_v8 (F := Ideal) x1 (ix3 n 0 k) = md x1 n 5 k := by
  pointwise [val_main_v8, val_main_v2, val_main_v1, val_main_v0]
  rfl

theorem gate1_apply (k : Fin 1024) : val_main_v5 (F := Ideal) x1 (ix3 n 0 k) = md x1 n 2 k := by
  pointwise [val_main_v5, val_main_v2, val_main_v1, val_main_v0]
  rfl

theorem left_apply (f : Fin 512) : val_main_v9 (F := Ideal) x7 x8 (ix3 n i ⟨f.val, by omega⟩) = x7 (ix3 n i f) := by
  pointwise [val_main_v9]

theorem right_apply (f : Fin 256) : val_main_v9 (F := Ideal) x7 x8 (ix3 n i ⟨512 + f.val, by omega⟩) = x8 (ix3 n i f) := by
  pointwise [val_main_v9]

theorem mix_apply (k : Fin 1024) : val_main_v12 (F := Ideal) x7 x8 x9 (ix3 n i k)
    = (∑ f : Fin 512, x7 (ix3 n i f) * x9 (ix3 0 ⟨f.val, by omega⟩ k)) + ∑ f : Fin 256, x8 (ix3 n i f) * x9 (ix3 0 ⟨512 + f.val, by omega⟩ k) := by
  pointwise [val_main_v12, val_main_v11, val_main_v10]
  rw [sum_mix]
  simp only [left_apply, right_apply]

theorem row_apply (k : Fin 1024) : val_main_v15 (F := Ideal) x0 x1 x7 x8 x9 (ix3 n i k) = mrow x0 x1 x7 x8 x9 n i k := by
  pointwise [val_main_v15, val_main_v14, val_main_v13, mix_apply, gate1_apply]
  rfl

theorem norm_apply (k : Fin 1024) :
    val_main_v30 (F := Ideal) x0 x1 x2 x7 x8 x9 (ix3 n i k) = norm (mrow x0 x1 x7 x8 x9 n i) (fun k => x2 (ix3 0 1 k)) k := by
  pointwise [val_main_v30, val_main_v29, val_main_v28, val_main_v27, val_main_v26, val_main_v25, val_main_v24, val_main_v23,
    val_main_v22, val_main_v21, val_main_v20, val_main_v19, val_main_v18, val_main_v17, val_main_v16, val_main_cst, val_main_cst_0,
    val_main_cst_1, row_apply]
  rfl

theorem hid_apply (k : Fin 1024) : val_main_v36 (F := Ideal) x0 x1 x2 x7 x8 x9 (ix3 n i k) = hid x0 x1 x2 x7 x8 x9 n i k := by
  pointwise [val_main_v36, val_main_v35, val_main_v34, val_main_v33, val_main_v32, val_main_v31, val_main_cst_2, norm_apply,
    shift_apply, scale_apply]
  rfl

theorem up_apply (f : Fin 2816) : val_main_v45 (F := Ideal) x0 x1 x2 x4 x7 x8 x9 (ix3 n i f) = ∑ k, hid x0 x1 x2 x7 x8 x9 n i k * x4 (ix3 0 k f) := by
  pointwise [val_main_v45, val_main_v40, val_main_v39, hid_apply]

theorem gated_apply (f : Fin 2816) : val_main_v43 (F := Ideal) x0 x1 x2 x3 x7 x8 x9 (ix3 n i f) = ∑ k, hid x0 x1 x2 x7 x8 x9 n i k * x3 (ix3 0 k f) := by
  pointwise [val_main_v43, val_main_v38, val_main_v37, hid_apply]

theorem unit_apply (f : Fin 2816) :
    val_main_v46 (F := Ideal) x0 x1 x2 x3 x4 x7 x8 x9 (ix3 n i f) = unit (hid x0 x1 x2 x7 x8 x9 n i) (fun k => x3 (ix3 0 k f)) (fun k => x4 (ix3 0 k f)) := by
  pointwise [val_main_v46, val_main_v44, val_main_call0_v5, val_main_call0_v4, val_main_call0_v3, val_main_call0_v2, val_main_call0_v1,
    val_main_call0_v0, val_main_call0_cst, val_main_call0_cst_0, up_apply, gated_apply]
  rfl

/-- The reference's result is the array the call returns. -/
theorem final (c : Fin 1024) : val_main_v50 (F := Ideal) x0 x1 x2 x3 x4 x5 x7 x8 x9 (ix3 n i c) = MixKer.G x0 x1 x2 x3 x4 x5 x7 x8 x9 n i c := by
  pointwise [val_main_v50, val_main_v49, val_main_v48, val_main_v47, val_main_v42, val_main_v41, row_apply, gate_apply, unit_apply]
  rfl

end Cert.MixRef

end
-- ==== Proof.FfnKer.lean ====
/- The array that the feed-forward call returns, index by index. -/
module

public import proofs.«01_k».proof.Proof.Gen.FfnIdeal.Value
public import proofs.«01_k».proof.Proof.FfnSpec
public import Idealize.ShloMosaic.Lib.Pipeline.ValueKit

@[expose] public section

set_option maxRecDepth 16384

noncomputable section

namespace Cert.FfnKer

open Idealize.ShloMosaic Idealize.ShloMosaic.TcCoe Cert.FfnIdeal Cert.FfnIdeal.Gen Cert.FfnSpec

section Block
variable (x : Vec Ideal S1x512x1024 .f32) (g sc sh g2 : Vec Ideal S1x1x1x1024 .f32) (wg wu : Vec Ideal S1x1024x2816 .bf16)
  (wd : Vec Ideal S1x2816x1024 .bf16)

theorem pay2_apply (r : Fin 512) (k : Fin 1024) :
    k0_pay2 x g sc sh (ix2 r k) = modNorm (fun k => x (ix3 0 r k)) (fun k => g (ix4 0 0 0 k)) (fun k => sc (ix4 0 0 0 k))
      (fun k => sh (ix4 0 0 0 k)) k := by
  pointwise [k0_pay2]
  rfl

/-- The gated block in two halves of the hidden units is the gated block. -/
theorem pay1_apply (r : Fin 512) (c : Fin 1024) :
    k0_pay1 x (k0_pay2 x g sc sh) (k0_pay3 x g sc sh (View.ld wg r0_2)) (View.ld wu r0_2) (View.ld wd r0_3) (View.ld wg r0_4)
        (View.ld wu r0_4) (View.ld wd r0_5) g2 (ix3 0 r c)
      = ffn (fun k => x (ix3 0 r k)) (fun k => g (ix4 0 0 0 k)) (fun k => sc (ix4 0 0 0 k)) (fun k => sh (ix4 0 0 0 k))
          (fun k => g2 (ix4 0 0 0 k)) (fun k f => wg (ix3 0 k f)) (fun k f => wu (ix3 0 k f)) (fun f k => wd (ix3 0 f k)) c := by
  pointwise [k0_pay1, k0_pay3, pay2_apply]
  unfold ffn swiglu
  rw [sum_units]
  rfl

end Block

variable (m : (ℓ : Loc nD τ sig) → Buf (Elt Ideal) ℓ)

theorem idx : ∀ t : Fin cfg0.N, win0_0.index t = ![t.val / 8, t.val % 8, 0] ∧ win0_1.index t = ![1, 128 + t.val / 8, 0, 3]
    ∧ win0_2.index t = ![1, 128 + t.val / 8, 0, 4] ∧ win0_3.index t = ![1, 128 + t.val / 8, 0, 5] ∧ win0_4.index t = ![1, 1, 0, 0]
    ∧ win0_5.index t = ![1, 0, 0] ∧ win0_6.index t = ![1, 0, 0] ∧ win0_7.index t = ![1, 0, 0] ∧ win0_8.index t = ![0, 0]
    ∧ win0_9.index t = ![t.val / 8, t.val % 8, 0] :=
  (by decide +kernel : ∀ t : Fin grid0.N, _)

/-- The array the call returns, from the arguments. -/
def G (x : FVec Ideal S4x4096x1024 .f32) (mod : FVec Ideal S4x136x6144 .f32) (ng : FVec Ideal S4x2x1024 .f32)
    (wg wu : FVec Ideal S4x1024x2816 .f32) (wd : FVec Ideal S4x2816x1024 .f32) (n : Fin 4) (i : Fin 4096) (c : Fin 1024) : EReal :=
  let md (s : Fin 6) (k : Fin 1024) := mod (ix3 1 ⟨128 + n.val, by omega⟩ ⟨s.val * 1024 + k.val, by omega⟩)
  ffn (fun k => x (ix3 n i k)) (fun k => ng (ix3 1 1 k)) (md 4) (md 3) (md 5) (fun k f => wg (ix3 1 k f))
    (fun k f => wu (ix3 1 k f)) (fun f k => wd (ix3 1 f k)) c

section Blocks
variable (c : Dev nD) (t : Fin cfg0.N)

theorem V_mod (n : Fin 136) (e : Fin 6144) : (V m c main_v0 : Vec Ideal S4x136x1x6144 .f32) (ix4 1 n 0 e)
    = (m ((c : Thread nD τ).loc main_arg1) : Vec Ideal S4x136x6144 .f32) (ix3 1 n e) := by
  entry_read
  pointwise []

theorem V_gain (k : Fin 1024) : (V m c main_v1 : Vec Ideal S4x2x1x1024 .f32) (ix4 1 1 0 k)
    = (m ((c : Thread nD τ).loc main_arg2) : Vec Ideal S4x2x1024 .f32) (ix3 1 1 k) := by
  entry_read
  pointwise []

theorem V_wg (k : Fin 1024) (f : Fin 2816) : (V m c main_v2 : Vec Ideal S4x1024x2816 .bf16) (ix3 1 k f)
    = (m ((c : Thread nD τ).loc main_arg3) : Vec Ideal S4x1024x2816 .f32) (ix3 1 k f) := by
  entry_read
  pointwise []

theorem V_wu (k : Fin 1024) (f : Fin 2816) : (V m c main_v3 : Vec Ideal S4x1024x2816 .bf16) (ix3 1 k f)
    = (m ((c : Thread nD τ).loc main_arg4) : Vec Ideal S4x1024x2816 .f32) (ix3 1 k f) := by
  entry_read
  pointwise []

theorem V_wd (f : Fin 2816) (k : Fin 1024) : (V m c main_v4 : Vec Ideal S4x2816x1024 .bf16) (ix3 1 f k)
    = (m ((c : Thread nD τ).loc main_arg5) : Vec Ideal S4x2816x1024 .f32) (ix3 1 f k) := by
  entry_read
  pointwise []

variable (n : Fin 4) (hn : n.val = t.val / 8)

include hn in
theorem blk_x (r : Fin 512) (i : Fin 4096) (hi : i.val = 512 * (t.val % 8) + r.val) (k : Fin 1024) :
    (iblk m c 0 t : Vec Ideal S1x512x1024 .f32) (ix3 0 r k)
      = (m ((c : Thread nD τ).loc main_arg0) : Vec Ideal S4x4096x1024 .f32) (ix3 n i k) := by
  refine Eq.trans ?_ (congrFun (V_main_arg0 m c) _)
  blk_ext [iblk, idx t]

include hn in
theorem blk_sh (k : Fin 1024) : (iblk m c 1 t : Vec Ideal S1x1x1x1024 .f32) (ix4 0 0 0 k)
    = (m ((c : Thread nD τ).loc main_arg1) : Vec Ideal S4x136x6144 .f32) (ix3 1 ⟨128 + n.val, by omega⟩ ⟨3 * 1024 + k.val, by omega⟩) := by
  refine Eq.trans ?_ (V_mod m c _ _)
  blk_ext [iblk, idx t]

include hn in
theorem blk_sc (k : Fin 1024) : (iblk m c 2 t : Vec Ideal S1x1x1x1024 .f32) (ix4 0 0 0 k)
    = (m ((c : Thread nD τ).loc main_arg1) : Vec Ideal S4x136x6144 .f32) (ix3 1 ⟨128 + n.val, by omega⟩ ⟨4 * 1024 + k.val, by omega⟩) := by
  refine Eq.trans ?_ (V_mod m c _ _)
  blk_ext [iblk, idx t]

include hn in
theorem blk_g2 (k : Fin 1024) : (iblk m c 3 t : Vec Ideal S1x1x1x1024 .f32) (ix4 0 0 0 k)
    = (m ((c : Thread nD τ).loc main_arg1) : Vec Ideal S4x136x6144 .f32) (ix3 1 ⟨128 + n.val, by omega⟩ ⟨5 * 1024 + k.val, by omega⟩) := by
  refine Eq.trans ?_ (V_mod m c _ _)
  blk_ext [iblk, idx t]

theorem blk_gain (k : Fin 1024) : (iblk m c 4 t : Vec Ideal S1x1x1x1024 .f32) (ix4 0 0 0 k)
    = (m ((c : Thread nD τ).loc main_arg2) : Vec Ideal S4x2x1024 .f32) (ix3 1 1 k) := by
  refine Eq.trans ?_ (V_gain m c _)
  blk_ext [iblk, idx t]

theorem blk_wg (k : Fin 1024) (f : Fin 2816) : (iblk m c 5 t : Vec Ideal S1x1024x2816 .bf16) (ix3 0 k f)
    = (m ((c : Thread nD τ).loc main_arg3) : Vec Ideal S4x1024x2816 .f32) (ix3 1 k f) := by
  refine Eq.trans ?_ (V_wg m c _ _)
  blk_ext [iblk, idx t]

theorem blk_wu (k : Fin 1024) (f : Fin 2816) : (iblk m c 6 t : Vec Ideal S1x1024x2816 .bf16) (ix3 0 k f)
    = (m ((c : Thread nD τ).loc main_arg4) : Vec Ideal S4x1024x2816 .f32) (ix3 1 k f) := by
  refine Eq.trans ?_ (V_wu m c _ _)
  blk_ext [iblk, idx t]

theorem blk_wd (f : Fin 2816) (k : Fin 1024) : (iblk m c 7 t : Vec Ideal S1x2816x1024 .bf16) (ix3 0 f k)
    = (m ((c : Thread nD τ).loc main_arg5) : Vec Ideal S4x2816x1024 .f32) (ix3 1 f k) := by
  refine Eq.trans ?_ (V_wd m c _ _)
  blk_ext [iblk, idx t]

end Blocks

/-- What a grid point writes, from the blocks it reads. -/
theorem out_apply (x0 : Vec Ideal S1x512x1024 .f32) (x1 x2 x3 x4 : Vec Ideal S1x1x1x1024 .f32) (x5 x6 : Vec Ideal S1x1024x2816 .bf16)
    (x7 : Vec Ideal S1x2816x1024 .bf16) (x8 : Vec Ideal S1x1024 .f32) (r : Fin 512) (k : Fin 1024) :
    out0_9 x0 x1 x2 x3 x4 x5 x6 x7 x8 (ix3 0 r k)
      = ffn (fun k => x0 (ix3 0 r k)) (fun k => x4 (ix4 0 0 0 k)) (fun k => x2 (ix4 0 0 0 k)) (fun k => x1 (ix4 0 0 0 k))
          (fun k => x3 (ix4 0 0 0 k)) (fun k f => x5 (ix3 0 k f)) (fun k f => x6 (ix3 0 k f)) (fun f k => x7 (ix3 0 f k)) k := by
  unfold out0_9
  frame_out
  exact pay1_apply _ _ _ _ _ _ _ _ r k

/-- The array the call returns, over the memory it is launched on. -/
def out (c : Dev nD) : FVec Ideal S4x4096x1024 .f32 := fun i =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (i 0) (i 1) (i 2)

/-- A grid point writes its tile of that array. -/
theorem tile (c : Dev nD) (t : Fin cfg0.N) (n : Fin 4) (hn : n.val = t.val / 8) (r : Fin 512) (i : Fin 4096)
    (hi : i.val = 512 * (t.val % 8) + r.val) (k : Fin 1024) :
    (dats m 0 c).after 9 t (ix3 0 r k) = out m c (ix3 n i k) := by
  rw [after0_9]
  refine (out_apply _ _ _ _ _ _ _ _ _ r k).trans ?_
  exact ffn_congr (blk_x m c t n hn r i hi) (blk_gain m c t) (blk_sc m c t n hn) (blk_sh m c t n hn) (blk_g2 m c t n hn) (blk_wg m c t)
    (blk_wu m c t) (blk_wd m c t) k

/-- The call's result is that array. -/
theorem final (c : Dev nD) : (dats m 0 c).arrAt 9 (cfgs 0).N = out m c := by
  refine (dats m 0 c).arrAt_eq_of_covers 9 _ (by decide +kernel) fun t _ y => ?_
  have ht : t.val < 32 := lt_of_lt_of_eq t.isLt (by decide)
  obtain ⟨r, k, rfl⟩ : ∃ (r : Fin 512) (k : Fin 1024), y = ix3 0 r k := ⟨y 1, y 2, by
    funext a; match a with | ⟨0, _⟩ => exact Subsingleton.elim (α := Fin 1) _ _ | ⟨1, _⟩ => rfl | ⟨2, _⟩ => rfl⟩
  have e : ∀ f : S4x4096x1024.Idx → EReal, f (((View.whole main_v6).slice (win0_9.rect t)).emb (ix3 0 r k))
      = f (ix3 (⟨t.val / 8, by omega⟩ : Fin 4) (⟨512 * (t.val % 8) + r.val, by omega⟩ : Fin 4096) k) := fun f => by
    blk_ext [idx t]
  exact (tile m c t ⟨t.val / 8, by omega⟩ rfl r ⟨512 * (t.val % 8) + r.val, by omega⟩ rfl k).trans (e (out m c)).symm

end Cert.FfnKer

end
-- ==== Proof.FfnRef.lean ====
/- The reference of the feed-forward block, index by index. -/
module

public import proofs.«01_k».proof.Proof.Gen.FfnReferenceIdeal.Read
public import proofs.«01_k».proof.Proof.FfnKer

@[expose] public section

set_option maxRecDepth 16384

noncomputable section

namespace Cert.FfnRef

open Idealize.ShloMosaic Cert.FfnReferenceIdeal Cert.FfnReferenceIdeal.Gen Cert.FfnReferenceIdeal.Read Cert.FfnSpec

variable (x0 : Vec Ideal S4x4096x1024 .f32) (x1 : Vec Ideal S4x136x6144 .f32) (x2 : Vec Ideal S4x2x1024 .f32)
  (x3 x4 : Vec Ideal S4x1024x2816 .f32) (x5 : Vec Ideal S4x2816x1024 .f32) (n : Fin 4) (i : Fin 4096)

/-- One of the six parts of a sample's modulation. -/
abbrev md (s : Fin 6) (k : Fin 1024) : EReal := x1 (ix3 1 ⟨128 + n.val, by omega⟩ ⟨s.val * 1024 + k.val, by omega⟩)

/-- The row the gated block reads. -/
abbrev hid : Fin 1024 → EReal := modNorm (fun k => x0 (ix3 n i k)) (fun k => x2 (ix3 1 1 k)) (md x1 n 4) (md x1 n 3)

theorem shift_apply (k : Fin 1024) : val_main_v6 (F := Ideal) x1 (ix3 n 0 k) = md x1 n 3 k := by
  pointwise [val_main_v6, val_main_v2, val_main_v1, val_main_v0]
  rfl

theorem scale_apply (k : Fin 1024) : val_main_v7 (F := Ideal) x1 (ix3 n 0 k) = md x1 n 4 k := by
  pointwise [val_main_v7, val_main_v2, val_main_v1, val_main_v0]
  rfl

theorem gate_apply (k : Fin 1024) : val_main_v8 (F := Ideal) x1 (ix3 n 0 k) = md x1 n 5 k := by
  pointwise [val_main_v8, val_main_v2, val_main_v1, val_main_v0]
  rfl

theorem norm_apply (k : Fin 1024) :
    val_main_v23 (F := Ideal) x0 x2 (ix3 n i k) = norm (fun k => x0 (ix3 n i k)) (fun k => x2 (ix3 1 1 k)) k := by
  pointwise [val_main_v23, val_main_v22, val_main_v21, val_main_v20, val_main_v19, val_main_v18, val_main_v17, val_main_v16,
    val_main_v15, val_main_v14, val_main_v13, val_main_v12, val_main_v11, val_main_v10, val_main_v9, val_main_cst, val_main_cst_0,
    val_main_cst_1]
  rfl

theorem hid_apply (k : Fin 1024) : val_main_v29 (F := Ideal) x0 x1 x2 (ix3 n i k) = hid x0 x1 x2 n i k := by
  pointwise [val_main_v29, val_main_v28, val_main_v27, val_main_v26, val_main_v25, val_main_v24, val_main_cst_2, norm_apply,
    shift_apply, scale_apply]
  rfl

theorem up_apply (f : Fin 2816) : val_main_v38 (F := Ideal) x0 x1 x2 x4 (ix3 n i f) = ∑ k, hid x0 x1 x2 n i k * x4 (ix3 1 k f) := by
  pointwise [val_main_v38, val_main_v33, val_main_v32, hid_apply]

theorem gated_apply (f : Fin 2816) : val_main_v36 (F := Ideal) x0 x1 x2 x3 (ix3 n i f) = ∑ k, hid x0 x1 x2 n i k * x3 (ix3 1 k f) := by
  pointwise [val_main_v36, val_main_v31, val_main_v30, hid_apply]

theorem unit_apply (f : Fin 2816) :
    val_main_v39 (F := Ideal) x0 x1 x2 x3 x4 (ix3 n i f) = unit (hid x0 x1 x2 n i) (fun k => x3 (ix3 1 k f)) (fun k => x4 (ix3 1 k f)) := by
  pointwise [val_main_v39, val_main_v37, val_main_call0_v5, val_main_call0_v4, val_main_call0_v3, val_main_call0_v2, val_main_call0_v1,
    val_main_call0_v0, val_main_call0_cst, val_main_call0_cst_0, up_apply, gated_apply]
  rfl

/-- The reference's result is the array the call returns. -/
theorem final (c : Fin 1024) : val_main_v43 (F := Ideal) x0 x1 x2 x3 x4 x5 (ix3 n i c) = FfnKer.G x0 x1 x2 x3 x4 x5 n i c := by
  pointwise [val_main_v43, val_main_v42, val_main_v41, val_main_v40, val_main_v35, val_main_v34, gate_apply, unit_apply]
  rfl

end Cert.FfnRef

end
-- ==== Proof.FinalKer.lean ====
/- The array that the last feed-forward call, with the final norm, returns, index by index. -/
module

public import proofs.«01_k».proof.Proof.Gen.FfnFinalIdeal.Value
public import proofs.«01_k».proof.Proof.FfnSpec
public import Idealize.ShloMosaic.Lib.Pipeline.ValueKit

@[expose] public section

set_option maxRecDepth 16384

noncomputable section

namespace Cert.FinalKer

open Idealize.ShloMosaic Idealize.ShloMosaic.TcCoe Cert.FfnFinalIdeal Cert.FfnFinalIdeal.Gen Cert.FfnSpec

section Block
variable (x : Vec Ideal S1x512x1024 .f32) (g sc sh g2 : Vec Ideal S1x1x1x1024 .f32) (wg wu : Vec Ideal S1x1024x2816 .bf16)
  (wd : Vec Ideal S1x2816x1024 .bf16)

theorem pay2_apply (r : Fin 512) (k : Fin 1024) :
    k0_pay2 x g sc sh (ix2 r k) = modNorm (fun k => x (ix3 0 r k)) (fun k => g (ix4 0 0 0 k)) (fun k => sc (ix4 0 0 0 k))
      (fun k => sh (ix4 0 0 0 k)) k := by
  pointwise [k0_pay2]
  rfl

/-- The gated block in two halves of the hidden units is the gated block. -/
theorem pay4_apply (r : Fin 512) (c : Fin 1024) :
    k0_pay4 x (k0_pay2 x g sc sh) (k0_pay3 x g sc sh (View.ld wg r0_2)) (View.ld wu r0_2) (View.ld wd r0_3) (View.ld wg r0_4)
        (View.ld wu r0_4) (View.ld wd r0_5) g2 (ix3 0 r c)
      = ffn (fun k => x (ix3 0 r k)) (fun k => g (ix4 0 0 0 k)) (fun k => sc (ix4 0 0 0 k)) (fun k => sh (ix4 0 0 0 k))
          (fun k => g2 (ix4 0 0 0 k)) (fun k f => wg (ix3 0 k f)) (fun k f => wu (ix3 0 k f)) (fun f k => wd (ix3 0 f k)) c := by
  pointwise [k0_pay4, k0_pay3, pay2_apply]
  unfold ffn swiglu
  rw [sum_units]
  rfl

end Block

variable (m : (ℓ : Loc nD τ sig) → Buf (Elt Ideal) ℓ)

theorem idx : ∀ t : Fin cfg0.N, win0_0.index t = ![t.val / 8, t.val % 8, 0] ∧ win0_1.index t = ![3, 128 + t.val / 8, 0, 3]
    ∧ win0_2.index t = ![3, 128 + t.val / 8, 0, 4] ∧ win0_3.index t = ![3, 128 + t.val / 8, 0, 5] ∧ win0_4.index t = ![3, 1, 0, 0]
    ∧ win0_5.index t = ![3, 0, 0] ∧ win0_6.index t = ![3, 0, 0] ∧ win0_7.index t = ![3, 0, 0] ∧ win0_8.index t = ![0, 0]
    ∧ win0_9.index t = ![t.val / 8, t.val % 8, 0] :=
  (by decide +kernel : ∀ t : Fin grid0.N, _)

/-- The array the call returns, from the arguments. -/
def G (x : FVec Ideal S4x4096x1024 .f32) (mod : FVec Ideal S4x136x6144 .f32) (ng : FVec Ideal S4x2x1024 .f32)
    (wg wu : FVec Ideal S4x1024x2816 .f32) (wd : FVec Ideal S4x2816x1024 .f32)
    (fg : FVec Ideal S1024 .f32) (n : Fin 4) (i : Fin 4096) (c : Fin 1024) : EReal :=
  let md (s : Fin 6) (k : Fin 1024) := mod (ix3 3 ⟨128 + n.val, by omega⟩ ⟨s.val * 1024 + k.val, by omega⟩)
  norm (ffn (fun k => x (ix3 n i k)) (fun k => ng (ix3 3 1 k)) (md 4) (md 3) (md 5) (fun k f => wg (ix3 3 k f))
    (fun k f => wu (ix3 3 k f)) (fun f k => wd (ix3 3 f k))) (fun k => fg (ix1 k)) c

section Blocks
variable (c : Dev nD) (t : Fin cfg0.N)

theorem V_mod (n : Fin 136) (e : Fin 6144) : (V m c main_v0 : Vec Ideal S4x136x1x6144 .f32) (ix4 3 n 0 e)
    = (m ((c : Thread nD τ).loc main_arg1) : Vec Ideal S4x136x6144 .f32) (ix3 3 n e) := by
  entry_read
  pointwise []

theorem V_gain (k : Fin 1024) : (V m c main_v1 : Vec Ideal S4x2x1x1024 .f32) (ix4 3 1 0 k)
    = (m ((c : Thread nD τ).loc main_arg2) : Vec Ideal S4x2x1024 .f32) (ix3 3 1 k) := by
  entry_read
  pointwise []

theorem V_fg (k : Fin 1024) : (V m c main_v5 : Vec Ideal S1x1024 .f32) (ix2 0 k)
    = (m ((c : Thread nD τ).loc main_arg6) : Vec Ideal S1024 .f32) (ix1 k) := by
  entry_read
  pointwise []

theorem V_wg (k : Fin 1024) (f : Fin 2816) : (V m c main_v2 : Vec Ideal S4x1024x2816 .bf16) (ix3 3 k f)
    = (m ((c : Thread nD τ).loc main_arg3) : Vec Ideal S4x1024x2816 .f32) (ix3 3 k f) := by
  entry_read
  pointwise []

theorem V_wu (k : Fin 1024) (f : Fin 2816) : (V m c main_v3 : Vec Ideal S4x1024x2816 .bf16) (ix3 3 k f)
    = (m ((c : Thread nD τ).loc main_arg4) : Vec Ideal S4x1024x2816 .f32) (ix3 3 k f) := by
  entry_read
  pointwise []

theorem V_wd (f : Fin 2816) (k : Fin 1024) : (V m c main_v4 : Vec Ideal S4x2816x1024 .bf16) (ix3 3 f k)
    = (m ((c : Thread nD τ).loc main_arg5) : Vec Ideal S4x2816x1024 .f32) (ix3 3 f k) := by
  entry_read
  pointwise []

theorem blk_fg (k : Fin 1024) : (iblk m c 8 t : Vec Ideal S1x1024 .f32) (ix2 0 k)
    = (m ((c : Thread nD τ).loc main_arg6) : Vec Ideal S1024 .f32) (ix1 k) := by
  refine Eq.trans ?_ (V_fg m c _)
  blk_ext [iblk, idx t]

variable (n : Fin 4) (hn : n.val = t.val / 8)

include hn in
theorem blk_x (r : Fin 512) (i : Fin 4096) (hi : i.val = 512 * (t.val % 8) + r.val) (k : Fin 1024) :
    (iblk m c 0 t : Vec Ideal S1x512x1024 .f32) (ix3 0 r k)
      = (m ((c : Thread nD τ).loc main_arg0) : Vec Ideal S4x4096x1024 .f32) (ix3 n i k) := by
  refine Eq.trans ?_ (congrFun (V_main_arg0 m c) _)
  blk_ext [iblk, idx t]

include hn in
theorem blk_sh (k : Fin 1024) : (iblk m c 1 t : Vec Ideal S1x1x1x1024 .f32) (ix4 0 0 0 k)
    = (m ((c : Thread nD τ).loc main_arg1) : Vec Ideal S4x136x6144 .f32) (ix3 3 ⟨128 + n.val, by omega⟩ ⟨3 * 1024 + k.val, by omega⟩) := by
  refine Eq.trans ?_ (V_mod m c _ _)
  blk_ext [iblk, idx t]

include hn in
theorem blk_sc (k : Fin 1024) : (iblk m c 2 t : Vec Ideal S1x1x1x1024 .f32) (ix4 0 0 0 k)
    = (m ((c : Thread nD τ).loc main_arg1) : Vec Ideal S4x136x6144 .f32) (ix3 3 ⟨128 + n.val, by omega⟩ ⟨4 * 1024 + k.val, by omega⟩) := by
  refine Eq.trans ?_ (V_mod m c _ _)
  blk_ext [iblk, idx t]

include hn in
theorem blk_g2 (k : Fin 1024) : (iblk m c 3 t : Vec Ideal S1x1x1x1024 .f32) (ix4 0 0 0 k)
    = (m ((c : Thread nD τ).loc main_arg1) : Vec Ideal S4x136x6144 .f32) (ix3 3 ⟨128 + n.val, by omega⟩ ⟨5 * 1024 + k.val, by omega⟩) := by
  refine Eq.trans ?_ (V_mod m c _ _)
  blk_ext [iblk, idx t]

theorem blk_gain (k : Fin 1024) : (iblk m c 4 t : Vec Ideal S1x1x1x1024 .f32) (ix4 0 0 0 k)
    = (m ((c : Thread nD τ).loc main_arg2) : Vec Ideal S4x2x1024 .f32) (ix3 3 1 k) := by
  refine Eq.trans ?_ (V_gain m c _)
  blk_ext [iblk, idx t]

theorem blk_wg (k : Fin 1024) (f : Fin 2816) : (iblk m c 5 t : Vec Ideal S1x1024x2816 .bf16) (ix3 0 k f)
    = (m ((c : Thread nD τ).loc main_arg3) : Vec Ideal S4x1024x2816 .f32) (ix3 3 k f) := by
  refine Eq.trans ?_ (V_wg m c _ _)
  blk_ext [iblk, idx t]

theorem blk_wu (k : Fin 1024) (f : Fin 2816) : (iblk m c 6 t : Vec Ideal S1x1024x2816 .bf16) (ix3 0 k f)
    = (m ((c : Thread nD τ).loc main_arg4) : Vec Ideal S4x1024x2816 .f32) (ix3 3 k f) := by
  refine Eq.trans ?_ (V_wu m c _ _)
  blk_ext [iblk, idx t]

theorem blk_wd (f : Fin 2816) (k : Fin 1024) : (iblk m c 7 t : Vec Ideal S1x2816x1024 .bf16) (ix3 0 f k)
    = (m ((c : Thread nD τ).loc main_arg5) : Vec Ideal S4x2816x1024 .f32) (ix3 3 f k) := by
  refine Eq.trans ?_ (V_wd m c _ _)
  blk_ext [iblk, idx t]

end Blocks

/-- What a grid point writes, from the blocks it reads. -/
theorem out_apply (x0 : Vec Ideal S1x512x1024 .f32) (x1 x2 x3 x4 : Vec Ideal S1x1x1x1024 .f32) (x5 x6 : Vec Ideal S1x1024x2816 .bf16)
    (x7 : Vec Ideal S1x2816x1024 .bf16) (x8 : Vec Ideal S1x1024 .f32) (r : Fin 512) (k : Fin 1024) :
    out0_9 x0 x1 x2 x3 x4 x5 x6 x7 x8 (ix3 0 r k)
      = norm (ffn (fun k => x0 (ix3 0 r k)) (fun k => x4 (ix4 0 0 0 k)) (fun k => x2 (ix4 0 0 0 k)) (fun k => x1 (ix4 0 0 0 k))
          (fun k => x3 (ix4 0 0 0 k)) (fun k f => x5 (ix3 0 k f)) (fun k f => x6 (ix3 0 k f)) (fun f k => x7 (ix3 0 f k)))
          (fun k => x8 (ix2 0 k)) k := by
  unfold out0_9 k0_pay7 k0_pay6
  frame_out
  pointwise [k0_pay1, k0_pay5, pay4_apply]
  rfl

/-- The array the call returns, over the memory it is launched on. -/
def out (c : Dev nD) : FVec Ideal S4x4096x1024 .f32 := fun i =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1) (i 2)

/-- A grid point writes its tile of that array. -/
theorem tile (c : Dev nD) (t : Fin cfg0.N) (n : Fin 4) (hn : n.val = t.val / 8) (r : Fin 512) (i : Fin 4096)
    (hi : i.val = 512 * (t.val % 8) + r.val) (k : Fin 1024) :
    (dats m 0 c).after 9 t (ix3 0 r k) = out m c (ix3 n i k) := by
  rw [after0_9]
  refine (out_apply _ _ _ _ _ _ _ _ _ r k).trans ?_
  exact norm_congr (ffn_congr (blk_x m c t n hn r i hi) (blk_gain m c t) (blk_sc m c t n hn) (blk_sh m c t n hn) (blk_g2 m c t n hn) (blk_wg m c t)
    (blk_wu m c t) (blk_wd m c t)) (blk_fg m c t) k

/-- The call's result is that array. -/
theorem final (c : Dev nD) : (dats m 0 c).arrAt 9 (cfgs 0).N = out m c := by
  refine (dats m 0 c).arrAt_eq_of_covers 9 _ (by decide +kernel) fun t _ y => ?_
  have ht : t.val < 32 := lt_of_lt_of_eq t.isLt (by decide)
  obtain ⟨r, k, rfl⟩ : ∃ (r : Fin 512) (k : Fin 1024), y = ix3 0 r k := ⟨y 1, y 2, by
    funext a; match a with | ⟨0, _⟩ => exact Subsingleton.elim (α := Fin 1) _ _ | ⟨1, _⟩ => rfl | ⟨2, _⟩ => rfl⟩
  have e : ∀ f : S4x4096x1024.Idx → EReal, f (((View.whole main_v6).slice (win0_9.rect t)).emb (ix3 0 r k))
      = f (ix3 (⟨t.val / 8, by omega⟩ : Fin 4) (⟨512 * (t.val % 8) + r.val, by omega⟩ : Fin 4096) k) := fun f => by
    blk_ext [idx t]
  exact (tile m c t ⟨t.val / 8, by omega⟩ rfl r ⟨512 * (t.val % 8) + r.val, by omega⟩ rfl k).trans (e (out m c)).symm

end Cert.FinalKer

end
-- ==== Proof.FinalRef.lean ====
/- The reference of the last feed-forward block and the final norm, index by index. -/
module

public import proofs.«01_k».proof.Proof.Gen.FfnFinalReferenceIdeal.Read
public import proofs.«01_k».proof.Proof.FinalKer

@[expose] public section

set_option maxRecDepth 16384

noncomputable section

namespace Cert.FinalRef

open Idealize.ShloMosaic Cert.FfnFinalReferenceIdeal Cert.FfnFinalReferenceIdeal.Gen Cert.FfnFinalReferenceIdeal.Read Cert.FfnSpec

variable (x0 : Vec Ideal S4x4096x1024 .f32) (x1 : Vec Ideal S4x136x6144 .f32) (x2 : Vec Ideal S4x2x1024 .f32)
  (x3 x4 : Vec Ideal S4x1024x2816 .f32) (x5 : Vec Ideal S4x2816x1024 .f32) (x6 : Vec Ideal S1024 .f32)
  (n : Fin 4) (i : Fin 4096)

/-- One of the six parts of a sample's modulation. -/
abbrev md (s : Fin 6) (k : Fin 1024) : EReal := x1 (ix3 3 ⟨128 + n.val, by omega⟩ ⟨s.val * 1024 + k.val, by omega⟩)

/-- The row the gated block reads. -/
abbrev hid : Fin 1024 → EReal := modNorm (fun k => x0 (ix3 n i k)) (fun k => x2 (ix3 3 1 k)) (md x1 n 4) (md x1 n 3)

theorem shift_apply (k : Fin 1024) : val_main_v6 (F := Ideal) x1 (ix3 n 0 k) = md x1 n 3 k := by
  pointwise [val_main_v6, val_main_v2, val_main_v1, val_main_v0]
  rfl

theorem scale_apply (k : Fin 1024) : val_main_v7 (F := Ideal) x1 (ix3 n 0 k) = md x1 n 4 k := by
  pointwise [val_main_v7, val_main_v2, val_main_v1, val_main_v0]
  rfl

theorem gate_apply (k : Fin 1024) : val_main_v8 (F := Ideal) x1 (ix3 n 0 k) = md x1 n 5 k := by
  pointwise [val_main_v8, val_main_v2, val_main_v1, val_main_v0]
  rfl

theorem norm_apply (k : Fin 1024) :
    val_main_v23 (F := Ideal) x0 x2 (ix3 n i k) = norm (fun k => x0 (ix3 n i k)) (fun k => x2 (ix3 3 1 k)) k := by
  pointwise [val_main_v23, val_main_v22, val_main_v21, val_main_v20, val_main_v19, val_main_v18, val_main_v17, val_main_v16,
    val_main_v15, val_main_v14, val_main_v13, val_main_v12, val_main_v11, val_main_v10, val_main_v9, val_main_cst, val_main_cst_0,
    val_main_cst_1]
  rfl

theorem hid_apply (k : Fin 1024) : val_main_v29 (F := Ideal) x0 x1 x2 (ix3 n i k) = hid x0 x1 x2 n i k := by
  pointwise [val_main_v29, val_main_v28, val_main_v27, val_main_v26, val_main_v25, val_main_v24, val_main_cst_2, norm_apply,
    shift_apply, scale_apply]
  rfl

theorem up_apply (f : Fin 2816) : val_main_v38 (F := Ideal) x0 x1 x2 x4 (ix3 n i f) = ∑ k, hid x0 x1 x2 n i k * x4 (ix3 3 k f) := by
  pointwise [val_main_v38, val_main_v33, val_main_v32, hid_apply]

theorem gated_apply (f : Fin 2816) : val_main_v36 (F := Ideal) x0 x1 x2 x3 (ix3 n i f) = ∑ k, hid x0 x1 x2 n i k * x3 (ix3 3 k f) := by
  pointwise [val_main_v36, val_main_v31, val_main_v30, hid_apply]

theorem unit_apply (f : Fin 2816) :
    val_main_v39 (F := Ideal) x0 x1 x2 x3 x4 (ix3 n i f) = unit (hid x0 x1 x2 n i) (fun k => x3 (ix3 3 k f)) (fun k => x4 (ix3 3 k f)) := by
  pointwise [val_main_v39, val_main_v37, val_main_call0_v5, val_main_call0_v4, val_main_call0_v3, val_main_call0_v2, val_main_call0_v1,
    val_main_call0_v0, val_main_call0_cst, val_main_call0_cst_0, up_apply, gated_apply]
  rfl

theorem ffn_apply (c : Fin 1024) : val_main_v43 (F := Ideal) x0 x1 x2 x3 x4 x5 (ix3 n i c)
    = ffn (fun k => x0 (ix3 n i k)) (fun k => x2 (ix3 3 1 k)) (md x1 n 4) (md x1 n 3) (md x1 n 5) (fun k f => x3 (ix3 3 k f))
        (fun k f => x4 (ix3 3 k f)) (fun f k => x5 (ix3 3 f k)) c := by
  pointwise [val_main_v43, val_main_v42, val_main_v41, val_main_v40, val_main_v35, val_main_v34, gate_apply, unit_apply]
  rfl

/-- The reference's result is the array the call returns. -/
theorem final (c : Fin 1024) : val_main_v56 (F := Ideal) x0 x1 x2 x3 x4 x5 x6 (ix3 n i c) = FinalKer.G x0 x1 x2 x3 x4 x5 x6 n i c := by
  pointwise [val_main_v56, val_main_v55, val_main_v54, val_main_v53, val_main_v52, val_main_v51, val_main_v50, val_main_v49,
    val_main_v48, val_main_v47, val_main_v46, val_main_v45, val_main_v44, val_main_cst_3, val_main_cst_4, val_main_cst_5, ffn_apply]
  rfl

end Cert.FinalRef

end
-- ==== Proof.InProjSpec.lean ====
/- The layer's input projection on one token, as functions of its row: the projected channels, the gate of the
   convolution's input, and the turn of the queries and keys by their position. -/
module

public import proofs.«01_k».proof.Proof.FfnSpec

@[expose] public section

noncomputable section

namespace Cert.InProjSpec

open Idealize.ShloMosaic

/-- A channel of the projected row. -/
def zed (h : Fin 1024 → EReal) (w : Fin 1024 → Fin 3328 → EReal) (e : Fin 3328) : EReal := ∑ k, h k * w k e

/-- A channel of the convolution's input: a projected value times its gate. -/
def glu (z : Fin 3328 → EReal) (f : Fin 512) : EReal :=
  z ⟨f.val, by omega⟩ * Ideal.logistic (z ⟨512 + f.val, by omega⟩)

/-- One third of the projected row's last 2304 channels: the queries (`s = 0`), the keys (1) or the values (2). -/
def third (z : Fin 3328 → EReal) (s : Fin 3) (e : Fin 768) : EReal := z ⟨1024 + 768 * s.val + e.val, by omega⟩

/-- The angle of the `d`-th pair at the `t`-th new position: the positions start at 2048, and the frequencies are
    powers of 500000. -/
def angle (t d : ℕ) : EReal :=
  FloatOps.sitofp (F := Ideal) .f32 (IntOp.addi (2048#32) (BitVec.ofNat 32 t)) *
    Ideal.pow (Ideal.ofBits .f32 0x48F42400#32)
      (Ideal.ofBits .f32 0xBE000000#32 * FloatOps.sitofp (F := Ideal) .f32 (BitVec.ofNat 32 d))

/-- The turn of every head's first sixteen channels, eight pairs; the other channels stay. -/
def turned (a : Fin 768 → EReal) (t : ℕ) (e : Fin 768) : EReal :=
  if h : e.val % 64 < 8 then
    a e * Ideal.cos (angle t (e.val % 64)) - a ⟨e.val + 8, by omega⟩ * Ideal.sin (angle t (e.val % 64))
  else if e.val % 64 - 8 < 8 then
    a e * Ideal.cos (angle t (e.val % 64 - 8)) + a ⟨e.val - 8, by omega⟩ * Ideal.sin (angle t (e.val % 64 - 8))
  else a e

/-- The factors of a lane's own value, two heads of 64 lanes side by side. -/
def tabA (t : ℕ) (l : Fin 128) : EReal :=
  if l.val % 64 < 8 then Ideal.cos (angle t (l.val % 64))
  else if l.val % 64 - 8 < 8 then Ideal.cos (angle t (l.val % 64 - 8)) else 1

/-- The factors of the value eight lanes on. -/
def tabB (t : ℕ) (l : Fin 128) : EReal :=
  if l.val % 64 < 8 then -Ideal.sin (angle t (l.val % 64)) else if l.val % 64 - 8 < 8 then 0 else 0

/-- The factors of the value eight lanes back. -/
def tabC (t : ℕ) (l : Fin 128) : EReal :=
  if l.val % 64 < 8 then 0 else if l.val % 64 - 8 < 8 then Ideal.sin (angle t (l.val % 64 - 8)) else 0

/-- Two heads' lanes, times the factors, with their cyclic shifts by eight lanes, times theirs, are those heads'
    turned channels: where a shift leaves its head, its factor is zero. -/
theorem turned_of_lanes (a : Fin 768 → EReal) (t b : ℕ) (hb : b % 64 = 0) (hb' : b + 128 ≤ 768) (l : Fin 128) :
    a ⟨b + l.val, by omega⟩ * tabA t l + a ⟨b + (l.val + 128 - 120) % 128, by omega⟩ * tabB t l
        + a ⟨b + (l.val + 128 - 8) % 128, by omega⟩ * tabC t l
      = turned a t ⟨b + l.val, by omega⟩ := by
  have e : (b + l.val) % 64 = l.val % 64 := by omega
  unfold tabA tabB tabC turned
  simp only [e]
  by_cases h : l.val % 64 < 8
  · have e1 : (⟨b + (l.val + 128 - 120) % 128, by omega⟩ : Fin 768) = ⟨b + l.val + 8, by omega⟩ := Fin.ext (by simp only; omega)
    simp only [if_pos h, dif_pos h, mul_zero, add_zero, e1, mul_neg, sub_eq_add_neg]
  · by_cases h' : l.val % 64 - 8 < 8
    · have e1 : (⟨b + (l.val + 128 - 8) % 128, by omega⟩ : Fin 768) = ⟨b + l.val - 8, by omega⟩ := Fin.ext (by simp only; omega)
      simp only [if_neg h, dif_neg h, if_pos h', mul_zero, add_zero, e1]
    · simp only [if_neg h, dif_neg h, if_neg h', mul_zero, add_zero, mul_one]

/-- Rows that agree entry by entry project to the same channels. -/
theorem zed_congr {h h' : Fin 1024 → EReal} {w w' : Fin 1024 → Fin 3328 → EReal} (hh : ∀ k, h k = h' k)
    (hw : ∀ k e, w k e = w' k e) : zed h w = zed h' w' := by
  obtain rfl : h = h' := funext hh
  obtain rfl : w = w' := funext fun k => funext (hw k)
  rfl

end Cert.InProjSpec

end
-- ==== Proof.InProjKer.lean ====
/- The arrays that the input projection's call returns, index by index. -/
module

public import proofs.«01_k».proof.Proof.Gen.InProjIdeal.Value
public import proofs.«01_k».proof.Proof.InProjSpec
public import Idealize.ShloMosaic.Lib.Pipeline.ValueKit
public import Idealize.ShloMosaic.Lib.StableHlo.RunRead

@[expose] public section

set_option maxRecDepth 16384

noncomputable section

namespace Cert.InProjKer

open Idealize.ShloMosaic Idealize.ShloMosaic.TcCoe Cert.InProjIdeal Cert.InProjIdeal.Gen Cert.FfnSpec Cert.InProjSpec

section Block
variable (x : Vec Ideal S64x8x1024 .f32) (g : Vec Ideal S1x1x1x1024 .f32) (sc sh : Vec Ideal S1x64x1x1024 .f32)
  (w : Vec Ideal S1x1024x3328 .bf16) (ta tb tc : Vec Ideal S1x8x128 .f32)

/-- A block's normed and modulated row. -/
def hid (r : Fin 64) (t : Fin 8) : Fin 1024 → EReal :=
  modNorm (fun k => x (ix3 r t k)) (fun k => g (ix4 0 0 0 k)) (fun k => sc (ix4 0 r 0 k)) (fun k => sh (ix4 0 r 0 k))

/-- A block's projected row. -/
def row (r : Fin 64) (t : Fin 8) : Fin 3328 → EReal := zed (hid x g sc sh r t) (fun k e => w (ix3 0 k e))

theorem pay1_apply (r : Fin 64) (t : Fin 8) (k : Fin 1024) :
    k0_pay1 x g sc sh (ix2 ⟨r.val * 8 + t.val, by omega⟩ k) = hid x g sc sh r t k := by
  pointwise [k0_pay1]
  rfl

variable (h : FVec Ideal S512x1024 .bf16) (u : Vec Ideal S1x1024x256 .bf16)

/-- A tile's product at the columns that a third of the row keeps from `b` on. -/
theorem sum_third (r : Fin 64) (t : Fin 8) (s : Fin 3) (b p : ℕ) (hb : b + 256 ≤ 768) (hp : p = 1024 + 768 * s.val + b) (l : Fin 256) :
    ∑ k, hid x g sc sh r t k * w (ix3 0 k ⟨p + l.val, by omega⟩) = third (row x g sc sh w r t) s ⟨b + l.val, by omega⟩ := by
  unfold third row zed
  exact Finset.sum_congr rfl fun k _ => congrArg (fun e => hid x g sc sh r t k * w (ix3 0 k e)) (Fin.ext (by simp only; omega))

theorem v_apply (r : Fin 64) (t : Fin 8) (l : Fin 256) :
    k0_pay26 h u (ix3 r t l) = ∑ k, h (ix2 ⟨r.val * 8 + t.val, by omega⟩ k) * u (ix3 0 k l) := by
  pointwise [k0_pay26]

/-- The first and the last tile of the queries and of the keys are the middle one's function of their columns. -/
theorem q_first : k0_pay12 (k0_pay4 ta) (k0_pay5 tb) (k0_pay6 tc) (k0_pay8 h ta tb tc u) (k0_pay9 h u) (k0_pay10 h u) (k0_pay11 h u)
    = k0_pay13 h (k0_pay4 ta) (k0_pay5 tb) (k0_pay6 tc) u := rfl

theorem q_last : k0_pay15 h (k0_pay4 ta) (k0_pay5 tb) (k0_pay6 tc) (k0_pay14 u)
    = k0_pay13 h (k0_pay4 ta) (k0_pay5 tb) (k0_pay6 tc) u := rfl

theorem k_first : k0_pay21 (k0_pay6 tc) (k0_pay17 h (k0_pay4 ta) (k0_pay5 tb) (k0_pay6 tc) u) (k0_pay19 h u)
      (k0_pay20 h (k0_pay4 ta) (k0_pay5 tb) u)
    = k0_pay22 h (k0_pay4 ta) (k0_pay5 tb) (k0_pay6 tc) u := rfl

theorem k_last : k0_pay25 (k0_pay4 ta) (k0_pay5 tb) (k0_pay6 tc) (k0_pay23 h u) (k0_pay24 h (k0_pay4 ta) (k0_pay5 tb) (k0_pay6 tc) u)
    = k0_pay22 h (k0_pay4 ta) (k0_pay5 tb) (k0_pay6 tc) u := rfl

variable (hta : ∀ t l, ta (ix3 0 t l) = tabA t.val l) (htb : ∀ t l, tb (ix3 0 t l) = tabB t.val l)
  (htc : ∀ t l, tc (ix3 0 t l) = tabC t.val l) (r : Fin 64) (t : Fin 8) (b : ℕ) (hb : b % 64 = 0) (hb' : b + 256 ≤ 768)
  (a : Fin 768 → EReal) (ha : ∀ l : Fin 256, ∑ k, h (ix2 ⟨r.val * 8 + t.val, by omega⟩ k) * u (ix3 0 k l) = a ⟨b + l.val, by omega⟩)

include hta htb htc hb hb' ha

/-- A tile of the keys is four heads' turned channels. -/
theorem k_apply (l : Fin 256) : k0_pay22 h (k0_pay4 ta) (k0_pay5 tb) (k0_pay6 tc) u (ix3 r t l) = turned a t.val ⟨b + l.val, by omega⟩ := by
  by_cases hl : l.val < 128
  · obtain ⟨l', e⟩ : ∃ l' : Fin 128, l = ⟨l'.val, by omega⟩ := ⟨⟨l.val, hl⟩, rfl⟩
    rw [e]
    pointwise [k0_pay22, k0_pay4, k0_pay5, k0_pay6, ha, hta, htb, htc]
    exact turned_of_lanes a t.val b hb (by omega) l'
  · obtain ⟨l', e⟩ : ∃ l' : Fin 128, l = ⟨128 + l'.val, by omega⟩ := ⟨⟨l.val - 128, by omega⟩, Fin.ext (by simp only; omega)⟩
    rw [e]
    pointwise [k0_pay22, k0_pay4, k0_pay5, k0_pay6, ha, hta, htb, htc]
    have := turned_of_lanes a t.val (b + 128) (by omega) (by omega) l'
    simpa only [Nat.add_assoc] using this

/-- A tile of the queries is four heads' turned channels, scaled. -/
theorem q_apply (l : Fin 256) : k0_pay13 h (k0_pay4 ta) (k0_pay5 tb) (k0_pay6 tc) u (ix3 r t l)
    = turned a t.val ⟨b + l.val, by omega⟩ * Ideal.ofBits .f32 0x3E000000#32 := by
  by_cases hl : l.val < 128
  · obtain ⟨l', e⟩ : ∃ l' : Fin 128, l = ⟨l'.val, by omega⟩ := ⟨⟨l.val, hl⟩, rfl⟩
    rw [e]
    pointwise [k0_pay13, k0_pay4, k0_pay5, k0_pay6, ha, hta, htb, htc]
    exact congrArg (· * _) (turned_of_lanes a t.val b hb (by omega) l')
  · obtain ⟨l', e⟩ : ∃ l' : Fin 128, l = ⟨128 + l'.val, by omega⟩ := ⟨⟨l.val - 128, by omega⟩, Fin.ext (by simp only; omega)⟩
    rw [e]
    pointwise [k0_pay13, k0_pay4, k0_pay5, k0_pay6, ha, hta, htb, htc]
    have := turned_of_lanes a t.val (b + 128) (by omega) (by omega) l'
    refine congrArg (· * _) ?_
    simpa only [Nat.add_assoc] using this

end Block

variable (m : (ℓ : Loc nD τ sig) → Buf (Elt Ideal) ℓ) (c : Dev nD)

section Point
variable (s : Fin cfg0.N)

/-- The projected row that a grid point computes. -/
def prow (r : Fin 64) (t : Fin 8) : Fin 3328 → EReal :=
  row (iblk m c 0 s) (iblk m c 3 s) (X0_2 m c s) (X0_1 m c s) (iblk m c 4 s) r t

theorem u_point (r : Fin 64) (t : Fin 8) (f : Fin 512) : (outsAt0 m c s).1 (ix3 r t f) = glu (prow m c s r t) f := by
  unfold outsAt0
  frame_out
  pointwise [k0_pay3, k0_pay2, pay1_apply]
  rfl

/-- An index of a tile, by its coordinates. -/
theorem coords (x : S64x8x256.Idx) : ∃ (r : Fin 64) (t : Fin 8) (l : Fin 256), x = ix3 r t l :=
  ⟨x 0, x 1, x 2, by funext a; match a with | ⟨0, _⟩ => rfl | ⟨1, _⟩ => rfl | ⟨2, _⟩ => rfl⟩

theorem v_point (r : Fin 64) (t : Fin 8) (f : Fin 768) : (outsAt0 m c s).2.2.2 (ix3 r t f) = third (prow m c s r t) 2 f := by
  unfold outsAt0
  frame_out
  canon_tiles x h
  all_goals
    obtain ⟨r', t', l, rfl⟩ := coords x
    obtain rfl : r = r' := Fin.ext h0
    obtain rfl : t = t' := Fin.ext h1
  · have e : f = ⟨512 + l.val, by omega⟩ := Fin.ext h2
    rw [e]
    refine (v_apply _ _ r t l).trans ?_
    pointwise [pay1_apply]
    exact sum_third _ _ _ _ _ r t 2 512 _ (by omega) rfl l
  · have e : f = ⟨256 + l.val, by omega⟩ := Fin.ext h2
    rw [e]
    refine (v_apply _ _ r t l).trans ?_
    pointwise [pay1_apply]
    exact sum_third _ _ _ _ _ r t 2 256 _ (by omega) rfl l
  · have e : f = ⟨0 + l.val, by omega⟩ := Fin.ext (h2.trans (Nat.zero_add _).symm)
    rw [e]
    refine (v_apply _ _ r t l).trans ?_
    pointwise [pay1_apply]
    exact (sum_third _ _ _ _ _ r t 2 0 _ (by omega) rfl l).trans (congrArg (third _ 2) (Fin.ext (Nat.zero_add _)))

variable (hta : ∀ t l, (iblk m c 5 s : Vec Ideal S1x8x128 .f32) (ix3 0 t l) = tabA t.val l)
  (htb : ∀ t l, (iblk m c 6 s : Vec Ideal S1x8x128 .f32) (ix3 0 t l) = tabB t.val l)
  (htc : ∀ t l, (iblk m c 7 s : Vec Ideal S1x8x128 .f32) (ix3 0 t l) = tabC t.val l)
include hta htb htc

theorem k_point (r : Fin 64) (t : Fin 8) (f : Fin 768) :
    (outsAt0 m c s).2.2.1 (ix3 r t f) = turned (third (prow m c s r t) 1) t.val f := by
  unfold outsAt0
  frame_out
  canon_tiles x h
  all_goals
    obtain ⟨r', t', l, rfl⟩ := coords x
    obtain rfl : r = r' := Fin.ext h0
    obtain rfl : t = t' := Fin.ext h1
  · have e : f = ⟨512 + l.val, by omega⟩ := Fin.ext h2
    rw [e]
    rw [k_last]
    refine k_apply _ _ _ _ _ hta htb htc r t 512 rfl (by omega) _ (fun l => ?_) l
    pointwise [pay1_apply]
    exact sum_third _ _ _ _ _ r t 1 512 _ (by omega) rfl l
  · have e : f = ⟨256 + l.val, by omega⟩ := Fin.ext h2
    rw [e]
    refine k_apply _ _ _ _ _ hta htb htc r t 256 rfl (by omega) _ (fun l => ?_) l
    pointwise [pay1_apply]
    exact sum_third _ _ _ _ _ r t 1 256 _ (by omega) rfl l
  · have e : f = ⟨0 + l.val, by omega⟩ := Fin.ext (h2.trans (Nat.zero_add _).symm)
    rw [e]
    rw [k_first]
    refine k_apply _ _ _ _ _ hta htb htc r t 0 rfl (by omega) _ (fun l => ?_) l
    pointwise [pay1_apply]
    exact (sum_third _ _ _ _ _ r t 1 0 _ (by omega) rfl l).trans (congrArg (third _ 1) (Fin.ext (Nat.zero_add _)))

theorem q_point (r : Fin 64) (t : Fin 8) (f : Fin 768) :
    (outsAt0 m c s).2.1 (ix3 r t f) = turned (third (prow m c s r t) 0) t.val f * Ideal.ofBits .f32 0x3E000000#32 := by
  unfold outsAt0
  frame_out
  canon_tiles x h
  all_goals
    obtain ⟨r', t', l, rfl⟩ := coords x
    obtain rfl : r = r' := Fin.ext h0
    obtain rfl : t = t' := Fin.ext h1
  · have e : f = ⟨512 + l.val, by omega⟩ := Fin.ext h2
    rw [e]
    rw [q_last]
    refine q_apply _ _ _ _ _ hta htb htc r t 512 rfl (by omega) _ (fun l => ?_) l
    pointwise [pay1_apply]
    exact sum_third _ _ _ _ _ r t 0 512 _ (by omega) rfl l
  · have e : f = ⟨256 + l.val, by omega⟩ := Fin.ext h2
    rw [e]
    refine q_apply _ _ _ _ _ hta htb htc r t 256 rfl (by omega) _ (fun l => ?_) l
    pointwise [pay1_apply]
    exact sum_third _ _ _ _ _ r t 0 256 _ (by omega) rfl l
  · have e : f = ⟨0 + l.val, by omega⟩ := Fin.ext (h2.trans (Nat.zero_add _).symm)
    rw [e]
    rw [q_first]
    refine q_apply _ _ _ _ _ hta htb htc r t 0 rfl (by omega) _ (fun l => ?_) l
    pointwise [pay1_apply]
    exact (sum_third _ _ _ _ _ r t 0 0 _ (by omega) rfl l).trans (congrArg (third _ 0) (Fin.ext (Nat.zero_add _)))

end Point

section Blocks

theorem V_mod (n : Fin 136) (e : Fin 6144) : (V m c main_v0 : Vec Ideal S4x136x1x6144 .f32) (ix4 0 n 0 e)
    = (m ((c : Thread nD τ).loc main_arg1) : Vec Ideal S4x136x6144 .f32) (ix3 0 n e) := by
  unfold_abbrev_sides
  after_reads_simp
  pointwise []

theorem V_gain (k : Fin 1024) : (V m c main_v1 : Vec Ideal S4x2x1x1024 .f32) (ix4 0 0 0 k)
    = (m ((c : Thread nD τ).loc main_arg2) : Vec Ideal S4x2x1024 .f32) (ix3 0 0 k) := by
  unfold_abbrev_sides
  after_reads_simp
  pointwise []

theorem V_w (k : Fin 1024) (e : Fin 3328) : (V m c main_v2 : Vec Ideal S2x1024x3328 .bf16) (ix3 0 k e)
    = (m ((c : Thread nD τ).loc main_arg3) : Vec Ideal S2x1024x3328 .f32) (ix3 0 k e) := by
  unfold_abbrev_sides
  after_reads_simp
  pointwise []

theorem V_ta (t : Fin 8) (l : Fin 128) : (V m c main_v29 : Vec Ideal S1x8x128 .f32) (ix3 0 t l) = tabA t.val l := by
  unfold_abbrev_sides
  after_reads_simp
  dsimp only [Matrix.cons_val]
  pointwise []
  after_reads_simp
  pointwise []
  rfl

theorem V_tb (t : Fin 8) (l : Fin 128) : (V m c main_v33 : Vec Ideal S1x8x128 .f32) (ix3 0 t l) = tabB t.val l := by
  unfold_abbrev_sides
  after_reads_simp
  dsimp only [Matrix.cons_val]
  pointwise []
  after_reads_simp
  pointwise []
  rfl

theorem V_tc (t : Fin 8) (l : Fin 128) : (V m c main_v37 : Vec Ideal S1x8x128 .f32) (ix3 0 t l) = tabC t.val l := by
  unfold_abbrev_sides
  after_reads_simp
  dsimp only [Matrix.cons_val]
  pointwise []
  after_reads_simp
  pointwise []
  rfl

theorem idx : ∀ s : Fin cfg0.N, win0_0.index s = ![s.val, 0, 0] ∧ win0_1.index s = ![0, s.val, 0, 0]
    ∧ win0_2.index s = ![0, s.val, 0, 1] ∧ win0_3.index s = ![0, 0, 0, 0] ∧ win0_4.index s = ![0, 0, 0]
    ∧ win0_5.index s = ![0, 0, 0] ∧ win0_6.index s = ![0, 0, 0] ∧ win0_7.index s = ![0, 0, 0]
    ∧ win0_8.index s = ![s.val, 0, 0] ∧ win0_9.index s = ![s.val, 0, 0] ∧ win0_10.index s = ![s.val, 0, 0]
    ∧ win0_11.index s = ![s.val, 0, 0] :=
  (by decide +kernel : ∀ s : Fin grid0.N, _)

variable (s : Fin cfg0.N)

theorem blk_ta (t : Fin 8) (l : Fin 128) : (iblk m c 5 s : Vec Ideal S1x8x128 .f32) (ix3 0 t l) = tabA t.val l := by
  refine Eq.trans ?_ (V_ta m c t l)
  blk_ext [iblk, idx s]

theorem blk_tb (t : Fin 8) (l : Fin 128) : (iblk m c 6 s : Vec Ideal S1x8x128 .f32) (ix3 0 t l) = tabB t.val l := by
  refine Eq.trans ?_ (V_tb m c t l)
  blk_ext [iblk, idx s]

theorem blk_tc (t : Fin 8) (l : Fin 128) : (iblk m c 7 s : Vec Ideal S1x8x128 .f32) (ix3 0 t l) = tabC t.val l := by
  refine Eq.trans ?_ (V_tc m c t l)
  blk_ext [iblk, idx s]

theorem blk_w (k : Fin 1024) (e : Fin 3328) : (iblk m c 4 s : Vec Ideal S1x1024x3328 .bf16) (ix3 0 k e)
    = (m ((c : Thread nD τ).loc main_arg3) : Vec Ideal S2x1024x3328 .f32) (ix3 0 k e) := by
  refine Eq.trans ?_ (V_w m c k e)
  blk_ext [iblk, idx s]

theorem blk_gain (k : Fin 1024) : (iblk m c 3 s : Vec Ideal S1x1x1x1024 .f32) (ix4 0 0 0 k)
    = (m ((c : Thread nD τ).loc main_arg2) : Vec Ideal S4x2x1024 .f32) (ix3 0 0 k) := by
  refine Eq.trans ?_ (V_gain m c k)
  blk_ext [iblk, idx s]

variable (r : Fin 64) (n : Fin 128) (hn : n.val = 64 * s.val + r.val)
include hn

theorem blk_x (t : Fin 8) (k : Fin 1024) : (iblk m c 0 s : Vec Ideal S64x8x1024 .f32) (ix3 r t k)
    = (m ((c : Thread nD τ).loc main_arg0) : Vec Ideal S128x8x1024 .f32) (ix3 n t k) := by
  refine Eq.trans ?_ (congrFun (V_main_arg0 m c) _)
  blk_ext [iblk, idx s]

theorem blk_sh (k : Fin 1024) : (X0_1 m c s : Vec Ideal S1x64x1x1024 .f32) (ix4 0 r 0 k)
    = (m ((c : Thread nD τ).loc main_arg1) : Vec Ideal S4x136x6144 .f32) (ix3 0 ⟨n.val, by omega⟩ ⟨k.val, by omega⟩) := by
  refine Eq.trans ?_ (V_mod m c _ _)
  unfold X0_1 Pipeline.Window.fill
  rw [dif_pos (moved0_1 s _)]
  blk_ext [iblk, idx s]

theorem blk_sc (k : Fin 1024) : (X0_2 m c s : Vec Ideal S1x64x1x1024 .f32) (ix4 0 r 0 k)
    = (m ((c : Thread nD τ).loc main_arg1) : Vec Ideal S4x136x6144 .f32) (ix3 0 ⟨n.val, by omega⟩ ⟨1024 + k.val, by omega⟩) := by
  refine Eq.trans ?_ (V_mod m c _ _)
  unfold X0_2 Pipeline.Window.fill
  rw [dif_pos (moved0_2 s _)]
  blk_ext [iblk, idx s]

end Blocks

/-- A token's projected row, from the arguments. -/
def G (x : FVec Ideal S128x8x1024 .f32) (mod : FVec Ideal S4x136x6144 .f32) (ng : FVec Ideal S4x2x1024 .f32)
    (w : FVec Ideal S2x1024x3328 .f32) (n : Fin 128) (t : Fin 8) : Fin 3328 → EReal :=
  zed (modNorm (fun k => x (ix3 n t k)) (fun k => ng (ix3 0 0 k)) (fun k => mod (ix3 0 ⟨n.val, by omega⟩ ⟨1024 + k.val, by omega⟩))
    (fun k => mod (ix3 0 ⟨n.val, by omega⟩ ⟨k.val, by omega⟩))) (fun k e => w (ix3 0 k e))

/-- Blocks that hold a token's part of the arguments project to that row. -/
theorem row_eq (x : Vec Ideal S64x8x1024 .f32) (g : Vec Ideal S1x1x1x1024 .f32) (sc sh : Vec Ideal S1x64x1x1024 .f32)
    (w : Vec Ideal S1x1024x3328 .bf16) (x' : FVec Ideal S128x8x1024 .f32) (mod : FVec Ideal S4x136x6144 .f32)
    (ng : FVec Ideal S4x2x1024 .f32) (w' : FVec Ideal S2x1024x3328 .f32) (r : Fin 64) (n : Fin 128) (t : Fin 8)
    (hx : ∀ k, x (ix3 r t k) = x' (ix3 n t k)) (hg : ∀ k, g (ix4 0 0 0 k) = ng (ix3 0 0 k))
    (hc : ∀ k : Fin 1024, sc (ix4 0 r 0 k) = mod (ix3 0 ⟨n.val, by omega⟩ ⟨1024 + k.val, by omega⟩))
    (hh : ∀ k : Fin 1024, sh (ix4 0 r 0 k) = mod (ix3 0 ⟨n.val, by omega⟩ ⟨k.val, by omega⟩))
    (hw : ∀ k e, w (ix3 0 k e) = w' (ix3 0 k e)) : row x g sc sh w r t = G x' mod ng w' n t :=
  zed_congr (modNorm_congr hx hg hc hh) hw

/-- That row over the memory the call is launched on. -/
def gm (n : Fin 128) (t : Fin 8) : Fin 3328 → EReal :=
  G (m ((c : Thread nD τ).loc main_arg0)) (m ((c : Thread nD τ).loc main_arg1)) (m ((c : Thread nD τ).loc main_arg2))
    (m ((c : Thread nD τ).loc main_arg3)) n t

theorem prow_eq (s : Fin cfg0.N) (r : Fin 64) (n : Fin 128) (hn : n.val = 64 * s.val + r.val) (t : Fin 8) :
    prow m c s r t = gm m c n t := by
  unfold prow gm
  exact row_eq _ _ _ _ _ _ _ _ _ r n t (blk_x m c s r n hn t) (blk_gain m c s) (blk_sc m c s r n hn) (blk_sh m c s r n hn)
    (blk_w m c s)

/-- The four arrays the call returns. -/
def outU : FVec Ideal S128x8x512 .f32 := fun i => glu (gm m c (i 0) (i 1)) (i 2)

def outQ : FVec Ideal S128x8x768 .f32 := fun i =>
  turned (third (gm m c (i 0) (i 1)) 0) (i 1).val (i 2) * Ideal.ofBits .f32 0x3E000000#32

def outK : FVec Ideal S128x8x768 .f32 := fun i => turned (third (gm m c (i 0) (i 1)) 1) (i 1).val (i 2)

def outV : FVec Ideal S128x8x768 .f32 := fun i => third (gm m c (i 0) (i 1)) 2 (i 2)

section Final
variable (s : Fin cfg0.N) (r : Fin 64) (n : Fin 128) (hn : n.val = 64 * s.val + r.val) (t : Fin 8)
include hn

theorem tileU (f : Fin 512) : (dats m 0 c).after 8 s (ix3 r t f) = outU m c (ix3 n t f) := by
  rw [after0_8]
  exact (u_point m c s r t f).trans (congrArg (fun z => glu z f) (prow_eq m c s r n hn t))

theorem tileQ (f : Fin 768) : (dats m 0 c).after 9 s (ix3 r t f) = outQ m c (ix3 n t f) := by
  rw [after0_9]
  exact (q_point m c s (blk_ta m c s) (blk_tb m c s) (blk_tc m c s) r t f).trans
    (congrArg (fun z => turned (third z 0) t.val f * Ideal.ofBits .f32 0x3E000000#32) (prow_eq m c s r n hn t))

theorem tileK (f : Fin 768) : (dats m 0 c).after 10 s (ix3 r t f) = outK m c (ix3 n t f) := by
  rw [after0_10]
  exact (k_point m c s (blk_ta m c s) (blk_tb m c s) (blk_tc m c s) r t f).trans
    (congrArg (fun z => turned (third z 1) t.val f) (prow_eq m c s r n hn t))

theorem tileV (f : Fin 768) : (dats m 0 c).after 11 s (ix3 r t f) = outV m c (ix3 n t f) := by
  rw [after0_11]
  exact (v_point m c s r t f).trans (congrArg (fun z => third z 2 f) (prow_eq m c s r n hn t))

end Final

theorem finalU : (dats m 0 c).arrAt 8 (cfgs 0).N = outU m c := by
  refine (dats m 0 c).arrAt_eq_of_covers 8 _ (by decide +kernel) fun s _ y => ?_
  have hs : s.val < 2 := lt_of_lt_of_eq s.isLt (by decide)
  obtain ⟨r, t, k, rfl⟩ : ∃ (r : Fin 64) (t : Fin 8) (k : Fin 512), y = ix3 r t k := ⟨y 0, y 1, y 2, by
    funext a; match a with | ⟨0, _⟩ => rfl | ⟨1, _⟩ => rfl | ⟨2, _⟩ => rfl⟩
  have e : ∀ f : S128x8x512.Idx → EReal, f (((View.whole main_v38_0).slice (win0_8.rect s)).emb (ix3 r t k))
      = f (ix3 (⟨64 * s.val + r.val, by omega⟩ : Fin 128) t k) := fun f => by
    blk_ext [idx s]
  exact (tileU m c s r ⟨64 * s.val + r.val, by omega⟩ rfl t k).trans (e (outU m c)).symm

theorem finalQ : (dats m 0 c).arrAt 9 (cfgs 0).N = outQ m c := by
  refine (dats m 0 c).arrAt_eq_of_covers 9 _ (by decide +kernel) fun s _ y => ?_
  have hs : s.val < 2 := lt_of_lt_of_eq s.isLt (by decide)
  obtain ⟨r, t, k, rfl⟩ : ∃ (r : Fin 64) (t : Fin 8) (k : Fin 768), y = ix3 r t k := ⟨y 0, y 1, y 2, by
    funext a; match a with | ⟨0, _⟩ => rfl | ⟨1, _⟩ => rfl | ⟨2, _⟩ => rfl⟩
  have e : ∀ f : S128x8x768.Idx → EReal, f (((View.whole main_v38_1).slice (win0_9.rect s)).emb (ix3 r t k))
      = f (ix3 (⟨64 * s.val + r.val, by omega⟩ : Fin 128) t k) := fun f => by
    blk_ext [idx s]
  exact (tileQ m c s r ⟨64 * s.val + r.val, by omega⟩ rfl t k).trans (e (outQ m c)).symm

theorem finalK : (dats m 0 c).arrAt 10 (cfgs 0).N = outK m c := by
  refine (dats m 0 c).arrAt_eq_of_covers 10 _ (by decide +kernel) fun s _ y => ?_
  have hs : s.val < 2 := lt_of_lt_of_eq s.isLt (by decide)
  obtain ⟨r, t, k, rfl⟩ : ∃ (r : Fin 64) (t : Fin 8) (k : Fin 768), y = ix3 r t k := ⟨y 0, y 1, y 2, by
    funext a; match a with | ⟨0, _⟩ => rfl | ⟨1, _⟩ => rfl | ⟨2, _⟩ => rfl⟩
  have e : ∀ f : S128x8x768.Idx → EReal, f (((View.whole main_v38_2).slice (win0_10.rect s)).emb (ix3 r t k))
      = f (ix3 (⟨64 * s.val + r.val, by omega⟩ : Fin 128) t k) := fun f => by
    blk_ext [idx s]
  exact (tileK m c s r ⟨64 * s.val + r.val, by omega⟩ rfl t k).trans (e (outK m c)).symm

theorem finalV : (dats m 0 c).arrAt 11 (cfgs 0).N = outV m c := by
  refine (dats m 0 c).arrAt_eq_of_covers 11 _ (by decide +kernel) fun s _ y => ?_
  have hs : s.val < 2 := lt_of_lt_of_eq s.isLt (by decide)
  obtain ⟨r, t, k, rfl⟩ : ∃ (r : Fin 64) (t : Fin 8) (k : Fin 768), y = ix3 r t k := ⟨y 0, y 1, y 2, by
    funext a; match a with | ⟨0, _⟩ => rfl | ⟨1, _⟩ => rfl | ⟨2, _⟩ => rfl⟩
  have e : ∀ f : S128x8x768.Idx → EReal, f (((View.whole main_v38_3).slice (win0_11.rect s)).emb (ix3 r t k))
      = f (ix3 (⟨64 * s.val + r.val, by omega⟩ : Fin 128) t k) := fun f => by
    blk_ext [idx s]
  exact (tileV m c s r ⟨64 * s.val + r.val, by omega⟩ rfl t k).trans (e (outV m c)).symm

end Cert.InProjKer

end
-- ==== Proof.InProjRef.lean ====
/- The reference of the input projection, index by index. -/
module

public import proofs.«01_k».proof.Proof.Gen.InProjReferenceIdeal.Read
public import proofs.«01_k».proof.Proof.InProjKer

@[expose] public section

set_option maxRecDepth 16384

noncomputable section

namespace Cert.InProjRef

open Idealize.ShloMosaic Cert.InProjReferenceIdeal Cert.InProjReferenceIdeal.Gen Cert.InProjReferenceIdeal.Read Cert.FfnSpec Cert.InProjSpec

variable (x0 : Vec Ideal S128x8x1024 .f32) (x1 : Vec Ideal S4x136x6144 .f32) (x2 : Vec Ideal S4x2x1024 .f32)
  (x3 : Vec Ideal S2x1024x3328 .f32) (n : Fin 128) (t : Fin 8)

theorem norm_apply (k : Fin 1024) :
    val_main_v26 (F := Ideal) x0 x2 (ix3 n t k) = norm (fun k => x0 (ix3 n t k)) (fun k => x2 (ix3 0 0 k)) k := by
  pointwise [val_main_v26, val_main_v25, val_main_v24, val_main_v23, val_main_v22, val_main_v21, val_main_v20, val_main_v19,
    val_main_v18, val_main_v17, val_main_v16, val_main_v15, val_main_v14, val_main_v13, val_main_v12, val_main_cst, val_main_cst_0,
    val_main_cst_1]
  rfl

theorem hid_apply (k : Fin 1024) :
    val_main_v32 (F := Ideal) x0 x1 x2 (ix3 n t k) = modNorm (fun k => x0 (ix3 n t k)) (fun k => x2 (ix3 0 0 k))
      (fun k => x1 (ix3 0 ⟨n.val, by omega⟩ ⟨1024 + k.val, by omega⟩)) (fun k => x1 (ix3 0 ⟨n.val, by omega⟩ ⟨k.val, by omega⟩)) k := by
  pointwise [val_main_v32, val_main_v31, val_main_v30, val_main_v29, val_main_v28, val_main_v27, val_main_cst_2, val_main_v7,
    val_main_v6, val_main_v5, val_main_v4, val_main_v3, norm_apply]
  rfl

theorem row_apply (e : Fin 3328) : val_main_v35 (F := Ideal) x0 x1 x2 x3 (ix3 n t e) = InProjKer.G x0 x1 x2 x3 n t e := by
  pointwise [val_main_v35, val_main_v34, val_main_v33, hid_apply]
  rfl

theorem finalU (f : Fin 512) : val_main_v46 (F := Ideal) x0 x1 x2 x3 (ix3 n t f) = glu (InProjKer.G x0 x1 x2 x3 n t) f := by
  pointwise [val_main_v46, val_main_v45, val_main_v44, val_main_v43, val_main_v42, val_main_v41, val_main_v40, val_main_v37,
    val_main_v36, val_main_cst_3, val_main_cst_4, row_apply]
  rfl

/-- A channel of the row, found in its third. -/
theorem at_third (z : Fin 3328 → EReal) (s : Fin 3) (e : Fin 768) (p : Fin 3328) (hp : p.val = 1024 + 768 * s.val + e.val) :
    z p = third z s e := congrArg z (Fin.ext hp)

theorem finalV (e : Fin 768) : val_main_v119 (F := Ideal) x0 x1 x2 x3 (ix3 n t e) = third (InProjKer.G x0 x1 x2 x3 n t) 2 e := by
  pointwise [val_main_v119, val_main_v116, val_main_v115, val_main_v39, val_main_v38, row_apply]
  exact at_third _ 2 e _ (by show _ = 1024 + 768 * 2 + e.val; simp only; omega)

/-- The turn as the reference takes it: the third's channels by head and place, the turned sixteen of a head before the
    other forty-eight. -/
theorem turn (z : Fin 3328 → EReal) (s : Fin 3) (t : ℕ) (e : Fin 768) (b : ℕ) (hb : b = 768 * s.val) :
    (if h : e.val % 64 < 16 then
      if h' : e.val % 64 < 8 then
        z ⟨1024 + (b + e.val / 256 * 256 + e.val / 64 % 4 * 64 + e.val % 64), by omega⟩ * Ideal.cos (angle t (e.val % 64))
          - z ⟨1024 + (b + e.val / 256 * 256 + e.val / 64 % 4 * 64 + (8 + e.val % 64)), by omega⟩ * Ideal.sin (angle t (e.val % 64))
      else
        z ⟨1024 + (b + e.val / 256 * 256 + e.val / 64 % 4 * 64 + (8 + (e.val % 64 - 8))), by omega⟩ * Ideal.cos (angle t (e.val % 64 - 8))
          + z ⟨1024 + (b + e.val / 256 * 256 + e.val / 64 % 4 * 64 + (e.val % 64 - 8)), by omega⟩ * Ideal.sin (angle t (e.val % 64 - 8))
    else z ⟨1024 + (b + e.val / 256 * 256 + e.val / 64 % 4 * 64 + (16 + (e.val % 64 - 16))), by omega⟩) = turned (third z s) t e := by
  unfold turned
  by_cases h8 : e.val % 64 < 8
  · rw [dif_pos (by omega : e.val % 64 < 16), dif_pos h8, dif_pos h8]
    exact congrArg₂ (· - ·) (congrArg (· * _) (at_third z s e _ (by simp only; omega)))
      (congrArg (· * _) (at_third z s ⟨e.val + 8, by omega⟩ _ (by simp only; omega)))
  · by_cases h16 : e.val % 64 < 16
    · rw [dif_pos h16, dif_neg h8, dif_neg h8, if_pos (by omega)]
      exact congrArg₂ (· + ·) (congrArg (· * _) (at_third z s e _ (by simp only; omega)))
        (congrArg (· * _) (at_third z s ⟨e.val - 8, by omega⟩ _ (by simp only; omega)))
    · rw [dif_neg h16, dif_neg h8, if_neg (by omega)]
      exact at_third z s e _ (by simp only; omega)

theorem finalK (e : Fin 768) :
    val_main_v118 (F := Ideal) x0 x1 x2 x3 (ix3 n t e) = turned (third (InProjKer.G x0 x1 x2 x3 n t) 1) t.val e := by
  pointwise [val_main_v118, val_main_v114, val_main_v113, val_main_v112, val_main_v111, val_main_v110, val_main_v109, val_main_v108,
    val_main_v107, val_main_v106, val_main_v105, val_main_v104, val_main_v103, val_main_v102, val_main_v101, val_main_v100,
    val_main_v99, val_main_v98, val_main_v97, val_main_v96, val_main_v95, val_main_v94, val_main_v93, val_main_v92, val_main_v91,
    val_main_v90, val_main_v89, val_main_v88, val_main_v87, val_main_v86, val_main_v85, val_main_v84, val_main_cst_8, val_main_cst_9,
    val_main_v2, val_main_v1, val_main_v0, val_main_c, val_main_v83, val_main_v82, val_main_v39, val_main_v38, row_apply]
  exact turn _ 1 t.val e 768 rfl

theorem finalQ (e : Fin 768) : val_main_v117 (F := Ideal) x0 x1 x2 x3 (ix3 n t e)
    = turned (third (InProjKer.G x0 x1 x2 x3 n t) 0) t.val e * Ideal.ofBits .f32 0x3E000000#32 := by
  pointwise [val_main_v117, val_main_v81, val_main_v80, val_main_cst_7, val_main_v79, val_main_v78, val_main_v77, val_main_v76,
    val_main_v75, val_main_v74, val_main_v73, val_main_v72, val_main_v71, val_main_v70, val_main_v69, val_main_v68, val_main_v67,
    val_main_v66, val_main_v65, val_main_v64, val_main_v63, val_main_v62, val_main_v61, val_main_v60, val_main_v59, val_main_v58,
    val_main_v57, val_main_v56, val_main_v55, val_main_v54, val_main_v53, val_main_v52, val_main_v51, val_main_v50, val_main_v49,
    val_main_cst_5, val_main_cst_6, val_main_v2, val_main_v1, val_main_v0, val_main_c, val_main_v48, val_main_v47, val_main_v39,
    val_main_v38, row_apply]
  have e0 := turn (InProjKer.G x0 x1 x2 x3 n t) 0 t.val e 0 rfl
  simp only [Nat.zero_add] at e0
  exact congrArg (· * _) e0

end Cert.InProjRef

end
-- ==== Proof.SampleKer.lean ====
/- The array that the last feed-forward call returns on the sample batch, index by index. -/
module

public import proofs.«01_k».proof.Proof.Gen.FfnSampleIdeal.Value
public import proofs.«01_k».proof.Proof.FfnSpec
public import Idealize.ShloMosaic.Lib.Pipeline.ValueKit

@[expose] public section

set_option maxRecDepth 16384

noncomputable section

namespace Cert.SampleKer

open Idealize.ShloMosaic Idealize.ShloMosaic.TcCoe Cert.FfnSampleIdeal Cert.FfnSampleIdeal.Gen Cert.FfnSpec

section Block
variable (x : Vec Ideal S64x8x1024 .f32) (g : Vec Ideal S1x1x1x1024 .f32) (sc sh g2 : Vec Ideal S1x64x1x1024 .f32)
  (wg wu : Vec Ideal S1x1024x2816 .bf16) (wd : Vec Ideal S1x2816x1024 .bf16) (fg : Vec Ideal S1x1024 .f32) (r : Fin 64) (t : Fin 8)

/-- A block's feed-forward row. -/
def row : Fin 1024 → EReal :=
  ffn (fun k => x (ix3 r t k)) (fun k => g (ix4 0 0 0 k)) (fun k => sc (ix4 0 r 0 k)) (fun k => sh (ix4 0 r 0 k))
    (fun k => g2 (ix4 0 r 0 k)) (fun k f => wg (ix3 0 k f)) (fun k f => wu (ix3 0 k f)) (fun f k => wd (ix3 0 f k))

theorem pay2_apply (k : Fin 1024) : k0_pay2 x g sc sh (ix2 ⟨r.val * 8 + t.val, by omega⟩ k)
    = modNorm (fun k => x (ix3 r t k)) (fun k => g (ix4 0 0 0 k)) (fun k => sc (ix4 0 r 0 k)) (fun k => sh (ix4 0 r 0 k)) k := by
  pointwise [k0_pay2]
  rfl

/-- The four pieces in which the body reads the weights: a first and a second range of units. -/
abbrev r2 : Rect S1x1024x2816 := Rect.unit ![0, 0, 0] S1x1024x1536.size inb_S1x1024x2816_S1x1024x1536_0_0_0
abbrev r3 : Rect S1x2816x1024 := Rect.unit ![0, 0, 0] S1x1536x1024.size inb_S1x2816x1024_S1x1536x1024_0_0_0
abbrev r4 : Rect S1x1024x2816 := Rect.unit ![0, 0, 1536] S1x1024x1280.size inb_S1x1024x2816_S1x1024x1280_0_0_1536
abbrev r5 : Rect S1x2816x1024 := Rect.unit ![0, 1536, 0] S1x1280x1024.size inb_S1x2816x1024_S1x1280x1024_0_1536_0

theorem pay4_apply (c : Fin 1024) :
    k0_pay4 x (k0_pay2 x g sc sh) (k0_pay3 x g sc sh (View.ld wg r2)) (View.ld wu r2) (View.ld wd r3) (View.ld wg r4)
        (View.ld wu r4) (View.ld wd r5) g2 (ix3 r t c) = row x g sc sh g2 wg wu wd r t c := by
  pointwise [k0_pay4, k0_pay3, pay2_apply]
  unfold row ffn swiglu
  rw [sum_units]
  rfl

/-- The block's row and the final norm. -/
theorem pay1_apply (c : Fin 1024) :
    k0_pay1
        (k0_pay4 x (k0_pay2 x g sc sh) (k0_pay3 x g sc sh (View.ld wg r2)) (View.ld wu r2) (View.ld wd r3) (View.ld wg r4)
          (View.ld wu r4) (View.ld wd r5) g2)
        (k0_pay5 x (k0_pay2 x g sc sh) (k0_pay3 x g sc sh (View.ld wg r2)) (View.ld wu r2) (View.ld wd r3) (View.ld wg r4)
          (View.ld wu r4) (View.ld wd r5) g2) fg (ix3 r t c)
      = norm (row x g sc sh g2 wg wu wd r t) (fun k => fg (ix2 0 k)) c := by
  pointwise [k0_pay1, k0_pay5, pay4_apply]
  rfl

end Block

variable (m : (ℓ : Loc nD τ sig) → Buf (Elt Ideal) ℓ) (c : Dev nD)

/-- What a grid point writes, from the blocks it reads. -/
theorem point (s : Fin cfg0.N) (r : Fin 64) (t : Fin 8) (k : Fin 1024) :
    outsAt0 m c s (ix3 r t k) = norm (row (iblk m c 0 s) (iblk m c 4 s) (X0_2 m c s) (X0_1 m c s) (X0_3 m c s) (iblk m c 5 s)
      (iblk m c 6 s) (iblk m c 7 s) r t) (fun k => (iblk m c 8 s : Vec Ideal S1x1024 .f32) (ix2 0 k)) k := by
  unfold outsAt0
  frame_out
  exact pay1_apply _ _ _ _ _ _ _ _ _ r t k

theorem idx : ∀ s : Fin cfg0.N, win0_0.index s = ![s.val, 0, 0] ∧ win0_1.index s = ![3, s.val, 0, 3]
    ∧ win0_2.index s = ![3, s.val, 0, 4] ∧ win0_3.index s = ![3, s.val, 0, 5] ∧ win0_4.index s = ![3, 1, 0, 0]
    ∧ win0_5.index s = ![3, 0, 0] ∧ win0_6.index s = ![3, 0, 0] ∧ win0_7.index s = ![3, 0, 0] ∧ win0_8.index s = ![0, 0]
    ∧ win0_9.index s = ![s.val, 0, 0] :=
  (by decide +kernel : ∀ s : Fin grid0.N, _)

/-- The array the call returns, from the arguments. -/
def G (x : FVec Ideal S128x8x1024 .f32) (mod : FVec Ideal S4x136x6144 .f32) (ng : FVec Ideal S4x2x1024 .f32)
    (wg wu : FVec Ideal S4x1024x2816 .f32) (wd : FVec Ideal S4x2816x1024 .f32) (fg : FVec Ideal S1024 .f32) (n : Fin 128)
    (t : Fin 8) (c : Fin 1024) : EReal :=
  let md (s : Fin 6) (k : Fin 1024) := mod (ix3 3 ⟨n.val, by omega⟩ ⟨s.val * 1024 + k.val, by omega⟩)
  norm (ffn (fun k => x (ix3 n t k)) (fun k => ng (ix3 3 1 k)) (md 4) (md 3) (md 5) (fun k f => wg (ix3 3 k f))
    (fun k f => wu (ix3 3 k f)) (fun f k => wd (ix3 3 f k))) (fun k => fg (ix1 k)) c

section Blocks

theorem V_mod (n : Fin 136) (e : Fin 6144) : (V m c main_v0 : Vec Ideal S4x136x1x6144 .f32) (ix4 3 n 0 e)
    = (m ((c : Thread nD τ).loc main_arg1) : Vec Ideal S4x136x6144 .f32) (ix3 3 n e) := by
  entry_read
  pointwise []

variable (s : Fin cfg0.N)

theorem blk_gain (k : Fin 1024) : (iblk m c 4 s : Vec Ideal S1x1x1x1024 .f32) (ix4 0 0 0 k)
    = (m ((c : Thread nD τ).loc main_arg2) : Vec Ideal S4x2x1024 .f32) (ix3 3 1 k) := by
  have e : (V m c main_v1 : Vec Ideal S4x2x1x1024 .f32) (ix4 3 1 0 k)
      = (m ((c : Thread nD τ).loc main_arg2) : Vec Ideal S4x2x1024 .f32) (ix3 3 1 k) := by
    entry_read
    pointwise []
  refine Eq.trans ?_ e
  blk_ext [iblk, idx s]

theorem blk_fg (k : Fin 1024) : (iblk m c 8 s : Vec Ideal S1x1024 .f32) (ix2 0 k)
    = (m ((c : Thread nD τ).loc main_arg6) : Vec Ideal S1024 .f32) (ix1 k) := by
  have e : (V m c main_v5 : Vec Ideal S1x1024 .f32) (ix2 0 k)
      = (m ((c : Thread nD τ).loc main_arg6) : Vec Ideal S1024 .f32) (ix1 k) := by
    entry_read
    pointwise []
  refine Eq.trans ?_ e
  blk_ext [iblk, idx s]

theorem blk_wg (k : Fin 1024) (f : Fin 2816) : (iblk m c 5 s : Vec Ideal S1x1024x2816 .bf16) (ix3 0 k f)
    = (m ((c : Thread nD τ).loc main_arg3) : Vec Ideal S4x1024x2816 .f32) (ix3 3 k f) := by
  have e : (V m c main_v2 : Vec Ideal S4x1024x2816 .bf16) (ix3 3 k f)
      = (m ((c : Thread nD τ).loc main_arg3) : Vec Ideal S4x1024x2816 .f32) (ix3 3 k f) := by
    entry_read
    pointwise []
  refine Eq.trans ?_ e
  blk_ext [iblk, idx s]

theorem blk_wu (k : Fin 1024) (f : Fin 2816) : (iblk m c 6 s : Vec Ideal S1x1024x2816 .bf16) (ix3 0 k f)
    = (m ((c : Thread nD τ).loc main_arg4) : Vec Ideal S4x1024x2816 .f32) (ix3 3 k f) := by
  have e : (V m c main_v3 : Vec Ideal S4x1024x2816 .bf16) (ix3 3 k f)
      = (m ((c : Thread nD τ).loc main_arg4) : Vec Ideal S4x1024x2816 .f32) (ix3 3 k f) := by
    entry_read
    pointwise []
  refine Eq.trans ?_ e
  blk_ext [iblk, idx s]

theorem blk_wd (f : Fin 2816) (k : Fin 1024) : (iblk m c 7 s : Vec Ideal S1x2816x1024 .bf16) (ix3 0 f k)
    = (m ((c : Thread nD τ).loc main_arg5) : Vec Ideal S4x2816x1024 .f32) (ix3 3 f k) := by
  have e : (V m c main_v4 : Vec Ideal S4x2816x1024 .bf16) (ix3 3 f k)
      = (m ((c : Thread nD τ).loc main_arg5) : Vec Ideal S4x2816x1024 .f32) (ix3 3 f k) := by
    entry_read
    pointwise []
  refine Eq.trans ?_ e
  blk_ext [iblk, idx s]

variable (r : Fin 64) (n : Fin 128) (hn : n.val = 64 * s.val + r.val)
include hn

theorem blk_x (t : Fin 8) (k : Fin 1024) : (iblk m c 0 s : Vec Ideal S64x8x1024 .f32) (ix3 r t k)
    = (m ((c : Thread nD τ).loc main_arg0) : Vec Ideal S128x8x1024 .f32) (ix3 n t k) := by
  refine Eq.trans ?_ (congrFun (V_main_arg0 m c) _)
  blk_ext [iblk, idx s]

theorem blk_sh (k : Fin 1024) : (X0_1 m c s : Vec Ideal S1x64x1x1024 .f32) (ix4 0 r 0 k)
    = (m ((c : Thread nD τ).loc main_arg1) : Vec Ideal S4x136x6144 .f32) (ix3 3 ⟨n.val, by omega⟩ ⟨3 * 1024 + k.val, by omega⟩) := by
  refine Eq.trans ?_ (V_mod m c _ _)
  unfold X0_1 Pipeline.Window.fill
  rw [dif_pos (moved0_1 s _)]
  blk_ext [iblk, idx s]

theorem blk_sc (k : Fin 1024) : (X0_2 m c s : Vec Ideal S1x64x1x1024 .f32) (ix4 0 r 0 k)
    = (m ((c : Thread nD τ).loc main_arg1) : Vec Ideal S4x136x6144 .f32) (ix3 3 ⟨n.val, by omega⟩ ⟨4 * 1024 + k.val, by omega⟩) := by
  refine Eq.trans ?_ (V_mod m c _ _)
  unfold X0_2 Pipeline.Window.fill
  rw [dif_pos (moved0_2 s _)]
  blk_ext [iblk, idx s]

theorem blk_g2 (k : Fin 1024) : (X0_3 m c s : Vec Ideal S1x64x1x1024 .f32) (ix4 0 r 0 k)
    = (m ((c : Thread nD τ).loc main_arg1) : Vec Ideal S4x136x6144 .f32) (ix3 3 ⟨n.val, by omega⟩ ⟨5 * 1024 + k.val, by omega⟩) := by
  refine Eq.trans ?_ (V_mod m c _ _)
  unfold X0_3 Pipeline.Window.fill
  rw [dif_pos (moved0_3 s _)]
  blk_ext [iblk, idx s]

end Blocks

/-- The array the call returns, over the memory it is launched on. -/
def out : FVec Ideal S128x8x1024 .f32 := fun i =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1) (i 2)

/-- A grid point writes its tile of that array. -/
theorem tile (s : Fin cfg0.N) (r : Fin 64) (n : Fin 128) (hn : n.val = 64 * s.val + r.val) (t : Fin 8) (k : Fin 1024) :
    (dats m 0 c).after 9 s (ix3 r t k) = out m c (ix3 n t k) := by
  rw [after0_9]
  refine (point m c s r t k).trans ?_
  exact norm_congr (ffn_congr (blk_x m c s r n hn t) (blk_gain m c s) (blk_sc m c s r n hn) (blk_sh m c s r n hn)
    (blk_g2 m c s r n hn) (blk_wg m c s) (blk_wu m c s) (blk_wd m c s)) (blk_fg m c s) k

/-- The call's result is that array. -/
theorem final : (dats m 0 c).arrAt 9 (cfgs 0).N = out m c := by
  refine (dats m 0 c).arrAt_eq_of_covers 9 _ (by decide +kernel) fun s _ y => ?_
  have hs : s.val < 2 := lt_of_lt_of_eq s.isLt (by decide)
  obtain ⟨r, t, k, rfl⟩ : ∃ (r : Fin 64) (t : Fin 8) (k : Fin 1024), y = ix3 r t k := ⟨y 0, y 1, y 2, by
    funext a; match a with | ⟨0, _⟩ => rfl | ⟨1, _⟩ => rfl | ⟨2, _⟩ => rfl⟩
  have e : ∀ f : S128x8x1024.Idx → EReal, f (((View.whole main_v6).slice (win0_9.rect s)).emb (ix3 r t k))
      = f (ix3 (⟨64 * s.val + r.val, by omega⟩ : Fin 128) t k) := fun f => by
    blk_ext [idx s]
  exact (tile m c s r ⟨64 * s.val + r.val, by omega⟩ rfl t k).trans (e (out m c)).symm

end Cert.SampleKer

end
-- ==== Proof.SampleRef.lean ====
/- The reference of the last feed-forward block and the final norm on the sample batch, index by index. -/
module

public import proofs.«01_k».proof.Proof.Gen.FfnSampleReferenceIdeal.Read
public import proofs.«01_k».proof.Proof.SampleKer

@[expose] public section

set_option maxRecDepth 16384

noncomputable section

namespace Cert.SampleRef

open Idealize.ShloMosaic Cert.FfnSampleReferenceIdeal Cert.FfnSampleReferenceIdeal.Gen Cert.FfnSampleReferenceIdeal.Read Cert.FfnSpec

variable (x0 : Vec Ideal S128x8x1024 .f32) (x1 : Vec Ideal S4x136x6144 .f32) (x2 : Vec Ideal S4x2x1024 .f32)
  (x3 x4 : Vec Ideal S4x1024x2816 .f32) (x5 : Vec Ideal S4x2816x1024 .f32) (x6 : Vec Ideal S1024 .f32)
  (n : Fin 128) (i : Fin 8)

/-- One of the six parts of a sample's modulation. -/
abbrev md (s : Fin 6) (k : Fin 1024) : EReal := x1 (ix3 3 ⟨n.val, by omega⟩ ⟨s.val * 1024 + k.val, by omega⟩)

/-- The row the gated block reads. -/
abbrev hid : Fin 1024 → EReal := modNorm (fun k => x0 (ix3 n i k)) (fun k => x2 (ix3 3 1 k)) (md x1 n 4) (md x1 n 3)

theorem shift_apply (k : Fin 1024) : val_main_v6 (F := Ideal) x1 (ix3 n 0 k) = md x1 n 3 k := by
  pointwise [val_main_v6, val_main_v2, val_main_v1, val_main_v0]
  rfl

theorem scale_apply (k : Fin 1024) : val_main_v7 (F := Ideal) x1 (ix3 n 0 k) = md x1 n 4 k := by
  pointwise [val_main_v7, val_main_v2, val_main_v1, val_main_v0]
  rfl

theorem gate_apply (k : Fin 1024) : val_main_v8 (F := Ideal) x1 (ix3 n 0 k) = md x1 n 5 k := by
  pointwise [val_main_v8, val_main_v2, val_main_v1, val_main_v0]
  rfl

theorem norm_apply (k : Fin 1024) :
    val_main_v23 (F := Ideal) x0 x2 (ix3 n i k) = norm (fun k => x0 (ix3 n i k)) (fun k => x2 (ix3 3 1 k)) k := by
  pointwise [val_main_v23, val_main_v22, val_main_v21, val_main_v20, val_main_v19, val_main_v18, val_main_v17, val_main_v16,
    val_main_v15, val_main_v14, val_main_v13, val_main_v12, val_main_v11, val_main_v10, val_main_v9, val_main_cst, val_main_cst_0,
    val_main_cst_1]
  rfl

theorem hid_apply (k : Fin 1024) : val_main_v29 (F := Ideal) x0 x1 x2 (ix3 n i k) = hid x0 x1 x2 n i k := by
  pointwise [val_main_v29, val_main_v28, val_main_v27, val_main_v26, val_main_v25, val_main_v24, val_main_cst_2, norm_apply,
    shift_apply, scale_apply]
  rfl

theorem up_apply (f : Fin 2816) : val_main_v38 (F := Ideal) x0 x1 x2 x4 (ix3 n i f) = ∑ k, hid x0 x1 x2 n i k * x4 (ix3 3 k f) := by
  pointwise [val_main_v38, val_main_v33, val_main_v32, hid_apply]

theorem gated_apply (f : Fin 2816) : val_main_v36 (F := Ideal) x0 x1 x2 x3 (ix3 n i f) = ∑ k, hid x0 x1 x2 n i k * x3 (ix3 3 k f) := by
  pointwise [val_main_v36, val_main_v31, val_main_v30, hid_apply]

theorem unit_apply (f : Fin 2816) :
    val_main_v39 (F := Ideal) x0 x1 x2 x3 x4 (ix3 n i f) = unit (hid x0 x1 x2 n i) (fun k => x3 (ix3 3 k f)) (fun k => x4 (ix3 3 k f)) := by
  pointwise [val_main_v39, val_main_v37, val_main_call0_v5, val_main_call0_v4, val_main_call0_v3, val_main_call0_v2, val_main_call0_v1,
    val_main_call0_v0, val_main_call0_cst, val_main_call0_cst_0, up_apply, gated_apply]
  rfl

theorem ffn_apply (c : Fin 1024) : val_main_v43 (F := Ideal) x0 x1 x2 x3 x4 x5 (ix3 n i c)
    = ffn (fun k => x0 (ix3 n i k)) (fun k => x2 (ix3 3 1 k)) (md x1 n 4) (md x1 n 3) (md x1 n 5) (fun k f => x3 (ix3 3 k f))
        (fun k f => x4 (ix3 3 k f)) (fun f k => x5 (ix3 3 f k)) c := by
  pointwise [val_main_v43, val_main_v42, val_main_v41, val_main_v40, val_main_v35, val_main_v34, gate_apply, unit_apply]
  rfl

/-- The reference's result is the array the call returns. -/
theorem final (c : Fin 1024) : val_main_v56 (F := Ideal) x0 x1 x2 x3 x4 x5 x6 (ix3 n i c) = SampleKer.G x0 x1 x2 x3 x4 x5 x6 n i c := by
  pointwise [val_main_v56, val_main_v55, val_main_v54, val_main_v53, val_main_v52, val_main_v51, val_main_v50, val_main_v49,
    val_main_v48, val_main_v47, val_main_v46, val_main_v45, val_main_v44, val_main_cst_3, val_main_cst_4, val_main_cst_5, ffn_apply]
  rfl

end Cert.SampleRef

end
-- ==== Proof.ModKer.lean ====
/- The array that the modulation's call returns, index by index. -/
module

public import proofs.«01_k».proof.Proof.Gen.ModIdeal.Value
public import Idealize.ShloMosaic.Lib.Pointwise
public import Idealize.ShloMosaic.Lib.Pipeline.ValueKit
public import Idealize.ShloMosaic.Lib.StableHlo.RunRead

@[expose] public section

set_option maxRecDepth 16384

noncomputable section

namespace Cert.ModKer

open Idealize.ShloMosaic Idealize.ShloMosaic.TcCoe Cert.ModIdeal Cert.ModIdeal.Gen

/-- One channel of a condition's modulation. -/
def chan (c w : Fin 1024 → EReal) (b : EReal) : EReal := (∑ k, c k * Ideal.logistic (c k) * w k) + b

/-- The conditions in their order: the sample batch's, the prompt batch's, and rows of zeros. -/
def cond (cp : FVec Ideal S4x1024 .f32) (cs : FVec Ideal S128x1024 .f32) (n : Fin 136) (k : Fin 1024) : EReal :=
  if h : n.val < 128 then cs (ix2 ⟨n.val, h⟩ k) else if h' : n.val - 128 < 4 then cp (ix2 ⟨n.val - 128, h'⟩ k) else 0

/-- The array the call returns, from the arguments. -/
def G (cp : FVec Ideal S4x1024 .f32) (cs : FVec Ideal S128x1024 .f32) (w : FVec Ideal S4x1024x6144 .f32)
    (b : FVec Ideal S4x6144 .f32) (l : Fin 4) (n : Fin 136) (e : Fin 6144) : EReal :=
  chan (cond cp cs n) (fun k => w (ix3 l k e)) (b (ix2 l e))

theorem chan_congr {c c' w w' : Fin 1024 → EReal} {b b' : EReal} (hc : ∀ k, c k = c' k) (hw : ∀ k, w k = w' k) (hb : b = b') :
    chan c w b = chan c' w' b' := by
  obtain rfl : c = c' := funext hc
  obtain rfl : w = w' := funext hw
  rw [hb]

theorem out_apply (x : Vec Ideal S136x1024 .f32) (w : Vec Ideal S1x1024x1536 .f32) (b : Vec Ideal S1x1x1536 .f32) (n : Fin 136)
    (e : Fin 1536) : out0_3 x w b (ix3 0 n e) = chan (fun k => x (ix2 n k)) (fun k => w (ix3 0 k e)) (b (ix3 0 0 e)) := by
  unfold out0_3
  frame_out
  pointwise [k0_pay1]
  rfl

variable (m : (ℓ : Loc nD τ sig) → Buf (Elt Ideal) ℓ) (c : Dev nD)

theorem idx : ∀ s : Fin cfg0.N, win0_0.index s = ![0, 0] ∧ win0_1.index s = ![s.val / 4, 0, s.val % 4]
    ∧ win0_2.index s = ![s.val / 4, 0, s.val % 4] ∧ win0_3.index s = ![s.val / 4, 0, s.val % 4] :=
  (by decide +kernel : ∀ s : Fin grid0.N, _)

theorem V_cond (n : Fin 136) (k : Fin 1024) : (V m c main_v1 : Vec Ideal S136x1024 .f32) (ix2 n k)
    = cond (m ((c : Thread nD τ).loc main_arg0)) (m ((c : Thread nD τ).loc main_arg1)) n k := by
  unfold_abbrev_sides
  after_reads_simp
  dsimp only [Matrix.cons_val]
  pointwise []
  after_reads_simp
  pointwise []
  rfl

theorem V_bias (l : Fin 4) (e : Fin 6144) : (V m c main_v2 : Vec Ideal S4x1x6144 .f32) (ix3 l 0 e)
    = (m ((c : Thread nD τ).loc main_arg3) : Vec Ideal S4x6144 .f32) (ix2 l e) := by
  entry_read
  pointwise []

variable (s : Fin cfg0.N)

theorem blk_cond (n : Fin 136) (k : Fin 1024) : (iblk m c 0 s : Vec Ideal S136x1024 .f32) (ix2 n k)
    = cond (m ((c : Thread nD τ).loc main_arg0)) (m ((c : Thread nD τ).loc main_arg1)) n k := by
  refine Eq.trans ?_ (V_cond m c n k)
  blk_ext [iblk, idx s]

variable (l : Fin 4) (hl : l.val = s.val / 4) (e : Fin 1536) (e' : Fin 6144) (he : e'.val = 1536 * (s.val % 4) + e.val)
include hl he

theorem blk_w (k : Fin 1024) : (iblk m c 1 s : Vec Ideal S1x1024x1536 .f32) (ix3 0 k e)
    = (m ((c : Thread nD τ).loc main_arg2) : Vec Ideal S4x1024x6144 .f32) (ix3 l k e') := by
  refine Eq.trans ?_ (congrFun (V_main_arg2 m c) _)
  blk_ext [iblk, idx s]

theorem blk_bias : (iblk m c 2 s : Vec Ideal S1x1x1536 .f32) (ix3 0 0 e)
    = (m ((c : Thread nD τ).loc main_arg3) : Vec Ideal S4x6144 .f32) (ix2 l e') := by
  refine Eq.trans ?_ (V_bias m c l e')
  blk_ext [iblk, idx s]

omit hl he

/-- The array the call returns, over the memory it is launched on. -/
def out : FVec Ideal S4x136x6144 .f32 := fun i =>
  G (m ((c : Thread nD τ).loc main_arg0)) (m ((c : Thread nD τ).loc main_arg1)) (m ((c : Thread nD τ).loc main_arg2))
    (m ((c : Thread nD τ).loc main_arg3)) (i 0) (i 1) (i 2)

include hl he in
/-- A grid point writes its tile of that array. -/
theorem tile (n : Fin 136) : (dats m 0 c).after 3 s (ix3 0 n e) = out m c (ix3 l n e') := by
  rw [after0_3]
  refine (out_apply _ _ _ n e).trans ?_
  exact chan_congr (blk_cond m c s n) (blk_w m c s l hl e e' he) (blk_bias m c s l hl e e' he)

/-- The call's result is that array. -/
theorem final : (dats m 0 c).arrAt 3 (cfgs 0).N = out m c := by
  refine (dats m 0 c).arrAt_eq_of_covers 3 _ (by decide +kernel) fun s _ y => ?_
  have hs : s.val < 16 := lt_of_lt_of_eq s.isLt (by decide)
  obtain ⟨n, e, rfl⟩ : ∃ (n : Fin 136) (e : Fin 1536), y = ix3 0 n e := ⟨y 1, y 2, by
    funext a; match a with | ⟨0, _⟩ => exact Subsingleton.elim (α := Fin 1) _ _ | ⟨1, _⟩ => rfl | ⟨2, _⟩ => rfl⟩
  have h : ∀ f : S4x136x6144.Idx → EReal, f (((View.whole main_v3).slice (win0_3.rect s)).emb (ix3 0 n e))
      = f (ix3 (⟨s.val / 4, by omega⟩ : Fin 4) n (⟨1536 * (s.val % 4) + e.val, by omega⟩ : Fin 6144)) := fun f => by
    blk_ext [idx s]
  exact (tile m c s ⟨s.val / 4, by omega⟩ rfl e ⟨1536 * (s.val % 4) + e.val, by omega⟩ rfl n).trans (h (out m c)).symm

end Cert.ModKer

end
-- ==== Proof.ModRef.lean ====
/- The reference of the modulation, index by index. -/
module

public import proofs.«01_k».proof.Proof.Gen.ModReferenceIdeal.Read
public import proofs.«01_k».proof.Proof.ModKer

@[expose] public section

set_option maxRecDepth 16384

noncomputable section

namespace Cert.ModRef

open Idealize.ShloMosaic Cert.ModReferenceIdeal Cert.ModReferenceIdeal.Gen Cert.ModReferenceIdeal.Read Cert.ModKer

variable (x0 : Vec Ideal S4x1024 .f32) (x1 : Vec Ideal S128x1024 .f32) (x2 : Vec Ideal S4x1024x6144 .f32) (x3 : Vec Ideal S4x6144 .f32)
  (n : Fin 136) (e : Fin 6144)

theorem cond_apply (k : Fin 1024) : val_main_v1 (F := Ideal) x0 x1 (ix2 n k) = cond x0 x1 n k := by
  pointwise [val_main_v1, val_main_v0, val_main_cst]
  rfl

theorem silu_apply (k : Fin 1024) :
    val_main_v2 (F := Ideal) x0 x1 (ix2 n k) = cond x0 x1 n k * Ideal.logistic (cond x0 x1 n k) := by
  pointwise [val_main_v2, val_main_call0_v5, val_main_call0_v4, val_main_call0_v3, val_main_call0_v2, val_main_call0_v1,
    val_main_call0_v0, val_main_call0_cst, val_main_call0_cst_0, cond_apply]
  rfl

/-- Each layer applies the same activation to the same rows. -/
theorem silu_eq : val_main_v11 (F := Ideal) x0 x1 = val_main_v2 (F := Ideal) x0 x1
    ∧ val_main_v20 (F := Ideal) x0 x1 = val_main_v2 (F := Ideal) x0 x1 ∧ val_main_v29 (F := Ideal) x0 x1 = val_main_v2 (F := Ideal) x0 x1 :=
  ⟨rfl, rfl, rfl⟩

theorem layer0 : val_main_v10 (F := Ideal) x0 x1 x2 x3 (ix2 n e) = G x0 x1 x2 x3 0 n e := by
  pointwise [val_main_v10, val_main_v9, val_main_v8, val_main_v7, val_main_v6, val_main_v5, val_main_v4, val_main_v3, silu_apply]
  rfl

theorem layer1 : val_main_v19 (F := Ideal) x0 x1 x2 x3 (ix2 n e) = G x0 x1 x2 x3 1 n e := by
  pointwise [val_main_v19, val_main_v18, val_main_v17, val_main_v16, val_main_v15, val_main_v14, val_main_v13, val_main_v12,
    silu_eq, silu_apply]
  rfl

theorem layer2 : val_main_v28 (F := Ideal) x0 x1 x2 x3 (ix2 n e) = G x0 x1 x2 x3 2 n e := by
  pointwise [val_main_v28, val_main_v27, val_main_v26, val_main_v25, val_main_v24, val_main_v23, val_main_v22, val_main_v21,
    silu_eq, silu_apply]
  rfl

theorem layer3 : val_main_v37 (F := Ideal) x0 x1 x2 x3 (ix2 n e) = G x0 x1 x2 x3 3 n e := by
  pointwise [val_main_v37, val_main_v36, val_main_v35, val_main_v34, val_main_v33, val_main_v32, val_main_v31, val_main_v30,
    silu_eq, silu_apply]
  rfl

/-- The reference's result is the array the call returns. -/
theorem final (l : Fin 4) : val_main_v42 (F := Ideal) x0 x1 x2 x3 (ix3 l n e) = G x0 x1 x2 x3 l n e := by
  match l with
  | 0 => pointwise [val_main_v42, val_main_v38, layer0]
  | 1 => pointwise [val_main_v42, val_main_v39, layer1]
  | 2 => pointwise [val_main_v42, val_main_v40, layer2]
  | 3 => pointwise [val_main_v42, val_main_v41, layer3]

end Cert.ModRef

end
-- ==== Proof.ConvKer.lean ====
/- The array that the sample batch's convolution call returns, index by index. -/
module

public import proofs.«01_k».proof.Proof.Gen.ConvIdeal.Value
public import Idealize.ShloMosaic.Lib.Pointwise
public import Idealize.ShloMosaic.Lib.Pipeline.ValueKit
public import Idealize.ShloMosaic.Lib.StableHlo.RunRead

@[expose] public section

set_option maxRecDepth 16384

noncomputable section

namespace Cert.ConvKer

open Idealize.ShloMosaic Idealize.ShloMosaic.TcCoe Cert.ConvIdeal Cert.ConvIdeal.Gen

/-- The layer norm of a row, times a gain plus an offset. -/
def lnorm (y g b : Fin 512 → EReal) (c : Fin 512) : EReal :=
  let xc (k : Fin 512) := y k - Ideal.div (∑ j, y j) (Ideal.ofBits .f32 0x44000000#32)
  xc c * Ideal.rsqrt (Ideal.div (∑ j, xc j * xc j) (Ideal.ofBits .f32 0x44000000#32) + Ideal.ofBits .f32 0x358637BD#32) * g c + b c

/-- The layer norm and the swish. -/
def lnSilu (y g b : Fin 512 → EReal) (c : Fin 512) : EReal := lnorm y g b c * Ideal.logistic (lnorm y g b c)

/-- The depthwise convolution at one position: the 31 taps. -/
def taps (x w : Fin 31 → EReal) : EReal := ∑ j, w j * x j

theorem sum_taps (f : Fin 31 → EReal) :
    f 0 + f 1 + f 2 + f 3 + f 4 + f 5 + f 6 + f 7 + f 8 + f 9 + f 10 + f 11 + f 12 + f 13 + f 14 + f 15 + f 16 + f 17 + f 18
      + f 19 + f 20 + f 21 + f 22 + f 23 + f 24 + f 25 + f 26 + f 27 + f 28 + f 29 + f 30 = ∑ j, f j := by
  simp only [Fin.sum_univ_castSucc, Fin.sum_univ_zero, zero_add]
  rfl

theorem lnSilu_congr {y y' g g' b b' : Fin 512 → EReal} (hy : ∀ k, y k = y' k) (hg : ∀ k, g k = g' k) (hb : ∀ k, b k = b' k)
    (c : Fin 512) : lnSilu y g b c = lnSilu y' g' b' c := by
  obtain rfl : y = y' := funext hy
  obtain rfl : g = g' := funext hg
  obtain rfl : b = b' := funext hb
  rfl

section Block
variable (x : Vec Ideal S38x32x512 .f32) (w : Vec Ideal S31x512 .f32) (cb g b : Vec Ideal S1x512 .f32)

/-- The body's tail: the bias, the layer norm and the swish. -/
theorem pay1_apply (v : FVec Ideal S32x512 .f32) (n : Fin 32) (c : Fin 512) :
    k0_pay1 v cb g b (ix3 0 n c) = lnSilu (fun k => v (ix2 n k) + cb (ix2 0 k)) (fun k => g (ix2 0 k)) (fun k => b (ix2 0 k)) c := by
  pointwise [k0_pay1]
  rfl

/-! The other tokens' last payloads are the last tap and then the same tail. -/

section Tails
variable (v : FVec Ideal S32x512 .f32) (wj : Vec Ideal S1x512 .f32) (xj : Vec Ideal S1x32x512 .f32)

theorem pay70_eq : k0_pay70 v wj xj cb g b = k0_pay1 (k0_pay84 v wj xj) cb g b := rfl
theorem pay56_eq : k0_pay56 v wj xj cb g b = k0_pay1 (k0_pay84 v wj xj) cb g b := rfl
theorem pay42_eq : k0_pay42 v wj xj cb g b = k0_pay1 (k0_pay84 v wj xj) cb g b := rfl
theorem pay29_eq : k0_pay29 v wj xj cb g b = k0_pay1 (k0_pay84 v (k0_pay83 wj) xj) cb g b := rfl
theorem pay22_eq : k0_pay22 v wj xj cb g b = k0_pay1 (k0_pay84 v (k0_pay83 wj) xj) cb g b := rfl
theorem pay15_eq : k0_pay15 v wj xj cb g b = k0_pay1 (k0_pay84 v (k0_pay83 wj) xj) cb g b := rfl
theorem pay8_eq : k0_pay8 v wj xj cb g b = k0_pay1 (k0_pay84 v (k0_pay83 wj) xj) cb g b := rfl

end Tails

theorem coords (y : S1x32x512.Idx) : ∃ (n : Fin 32) (c : Fin 512), y = ix3 0 n c :=
  ⟨y 1, y 2, by funext a; match a with | ⟨0, _⟩ => exact Subsingleton.elim (α := Fin 1) _ _ | ⟨1, _⟩ => rfl | ⟨2, _⟩ => rfl⟩

/-- The result at a token, from the block's rows. -/
def res (t : Fin 8) (n : Fin 32) : Fin 512 → EReal :=
  lnSilu (fun k => taps (fun j => x (ix3 ⟨t.val + j.val, by omega⟩ n k)) (fun j => w (ix2 j k)) + cb (ix2 0 k))
    (fun k => g (ix2 0 k)) (fun k => b (ix2 0 k))

theorem piece (v : FVec Ideal S32x512 .f32) (cb' g' b' : Vec Ideal S1x512 .f32) (t : Fin 8) (n : Fin 32)
    (hv : ∀ k, v (ix2 n k) = taps (fun j => x (ix3 ⟨t.val + j.val, by omega⟩ n k)) (fun j => w (ix2 j k)))
    (hc : cb' = cb) (hg : g' = g) (hb : b' = b) (c : Fin 512) : k0_pay1 v cb' g' b' (ix3 0 n c) = res x w cb g b t n c := by
  obtain rfl := hc
  obtain rfl := hg
  obtain rfl := hb
  refine (pay1_apply _ _ _ v n c).trans ?_
  exact lnSilu_congr (fun k => congrArg (· + _) (hv k)) (fun _ => rfl) (fun _ => rfl) c

theorem ld_whole (y : Vec Ideal S1x512 .f32) : View.ld y r0_62 = y := by
  funext i
  obtain ⟨k, rfl⟩ : ∃ k : Fin 512, i = ix2 0 k := ⟨i 1, by
    funext a; match a with | ⟨0, _⟩ => exact Subsingleton.elim (α := Fin 1) _ _ | ⟨1, _⟩ => rfl⟩
  pointwise []

theorem out_apply (t : Fin 8) (n : Fin 32) (c : Fin 512) : out0_5 x w cb g b (ix3 t n c) = res x w cb g b t n c := by
  unfold out0_5
  canon_tiles i h
  all_goals
    obtain ⟨n', c', rfl⟩ := coords i
    obtain rfl : n = n' := Fin.ext h1
    obtain rfl : c = c' := Fin.ext h2
  · obtain rfl : t = 7 := Fin.ext h0
    refine piece x w cb g b _ _ _ _ 7 n (fun k => ?_) (ld_whole cb) (ld_whole g) (ld_whole b) c
    pointwise [k0_pay71, k0_pay72, k0_pay73, k0_pay74, k0_pay75, k0_pay76, k0_pay77, k0_pay78, k0_pay79, k0_pay80, k0_pay81, k0_pay82, k0_pay83, k0_pay84]
    exact sum_taps fun j => w (ix2 j k) * x (ix3 ⟨7 + j.val, by omega⟩ n k)
  · obtain rfl : t = 6 := Fin.ext h0
    refine (congrFun (pay70_eq _ _ _ _ _ _) _).trans ?_
    refine piece x w cb g b _ _ _ _ 6 n (fun k => ?_) (ld_whole cb) (ld_whole g) (ld_whole b) c
    pointwise [k0_pay57, k0_pay58, k0_pay59, k0_pay60, k0_pay61, k0_pay62, k0_pay63, k0_pay64, k0_pay65, k0_pay66, k0_pay67, k0_pay68, k0_pay69, k0_pay83, k0_pay84]
    exact sum_taps fun j => w (ix2 j k) * x (ix3 ⟨6 + j.val, by omega⟩ n k)
  · obtain rfl : t = 5 := Fin.ext h0
    refine (congrFun (pay56_eq _ _ _ _ _ _) _).trans ?_
    refine piece x w cb g b _ _ _ _ 5 n (fun k => ?_) (ld_whole cb) (ld_whole g) (ld_whole b) c
    pointwise [k0_pay43, k0_pay44, k0_pay45, k0_pay46, k0_pay47, k0_pay48, k0_pay49, k0_pay50, k0_pay51, k0_pay52, k0_pay53, k0_pay54, k0_pay55, k0_pay83, k0_pay84]
    exact sum_taps fun j => w (ix2 j k) * x (ix3 ⟨5 + j.val, by omega⟩ n k)
  · obtain rfl : t = 4 := Fin.ext h0
    refine (congrFun (pay42_eq _ _ _ _ _ _) _).trans ?_
    refine piece x w cb g b _ _ _ _ 4 n (fun k => ?_) (ld_whole cb) (ld_whole g) (ld_whole b) c
    pointwise [k0_pay30, k0_pay31, k0_pay32, k0_pay33, k0_pay34, k0_pay35, k0_pay36, k0_pay37, k0_pay38, k0_pay39, k0_pay40, k0_pay41, k0_pay83, k0_pay84]
    exact sum_taps fun j => w (ix2 j k) * x (ix3 ⟨4 + j.val, by omega⟩ n k)
  · obtain rfl : t = 3 := Fin.ext h0
    refine (congrFun (pay29_eq _ _ _ _ _ _) _).trans ?_
    refine piece x w cb g b _ _ _ _ 3 n (fun k => ?_) (ld_whole cb) (ld_whole g) (ld_whole b) c
    pointwise [k0_pay23, k0_pay24, k0_pay25, k0_pay26, k0_pay27, k0_pay28, k0_pay83, k0_pay84]
    exact sum_taps fun j => w (ix2 j k) * x (ix3 ⟨3 + j.val, by omega⟩ n k)
  · obtain rfl : t = 2 := Fin.ext h0
    refine (congrFun (pay22_eq _ _ _ _ _ _) _).trans ?_
    refine piece x w cb g b _ _ _ _ 2 n (fun k => ?_) (ld_whole cb) (ld_whole g) (ld_whole b) c
    pointwise [k0_pay16, k0_pay17, k0_pay18, k0_pay19, k0_pay20, k0_pay21, k0_pay83, k0_pay84]
    exact sum_taps fun j => w (ix2 j k) * x (ix3 ⟨2 + j.val, by omega⟩ n k)
  · obtain rfl : t = 1 := Fin.ext h0
    refine (congrFun (pay15_eq _ _ _ _ _ _) _).trans ?_
    refine piece x w cb g b _ _ _ _ 1 n (fun k => ?_) (ld_whole cb) (ld_whole g) (ld_whole b) c
    pointwise [k0_pay9, k0_pay10, k0_pay11, k0_pay12, k0_pay13, k0_pay14, k0_pay83, k0_pay84]
    exact sum_taps fun j => w (ix2 j k) * x (ix3 ⟨1 + j.val, by omega⟩ n k)
  · obtain rfl : t = 0 := Fin.ext h0
    refine (congrFun (pay8_eq _ _ _ _ _ _) _).trans ?_
    refine piece x w cb g b _ _ _ _ 0 n (fun k => ?_) (ld_whole cb) (ld_whole g) (ld_whole b) c
    pointwise [k0_pay2, k0_pay3, k0_pay4, k0_pay5, k0_pay6, k0_pay7, k0_pay83, k0_pay84]
    exact sum_taps fun j => w (ix2 j k) * x (ix3 ⟨0 + j.val, by omega⟩ n k)

end Block

/-- A sample's rows: the 30 cached ones of layer 0, then the 8 new ones. -/
def full (u : FVec Ideal S128x8x512 .f32) (hist : FVec Ideal S2x128x30x512 .f32) (n : Fin 128) (p : Fin 38) (c : Fin 512) : EReal :=
  if h : p.val < 30 then hist (ix4 0 n ⟨p.val, h⟩ c) else u (ix3 n ⟨p.val - 30, by omega⟩ c)

/-- The array the call returns, from the arguments. -/
def G (u : FVec Ideal S128x8x512 .f32) (hist : FVec Ideal S2x128x30x512 .f32) (w : FVec Ideal S2x31x512 .f32)
    (cb g b : FVec Ideal S2x512 .f32) (t : Fin 8) (n : Fin 128) : Fin 512 → EReal :=
  lnSilu (fun k => taps (fun j => full u hist n ⟨t.val + j.val, by omega⟩ k) (fun j => w (ix3 0 j k)) + cb (ix2 0 k))
    (fun k => g (ix2 0 k)) (fun k => b (ix2 0 k))

variable (m : (ℓ : Loc nD τ sig) → Buf (Elt Ideal) ℓ) (c : Dev nD)

theorem idx : ∀ s : Fin cfg0.N, win0_0.index s = ![0, s.val, 0] ∧ win0_1.index s = ![0, 0] ∧ win0_2.index s = ![0, 0]
    ∧ win0_3.index s = ![0, 0] ∧ win0_4.index s = ![0, 0] ∧ win0_5.index s = ![0, s.val, 0] :=
  (by decide +kernel : ∀ s : Fin grid0.N, _)

theorem V_full (p : Fin 38) (n : Fin 128) (k : Fin 512) : (V m c main_v3 : Vec Ideal S38x128x512 .f32) (ix3 p n k)
    = full (m ((c : Thread nD τ).loc main_arg0)) (m ((c : Thread nD τ).loc main_arg1)) n p k := by
  unfold_abbrev_sides
  after_reads_simp
  pointwise []
  after_reads_simp
  pointwise []
  rfl

theorem V_w (j : Fin 31) (k : Fin 512) : (V m c main_v5 : Vec Ideal S31x512 .f32) (ix2 j k)
    = (m ((c : Thread nD τ).loc main_arg2) : Vec Ideal S2x31x512 .f32) (ix3 0 j k) := by
  entry_read
  pointwise []

theorem V_cb (k : Fin 512) : (V m c main_v12 : Vec Ideal S1x512 .f32) (ix2 0 k)
    = (m ((c : Thread nD τ).loc main_arg3) : Vec Ideal S2x512 .f32) (ix2 0 k) := by
  entry_read
  pointwise []

theorem V_g (k : Fin 512) : (V m c main_v13 : Vec Ideal S1x512 .f32) (ix2 0 k)
    = (m ((c : Thread nD τ).loc main_arg4) : Vec Ideal S2x512 .f32) (ix2 0 k) := by
  entry_read
  pointwise []

theorem V_b (k : Fin 512) : (V m c main_v14 : Vec Ideal S1x512 .f32) (ix2 0 k)
    = (m ((c : Thread nD τ).loc main_arg5) : Vec Ideal S2x512 .f32) (ix2 0 k) := by
  entry_read
  pointwise []

variable (s : Fin cfg0.N)

theorem blk_w (j : Fin 31) (k : Fin 512) : (iblk m c 1 s : Vec Ideal S31x512 .f32) (ix2 j k)
    = (m ((c : Thread nD τ).loc main_arg2) : Vec Ideal S2x31x512 .f32) (ix3 0 j k) := by
  refine Eq.trans ?_ (V_w m c j k)
  blk_ext [iblk, idx s]

theorem blk_cb (k : Fin 512) : (iblk m c 2 s : Vec Ideal S1x512 .f32) (ix2 0 k)
    = (m ((c : Thread nD τ).loc main_arg3) : Vec Ideal S2x512 .f32) (ix2 0 k) := by
  refine Eq.trans ?_ (V_cb m c k)
  blk_ext [iblk, idx s]

theorem blk_g (k : Fin 512) : (iblk m c 3 s : Vec Ideal S1x512 .f32) (ix2 0 k)
    = (m ((c : Thread nD τ).loc main_arg4) : Vec Ideal S2x512 .f32) (ix2 0 k) := by
  refine Eq.trans ?_ (V_g m c k)
  blk_ext [iblk, idx s]

theorem blk_b (k : Fin 512) : (iblk m c 4 s : Vec Ideal S1x512 .f32) (ix2 0 k)
    = (m ((c : Thread nD τ).loc main_arg5) : Vec Ideal S2x512 .f32) (ix2 0 k) := by
  refine Eq.trans ?_ (V_b m c k)
  blk_ext [iblk, idx s]

variable (n : Fin 32) (n' : Fin 128) (hn : n'.val = 32 * s.val + n.val)

include hn in
theorem blk_x (p : Fin 38) (k : Fin 512) : (iblk m c 0 s : Vec Ideal S38x32x512 .f32) (ix3 p n k)
    = full (m ((c : Thread nD τ).loc main_arg0)) (m ((c : Thread nD τ).loc main_arg1)) n' p k := by
  refine Eq.trans ?_ (V_full m c p n' k)
  blk_ext [iblk, idx s]

/-- The array the call returns, over the memory it is launched on. -/
def out : FVec Ideal S8x128x512 .f32 := fun i =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1) (i 2)

include hn in
/-- A grid point writes its samples' part of that array. -/
theorem tile (t : Fin 8) (k : Fin 512) : (dats m 0 c).after 5 s (ix3 t n k) = out m c (ix3 t n' k) := by
  rw [after0_5]
  refine (out_apply _ _ _ _ _ t n k).trans ?_
  refine lnSilu_congr (fun k => ?_) (blk_g m c s) (blk_b m c s) k
  refine congrArg₂ (· + ·) (Finset.sum_congr rfl fun j _ => ?_) (blk_cb m c s k)
  exact congrArg₂ (· * ·) (blk_w m c s j k) (blk_x m c s n n' hn _ k)

/-- The call's result is that array. -/
theorem final : (dats m 0 c).arrAt 5 (cfgs 0).N = out m c := by
  refine (dats m 0 c).arrAt_eq_of_covers 5 _ (by decide +kernel) fun s _ y => ?_
  have hs : s.val < 4 := lt_of_lt_of_eq s.isLt (by decide)
  obtain ⟨t, n, k, rfl⟩ : ∃ (t : Fin 8) (n : Fin 32) (k : Fin 512), y = ix3 t n k := ⟨y 0, y 1, y 2, by
    funext a; match a with | ⟨0, _⟩ => rfl | ⟨1, _⟩ => rfl | ⟨2, _⟩ => rfl⟩
  have h : ∀ f : S8x128x512.Idx → EReal, f (((View.whole main_v15).slice (win0_5.rect s)).emb (ix3 t n k))
      = f (ix3 t (⟨32 * s.val + n.val, by omega⟩ : Fin 128) k) := fun f => by
    blk_ext [idx s]
  exact (tile m c s n ⟨32 * s.val + n.val, by omega⟩ rfl t k).trans (h (out m c)).symm

end Cert.ConvKer

end
-- ==== Proof.ConvRef.lean ====
/- The reference of the sample batch's convolution, index by index. -/
module

public import proofs.«01_k».proof.Proof.Gen.ConvReferenceIdeal.Read
public import proofs.«01_k».proof.Proof.ConvKer

@[expose] public section

set_option maxRecDepth 16384

noncomputable section

namespace Cert.ConvRef

open Idealize.ShloMosaic Cert.ConvReferenceIdeal Cert.ConvReferenceIdeal.Gen Cert.ConvReferenceIdeal.Read Cert.ConvKer

/-- The dimension numbers of reading, for each token, the 31 rows of its window. -/
abbrev rowDims (wf : GatherDims.WF S128x38x512 S8x31x1 S128x8x31x512 [0, 3] [1] [] [1] [] 2 ![128, 1, 512]) :
    GatherDims S128x38x512 S8x31x1 S128x8x31x512 where
  offsetDims := [0, 3]
  collapsedSliceDims := [1]
  operandBatchingDims := []
  startIndicesBatchingDims := []
  startIndexMap := [1]
  indexVectorDim := 2
  sliceSizes := ![128, 1, 512]
  wf := wf

/-- A gathered row is the sequence's row at the index word, when the word is a row's number. -/
theorem gather_rows {α : Type} (wf : GatherDims.WF S128x38x512 S8x31x1 S128x8x31x512 [0, 3] [1] [] [1] [] 2 ![128, 1, 512])
    (x : S128x38x512.Idx → α) (w : IVec S8x31x1 32) (n : Fin 128) (t : Fin 8) (j : Fin 31) (c : Fin 512) (p : Fin 38)
    (hp : (w (ix3 t j 0)).toInt.toNat = p.val) :
    Host.gather (rowDims wf) x w (ix4 n t j c) = x (ix3 n p c) := by
  unfold Host.gather
  congr 1
  funext a
  refine Fin.ext ?_
  show (rowDims wf).start _ w a + (rowDims wf).batchCoord _ a + (rowDims wf).offCoord _ a = _
  rw [GatherDims.batchCoord_eq_zero _ _ _ List.not_mem_nil]
  have h0 : ∀ b : Fin 3, b ≠ 1 → (rowDims wf).start (ix4 n t j c) w b = 0 := fun b hb => by
    unfold GatherDims.start
    exact dif_neg fun h => hb (List.mem_singleton.mp h)
  have h1 : ∀ b : Fin 3, b ≠ 1 → b ∈ (rowDims wf).sKept := fun b hb =>
    (GatherDims.mem_sKept _ _).mpr ⟨fun h => hb (List.mem_singleton.mp h), List.not_mem_nil⟩
  fin_cases a
  · show (rowDims wf).start (ix4 n t j c) w (0 : Fin 3) + 0 + (rowDims wf).offCoord (ix4 n t j c) (0 : Fin 3) = n.val
    rw [h0 0 (by decide), Nat.zero_add]
    exact (dif_pos (h1 0 (by decide))).trans rfl
  · show (rowDims wf).start (ix4 n t j c) w (1 : Fin 3) + 0 + (rowDims wf).offCoord (ix4 n t j c) (1 : Fin 3) = p.val
    rw [GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims wf).startIndexMap from List.mem_singleton.mpr rfl)]
    have hsi : (rowDims wf).siIdx (ix4 n t j c) ⟨List.idxOf (1 : Fin 3) (rowDims wf).startIndexMap,
        List.idxOf_lt_length_iff.2 (List.mem_singleton.mpr rfl)⟩ = ix3 t j 0 := by
      funext b; refine Fin.ext ?_
      match b with
      | ⟨0, _⟩ => rfl
      | ⟨1, _⟩ => rfl
      | ⟨2, _⟩ => rfl
    rw [hsi]
    show min (w (ix3 t j 0)).toInt.toNat (38 - 1) = p.val
    rw [hp]; omega
  · show (rowDims wf).start (ix4 n t j c) w (2 : Fin 3) + 0 + (rowDims wf).offCoord (ix4 n t j c) (2 : Fin 3) = c.val
    rw [h0 2 (by decide), Nat.zero_add]
    exact (dif_pos (h1 2 (by decide))).trans rfl

/-- The words that index a token's window are its rows' numbers. -/
theorem words : ∀ (t : Fin 8) (j : Fin 31), (val_main_v15 (F := Ideal) (ix3 t j 0)).toInt.toNat = t.val + j.val := by
  decide +kernel

variable (x0 : Vec Ideal S128x8x512 .f32) (x1 : Vec Ideal S2x128x30x512 .f32) (x2 : Vec Ideal S2x31x512 .f32)
  (x3 x4 x5 : Vec Ideal S2x512 .f32)

theorem full_apply (n : Fin 128) (p : Fin 38) (c : Fin 512) : val_main_v2 (F := Ideal) x0 x1 (ix3 n p c) = full x0 x1 n p c := by
  pointwise [val_main_v2, val_main_v1, val_main_v0]
  rfl

theorem rows_eq : val_main_v16 (F := Ideal) x0 x1
    = Host.gather (rowDims gather_S128x38x512_S8x31x1_S128x8x31x512_03_1_n_n_1_2_1281512_wf) (val_main_v2 (F := Ideal) x0 x1)
        (val_main_v15 (F := Ideal)) := by
  unfold val_main_v16
  rfl

theorem rows_apply (n : Fin 128) (t : Fin 8) (j : Fin 31) (c : Fin 512) :
    val_main_v16 (F := Ideal) x0 x1 (ix4 n t j c) = full x0 x1 n ⟨t.val + j.val, by omega⟩ c := by
  rw [rows_eq]
  exact (gather_rows _ _ _ n t j c ⟨t.val + j.val, by omega⟩ (words t j)).trans (full_apply x0 x1 n _ c)

/-- The convolution with its bias. -/
def row (n : Fin 128) (t : Fin 8) (k : Fin 512) : EReal :=
  taps (fun j => full x0 x1 n ⟨t.val + j.val, by omega⟩ k) (fun j => x2 (ix3 0 j k)) + x3 (ix2 0 k)

theorem row_apply (n : Fin 128) (t : Fin 8) (k : Fin 512) :
    val_main_v27 (F := Ideal) x0 x1 x2 x3 (ix3 n t k) = row x0 x1 x2 x3 n t k := by
  pointwise [val_main_v27, val_main_v26, val_main_v25, val_main_v24, val_main_v23, val_main_v22, val_main_v21, val_main_v20,
    val_main_v19, val_main_v18, val_main_v17, val_main_cst, rows_apply]
  exact congrArg (· + _) (Finset.sum_congr rfl fun j _ => mul_comm _ _)

theorem norm_apply (n : Fin 128) (t : Fin 8) (c : Fin 512) : val_main_v53 (F := Ideal) x0 x1 x2 x3 x4 x5 (ix3 n t c)
    = lnorm (row x0 x1 x2 x3 n t) (fun k => x4 (ix2 0 k)) (fun k => x5 (ix2 0 k)) c := by
  pointwise [val_main_v53, val_main_v52, val_main_v51, val_main_v50, val_main_v49, val_main_v48, val_main_v47, val_main_v46,
    val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28,
    val_main_cst_1, val_main_cst_2, val_main_cst_3, val_main_cst_4, val_main_cst_5, row_apply]
  rfl

/-- The reference's result is the array the call returns. -/
theorem final (t : Fin 8) (n : Fin 128) (c : Fin 512) :
    val_main_v55 (F := Ideal) x0 x1 x2 x3 x4 x5 (ix3 t n c) = G x0 x1 x2 x3 x4 x5 t n c := by
  pointwise [val_main_v55, val_main_v54, val_main_call0_v5, val_main_call0_v4, val_main_call0_v3, val_main_call0_v2,
    val_main_call0_v1, val_main_call0_v0, val_main_call0_cst, val_main_call0_cst_0, norm_apply]
  rfl

end Cert.ConvRef

end
-- ==== Proof.ParamsKer.lean ====
/- The arrays that the discretisation's call returns, index by index. -/
module

public import proofs.«01_k».proof.Proof.Gen.S5ParamsIdeal.Value
public import Idealize.ShloMosaic.Lib.Pointwise
public import Idealize.ShloMosaic.Lib.Pipeline.ValueKit
public import Idealize.ShloMosaic.Lib.StableHlo.RunRead

@[expose] public section

set_option maxRecDepth 16384

noncomputable section

namespace Cert.ParamsKer

open Idealize.ShloMosaic Idealize.ShloMosaic.TcCoe Cert.S5ParamsIdeal Cert.S5ParamsIdeal.Gen

/-! One state's discretisation: `lr` and `li` are the eigenvalue's parts, `ld` the logarithm of the step, `br` and `bi` an
input weight's parts. -/

section Scalars
variable (lr li ld : EReal)

/-- The real part of `Lambda_bar = exp(Lambda dt)`, and its imaginary part. -/
def abR : EReal := Ideal.exp (lr * Ideal.exp ld) * Ideal.cos (li * Ideal.exp ld)
def abI : EReal := Ideal.exp (lr * Ideal.exp ld) * Ideal.sin (li * Ideal.exp ld)

/-- The parts of `(Lambda_bar - 1) / Lambda`. -/
def fR : EReal := Ideal.div ((abR lr li ld - 1) * lr + abI lr li ld * li) (lr * lr + li * li)
def fI : EReal := Ideal.div (abI lr li ld * lr - (abR lr li ld - 1) * li) (lr * lr + li * li)

variable (br bi : EReal)

/-- The parts of `B_bar`. -/
def bbR : EReal := fR lr li ld * br - fI lr li ld * bi
def bbI : EReal := fR lr li ld * bi + fI lr li ld * br

/-- The parts of `Lambda_bar B_bar`. -/
def nxR : EReal := abR lr li ld * bbR lr li ld br bi - abI lr li ld * bbI lr li ld br bi
def nxI : EReal := abR lr li ld * bbI lr li ld br bi + abI lr li ld * bbR lr li ld br bi

end Scalars

section Block
variable (x0 x1 : Vec Ideal S1x64x64 .f32) (x2 : Vec Ideal S1x64x1 .f32) (x3 x4 : Vec Ideal S1x16x64x64 .f32) (h : Fin 16) (g p : Fin 64)

theorem outA_apply : out0_5 x0 x1 x2 x3 x4 (ix3 0 g p) = abR (x0 (ix3 0 g p)) (x1 (ix3 0 g p)) (x2 (ix3 0 g 0)) := by
  unfold_out out0_5
  frame_out
  open_payloads
  pointwise []
  rfl

theorem outB_apply : out0_6 x0 x1 x2 x3 x4 (ix3 0 g p) = abI (x0 (ix3 0 g p)) (x1 (ix3 0 g p)) (x2 (ix3 0 g 0)) := by
  unfold_out out0_6
  frame_out
  open_payloads
  pointwise []
  rfl

theorem coords (y : S1x1x64x64.Idx) : ∃ g p : Fin 64, y = ix4 0 0 g p :=
  ⟨y 2, y 3, by funext a; match a with
    | ⟨0, _⟩ => exact Subsingleton.elim (α := Fin 1) _ _ | ⟨1, _⟩ => exact Subsingleton.elim (α := Fin 1) _ _
    | ⟨2, _⟩ => rfl | ⟨3, _⟩ => rfl⟩

theorem outC_apply : out0_7 x0 x1 x2 x3 x4 (ix4 0 h g p)
    = bbR (x0 (ix3 0 g p)) (x1 (ix3 0 g p)) (x2 (ix3 0 g 0)) (x3 (ix4 0 h g p)) (x4 (ix4 0 h g p)) := by
  obtain ⟨h, hh⟩ := h
  unfold_out out0_7
  canon_tiles i k
  all_goals
    obtain ⟨g', p', rfl⟩ := coords i
    obtain rfl : g = g' := Fin.ext k2
    obtain rfl : p = p' := Fin.ext k3
    change h = _ at k1
    subst k1
    open_payloads
    pointwise []
    rfl

theorem outD_apply : out0_8 x0 x1 x2 x3 x4 (ix4 0 h g p)
    = bbI (x0 (ix3 0 g p)) (x1 (ix3 0 g p)) (x2 (ix3 0 g 0)) (x3 (ix4 0 h g p)) (x4 (ix4 0 h g p)) := by
  obtain ⟨h, hh⟩ := h
  unfold_out out0_8
  canon_tiles i k
  all_goals
    obtain ⟨g', p', rfl⟩ := coords i
    obtain rfl : g = g' := Fin.ext k2
    obtain rfl : p = p' := Fin.ext k3
    change h = _ at k1
    subst k1
    open_payloads
    pointwise []
    rfl

theorem outE_apply : out0_9 x0 x1 x2 x3 x4 (ix4 0 h g p)
    = nxR (x0 (ix3 0 g p)) (x1 (ix3 0 g p)) (x2 (ix3 0 g 0)) (x3 (ix4 0 h g p)) (x4 (ix4 0 h g p)) := by
  obtain ⟨h, hh⟩ := h
  unfold_out out0_9
  canon_tiles i k
  all_goals
    obtain ⟨g', p', rfl⟩ := coords i
    obtain rfl : g = g' := Fin.ext k2
    obtain rfl : p = p' := Fin.ext k3
    change h = _ at k1
    subst k1
    open_payloads
    pointwise []
    rfl

theorem outF_apply : out0_10 x0 x1 x2 x3 x4 (ix4 0 h g p)
    = nxI (x0 (ix3 0 g p)) (x1 (ix3 0 g p)) (x2 (ix3 0 g 0)) (x3 (ix4 0 h g p)) (x4 (ix4 0 h g p)) := by
  obtain ⟨h, hh⟩ := h
  unfold_out out0_10
  canon_tiles i k
  all_goals
    obtain ⟨g', p', rfl⟩ := coords i
    obtain rfl : g = g' := Fin.ext k2
    obtain rfl : p = p' := Fin.ext k3
    change h = _ at k1
    subst k1
    open_payloads
    pointwise []
    rfl

end Block

/-! The layers' arrays: the parameters as they are passed, the results as they are returned. -/

section Arrays
variable (a0 a1 : FVec Ideal S2x64x64 .f32) (a2 : FVec Ideal S2x64 .f32) (a3 a4 : FVec Ideal S2x64x64x16 .f32)

/-- A number for each state of each layer. -/
def states (f : EReal → EReal → EReal → EReal) (s : Fin 2) (g p : Fin 64) : EReal :=
  f (a0 (ix3 s g p)) (a1 (ix3 s g p)) (a2 (ix2 s g))

/-- A number for each input weight of each layer. -/
def weights (f : EReal → EReal → EReal → EReal → EReal → EReal) (s : Fin 2) (h : Fin 16) (g p : Fin 64) : EReal :=
  f (a0 (ix3 s g p)) (a1 (ix3 s g p)) (a2 (ix2 s g)) (a3 (ix4 s g p h)) (a4 (ix4 s g p h))

end Arrays

section Launched
variable (m : (ℓ : Loc nD τ sig) → Buf (Elt Ideal) ℓ) (c : Dev nD)

theorem idx : ∀ s : Fin cfg0.N, win0_0.index s = ![s.val, 0, 0] ∧ win0_1.index s = ![s.val, 0, 0] ∧ win0_2.index s = ![s.val, 0, 0]
    ∧ win0_3.index s = ![s.val, 0, 0, 0] ∧ win0_4.index s = ![s.val, 0, 0, 0] ∧ win0_5.index s = ![s.val, 0, 0]
    ∧ win0_6.index s = ![s.val, 0, 0] ∧ win0_7.index s = ![s.val, 0, 0, 0] ∧ win0_8.index s = ![s.val, 0, 0, 0]
    ∧ win0_9.index s = ![s.val, 0, 0, 0] ∧ win0_10.index s = ![s.val, 0, 0, 0] :=
  (by decide +kernel : ∀ s : Fin grid0.N, _)

theorem V_step (s : Fin 2) (g : Fin 64) : (V m c main_v2 : Vec Ideal S2x64x1 .f32) (ix3 s g 0)
    = (m ((c : Thread nD τ).loc main_arg2) : Vec Ideal S2x64 .f32) (ix2 s g) := by
  entry_read
  pointwise []

theorem V_re (s : Fin 2) (h : Fin 16) (g p : Fin 64) : (V m c main_v0 : Vec Ideal S2x16x64x64 .f32) (ix4 s h g p)
    = (m ((c : Thread nD τ).loc main_arg3) : Vec Ideal S2x64x64x16 .f32) (ix4 s g p h) := by
  entry_read
  pointwise []

theorem V_im (s : Fin 2) (h : Fin 16) (g p : Fin 64) : (V m c main_v1 : Vec Ideal S2x16x64x64 .f32) (ix4 s h g p)
    = (m ((c : Thread nD τ).loc main_arg4) : Vec Ideal S2x64x64x16 .f32) (ix4 s g p h) := by
  entry_read
  pointwise []

section Point
variable (s : Fin cfg0.N) (n : Fin 2) (hn : n.val = s.val) (h : Fin 16) (g p : Fin 64)
include hn

theorem blk_lr : (iblk m c 0 s : Vec Ideal S1x64x64 .f32) (ix3 0 g p)
    = (m ((c : Thread nD τ).loc main_arg0) : Vec Ideal S2x64x64 .f32) (ix3 n g p) := by
  refine Eq.trans ?_ (congrFun (V_main_arg0 m c) _)
  blk_ext [iblk, idx s]

theorem blk_li : (iblk m c 1 s : Vec Ideal S1x64x64 .f32) (ix3 0 g p)
    = (m ((c : Thread nD τ).loc main_arg1) : Vec Ideal S2x64x64 .f32) (ix3 n g p) := by
  refine Eq.trans ?_ (congrFun (V_main_arg1 m c) _)
  blk_ext [iblk, idx s]

theorem blk_ld : (iblk m c 2 s : Vec Ideal S1x64x1 .f32) (ix3 0 g 0)
    = (m ((c : Thread nD τ).loc main_arg2) : Vec Ideal S2x64 .f32) (ix2 n g) := by
  refine Eq.trans ?_ (V_step m c n g)
  blk_ext [iblk, idx s]

theorem blk_br : (iblk m c 3 s : Vec Ideal S1x16x64x64 .f32) (ix4 0 h g p)
    = (m ((c : Thread nD τ).loc main_arg3) : Vec Ideal S2x64x64x16 .f32) (ix4 n g p h) := by
  refine Eq.trans ?_ (V_re m c n h g p)
  blk_ext [iblk, idx s]

theorem blk_bi : (iblk m c 4 s : Vec Ideal S1x16x64x64 .f32) (ix4 0 h g p)
    = (m ((c : Thread nD τ).loc main_arg4) : Vec Ideal S2x64x64x16 .f32) (ix4 n g p h) := by
  refine Eq.trans ?_ (V_im m c n h g p)
  blk_ext [iblk, idx s]

end Point

/-- An array of a number for each state, over the memory the call is launched on. -/
def outS (f : EReal → EReal → EReal → EReal) : FVec Ideal S2x64x64 .f32 := fun i =>
  states (m ((c : Thread nD τ).loc main_arg0)) (m ((c : Thread nD τ).loc main_arg1)) (m ((c : Thread nD τ).loc main_arg2))
    f (i 0) (i 1) (i 2)

/-- An array of a number for each input weight, over the memory the call is launched on. -/
def outW (f : EReal → EReal → EReal → EReal → EReal → EReal) : FVec Ideal S2x16x64x64 .f32 := fun i =>
  weights (m ((c : Thread nD τ).loc main_arg0)) (m ((c : Thread nD τ).loc main_arg1)) (m ((c : Thread nD τ).loc main_arg2))
    (m ((c : Thread nD τ).loc main_arg3)) (m ((c : Thread nD τ).loc main_arg4)) f (i 0) (i 1) (i 2) (i 3)

section Point
variable (s : Fin cfg0.N) (n : Fin 2) (hn : n.val = s.val) (h : Fin 16) (g p : Fin 64)
include hn

theorem states_eq (f : EReal → EReal → EReal → EReal) :
    f ((iblk m c 0 s : Vec Ideal S1x64x64 .f32) (ix3 0 g p)) ((iblk m c 1 s : Vec Ideal S1x64x64 .f32) (ix3 0 g p))
      ((iblk m c 2 s : Vec Ideal S1x64x1 .f32) (ix3 0 g 0)) = outS m c f (ix3 n g p) := by
  rw [blk_lr m c s n hn, blk_li m c s n hn, blk_ld m c s n hn]
  rfl

theorem weights_eq (f : EReal → EReal → EReal → EReal → EReal → EReal) :
    f ((iblk m c 0 s : Vec Ideal S1x64x64 .f32) (ix3 0 g p)) ((iblk m c 1 s : Vec Ideal S1x64x64 .f32) (ix3 0 g p))
      ((iblk m c 2 s : Vec Ideal S1x64x1 .f32) (ix3 0 g 0)) ((iblk m c 3 s : Vec Ideal S1x16x64x64 .f32) (ix4 0 h g p))
      ((iblk m c 4 s : Vec Ideal S1x16x64x64 .f32) (ix4 0 h g p)) = outW m c f (ix4 n h g p) := by
  rw [blk_lr m c s n hn, blk_li m c s n hn, blk_ld m c s n hn, blk_br m c s n hn, blk_bi m c s n hn]
  rfl

end Point

theorem coords3 (y : S1x64x64.Idx) : ∃ g p : Fin 64, y = ix3 0 g p :=
  ⟨y 1, y 2, by funext a; match a with | ⟨0, _⟩ => exact Subsingleton.elim (α := Fin 1) _ _ | ⟨1, _⟩ => rfl | ⟨2, _⟩ => rfl⟩

theorem coords4 (y : S1x16x64x64.Idx) : ∃ (h : Fin 16) (g p : Fin 64), y = ix4 0 h g p :=
  ⟨y 1, y 2, y 3, by funext a; match a with
    | ⟨0, _⟩ => exact Subsingleton.elim (α := Fin 1) _ _ | ⟨1, _⟩ => rfl | ⟨2, _⟩ => rfl | ⟨3, _⟩ => rfl⟩

theorem finalA : (dats m 0 c).arrAt 5 (cfgs 0).N = outS m c abR := by
  refine (dats m 0 c).arrAt_eq_of_covers 5 _ (by decide +kernel) fun s _ y => ?_
  have hs : s.val < 2 := lt_of_lt_of_eq s.isLt (by decide)
  obtain ⟨g, p, rfl⟩ := coords3 y
  have e : ∀ f : S2x64x64.Idx → EReal, f (((View.whole main_v3_0).slice (win0_5.rect s)).emb (ix3 0 g p))
      = f (ix3 (⟨s.val, hs⟩ : Fin 2) g p) := fun f => by
    blk_ext [idx s]
  have tile : (dats m 0 c).after 5 s (ix3 0 g p) = outS m c abR (ix3 ⟨s.val, hs⟩ g p) := by
    rw [after0_5]
    exact (outA_apply _ _ _ _ _ g p).trans (states_eq m c s ⟨s.val, hs⟩ rfl g p abR)
  exact tile.trans (e (outS m c abR)).symm

theorem finalB : (dats m 0 c).arrAt 6 (cfgs 0).N = outS m c abI := by
  refine (dats m 0 c).arrAt_eq_of_covers 6 _ (by decide +kernel) fun s _ y => ?_
  have hs : s.val < 2 := lt_of_lt_of_eq s.isLt (by decide)
  obtain ⟨g, p, rfl⟩ := coords3 y
  have e : ∀ f : S2x64x64.Idx → EReal, f (((View.whole main_v3_1).slice (win0_6.rect s)).emb (ix3 0 g p))
      = f (ix3 (⟨s.val, hs⟩ : Fin 2) g p) := fun f => by
    blk_ext [idx s]
  have tile : (dats m 0 c).after 6 s (ix3 0 g p) = outS m c abI (ix3 ⟨s.val, hs⟩ g p) := by
    rw [after0_6]
    exact (outB_apply _ _ _ _ _ g p).trans (states_eq m c s ⟨s.val, hs⟩ rfl g p abI)
  exact tile.trans (e (outS m c abI)).symm

theorem finalC : (dats m 0 c).arrAt 7 (cfgs 0).N = outW m c bbR := by
  refine (dats m 0 c).arrAt_eq_of_covers 7 _ (by decide +kernel) fun s _ y => ?_
  have hs : s.val < 2 := lt_of_lt_of_eq s.isLt (by decide)
  obtain ⟨h, g, p, rfl⟩ := coords4 y
  have e : ∀ f : S2x16x64x64.Idx → EReal, f (((View.whole main_v3_2).slice (win0_7.rect s)).emb (ix4 0 h g p))
      = f (ix4 (⟨s.val, hs⟩ : Fin 2) h g p) := fun f => by
    blk_ext [idx s]
  have tile : (dats m 0 c).after 7 s (ix4 0 h g p) = outW m c bbR (ix4 ⟨s.val, hs⟩ h g p) := by
    rw [after0_7]
    exact (outC_apply _ _ _ _ _ h g p).trans (weights_eq m c s ⟨s.val, hs⟩ rfl h g p bbR)
  exact tile.trans (e (outW m c bbR)).symm

theorem finalD : (dats m 0 c).arrAt 8 (cfgs 0).N = outW m c bbI := by
  refine (dats m 0 c).arrAt_eq_of_covers 8 _ (by decide +kernel) fun s _ y => ?_
  have hs : s.val < 2 := lt_of_lt_of_eq s.isLt (by decide)
  obtain ⟨h, g, p, rfl⟩ := coords4 y
  have e : ∀ f : S2x16x64x64.Idx → EReal, f (((View.whole main_v3_3).slice (win0_8.rect s)).emb (ix4 0 h g p))
      = f (ix4 (⟨s.val, hs⟩ : Fin 2) h g p) := fun f => by
    blk_ext [idx s]
  have tile : (dats m 0 c).after 8 s (ix4 0 h g p) = outW m c bbI (ix4 ⟨s.val, hs⟩ h g p) := by
    rw [after0_8]
    exact (outD_apply _ _ _ _ _ h g p).trans (weights_eq m c s ⟨s.val, hs⟩ rfl h g p bbI)
  exact tile.trans (e (outW m c bbI)).symm

theorem finalE : (dats m 0 c).arrAt 9 (cfgs 0).N = outW m c nxR := by
  refine (dats m 0 c).arrAt_eq_of_covers 9 _ (by decide +kernel) fun s _ y => ?_
  have hs : s.val < 2 := lt_of_lt_of_eq s.isLt (by decide)
  obtain ⟨h, g, p, rfl⟩ := coords4 y
  have e : ∀ f : S2x16x64x64.Idx → EReal, f (((View.whole main_v3_4).slice (win0_9.rect s)).emb (ix4 0 h g p))
      = f (ix4 (⟨s.val, hs⟩ : Fin 2) h g p) := fun f => by
    blk_ext [idx s]
  have tile : (dats m 0 c).after 9 s (ix4 0 h g p) = outW m c nxR (ix4 ⟨s.val, hs⟩ h g p) := by
    rw [after0_9]
    exact (outE_apply _ _ _ _ _ h g p).trans (weights_eq m c s ⟨s.val, hs⟩ rfl h g p nxR)
  exact tile.trans (e (outW m c nxR)).symm

theorem finalF : (dats m 0 c).arrAt 10 (cfgs 0).N = outW m c nxI := by
  refine (dats m 0 c).arrAt_eq_of_covers 10 _ (by decide +kernel) fun s _ y => ?_
  have hs : s.val < 2 := lt_of_lt_of_eq s.isLt (by decide)
  obtain ⟨h, g, p, rfl⟩ := coords4 y
  have e : ∀ f : S2x16x64x64.Idx → EReal, f (((View.whole main_v3_5).slice (win0_10.rect s)).emb (ix4 0 h g p))
      = f (ix4 (⟨s.val, hs⟩ : Fin 2) h g p) := fun f => by
    blk_ext [idx s]
  have tile : (dats m 0 c).after 10 s (ix4 0 h g p) = outW m c nxI (ix4 ⟨s.val, hs⟩ h g p) := by
    rw [after0_10]
    exact (outF_apply _ _ _ _ _ h g p).trans (weights_eq m c s ⟨s.val, hs⟩ rfl h g p nxI)
  exact tile.trans (e (outW m c nxI)).symm

end Launched

end Cert.ParamsKer

end
-- ==== Proof.ParamsRef.lean ====
/- The reference of the discretisation, index by index. -/
module

public import proofs.«01_k».proof.Proof.Gen.S5ParamsReferenceIdeal.Read
public import proofs.«01_k».proof.Proof.ParamsKer

@[expose] public section

set_option maxRecDepth 16384

noncomputable section

namespace Cert.ParamsRef

open Idealize.ShloMosaic Cert.S5ParamsReferenceIdeal Cert.S5ParamsReferenceIdeal.Gen Cert.S5ParamsReferenceIdeal.Read Cert.ParamsKer

variable (x0 x1 : Vec Ideal S2x64x64 .f32) (x2 : Vec Ideal S2x64 .f32) (x3 x4 : Vec Ideal S2x64x64x16 .f32)
  (s : Fin 2) (h : Fin 16) (g p : Fin 64)

theorem finalA : val_main_v8 (F := Ideal) x0 x1 x2 (ix3 s g p) = states x0 x1 x2 abR s g p := by
  pointwise [val_main_v8, val_main_v7, val_main_v6, val_main_v5, val_main_v4, val_main_v3, val_main_v2, val_main_v1, val_main_v0]
  rfl

theorem finalB : val_main_v10 (F := Ideal) x0 x1 x2 (ix3 s g p) = states x0 x1 x2 abI s g p := by
  pointwise [val_main_v10, val_main_v9, val_main_v7, val_main_v6, val_main_v5, val_main_v4, val_main_v3, val_main_v2, val_main_v1,
    val_main_v0]
  rfl

theorem re_apply : val_main_v19 (F := Ideal) x0 x1 x2 (ix3 s g p) = states x0 x1 x2 fR s g p := by
  pointwise [val_main_v19, val_main_v18, val_main_v17, val_main_v16, val_main_v15, val_main_v14, val_main_v13, val_main_v12,
    val_main_v11, val_main_cst, finalA, finalB]
  rfl

theorem im_apply : val_main_v23 (F := Ideal) x0 x1 x2 (ix3 s g p) = states x0 x1 x2 fI s g p := by
  pointwise [val_main_v23, val_main_v22, val_main_v21, val_main_v20, val_main_v15, val_main_v14, val_main_v13, val_main_v12,
    val_main_v11, val_main_cst, finalA, finalB]
  rfl

theorem bre_apply : val_main_v30 (F := Ideal) x0 x1 x2 x3 x4 (ix4 s g p h) = weights x0 x1 x2 x3 x4 bbR s h g p := by
  pointwise [val_main_v30, val_main_v29, val_main_v28, val_main_v27, val_main_v26, val_main_v25, val_main_v24, re_apply, im_apply]
  rfl

theorem bim_apply : val_main_v37 (F := Ideal) x0 x1 x2 x3 x4 (ix4 s g p h) = weights x0 x1 x2 x3 x4 bbI s h g p := by
  pointwise [val_main_v37, val_main_v36, val_main_v35, val_main_v34, val_main_v33, val_main_v32, val_main_v31, re_apply, im_apply]
  rfl

theorem finalC : val_main_v52 (F := Ideal) x0 x1 x2 x3 x4 (ix4 s h g p) = weights x0 x1 x2 x3 x4 bbR s h g p := by
  pointwise [val_main_v52, bre_apply]

theorem finalD : val_main_v53 (F := Ideal) x0 x1 x2 x3 x4 (ix4 s h g p) = weights x0 x1 x2 x3 x4 bbI s h g p := by
  pointwise [val_main_v53, bim_apply]

theorem finalE : val_main_v54 (F := Ideal) x0 x1 x2 x3 x4 (ix4 s h g p) = weights x0 x1 x2 x3 x4 nxR s h g p := by
  pointwise [val_main_v54, val_main_v44, val_main_v43, val_main_v42, val_main_v41, val_main_v40, val_main_v39, val_main_v38,
    finalA, finalB, bre_apply, bim_apply]
  rfl

theorem finalF : val_main_v55 (F := Ideal) x0 x1 x2 x3 x4 (ix4 s h g p) = weights x0 x1 x2 x3 x4 nxI s h g p := by
  pointwise [val_main_v55, val_main_v51, val_main_v50, val_main_v49, val_main_v48, val_main_v47, val_main_v46, val_main_v45,
    finalA, finalB, bre_apply, bim_apply]
  rfl

end Cert.ParamsRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.MixFfn
public import proofs.«01_k».proof.Proof.Gen.MixFfn.Skeleton
public import proofs.«01_k».proof.Proof.Gen.MixFfn.Launch
public import proofs.«01_k».proof.Proof.Gen.MixFfn.Points
public import proofs.«01_k».proof.Proof.Gen.MixFfn.Frame
public import proofs.«01_k».proof.Proof.Gen.MixFfnIdeal
public import proofs.«01_k».proof.Proof.Gen.MixFfnIdeal.Skeleton
public import proofs.«01_k».proof.Proof.Gen.MixFfnIdeal.Launch
public import proofs.«01_k».proof.Proof.Gen.MixFfnIdeal.Points
public import proofs.«01_k».proof.Proof.Gen.MixFfnIdeal.Frame
public import proofs.«01_k».proof.Proof.Gen.MixFfnIdeal.Value
public import proofs.«01_k».proof.Proof.Gen.MixFfnReferenceIdeal
public import proofs.«01_k».proof.Proof.Gen.MixFfnReferenceIdeal.Run
public import proofs.«01_k».proof.Proof.Gen.MixFfnReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.FfnFinal
public import proofs.«01_k».proof.Proof.Gen.FfnFinal.Skeleton
public import proofs.«01_k».proof.Proof.Gen.FfnFinal.Launch
public import proofs.«01_k».proof.Proof.Gen.FfnFinal.Points
public import proofs.«01_k».proof.Proof.Gen.FfnFinal.Frame
public import proofs.«01_k».proof.Proof.Gen.FfnFinalIdeal
public import proofs.«01_k».proof.Proof.Gen.FfnFinalIdeal.Skeleton
public import proofs.«01_k».proof.Proof.Gen.FfnFinalIdeal.Launch
public import proofs.«01_k».proof.Proof.Gen.FfnFinalIdeal.Points
public import proofs.«01_k».proof.Proof.Gen.FfnFinalIdeal.Frame
public import proofs.«01_k».proof.Proof.Gen.FfnFinalIdeal.Value
public import proofs.«01_k».proof.Proof.Gen.FfnFinalReferenceIdeal
public import proofs.«01_k».proof.Proof.Gen.FfnFinalReferenceIdeal.Run
public import proofs.«01_k».proof.Proof.Gen.FfnFinalReferenceIdeal.Read
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleIdeal.Value
public import proofs.«01_k».proof.Proof.Gen.FfnSampleReferenceIdeal
public import proofs.«01_k».proof.Proof.Gen.FfnSampleReferenceIdeal.Run
public import proofs.«01_k».proof.Proof.Gen.FfnSampleReferenceIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModReferenceIdeal
public import proofs.«01_k».proof.Proof.Gen.ModReferenceIdeal.Run
public import proofs.«01_k».proof.Proof.Gen.ModReferenceIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.Gen.S5Params
public import proofs.«01_k».proof.Proof.Gen.S5Params.Skeleton
public import proofs.«01_k».proof.Proof.Gen.S5Params.Launch
public import proofs.«01_k».proof.Proof.Gen.S5Params.Points
public import proofs.«01_k».proof.Proof.Gen.S5Params.Frame
public import proofs.«01_k».proof.Proof.Gen.S5ParamsIdeal
public import proofs.«01_k».proof.Proof.Gen.S5ParamsIdeal.Skeleton
public import proofs.«01_k».proof.Proof.Gen.S5ParamsIdeal.Launch
public import proofs.«01_k».proof.Proof.Gen.S5ParamsIdeal.Points
public import proofs.«01_k».proof.Proof.Gen.S5ParamsIdeal.Frame
public import proofs.«01_k».proof.Proof.Gen.S5ParamsIdeal.Value
public import proofs.«01_k».proof.Proof.Gen.S5ParamsReferenceIdeal
public import proofs.«01_k».proof.Proof.Gen.S5ParamsReferenceIdeal.Run
public import proofs.«01_k».proof.Proof.Gen.S5ParamsReferenceIdeal.Read
public import proofs.«01_k».proof.Proof.Gen.S5Sample
public import proofs.«01_k».proof.Proof.Gen.S5Sample.Skeleton
public import proofs.«01_k».proof.Proof.Gen.S5Sample.Launch
public import proofs.«01_k».proof.Proof.Gen.S5Sample.Points
public import proofs.«01_k».proof.Proof.Gen.S5Sample.Frame
public import proofs.«01_k».proof.Proof.Gen.S5SampleIdeal
public import proofs.«01_k».proof.Proof.Gen.S5SampleIdeal.Skeleton
public import proofs.«01_k».proof.Proof.Gen.S5SampleIdeal.Launch
public import proofs.«01_k».proof.Proof.Gen.S5SampleIdeal.Points
public import proofs.«01_k».proof.Proof.Gen.S5SampleIdeal.Frame
public import proofs.«01_k».proof.Proof.Gen.Pre_group0_scores_finite
public import proofs.«01_k».proof.Proof.KerFinal
public import proofs.«01_k».proof.Proof.RefRows
public import proofs.«01_k».proof.Proof.Pre
public import Idealize.ShloMosaic.Adequacy
public import Idealize.ShloMosaic.Init
public import Idealize.ShloMosaic.Lib.Claim
public import Idealize.ShloMosaic.Lib.Quiescent
public import proofs.«01_k».proof.Proof.MixRef
public import proofs.«01_k».proof.Proof.FfnRef
public import proofs.«01_k».proof.Proof.FinalRef
public import proofs.«01_k».proof.Proof.InProjRef
public import proofs.«01_k».proof.Proof.SampleRef
public import proofs.«01_k».proof.Proof.ModRef
public import proofs.«01_k».proof.Proof.ConvRef
public import proofs.«01_k».proof.Proof.ParamsRef

@[expose] public section

noncomputable section

namespace Cert.Proof

open Idealize.ShloMosaic Idealize.SL.Sem Cert.Kernel

/-- The reference runs, its argument arrays end unchanged and every semaphore counter ends at zero. -/
theorem frame_R : Cert.quiescent_ReferenceIdeal := by
  intro m g _
  exact θ_run_mono (Cert.ReferenceIdeal.Value.run (F := Ideal) m g) fun r h =>
    ⟨fun c => (h c).2, sem_eq_zero_of_no_sems (by decide) r.2⟩

/-- The attention call and its reference return the same array. -/
theorem algebraic : Cert.algebraic_KernelIdeal_ReferenceIdeal_pre_group0_scores_finite := by
  pair_intro
  · run_from Cert.KernelIdeal.Gen.run_main m g
  · run_from Cert.ReferenceIdeal.Value.run m' g'
    rw [Cert.ReferenceIdeal.Read.val_main_v200_eq]
    obtain ⟨h0, h1, h2, h3, h4, h5⟩ := hagree c
    rw [Cert.Attn.final m c (Cert.Attn.Pre.scores_real _ _ _ _ _ _ (hpre c)),
      show StableHlo.launchContents m' c (Proc.tc.devRef Cert.ReferenceIdeal.main_arg0) = _ from h0,
      show StableHlo.launchContents m' c (Proc.tc.devRef Cert.ReferenceIdeal.main_arg1) = _ from h1,
      show StableHlo.launchContents m' c (Proc.tc.devRef Cert.ReferenceIdeal.main_arg2) = _ from h2,
      show StableHlo.launchContents m' c (Proc.tc.devRef Cert.ReferenceIdeal.main_arg3) = _ from h3,
      show StableHlo.launchContents m' c (Proc.tc.devRef Cert.ReferenceIdeal.main_arg4) = _ from h4,
      show StableHlo.launchContents m' c (Proc.tc.devRef Cert.ReferenceIdeal.main_arg5) = _ from h5]
    funext i
    obtain ⟨n, t, e, rfl⟩ : ∃ (n : Fin 128) (t : Fin 8) (e : Fin 256), i = ix3 n t e := ⟨i 0, i 1, i 2, by
      funext k; match k with | ⟨0, _⟩ => rfl | ⟨1, _⟩ => rfl | ⟨2, _⟩ => rfl⟩
    exact Cert.Attn.Ref.final _ _ _ _ _ _ n t e

/-- The same for the reference of the feed-forward block after the mixers. -/
theorem frame_mix : Cert.quiescent_MixFfnReferenceIdeal := by
  intro m g _
  exact θ_run_mono (Cert.MixFfnReferenceIdeal.Value.run (F := Ideal) m g) fun r h =>
    ⟨fun c => (h c).2, sem_eq_zero_of_no_sems (by decide) r.2⟩

/-- The feed-forward call after the mixers and its reference return the same array. -/
theorem algebraic_mix : Cert.algebraic_MixFfnIdeal_MixFfnReferenceIdeal := by
  pair_intro
  · run_from Cert.MixFfnIdeal.Gen.run_main m g
  · run_from Cert.MixFfnReferenceIdeal.Value.run m' g'
    rw [Cert.MixFfnReferenceIdeal.Read.val_main_v50_eq]
    obtain ⟨h0, h1, h2, h3, h4, h5, _, h7, h8, h9⟩ := hagree c
    rw [Cert.MixKer.final m c, h0, h1, h2, h3, h4, h5, h7, h8, h9]
    funext i
    obtain ⟨n, t, e, rfl⟩ : ∃ (n : Fin 4) (t : Fin 4096) (e : Fin 1024), i = ix3 n t e := ⟨i 0, i 1, i 2, by
      funext k; match k with | ⟨0, _⟩ => rfl | ⟨1, _⟩ => rfl | ⟨2, _⟩ => rfl⟩
    exact Cert.MixRef.final _ _ _ _ _ _ _ _ _ n t e

/-- The same for the reference of the feed-forward block. -/
theorem frame_ffn : Cert.quiescent_FfnReferenceIdeal := by
  intro m g _
  exact θ_run_mono (Cert.FfnReferenceIdeal.Value.run (F := Ideal) m g) fun r h =>
    ⟨fun c => (h c).2, sem_eq_zero_of_no_sems (by decide) r.2⟩

/-- The feed-forward call and its reference return the same array. -/
theorem algebraic_ffn : Cert.algebraic_FfnIdeal_FfnReferenceIdeal := by
  pair_intro
  · run_from Cert.FfnIdeal.Gen.run_main m g
  · run_from Cert.FfnReferenceIdeal.Value.run m' g'
    rw [Cert.FfnReferenceIdeal.Read.val_main_v43_eq]
    obtain ⟨h0, h1, h2, h3, h4, h5, _⟩ := hagree c
    rw [Cert.FfnKer.final m c, h0, h1, h2, h3, h4, h5]
    funext i
    obtain ⟨n, t, e, rfl⟩ : ∃ (n : Fin 4) (t : Fin 4096) (e : Fin 1024), i = ix3 n t e := ⟨i 0, i 1, i 2, by
      funext k; match k with | ⟨0, _⟩ => rfl | ⟨1, _⟩ => rfl | ⟨2, _⟩ => rfl⟩
    exact Cert.FfnRef.final _ _ _ _ _ _ n t e

/-- The same for the reference of the last feed-forward block. -/
theorem frame_final : Cert.quiescent_FfnFinalReferenceIdeal := by
  intro m g _
  exact θ_run_mono (Cert.FfnFinalReferenceIdeal.Value.run (F := Ideal) m g) fun r h =>
    ⟨fun c => (h c).2, sem_eq_zero_of_no_sems (by decide) r.2⟩

/-- The last feed-forward call and its reference return the same array. -/
theorem algebraic_final : Cert.algebraic_FfnFinalIdeal_FfnFinalReferenceIdeal := by
  pair_intro
  · run_from Cert.FfnFinalIdeal.Gen.run_main m g
  · run_from Cert.FfnFinalReferenceIdeal.Value.run m' g'
    rw [Cert.FfnFinalReferenceIdeal.Read.val_main_v56_eq]
    obtain ⟨h0, h1, h2, h3, h4, h5, h6⟩ := hagree c
    rw [Cert.FinalKer.final m c, h0, h1, h2, h3, h4, h5, h6]
    funext i
    obtain ⟨n, t, e, rfl⟩ : ∃ (n : Fin 4) (t : Fin 4096) (e : Fin 1024), i = ix3 n t e := ⟨i 0, i 1, i 2, by
      funext k; match k with | ⟨0, _⟩ => rfl | ⟨1, _⟩ => rfl | ⟨2, _⟩ => rfl⟩
    exact Cert.FinalRef.final _ _ _ _ _ _ _ n t e

/-- The input projection's reference keeps its arguments and ends with every counter at zero. -/
theorem frame_inproj : Cert.quiescent_InProjReferenceIdeal := by
  intro m g _
  exact θ_run_mono (Cert.InProjReferenceIdeal.Value.run (F := Ideal) m g) fun r h =>
    ⟨fun c => (h c).2.2.2.2, sem_eq_zero_of_no_sems (by decide) r.2⟩

/-- Two arrays of three axes are equal when they are at every triple of coordinates. -/
theorem ext3 {a b c : ℕ} {α : Type} {f g : (⟨3, ![a, b, c]⟩ : Shape).Idx → α}
    (h : ∀ (n : Fin a) (t : Fin b) (e : Fin c), f (ix3 n t e) = g (ix3 n t e)) : f = g := by
  funext i
  rw [show i = ix3 (i 0) (i 1) (i 2) from by funext k; match k with | ⟨0, _⟩ => rfl | ⟨1, _⟩ => rfl | ⟨2, _⟩ => rfl]
  exact h (i 0) (i 1) (i 2)

/-- What the reference's four results are, from arguments that agree with the kernel's. -/
theorem inproj_reads (m : (ℓ : Loc Cert.InProjIdeal.nD Cert.InProjIdeal.τ Cert.InProjIdeal.sig) → Buf (Elt Ideal) ℓ)
    (c : Dev Cert.InProjIdeal.nD) (x0 : (⟨Cert.InProjReferenceIdeal.S128x8x1024, .f32⟩ : BufTy).Contents (Elt Ideal))
    (x1 : (⟨Cert.InProjReferenceIdeal.S4x136x6144, .f32⟩ : BufTy).Contents (Elt Ideal)) (x2 : (⟨Cert.InProjReferenceIdeal.S4x2x1024, .f32⟩ : BufTy).Contents (Elt Ideal))
    (x3 : (⟨Cert.InProjReferenceIdeal.S2x1024x3328, .f32⟩ : BufTy).Contents (Elt Ideal))
    (h0 : x0 = m (c.tc.loc Cert.InProjIdeal.main_arg0)) (h1 : x1 = m (c.tc.loc Cert.InProjIdeal.main_arg1))
    (h2 : x2 = m (c.tc.loc Cert.InProjIdeal.main_arg2)) (h3 : x3 = m (c.tc.loc Cert.InProjIdeal.main_arg3)) :
    Cert.InProjReferenceIdeal.Read.val_main_v46 (F := Ideal) x0 x1 x2 x3 = Cert.InProjKer.outU m c
      ∧ Cert.InProjReferenceIdeal.Read.val_main_v117 (F := Ideal) x0 x1 x2 x3 = Cert.InProjKer.outQ m c
      ∧ Cert.InProjReferenceIdeal.Read.val_main_v118 (F := Ideal) x0 x1 x2 x3 = Cert.InProjKer.outK m c
      ∧ Cert.InProjReferenceIdeal.Read.val_main_v119 (F := Ideal) x0 x1 x2 x3 = Cert.InProjKer.outV m c := by
  subst h0 h1 h2 h3
  exact ⟨ext3 (Cert.InProjRef.finalU _ _ _ _), ext3 (Cert.InProjRef.finalQ _ _ _ _), ext3 (Cert.InProjRef.finalK _ _ _ _),
    ext3 (Cert.InProjRef.finalV _ _ _ _)⟩

/-- The input projection and its reference return the same four arrays. -/
theorem algebraic_inproj : Cert.algebraic_InProjIdeal_InProjReferenceIdeal := by
  intro m g m' g' _ hagree
  refine ⟨Cert.InProjKer.outU m, Cert.InProjKer.outQ m, Cert.InProjKer.outK m, Cert.InProjKer.outV m, ?_, ?_⟩
  · refine θ_run_mono (θ_run_and (Cert.InProjIdeal.Gen.run_main m g) (Cert.InProjIdeal.Gen.unchanged m g)) fun r hr c => ?_
    refine ⟨?_, ?_, ?_, ?_, hr.2 c⟩
    · exact ((hr.1 c).1 8).trans (Cert.InProjKer.finalU m c)
    · exact ((hr.1 c).1 9).trans (Cert.InProjKer.finalQ m c)
    · exact ((hr.1 c).1 10).trans (Cert.InProjKer.finalK m c)
    · exact ((hr.1 c).1 11).trans (Cert.InProjKer.finalV m c)
  · refine θ_run_mono (Cert.InProjReferenceIdeal.Value.run m' g') fun r hr c => ?_
    obtain ⟨h0, h1, h2, h3⟩ := hagree c
    obtain ⟨eu, eq, ek, ev⟩ := inproj_reads m c _ _ _ _ h0 h1 h2 h3
    obtain ⟨ru, rq, rk, rv, rest⟩ := hr c
    exact ⟨(ru.trans (Cert.InProjReferenceIdeal.Read.val_main_v46_eq m' c)).trans eu,
      (rq.trans (Cert.InProjReferenceIdeal.Read.val_main_v117_eq m' c)).trans eq,
      (rk.trans (Cert.InProjReferenceIdeal.Read.val_main_v118_eq m' c)).trans ek,
      (rv.trans (Cert.InProjReferenceIdeal.Read.val_main_v119_eq _ _ _ _)).trans ev, rest⟩

/-- The same for the reference of the last feed-forward block on the sample batch. -/
theorem frame_sample : Cert.quiescent_FfnSampleReferenceIdeal := by
  intro m g _
  exact θ_run_mono (Cert.FfnSampleReferenceIdeal.Value.run (F := Ideal) m g) fun r h =>
    ⟨fun c => (h c).2, sem_eq_zero_of_no_sems (by decide) r.2⟩

/-- The last feed-forward call on the sample batch and its reference return the same array. -/
theorem algebraic_sample : Cert.algebraic_FfnSampleIdeal_FfnSampleReferenceIdeal := by
  pair_intro
  · run_from Cert.FfnSampleIdeal.Gen.run_main m g
  · run_from Cert.FfnSampleReferenceIdeal.Value.run m' g'
    rw [Cert.FfnSampleReferenceIdeal.Read.val_main_v56_eq]
    obtain ⟨h0, h1, h2, h3, h4, h5, h6⟩ := hagree c
    rw [Cert.SampleKer.final m c, h0, h1, h2, h3, h4, h5, h6]
    exact ext3 (Cert.SampleRef.final _ _ _ _ _ _ _)

/-- The same for the reference of the modulation. -/
theorem frame_mod : Cert.quiescent_ModReferenceIdeal := by
  intro m g _
  exact θ_run_mono (Cert.ModReferenceIdeal.Value.run (F := Ideal) m g) fun r h =>
    ⟨fun c => (h c).2, sem_eq_zero_of_no_sems (by decide) r.2⟩

/-- The modulation's call and its reference return the same array. -/
theorem algebraic_mod : Cert.algebraic_ModIdeal_ModReferenceIdeal := by
  pair_intro
  · run_from Cert.ModIdeal.Gen.run_main m g
  · run_from Cert.ModReferenceIdeal.Value.run m' g'
    rw [Cert.ModReferenceIdeal.Read.val_main_v42_eq]
    obtain ⟨h0, h1, h2, h3⟩ := hagree c
    rw [Cert.ModKer.final m c, h0, h1, h2, h3]
    exact ext3 fun l n e => Cert.ModRef.final _ _ _ _ n e l

theorem frame_conv : Cert.quiescent_ConvReferenceIdeal := by
  intro m g _
  exact θ_run_mono (Cert.ConvReferenceIdeal.Value.run (F := Ideal) m g) fun r h =>
    ⟨fun c => (h c).2, sem_eq_zero_of_no_sems (by decide) r.2⟩

/-- The sample batch's convolution and its reference return the same array. -/
theorem algebraic_conv : Cert.algebraic_ConvIdeal_ConvReferenceIdeal := by
  pair_intro
  · run_from Cert.ConvIdeal.Gen.run_main m g
  · run_from Cert.ConvReferenceIdeal.Value.run m' g'
    rw [Cert.ConvReferenceIdeal.Read.val_main_v55_eq]
    obtain ⟨h0, h1, h2, h3, h4, h5⟩ := hagree c
    rw [Cert.ConvKer.final m c, h0, h1, h2, h3, h4, h5]
    exact ext3 fun t n k => Cert.ConvRef.final _ _ _ _ _ _ t n k

/-- The same for the reference of the discretisation. -/
theorem frame_params : Cert.quiescent_S5ParamsReferenceIdeal := by
  intro m g _
  exact θ_run_mono (Cert.S5ParamsReferenceIdeal.Value.run (F := Ideal) m g) fun r h =>
    ⟨fun c => (h c).2.2.2.2.2.2, sem_eq_zero_of_no_sems (by decide) r.2⟩

/-- Two arrays of four axes are equal when they are at every four coordinates. -/
theorem ext4 {a b c d : ℕ} {α : Type} {f g : (⟨4, ![a, b, c, d]⟩ : Shape).Idx → α}
    (h : ∀ (n : Fin a) (t : Fin b) (e : Fin c) (k : Fin d), f (ix4 n t e k) = g (ix4 n t e k)) : f = g := by
  funext i
  rw [show i = ix4 (i 0) (i 1) (i 2) (i 3) from by
    funext k; match k with | ⟨0, _⟩ => rfl | ⟨1, _⟩ => rfl | ⟨2, _⟩ => rfl | ⟨3, _⟩ => rfl]
  exact h (i 0) (i 1) (i 2) (i 3)

/-- What the reference's six results are, from arguments that agree with the kernel's. -/
theorem params_reads (m : (ℓ : Loc Cert.S5ParamsIdeal.nD Cert.S5ParamsIdeal.τ Cert.S5ParamsIdeal.sig) → Buf (Elt Ideal) ℓ)
    (c : Dev Cert.S5ParamsIdeal.nD) (x0 x1 : (⟨Cert.S5ParamsReferenceIdeal.S2x64x64, .f32⟩ : BufTy).Contents (Elt Ideal))
    (x2 : (⟨Cert.S5ParamsReferenceIdeal.S2x64, .f32⟩ : BufTy).Contents (Elt Ideal))
    (x3 x4 : (⟨Cert.S5ParamsReferenceIdeal.S2x64x64x16, .f32⟩ : BufTy).Contents (Elt Ideal))
    (h0 : x0 = m (c.tc.loc Cert.S5ParamsIdeal.main_arg0)) (h1 : x1 = m (c.tc.loc Cert.S5ParamsIdeal.main_arg1))
    (h2 : x2 = m (c.tc.loc Cert.S5ParamsIdeal.main_arg2)) (h3 : x3 = m (c.tc.loc Cert.S5ParamsIdeal.main_arg3))
    (h4 : x4 = m (c.tc.loc Cert.S5ParamsIdeal.main_arg4)) :
    Cert.S5ParamsReferenceIdeal.Read.val_main_v8 (F := Ideal) x0 x1 x2 = Cert.ParamsKer.outS m c Cert.ParamsKer.abR
      ∧ Cert.S5ParamsReferenceIdeal.Read.val_main_v10 (F := Ideal) x0 x1 x2 = Cert.ParamsKer.outS m c Cert.ParamsKer.abI
      ∧ Cert.S5ParamsReferenceIdeal.Read.val_main_v52 (F := Ideal) x0 x1 x2 x3 x4 = Cert.ParamsKer.outW m c Cert.ParamsKer.bbR
      ∧ Cert.S5ParamsReferenceIdeal.Read.val_main_v53 (F := Ideal) x0 x1 x2 x3 x4 = Cert.ParamsKer.outW m c Cert.ParamsKer.bbI
      ∧ Cert.S5ParamsReferenceIdeal.Read.val_main_v54 (F := Ideal) x0 x1 x2 x3 x4 = Cert.ParamsKer.outW m c Cert.ParamsKer.nxR
      ∧ Cert.S5ParamsReferenceIdeal.Read.val_main_v55 (F := Ideal) x0 x1 x2 x3 x4 = Cert.ParamsKer.outW m c Cert.ParamsKer.nxI := by
  subst h0 h1 h2 h3 h4
  exact ⟨ext3 (Cert.ParamsRef.finalA _ _ _), ext3 (Cert.ParamsRef.finalB _ _ _), ext4 (Cert.ParamsRef.finalC _ _ _ _ _),
    ext4 (Cert.ParamsRef.finalD _ _ _ _ _), ext4 (Cert.ParamsRef.finalE _ _ _ _ _), ext4 (Cert.ParamsRef.finalF _ _ _ _ _)⟩

/-- The discretisation's call and its reference return the same six arrays. -/
theorem algebraic_params : Cert.algebraic_S5ParamsIdeal_S5ParamsReferenceIdeal := by
  intro m g m' g' _ hagree
  refine ⟨fun c => Cert.ParamsKer.outS m c Cert.ParamsKer.abR, fun c => Cert.ParamsKer.outS m c Cert.ParamsKer.abI,
    fun c => Cert.ParamsKer.outW m c Cert.ParamsKer.bbR, fun c => Cert.ParamsKer.outW m c Cert.ParamsKer.bbI,
    fun c => Cert.ParamsKer.outW m c Cert.ParamsKer.nxR, fun c => Cert.ParamsKer.outW m c Cert.ParamsKer.nxI, ?_, ?_⟩
  · refine θ_run_mono (θ_run_and (Cert.S5ParamsIdeal.Gen.run_main m g) (Cert.S5ParamsIdeal.Gen.unchanged m g)) fun r hr c => ?_
    refine ⟨?_, ?_, ?_, ?_, ?_, ?_, hr.2 c⟩
    · exact ((hr.1 c).1 5).trans (Cert.ParamsKer.finalA m c)
    · exact ((hr.1 c).1 6).trans (Cert.ParamsKer.finalB m c)
    · exact ((hr.1 c).1 7).trans (Cert.ParamsKer.finalC m c)
    · exact ((hr.1 c).1 8).trans (Cert.ParamsKer.finalD m c)
    · exact ((hr.1 c).1 9).trans (Cert.ParamsKer.finalE m c)
    · exact ((hr.1 c).1 10).trans (Cert.ParamsKer.finalF m c)
  · refine θ_run_mono (Cert.S5ParamsReferenceIdeal.Value.run m' g') fun r hr c => ?_
    obtain ⟨h0, h1, h2, h3, h4⟩ := hagree c
    obtain ⟨ea, eb, ec, ed, ee, ef⟩ := params_reads m c _ _ _ _ _ h0 h1 h2 h3 h4
    obtain ⟨ra, rb, rc, rd, re, rf, rest⟩ := hr c
    exact ⟨(ra.trans (Cert.S5ParamsReferenceIdeal.Read.val_main_v8_eq _ _ _)).trans ea,
      (rb.trans (Cert.S5ParamsReferenceIdeal.Read.val_main_v10_eq _ _ _)).trans eb,
      (rc.trans (Cert.S5ParamsReferenceIdeal.Read.val_main_v52_eq _ _ _ _ _)).trans ec,
      (rd.trans (Cert.S5ParamsReferenceIdeal.Read.val_main_v53_eq _ _ _ _ _)).trans ed,
      (re.trans (Cert.S5ParamsReferenceIdeal.Read.val_main_v54_eq m' c)).trans ee,
      (rf.trans (Cert.S5ParamsReferenceIdeal.Read.val_main_v55_eq m' c)).trans ef, rest⟩

theorem claim : Cert.Claim :=
  ⟨Cert.Kernel.Gen.facts, Cert.KernelIdeal.Gen.facts, Cert.ReferenceIdeal.Gen.facts, Cert.MixFfn.Gen.facts,
    Cert.MixFfnIdeal.Gen.facts, Cert.MixFfnReferenceIdeal.Gen.facts, Cert.Ffn.Gen.facts, Cert.FfnIdeal.Gen.facts,
    Cert.FfnReferenceIdeal.Gen.facts, Cert.FfnFinal.Gen.facts, Cert.FfnFinalIdeal.Gen.facts,
    Cert.FfnFinalReferenceIdeal.Gen.facts, Cert.InProj.Gen.facts, Cert.InProjIdeal.Gen.facts,
    Cert.InProjReferenceIdeal.Gen.facts, Cert.FfnSample.Gen.facts, Cert.FfnSampleIdeal.Gen.facts,
    Cert.FfnSampleReferenceIdeal.Gen.facts, Cert.Mod.Gen.facts, Cert.ModIdeal.Gen.facts, Cert.ModReferenceIdeal.Gen.facts,
    Cert.Conv.Gen.facts, Cert.ConvIdeal.Gen.facts, Cert.ConvReferenceIdeal.Gen.facts,
    Cert.S5Params.Gen.facts, Cert.S5ParamsIdeal.Gen.facts, Cert.S5ParamsReferenceIdeal.Gen.facts, Cert.S5Sample.Gen.facts,
    Cert.S5SampleIdeal.Gen.facts,
    Cert.Pre_group0_scores_finite.Gen.facts,
    fun m g _ => Cert.Kernel.Gen.frame m g, fun m g _ => Cert.KernelIdeal.Gen.frame m g,
    fun m g _ => Cert.KernelIdeal.Gen.frame m g, frame_R, fun m g _ => frame_R m g trivial,
    fun m g _ => Cert.MixFfn.Gen.frame m g, fun m g _ => Cert.MixFfnIdeal.Gen.frame m g, frame_mix,
    fun m g _ => Cert.Ffn.Gen.frame m g, fun m g _ => Cert.FfnIdeal.Gen.frame m g, frame_ffn,
    fun m g _ => Cert.FfnFinal.Gen.frame m g, fun m g _ => Cert.FfnFinalIdeal.Gen.frame m g, frame_final,
    fun m g _ => Cert.InProj.Gen.frame m g, fun m g _ => Cert.InProjIdeal.Gen.frame m g, frame_inproj,
    fun m g _ => Cert.FfnSample.Gen.frame m g, fun m g _ => Cert.FfnSampleIdeal.Gen.frame m g, frame_sample,
    fun m g _ => Cert.Mod.Gen.frame m g, fun m g _ => Cert.ModIdeal.Gen.frame m g, frame_mod,
    fun m g _ => Cert.Conv.Gen.frame m g, fun m g _ => Cert.ConvIdeal.Gen.frame m g, frame_conv,
    fun m g _ => Cert.S5Params.Gen.frame m g, fun m g _ => Cert.S5ParamsIdeal.Gen.frame m g, frame_params,
    fun m g _ => Cert.S5Sample.Gen.frame m g, fun m g _ => Cert.S5SampleIdeal.Gen.frame m g, trivial,
    algebraic, trivial, algebraic_mix, trivial, algebraic_ffn, trivial, algebraic_final, trivial,
    algebraic_inproj, trivial, algebraic_sample, trivial, algebraic_mod, trivial, algebraic_conv, trivial,
    algebraic_params, trivial⟩

end Cert.Proof

end
